-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_SIn (m : (ℓ : Loc Cert.SIn.nD Cert.SIn.τ Cert.SIn.sig) → Buf (Elt Bits) ℓ) : Prop :=
  True

def Pre_SInIdeal (m : (ℓ : Loc Cert.SInIdeal.nD Cert.SInIdeal.τ Cert.SInIdeal.sig) → Buf (Elt Ideal) ℓ) : Prop :=
  True

def Pre_SInRefIdeal (m : (ℓ : Loc Cert.SInRefIdeal.nD Cert.SInRefIdeal.τ Cert.SInRefIdeal.sig) → Buf (Elt Ideal) ℓ) : Prop :=
  True

def Pre_SUp (m : (ℓ : Loc Cert.SUp.nD Cert.SUp.τ Cert.SUp.sig) → Buf (Elt Bits) ℓ) : Prop :=
  True

def Pre_SUpIdeal (m : (ℓ : Loc Cert.SUpIdeal.nD Cert.SUpIdeal.τ Cert.SUpIdeal.sig) → Buf (Elt Ideal) ℓ) : Prop :=
  True

def Pre_SUpRefIdeal (m : (ℓ : Loc Cert.SUpRefIdeal.nD Cert.SUpRefIdeal.τ Cert.SUpRefIdeal.sig) → Buf (Elt Ideal) ℓ) : Prop :=
  True

def Pre_SDown (m : (ℓ : Loc Cert.SDown.nD Cert.SDown.τ Cert.SDown.sig) → Buf (Elt Bits) ℓ) : Prop :=
  True

def Pre_SDownIdeal (m : (ℓ : Loc Cert.SDownIdeal.nD Cert.SDownIdeal.τ Cert.SDownIdeal.sig) → Buf (Elt Ideal) ℓ) : Prop :=
  True

def Pre_SDownRefIdeal (m : (ℓ : Loc Cert.SDownRefIdeal.nD Cert.SDownRefIdeal.τ Cert.SDownRefIdeal.sig) → Buf (Elt Ideal) ℓ) : Prop :=
  True

def Pre_SPrep (m : (ℓ : Loc Cert.SPrep.nD Cert.SPrep.τ Cert.SPrep.sig) → Buf (Elt Bits) ℓ) : Prop :=
  True

def Pre_SPrepIdeal (m : (ℓ : Loc Cert.SPrepIdeal.nD Cert.SPrepIdeal.τ Cert.SPrepIdeal.sig) → Buf (Elt Ideal) ℓ) : Prop :=
  True

def Pre_SPrepRefIdeal (m : (ℓ : Loc Cert.SPrepRefIdeal.nD Cert.SPrepRefIdeal.τ Cert.SPrepRefIdeal.sig) → Buf (Elt Ideal) ℓ) : Prop :=
  True

def Pre_SMix (m : (ℓ : Loc Cert.SMix.nD Cert.SMix.τ Cert.SMix.sig) → Buf (Elt Bits) ℓ) : Prop :=
  True

def Pre_SMixIdeal (m : (ℓ : Loc Cert.SMixIdeal.nD Cert.SMixIdeal.τ Cert.SMixIdeal.sig) → Buf (Elt Ideal) ℓ) : Prop :=
  True

def Pre_SMixRefIdeal (m : (ℓ : Loc Cert.SMixRefIdeal.nD Cert.SMixRefIdeal.τ Cert.SMixRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_SIn [hSIn : Cert.SIn.Facts] : Prop :=
  ∀ (m : (ℓ : Loc Cert.SIn.nD Cert.SIn.τ Cert.SIn.sig) → Buf (Elt Bits) ℓ) (g : Dev Cert.SIn.nD → PrngReg), Pre_SIn m →
    θ_run (Cert.SIn.defs (F := Bits)) (onTc (τ := Cert.SIn.τ) (Cert.SIn.main (F := Bits))) ⟨m, fun _ => 0, g⟩ (fun r => (∀ c : Dev Cert.SIn.nD,
      r.2.mem ((c.tc : Thread Cert.SIn.nD Cert.SIn.τ).loc Cert.SIn.main_arg0) = m ((c.tc : Thread Cert.SIn.nD Cert.SIn.τ).loc Cert.SIn.main_arg0)
      ∧ r.2.mem ((c.tc : Thread Cert.SIn.nD Cert.SIn.τ).loc Cert.SIn.main_arg1) = m ((c.tc : Thread Cert.SIn.nD Cert.SIn.τ).loc Cert.SIn.main_arg1))
      ∧ r.2.sem = fun _ => 0)

def quiescent_SInIdeal [hSInIdeal : Cert.SInIdeal.Facts] : Prop :=
  ∀ (m : (ℓ : Loc Cert.SInIdeal.nD Cert.SInIdeal.τ Cert.SInIdeal.sig) → Buf (Elt Ideal) ℓ) (g : Dev Cert.SInIdeal.nD → PrngReg), Pre_SInIdeal m →
    θ_run (Cert.SInIdeal.defs (F := Ideal)) (onTc (τ := Cert.SInIdeal.τ) (Cert.SInIdeal.main (F := Ideal))) ⟨m, fun _ => 0, g⟩ (fun r => (∀ c : Dev Cert.SInIdeal.nD,
      r.2.mem ((c.tc : Thread Cert.SInIdeal.nD Cert.SInIdeal.τ).loc Cert.SInIdeal.main_arg0) = m ((c.tc : Thread Cert.SInIdeal.nD Cert.SInIdeal.τ).loc Cert.SInIdeal.main_arg0)
      ∧ r.2.mem ((c.tc : Thread Cert.SInIdeal.nD Cert.SInIdeal.τ).loc Cert.SInIdeal.main_arg1) = m ((c.tc : Thread Cert.SInIdeal.nD Cert.SInIdeal.τ).loc Cert.SInIdeal.main_arg1))
      ∧ r.2.sem = fun _ => 0)

def quiescent_SInRefIdeal [hSInRefIdeal : Cert.SInRefIdeal.Facts] : Prop :=
  ∀ (m : (ℓ : Loc Cert.SInRefIdeal.nD Cert.SInRefIdeal.τ Cert.SInRefIdeal.sig) → Buf (Elt Ideal) ℓ) (g : Dev Cert.SInRefIdeal.nD → PrngReg), Pre_SInRefIdeal m →
    θ_run (Cert.SInRefIdeal.defs (F := Ideal)) (onTc (τ := Cert.SInRefIdeal.τ) (Cert.SInRefIdeal.main (F := Ideal))) ⟨m, fun _ => 0, g⟩ (fun r => (∀ c : Dev Cert.SInRefIdeal.nD,
      r.2.mem ((c.tc : Thread Cert.SInRefIdeal.nD Cert.SInRefIdeal.τ).loc Cert.SInRefIdeal.main_arg0) = m ((c.tc : Thread Cert.SInRefIdeal.nD Cert.SInRefIdeal.τ).loc Cert.SInRefIdeal.main_arg0)
      ∧ r.2.mem ((c.tc : Thread Cert.SInRefIdeal.nD Cert.SInRefIdeal.τ).loc Cert.SInRefIdeal.main_arg1) = m ((c.tc : Thread Cert.SInRefIdeal.nD Cert.SInRefIdeal.τ).loc Cert.SInRefIdeal.main_arg1))
      ∧ r.2.sem = fun _ => 0)

def quiescent_SUp [hSUp : Cert.SUp.Facts] : Prop :=
  ∀ (m : (ℓ : Loc Cert.SUp.nD Cert.SUp.τ Cert.SUp.sig) → Buf (Elt Bits) ℓ) (g : Dev Cert.SUp.nD → PrngReg), Pre_SUp m →
    θ_run (Cert.SUp.defs (F := Bits)) (onTc (τ := Cert.SUp.τ) (Cert.SUp.main (F := Bits))) ⟨m, fun _ => 0, g⟩ (fun r => (∀ c : Dev Cert.SUp.nD,
      r.2.mem ((c.tc : Thread Cert.SUp.nD Cert.SUp.τ).loc Cert.SUp.main_arg0) = m ((c.tc : Thread Cert.SUp.nD Cert.SUp.τ).loc Cert.SUp.main_arg0)
      ∧ r.2.mem ((c.tc : Thread Cert.SUp.nD Cert.SUp.τ).loc Cert.SUp.main_arg1) = m ((c.tc : Thread Cert.SUp.nD Cert.SUp.τ).loc Cert.SUp.main_arg1)
      ∧ r.2.mem ((c.tc : Thread Cert.SUp.nD Cert.SUp.τ).loc Cert.SUp.main_arg2) = m ((c.tc : Thread Cert.SUp.nD Cert.SUp.τ).loc Cert.SUp.main_arg2))
      ∧ r.2.sem = fun _ => 0)

def quiescent_SUpIdeal [hSUpIdeal : Cert.SUpIdeal.Facts] : Prop :=
  ∀ (m : (ℓ : Loc Cert.SUpIdeal.nD Cert.SUpIdeal.τ Cert.SUpIdeal.sig) → Buf (Elt Ideal) ℓ) (g : Dev Cert.SUpIdeal.nD → PrngReg), Pre_SUpIdeal m →
    θ_run (Cert.SUpIdeal.defs (F := Ideal)) (onTc (τ := Cert.SUpIdeal.τ) (Cert.SUpIdeal.main (F := Ideal))) ⟨m, fun _ => 0, g⟩ (fun r => (∀ c : Dev Cert.SUpIdeal.nD,
      r.2.mem ((c.tc : Thread Cert.SUpIdeal.nD Cert.SUpIdeal.τ).loc Cert.SUpIdeal.main_arg0) = m ((c.tc : Thread Cert.SUpIdeal.nD Cert.SUpIdeal.τ).loc Cert.SUpIdeal.main_arg0)
      ∧ r.2.mem ((c.tc : Thread Cert.SUpIdeal.nD Cert.SUpIdeal.τ).loc Cert.SUpIdeal.main_arg1) = m ((c.tc : Thread Cert.SUpIdeal.nD Cert.SUpIdeal.τ).loc Cert.SUpIdeal.main_arg1)
      ∧ r.2.mem ((c.tc : Thread Cert.SUpIdeal.nD Cert.SUpIdeal.τ).loc Cert.SUpIdeal.main_arg2) = m ((c.tc : Thread Cert.SUpIdeal.nD Cert.SUpIdeal.τ).loc Cert.SUpIdeal.main_arg2))
      ∧ r.2.sem = fun _ => 0)

def quiescent_SUpRefIdeal [hSUpRefIdeal : Cert.SUpRefIdeal.Facts] : Prop :=
  ∀ (m : (ℓ : Loc Cert.SUpRefIdeal.nD Cert.SUpRefIdeal.τ Cert.SUpRefIdeal.sig) → Buf (Elt Ideal) ℓ) (g : Dev Cert.SUpRefIdeal.nD → PrngReg), Pre_SUpRefIdeal m →
    θ_run (Cert.SUpRefIdeal.defs (F := Ideal)) (onTc (τ := Cert.SUpRefIdeal.τ) (Cert.SUpRefIdeal.main (F := Ideal))) ⟨m, fun _ => 0, g⟩ (fun r => (∀ c : Dev Cert.SUpRefIdeal.nD,
      r.2.mem ((c.tc : Thread Cert.SUpRefIdeal.nD Cert.SUpRefIdeal.τ).loc Cert.SUpRefIdeal.main_arg0) = m ((c.tc : Thread Cert.SUpRefIdeal.nD Cert.SUpRefIdeal.τ).loc Cert.SUpRefIdeal.main_arg0)
      ∧ r.2.mem ((c.tc : Thread Cert.SUpRefIdeal.nD Cert.SUpRefIdeal.τ).loc Cert.SUpRefIdeal.main_arg1) = m ((c.tc : Thread Cert.SUpRefIdeal.nD Cert.SUpRefIdeal.τ).loc Cert.SUpRefIdeal.main_arg1)
      ∧ r.2.mem ((c.tc : Thread Cert.SUpRefIdeal.nD Cert.SUpRefIdeal.τ).loc Cert.SUpRefIdeal.main_arg2) = m ((c.tc : Thread Cert.SUpRefIdeal.nD Cert.SUpRefIdeal.τ).loc Cert.SUpRefIdeal.main_arg2))
      ∧ r.2.sem = fun _ => 0)

def quiescent_SDown [hSDown : Cert.SDown.Facts] : Prop :=
  ∀ (m : (ℓ : Loc Cert.SDown.nD Cert.SDown.τ Cert.SDown.sig) → Buf (Elt Bits) ℓ) (g : Dev Cert.SDown.nD → PrngReg), Pre_SDown m →
    θ_run (Cert.SDown.defs (F := Bits)) (onTc (τ := Cert.SDown.τ) (Cert.SDown.main (F := Bits))) ⟨m, fun _ => 0, g⟩ (fun r => (∀ c : Dev Cert.SDown.nD,
      r.2.mem ((c.tc : Thread Cert.SDown.nD Cert.SDown.τ).loc Cert.SDown.main_arg0) = m ((c.tc : Thread Cert.SDown.nD Cert.SDown.τ).loc Cert.SDown.main_arg0)
      ∧ r.2.mem ((c.tc : Thread Cert.SDown.nD Cert.SDown.τ).loc Cert.SDown.main_arg1) = m ((c.tc : Thread Cert.SDown.nD Cert.SDown.τ).loc Cert.SDown.main_arg1)
      ∧ r.2.mem ((c.tc : Thread Cert.SDown.nD Cert.SDown.τ).loc Cert.SDown.main_arg2) = m ((c.tc : Thread Cert.SDown.nD Cert.SDown.τ).loc Cert.SDown.main_arg2)
      ∧ r.2.mem ((c.tc : Thread Cert.SDown.nD Cert.SDown.τ).loc Cert.SDown.main_arg3) = m ((c.tc : Thread Cert.SDown.nD Cert.SDown.τ).loc Cert.SDown.main_arg3)
      ∧ r.2.mem ((c.tc : Thread Cert.SDown.nD Cert.SDown.τ).loc Cert.SDown.main_arg4) = m ((c.tc : Thread Cert.SDown.nD Cert.SDown.τ).loc Cert.SDown.main_arg4))
      ∧ r.2.sem = fun _ => 0)

def quiescent_SDownIdeal [hSDownIdeal : Cert.SDownIdeal.Facts] : Prop :=
  ∀ (m : (ℓ : Loc Cert.SDownIdeal.nD Cert.SDownIdeal.τ Cert.SDownIdeal.sig) → Buf (Elt Ideal) ℓ) (g : Dev Cert.SDownIdeal.nD → PrngReg), Pre_SDownIdeal m →
    θ_run (Cert.SDownIdeal.defs (F := Ideal)) (onTc (τ := Cert.SDownIdeal.τ) (Cert.SDownIdeal.main (F := Ideal))) ⟨m, fun _ => 0, g⟩ (fun r => (∀ c : Dev Cert.SDownIdeal.nD,
      r.2.mem ((c.tc : Thread Cert.SDownIdeal.nD Cert.SDownIdeal.τ).loc Cert.SDownIdeal.main_arg0) = m ((c.tc : Thread Cert.SDownIdeal.nD Cert.SDownIdeal.τ).loc Cert.SDownIdeal.main_arg0)
      ∧ r.2.mem ((c.tc : Thread Cert.SDownIdeal.nD Cert.SDownIdeal.τ).loc Cert.SDownIdeal.main_arg1) = m ((c.tc : Thread Cert.SDownIdeal.nD Cert.SDownIdeal.τ).loc Cert.SDownIdeal.main_arg1)
      ∧ r.2.mem ((c.tc : Thread Cert.SDownIdeal.nD Cert.SDownIdeal.τ).loc Cert.SDownIdeal.main_arg2) = m ((c.tc : Thread Cert.SDownIdeal.nD Cert.SDownIdeal.τ).loc Cert.SDownIdeal.main_arg2)
      ∧ r.2.mem ((c.tc : Thread Cert.SDownIdeal.nD Cert.SDownIdeal.τ).loc Cert.SDownIdeal.main_arg3) = m ((c.tc : Thread Cert.SDownIdeal.nD Cert.SDownIdeal.τ).loc Cert.SDownIdeal.main_arg3)
      ∧ r.2.mem ((c.tc : Thread Cert.SDownIdeal.nD Cert.SDownIdeal.τ).loc Cert.SDownIdeal.main_arg4) = m ((c.tc : Thread Cert.SDownIdeal.nD Cert.SDownIdeal.τ).loc Cert.SDownIdeal.main_arg4))
      ∧ r.2.sem = fun _ => 0)

def quiescent_SDownRefIdeal [hSDownRefIdeal : Cert.SDownRefIdeal.Facts] : Prop :=
  ∀ (m : (ℓ : Loc Cert.SDownRefIdeal.nD Cert.SDownRefIdeal.τ Cert.SDownRefIdeal.sig) → Buf (Elt Ideal) ℓ) (g : Dev Cert.SDownRefIdeal.nD → PrngReg), Pre_SDownRefIdeal m →
    θ_run (Cert.SDownRefIdeal.defs (F := Ideal)) (onTc (τ := Cert.SDownRefIdeal.τ) (Cert.SDownRefIdeal.main (F := Ideal))) ⟨m, fun _ => 0, g⟩ (fun r => (∀ c : Dev Cert.SDownRefIdeal.nD,
      r.2.mem ((c.tc : Thread Cert.SDownRefIdeal.nD Cert.SDownRefIdeal.τ).loc Cert.SDownRefIdeal.main_arg0) = m ((c.tc : Thread Cert.SDownRefIdeal.nD Cert.SDownRefIdeal.τ).loc Cert.SDownRefIdeal.main_arg0)
      ∧ r.2.mem ((c.tc : Thread Cert.SDownRefIdeal.nD Cert.SDownRefIdeal.τ).loc Cert.SDownRefIdeal.main_arg1) = m ((c.tc : Thread Cert.SDownRefIdeal.nD Cert.SDownRefIdeal.τ).loc Cert.SDownRefIdeal.main_arg1)
      ∧ r.2.mem ((c.tc : Thread Cert.SDownRefIdeal.nD Cert.SDownRefIdeal.τ).loc Cert.SDownRefIdeal.main_arg2) = m ((c.tc : Thread Cert.SDownRefIdeal.nD Cert.SDownRefIdeal.τ).loc Cert.SDownRefIdeal.main_arg2)
      ∧ r.2.mem ((c.tc : Thread Cert.SDownRefIdeal.nD Cert.SDownRefIdeal.τ).loc Cert.SDownRefIdeal.main_arg3) = m ((c.tc : Thread Cert.SDownRefIdeal.nD Cert.SDownRefIdeal.τ).loc Cert.SDownRefIdeal.main_arg3)
      ∧ r.2.mem ((c.tc : Thread Cert.SDownRefIdeal.nD Cert.SDownRefIdeal.τ).loc Cert.SDownRefIdeal.main_arg4) = m ((c.tc : Thread Cert.SDownRefIdeal.nD Cert.SDownRefIdeal.τ).loc Cert.SDownRefIdeal.main_arg4))
      ∧ r.2.sem = fun _ => 0)

def quiescent_SPrep [hSPrep : Cert.SPrep.Facts] : Prop :=
  ∀ (m : (ℓ : Loc Cert.SPrep.nD Cert.SPrep.τ Cert.SPrep.sig) → Buf (Elt Bits) ℓ) (g : Dev Cert.SPrep.nD → PrngReg), Pre_SPrep m →
    θ_run (Cert.SPrep.defs (F := Bits)) (onTc (τ := Cert.SPrep.τ) (Cert.SPrep.main (F := Bits))) ⟨m, fun _ => 0, g⟩ (fun r => (∀ c : Dev Cert.SPrep.nD,
      r.2.mem ((c.tc : Thread Cert.SPrep.nD Cert.SPrep.τ).loc Cert.SPrep.main_arg0) = m ((c.tc : Thread Cert.SPrep.nD Cert.SPrep.τ).loc Cert.SPrep.main_arg0)
      ∧ r.2.mem ((c.tc : Thread Cert.SPrep.nD Cert.SPrep.τ).loc Cert.SPrep.main_arg1) = m ((c.tc : Thread Cert.SPrep.nD Cert.SPrep.τ).loc Cert.SPrep.main_arg1)
      ∧ r.2.mem ((c.tc : Thread Cert.SPrep.nD Cert.SPrep.τ).loc Cert.SPrep.main_arg2) = m ((c.tc : Thread Cert.SPrep.nD Cert.SPrep.τ).loc Cert.SPrep.main_arg2)
      ∧ r.2.mem ((c.tc : Thread Cert.SPrep.nD Cert.SPrep.τ).loc Cert.SPrep.main_arg3) = m ((c.tc : Thread Cert.SPrep.nD Cert.SPrep.τ).loc Cert.SPrep.main_arg3))
      ∧ r.2.sem = fun _ => 0)

def quiescent_SPrepIdeal [hSPrepIdeal : Cert.SPrepIdeal.Facts] : Prop :=
  ∀ (m : (ℓ : Loc Cert.SPrepIdeal.nD Cert.SPrepIdeal.τ Cert.SPrepIdeal.sig) → Buf (Elt Ideal) ℓ) (g : Dev Cert.SPrepIdeal.nD → PrngReg), Pre_SPrepIdeal m →
    θ_run (Cert.SPrepIdeal.defs (F := Ideal)) (onTc (τ := Cert.SPrepIdeal.τ) (Cert.SPrepIdeal.main (F := Ideal))) ⟨m, fun _ => 0, g⟩ (fun r => (∀ c : Dev Cert.SPrepIdeal.nD,
      r.2.mem ((c.tc : Thread Cert.SPrepIdeal.nD Cert.SPrepIdeal.τ).loc Cert.SPrepIdeal.main_arg0) = m ((c.tc : Thread Cert.SPrepIdeal.nD Cert.SPrepIdeal.τ).loc Cert.SPrepIdeal.main_arg0)
      ∧ r.2.mem ((c.tc : Thread Cert.SPrepIdeal.nD Cert.SPrepIdeal.τ).loc Cert.SPrepIdeal.main_arg1) = m ((c.tc : Thread Cert.SPrepIdeal.nD Cert.SPrepIdeal.τ).loc Cert.SPrepIdeal.main_arg1)
      ∧ r.2.mem ((c.tc : Thread Cert.SPrepIdeal.nD Cert.SPrepIdeal.τ).loc Cert.SPrepIdeal.main_arg2) = m ((c.tc : Thread Cert.SPrepIdeal.nD Cert.SPrepIdeal.τ).loc Cert.SPrepIdeal.main_arg2)
      ∧ r.2.mem ((c.tc : Thread Cert.SPrepIdeal.nD Cert.SPrepIdeal.τ).loc Cert.SPrepIdeal.main_arg3) = m ((c.tc : Thread Cert.SPrepIdeal.nD Cert.SPrepIdeal.τ).loc Cert.SPrepIdeal.main_arg3))
      ∧ r.2.sem = fun _ => 0)

def quiescent_SPrepRefIdeal [hSPrepRefIdeal : Cert.SPrepRefIdeal.Facts] : Prop :=
  ∀ (m : (ℓ : Loc Cert.SPrepRefIdeal.nD Cert.SPrepRefIdeal.τ Cert.SPrepRefIdeal.sig) → Buf (Elt Ideal) ℓ) (g : Dev Cert.SPrepRefIdeal.nD → PrngReg), Pre_SPrepRefIdeal m →
    θ_run (Cert.SPrepRefIdeal.defs (F := Ideal)) (onTc (τ := Cert.SPrepRefIdeal.τ) (Cert.SPrepRefIdeal.main (F := Ideal))) ⟨m, fun _ => 0, g⟩ (fun r => (∀ c : Dev Cert.SPrepRefIdeal.nD,
      r.2.mem ((c.tc : Thread Cert.SPrepRefIdeal.nD Cert.SPrepRefIdeal.τ).loc Cert.SPrepRefIdeal.main_arg0) = m ((c.tc : Thread Cert.SPrepRefIdeal.nD Cert.SPrepRefIdeal.τ).loc Cert.SPrepRefIdeal.main_arg0)
      ∧ r.2.mem ((c.tc : Thread Cert.SPrepRefIdeal.nD Cert.SPrepRefIdeal.τ).loc Cert.SPrepRefIdeal.main_arg1) = m ((c.tc : Thread Cert.SPrepRefIdeal.nD Cert.SPrepRefIdeal.τ).loc Cert.SPrepRefIdeal.main_arg1)
      ∧ r.2.mem ((c.tc : Thread Cert.SPrepRefIdeal.nD Cert.SPrepRefIdeal.τ).loc Cert.SPrepRefIdeal.main_arg2) = m ((c.tc : Thread Cert.SPrepRefIdeal.nD Cert.SPrepRefIdeal.τ).loc Cert.SPrepRefIdeal.main_arg2)
      ∧ r.2.mem ((c.tc : Thread Cert.SPrepRefIdeal.nD Cert.SPrepRefIdeal.τ).loc Cert.SPrepRefIdeal.main_arg3) = m ((c.tc : Thread Cert.SPrepRefIdeal.nD Cert.SPrepRefIdeal.τ).loc Cert.SPrepRefIdeal.main_arg3))
      ∧ r.2.sem = fun _ => 0)

def quiescent_SMix [hSMix : Cert.SMix.Facts] : Prop :=
  ∀ (m : (ℓ : Loc Cert.SMix.nD Cert.SMix.τ Cert.SMix.sig) → Buf (Elt Bits) ℓ) (g : Dev Cert.SMix.nD → PrngReg), Pre_SMix m →
    θ_run (Cert.SMix.defs (F := Bits)) (onTc (τ := Cert.SMix.τ) (Cert.SMix.main (F := Bits))) ⟨m, fun _ => 0, g⟩ (fun r => (∀ c : Dev Cert.SMix.nD,
      r.2.mem ((c.tc : Thread Cert.SMix.nD Cert.SMix.τ).loc Cert.SMix.main_arg0) = m ((c.tc : Thread Cert.SMix.nD Cert.SMix.τ).loc Cert.SMix.main_arg0)
      ∧ r.2.mem ((c.tc : Thread Cert.SMix.nD Cert.SMix.τ).loc Cert.SMix.main_arg1) = m ((c.tc : Thread Cert.SMix.nD Cert.SMix.τ).loc Cert.SMix.main_arg1)
      ∧ r.2.mem ((c.tc : Thread Cert.SMix.nD Cert.SMix.τ).loc Cert.SMix.main_arg2) = m ((c.tc : Thread Cert.SMix.nD Cert.SMix.τ).loc Cert.SMix.main_arg2)
      ∧ r.2.mem ((c.tc : Thread Cert.SMix.nD Cert.SMix.τ).loc Cert.SMix.main_arg3) = m ((c.tc : Thread Cert.SMix.nD Cert.SMix.τ).loc Cert.SMix.main_arg3)
      ∧ r.2.mem ((c.tc : Thread Cert.SMix.nD Cert.SMix.τ).loc Cert.SMix.main_arg4) = m ((c.tc : Thread Cert.SMix.nD Cert.SMix.τ).loc Cert.SMix.main_arg4))
      ∧ r.2.sem = fun _ => 0)

def quiescent_SMixIdeal [hSMixIdeal : Cert.SMixIdeal.Facts] : Prop :=
  ∀ (m : (ℓ : Loc Cert.SMixIdeal.nD Cert.SMixIdeal.τ Cert.SMixIdeal.sig) → Buf (Elt Ideal) ℓ) (g : Dev Cert.SMixIdeal.nD → PrngReg), Pre_SMixIdeal m →
    θ_run (Cert.SMixIdeal.defs (F := Ideal)) (onTc (τ := Cert.SMixIdeal.τ) (Cert.SMixIdeal.main (F := Ideal))) ⟨m, fun _ => 0, g⟩ (fun r => (∀ c : Dev Cert.SMixIdeal.nD,
      r.2.mem ((c.tc : Thread Cert.SMixIdeal.nD Cert.SMixIdeal.τ).loc Cert.SMixIdeal.main_arg0) = m ((c.tc : Thread Cert.SMixIdeal.nD Cert.SMixIdeal.τ).loc Cert.SMixIdeal.main_arg0)
      ∧ r.2.mem ((c.tc : Thread Cert.SMixIdeal.nD Cert.SMixIdeal.τ).loc Cert.SMixIdeal.main_arg1) = m ((c.tc : Thread Cert.SMixIdeal.nD Cert.SMixIdeal.τ).loc Cert.SMixIdeal.main_arg1)
      ∧ r.2.mem ((c.tc : Thread Cert.SMixIdeal.nD Cert.SMixIdeal.τ).loc Cert.SMixIdeal.main_arg2) = m ((c.tc : Thread Cert.SMixIdeal.nD Cert.SMixIdeal.τ).loc Cert.SMixIdeal.main_arg2)
      ∧ r.2.mem ((c.tc : Thread Cert.SMixIdeal.nD Cert.SMixIdeal.τ).loc Cert.SMixIdeal.main_arg3) = m ((c.tc : Thread Cert.SMixIdeal.nD Cert.SMixIdeal.τ).loc Cert.SMixIdeal.main_arg3)
      ∧ r.2.mem ((c.tc : Thread Cert.SMixIdeal.nD Cert.SMixIdeal.τ).loc Cert.SMixIdeal.main_arg4) = m ((c.tc : Thread Cert.SMixIdeal.nD Cert.SMixIdeal.τ).loc Cert.SMixIdeal.main_arg4))
      ∧ r.2.sem = fun _ => 0)

def quiescent_SMixRefIdeal [hSMixRefIdeal : Cert.SMixRefIdeal.Facts] : Prop :=
  ∀ (m : (ℓ : Loc Cert.SMixRefIdeal.nD Cert.SMixRefIdeal.τ Cert.SMixRefIdeal.sig) → Buf (Elt Ideal) ℓ) (g : Dev Cert.SMixRefIdeal.nD → PrngReg), Pre_SMixRefIdeal m →
    θ_run (Cert.SMixRefIdeal.defs (F := Ideal)) (onTc (τ := Cert.SMixRefIdeal.τ) (Cert.SMixRefIdeal.main (F := Ideal))) ⟨m, fun _ => 0, g⟩ (fun r => (∀ c : Dev Cert.SMixRefIdeal.nD,
      r.2.mem ((c.tc : Thread Cert.SMixRefIdeal.nD Cert.SMixRefIdeal.τ).loc Cert.SMixRefIdeal.main_arg0) = m ((c.tc : Thread Cert.SMixRefIdeal.nD Cert.SMixRefIdeal.τ).loc Cert.SMixRefIdeal.main_arg0)
      ∧ r.2.mem ((c.tc : Thread Cert.SMixRefIdeal.nD Cert.SMixRefIdeal.τ).loc Cert.SMixRefIdeal.main_arg1) = m ((c.tc : Thread Cert.SMixRefIdeal.nD Cert.SMixRefIdeal.τ).loc Cert.SMixRefIdeal.main_arg1)
      ∧ r.2.mem ((c.tc : Thread Cert.SMixRefIdeal.nD Cert.SMixRefIdeal.τ).loc Cert.SMixRefIdeal.main_arg2) = m ((c.tc : Thread Cert.SMixRefIdeal.nD Cert.SMixRefIdeal.τ).loc Cert.SMixRefIdeal.main_arg2)
      ∧ r.2.mem ((c.tc : Thread Cert.SMixRefIdeal.nD Cert.SMixRefIdeal.τ).loc Cert.SMixRefIdeal.main_arg3) = m ((c.tc : Thread Cert.SMixRefIdeal.nD Cert.SMixRefIdeal.τ).loc Cert.SMixRefIdeal.main_arg3)
      ∧ r.2.mem ((c.tc : Thread Cert.SMixRefIdeal.nD Cert.SMixRefIdeal.τ).loc Cert.SMixRefIdeal.main_arg4) = m ((c.tc : Thread Cert.SMixRefIdeal.nD Cert.SMixRefIdeal.τ).loc Cert.SMixRefIdeal.main_arg4))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v81_0)) (v1 : (c : Dev Cert.RetIdeal.nD) → Buf (Elt Ideal) ((c.tc : Thread Cert.RetIdeal.nD Cert.RetIdeal.τ).loc Cert.RetIdeal.main_v81_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v81_0) = v0 c
          ∧ r.2.mem ((c.tc : Thread Cert.RetIdeal.nD Cert.RetIdeal.τ).loc Cert.RetIdeal.main_v81_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v164) = v0 c
          ∧ r.2.mem ((c.tc : Thread Cert.RetRefIdeal.nD Cert.RetRefIdeal.τ).loc Cert.RetRefIdeal.main_v135_8) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)) (v1 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_v3) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v8_0)) (v1 : (c : Dev Cert.InIdeal.nD) → Buf (Elt Ideal) ((c.tc : Thread Cert.InIdeal.nD Cert.InIdeal.τ).loc Cert.InIdeal.main_v8_1)) (v2 : (c : Dev Cert.InIdeal.nD) → Buf (Elt Ideal) ((c.tc : Thread Cert.InIdeal.nD Cert.InIdeal.τ).loc Cert.InIdeal.main_v10)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v8_0) = v0 c
          ∧ r.2.mem ((c.tc : Thread Cert.InIdeal.nD Cert.InIdeal.τ).loc Cert.InIdeal.main_v8_1) = v1 c
          ∧ r.2.mem ((c.tc : Thread Cert.InIdeal.nD Cert.InIdeal.τ).loc Cert.InIdeal.main_v10) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_v6) = v1 c
          ∧ r.2.mem ((c.tc : Thread Cert.InRefIdeal.nD Cert.InRefIdeal.τ).loc Cert.InRefIdeal.main_v8) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v31) = v0 c
          ∧ r.2.mem ((c.tc : Thread Cert.OutRefIdeal.nD Cert.OutRefIdeal.τ).loc Cert.OutRefIdeal.main_v32) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_v29) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v29) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v31) = v0 c
          ∧ r.2.mem ((c.tc : Thread Cert.ConvRefIdeal.nD Cert.ConvRefIdeal.τ).loc Cert.ConvRefIdeal.main_v28) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v67_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v67_3) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v39) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_SIn_SInIdeal : Prop :=
  True

def algebraic_SInIdeal_SInRefIdeal [hSInIdeal : Cert.SInIdeal.Facts] [hSInRefIdeal : Cert.SInRefIdeal.Facts] : Prop :=
  ∀ (m : (ℓ : Loc Cert.SInIdeal.nD Cert.SInIdeal.τ Cert.SInIdeal.sig) → Buf (Elt Ideal) ℓ) (g : Dev Cert.SInIdeal.nD → PrngReg)
    (m' : (ℓ : Loc Cert.SInRefIdeal.nD Cert.SInRefIdeal.τ Cert.SInRefIdeal.sig) → Buf (Elt Ideal) ℓ) (g' : Dev Cert.SInRefIdeal.nD → PrngReg), Pre_SInIdeal m →
    (∀ c : Dev Cert.SInIdeal.nD,
      m' ((c.tc : Thread Cert.SInRefIdeal.nD Cert.SInRefIdeal.τ).loc Cert.SInRefIdeal.main_arg0) = m ((c.tc : Thread Cert.SInIdeal.nD Cert.SInIdeal.τ).loc Cert.SInIdeal.main_arg0)
      ∧ m' ((c.tc : Thread Cert.SInRefIdeal.nD Cert.SInRefIdeal.τ).loc Cert.SInRefIdeal.main_arg1) = m ((c.tc : Thread Cert.SInIdeal.nD Cert.SInIdeal.τ).loc Cert.SInIdeal.main_arg1)) →
    ∃ (v0 : (c : Dev Cert.SInIdeal.nD) → Buf (Elt Ideal) ((c.tc : Thread Cert.SInIdeal.nD Cert.SInIdeal.τ).loc Cert.SInIdeal.main_v7_0)) (v1 : (c : Dev Cert.SInIdeal.nD) → Buf (Elt Ideal) ((c.tc : Thread Cert.SInIdeal.nD Cert.SInIdeal.τ).loc Cert.SInIdeal.main_v7_1)) (v2 : (c : Dev Cert.SInIdeal.nD) → Buf (Elt Ideal) ((c.tc : Thread Cert.SInIdeal.nD Cert.SInIdeal.τ).loc Cert.SInIdeal.main_v9)),
      θ_run (Cert.SInIdeal.defs (F := Ideal)) (onTc (τ := Cert.SInIdeal.τ) (Cert.SInIdeal.main (F := Ideal))) ⟨m, fun _ => 0, g⟩ (fun r => ∀ c : Dev Cert.SInIdeal.nD,
          r.2.mem ((c.tc : Thread Cert.SInIdeal.nD Cert.SInIdeal.τ).loc Cert.SInIdeal.main_v7_0) = v0 c
          ∧ r.2.mem ((c.tc : Thread Cert.SInIdeal.nD Cert.SInIdeal.τ).loc Cert.SInIdeal.main_v7_1) = v1 c
          ∧ r.2.mem ((c.tc : Thread Cert.SInIdeal.nD Cert.SInIdeal.τ).loc Cert.SInIdeal.main_v9) = v2 c
          ∧ r.2.mem ((c.tc : Thread Cert.SInIdeal.nD Cert.SInIdeal.τ).loc Cert.SInIdeal.main_arg0) = m ((c.tc : Thread Cert.SInIdeal.nD Cert.SInIdeal.τ).loc Cert.SInIdeal.main_arg0)
          ∧ r.2.mem ((c.tc : Thread Cert.SInIdeal.nD Cert.SInIdeal.τ).loc Cert.SInIdeal.main_arg1) = m ((c.tc : Thread Cert.SInIdeal.nD Cert.SInIdeal.τ).loc Cert.SInIdeal.main_arg1))
      ∧ θ_run (Cert.SInRefIdeal.defs (F := Ideal)) (onTc (τ := Cert.SInRefIdeal.τ) (Cert.SInRefIdeal.main (F := Ideal))) ⟨m', fun _ => 0, g'⟩ (fun r => ∀ c : Dev Cert.SInRefIdeal.nD,
          r.2.mem ((c.tc : Thread Cert.SInRefIdeal.nD Cert.SInRefIdeal.τ).loc Cert.SInRefIdeal.main_v4) = v0 c
          ∧ r.2.mem ((c.tc : Thread Cert.SInRefIdeal.nD Cert.SInRefIdeal.τ).loc Cert.SInRefIdeal.main_v6) = v1 c
          ∧ r.2.mem ((c.tc : Thread Cert.SInRefIdeal.nD Cert.SInRefIdeal.τ).loc Cert.SInRefIdeal.main_v8) = v2 c
          ∧ r.2.mem ((c.tc : Thread Cert.SInRefIdeal.nD Cert.SInRefIdeal.τ).loc Cert.SInRefIdeal.main_arg0) = m' ((c.tc : Thread Cert.SInRefIdeal.nD Cert.SInRefIdeal.τ).loc Cert.SInRefIdeal.main_arg0)
          ∧ r.2.mem ((c.tc : Thread Cert.SInRefIdeal.nD Cert.SInRefIdeal.τ).loc Cert.SInRefIdeal.main_arg1) = m' ((c.tc : Thread Cert.SInRefIdeal.nD Cert.SInRefIdeal.τ).loc Cert.SInRefIdeal.main_arg1))

def preserves_SUp_SUpIdeal : Prop :=
  True

def algebraic_SUpIdeal_SUpRefIdeal [hSUpIdeal : Cert.SUpIdeal.Facts] [hSUpRefIdeal : Cert.SUpRefIdeal.Facts] : Prop :=
  ∀ (m : (ℓ : Loc Cert.SUpIdeal.nD Cert.SUpIdeal.τ Cert.SUpIdeal.sig) → Buf (Elt Ideal) ℓ) (g : Dev Cert.SUpIdeal.nD → PrngReg)
    (m' : (ℓ : Loc Cert.SUpRefIdeal.nD Cert.SUpRefIdeal.τ Cert.SUpRefIdeal.sig) → Buf (Elt Ideal) ℓ) (g' : Dev Cert.SUpRefIdeal.nD → PrngReg), Pre_SUpIdeal m →
    (∀ c : Dev Cert.SUpIdeal.nD,
      m' ((c.tc : Thread Cert.SUpRefIdeal.nD Cert.SUpRefIdeal.τ).loc Cert.SUpRefIdeal.main_arg0) = m ((c.tc : Thread Cert.SUpIdeal.nD Cert.SUpIdeal.τ).loc Cert.SUpIdeal.main_arg0)
      ∧ m' ((c.tc : Thread Cert.SUpRefIdeal.nD Cert.SUpRefIdeal.τ).loc Cert.SUpRefIdeal.main_arg1) = m ((c.tc : Thread Cert.SUpIdeal.nD Cert.SUpIdeal.τ).loc Cert.SUpIdeal.main_arg1)
      ∧ m' ((c.tc : Thread Cert.SUpRefIdeal.nD Cert.SUpRefIdeal.τ).loc Cert.SUpRefIdeal.main_arg2) = m ((c.tc : Thread Cert.SUpIdeal.nD Cert.SUpIdeal.τ).loc Cert.SUpIdeal.main_arg2)) →
    ∃ (v0 : (c : Dev Cert.SUpIdeal.nD) → Buf (Elt Ideal) ((c.tc : Thread Cert.SUpIdeal.nD Cert.SUpIdeal.τ).loc Cert.SUpIdeal.main_v1)) (v1 : (c : Dev Cert.SUpIdeal.nD) → Buf (Elt Ideal) ((c.tc : Thread Cert.SUpIdeal.nD Cert.SUpIdeal.τ).loc Cert.SUpIdeal.main_v6)),
      θ_run (Cert.SUpIdeal.defs (F := Ideal)) (onTc (τ := Cert.SUpIdeal.τ) (Cert.SUpIdeal.main (F := Ideal))) ⟨m, fun _ => 0, g⟩ (fun r => ∀ c : Dev Cert.SUpIdeal.nD,
          r.2.mem ((c.tc : Thread Cert.SUpIdeal.nD Cert.SUpIdeal.τ).loc Cert.SUpIdeal.main_v1) = v0 c
          ∧ r.2.mem ((c.tc : Thread Cert.SUpIdeal.nD Cert.SUpIdeal.τ).loc Cert.SUpIdeal.main_v6) = v1 c
          ∧ r.2.mem ((c.tc : Thread Cert.SUpIdeal.nD Cert.SUpIdeal.τ).loc Cert.SUpIdeal.main_arg0) = m ((c.tc : Thread Cert.SUpIdeal.nD Cert.SUpIdeal.τ).loc Cert.SUpIdeal.main_arg0)
          ∧ r.2.mem ((c.tc : Thread Cert.SUpIdeal.nD Cert.SUpIdeal.τ).loc Cert.SUpIdeal.main_arg1) = m ((c.tc : Thread Cert.SUpIdeal.nD Cert.SUpIdeal.τ).loc Cert.SUpIdeal.main_arg1)
          ∧ r.2.mem ((c.tc : Thread Cert.SUpIdeal.nD Cert.SUpIdeal.τ).loc Cert.SUpIdeal.main_arg2) = m ((c.tc : Thread Cert.SUpIdeal.nD Cert.SUpIdeal.τ).loc Cert.SUpIdeal.main_arg2))
      ∧ θ_run (Cert.SUpRefIdeal.defs (F := Ideal)) (onTc (τ := Cert.SUpRefIdeal.τ) (Cert.SUpRefIdeal.main (F := Ideal))) ⟨m', fun _ => 0, g'⟩ (fun r => ∀ c : Dev Cert.SUpRefIdeal.nD,
          r.2.mem ((c.tc : Thread Cert.SUpRefIdeal.nD Cert.SUpRefIdeal.τ).loc Cert.SUpRefIdeal.main_v0) = v0 c
          ∧ r.2.mem ((c.tc : Thread Cert.SUpRefIdeal.nD Cert.SUpRefIdeal.τ).loc Cert.SUpRefIdeal.main_v3) = v1 c
          ∧ r.2.mem ((c.tc : Thread Cert.SUpRefIdeal.nD Cert.SUpRefIdeal.τ).loc Cert.SUpRefIdeal.main_arg0) = m' ((c.tc : Thread Cert.SUpRefIdeal.nD Cert.SUpRefIdeal.τ).loc Cert.SUpRefIdeal.main_arg0)
          ∧ r.2.mem ((c.tc : Thread Cert.SUpRefIdeal.nD Cert.SUpRefIdeal.τ).loc Cert.SUpRefIdeal.main_arg1) = m' ((c.tc : Thread Cert.SUpRefIdeal.nD Cert.SUpRefIdeal.τ).loc Cert.SUpRefIdeal.main_arg1)
          ∧ r.2.mem ((c.tc : Thread Cert.SUpRefIdeal.nD Cert.SUpRefIdeal.τ).loc Cert.SUpRefIdeal.main_arg2) = m' ((c.tc : Thread Cert.SUpRefIdeal.nD Cert.SUpRefIdeal.τ).loc Cert.SUpRefIdeal.main_arg2))

def preserves_SDown_SDownIdeal : Prop :=
  True

def algebraic_SDownIdeal_SDownRefIdeal [hSDownIdeal : Cert.SDownIdeal.Facts] [hSDownRefIdeal : Cert.SDownRefIdeal.Facts] : Prop :=
  ∀ (m : (ℓ : Loc Cert.SDownIdeal.nD Cert.SDownIdeal.τ Cert.SDownIdeal.sig) → Buf (Elt Ideal) ℓ) (g : Dev Cert.SDownIdeal.nD → PrngReg)
    (m' : (ℓ : Loc Cert.SDownRefIdeal.nD Cert.SDownRefIdeal.τ Cert.SDownRefIdeal.sig) → Buf (Elt Ideal) ℓ) (g' : Dev Cert.SDownRefIdeal.nD → PrngReg), Pre_SDownIdeal m →
    (∀ c : Dev Cert.SDownIdeal.nD,
      m' ((c.tc : Thread Cert.SDownRefIdeal.nD Cert.SDownRefIdeal.τ).loc Cert.SDownRefIdeal.main_arg0) = m ((c.tc : Thread Cert.SDownIdeal.nD Cert.SDownIdeal.τ).loc Cert.SDownIdeal.main_arg0)
      ∧ m' ((c.tc : Thread Cert.SDownRefIdeal.nD Cert.SDownRefIdeal.τ).loc Cert.SDownRefIdeal.main_arg1) = m ((c.tc : Thread Cert.SDownIdeal.nD Cert.SDownIdeal.τ).loc Cert.SDownIdeal.main_arg1)
      ∧ m' ((c.tc : Thread Cert.SDownRefIdeal.nD Cert.SDownRefIdeal.τ).loc Cert.SDownRefIdeal.main_arg2) = m ((c.tc : Thread Cert.SDownIdeal.nD Cert.SDownIdeal.τ).loc Cert.SDownIdeal.main_arg2)
      ∧ m' ((c.tc : Thread Cert.SDownRefIdeal.nD Cert.SDownRefIdeal.τ).loc Cert.SDownRefIdeal.main_arg3) = m ((c.tc : Thread Cert.SDownIdeal.nD Cert.SDownIdeal.τ).loc Cert.SDownIdeal.main_arg3)
      ∧ m' ((c.tc : Thread Cert.SDownRefIdeal.nD Cert.SDownRefIdeal.τ).loc Cert.SDownRefIdeal.main_arg4) = m ((c.tc : Thread Cert.SDownIdeal.nD Cert.SDownIdeal.τ).loc Cert.SDownIdeal.main_arg4)) →
    ∃ (v0 : (c : Dev Cert.SDownIdeal.nD) → Buf (Elt Ideal) ((c.tc : Thread Cert.SDownIdeal.nD Cert.SDownIdeal.τ).loc Cert.SDownIdeal.main_v3_0)),
      θ_run (Cert.SDownIdeal.defs (F := Ideal)) (onTc (τ := Cert.SDownIdeal.τ) (Cert.SDownIdeal.main (F := Ideal))) ⟨m, fun _ => 0, g⟩ (fun r => ∀ c : Dev Cert.SDownIdeal.nD,
          r.2.mem ((c.tc : Thread Cert.SDownIdeal.nD Cert.SDownIdeal.τ).loc Cert.SDownIdeal.main_v3_0) = v0 c
          ∧ r.2.mem ((c.tc : Thread Cert.SDownIdeal.nD Cert.SDownIdeal.τ).loc Cert.SDownIdeal.main_arg0) = m ((c.tc : Thread Cert.SDownIdeal.nD Cert.SDownIdeal.τ).loc Cert.SDownIdeal.main_arg0)
          ∧ r.2.mem ((c.tc : Thread Cert.SDownIdeal.nD Cert.SDownIdeal.τ).loc Cert.SDownIdeal.main_arg1) = m ((c.tc : Thread Cert.SDownIdeal.nD Cert.SDownIdeal.τ).loc Cert.SDownIdeal.main_arg1)
          ∧ r.2.mem ((c.tc : Thread Cert.SDownIdeal.nD Cert.SDownIdeal.τ).loc Cert.SDownIdeal.main_arg2) = m ((c.tc : Thread Cert.SDownIdeal.nD Cert.SDownIdeal.τ).loc Cert.SDownIdeal.main_arg2)
          ∧ r.2.mem ((c.tc : Thread Cert.SDownIdeal.nD Cert.SDownIdeal.τ).loc Cert.SDownIdeal.main_arg3) = m ((c.tc : Thread Cert.SDownIdeal.nD Cert.SDownIdeal.τ).loc Cert.SDownIdeal.main_arg3)
          ∧ r.2.mem ((c.tc : Thread Cert.SDownIdeal.nD Cert.SDownIdeal.τ).loc Cert.SDownIdeal.main_arg4) = m ((c.tc : Thread Cert.SDownIdeal.nD Cert.SDownIdeal.τ).loc Cert.SDownIdeal.main_arg4))
      ∧ θ_run (Cert.SDownRefIdeal.defs (F := Ideal)) (onTc (τ := Cert.SDownRefIdeal.τ) (Cert.SDownRefIdeal.main (F := Ideal))) ⟨m', fun _ => 0, g'⟩ (fun r => ∀ c : Dev Cert.SDownRefIdeal.nD,
          r.2.mem ((c.tc : Thread Cert.SDownRefIdeal.nD Cert.SDownRefIdeal.τ).loc Cert.SDownRefIdeal.main_v27) = v0 c
          ∧ r.2.mem ((c.tc : Thread Cert.SDownRefIdeal.nD Cert.SDownRefIdeal.τ).loc Cert.SDownRefIdeal.main_arg0) = m' ((c.tc : Thread Cert.SDownRefIdeal.nD Cert.SDownRefIdeal.τ).loc Cert.SDownRefIdeal.main_arg0)
          ∧ r.2.mem ((c.tc : Thread Cert.SDownRefIdeal.nD Cert.SDownRefIdeal.τ).loc Cert.SDownRefIdeal.main_arg1) = m' ((c.tc : Thread Cert.SDownRefIdeal.nD Cert.SDownRefIdeal.τ).loc Cert.SDownRefIdeal.main_arg1)
          ∧ r.2.mem ((c.tc : Thread Cert.SDownRefIdeal.nD Cert.SDownRefIdeal.τ).loc Cert.SDownRefIdeal.main_arg2) = m' ((c.tc : Thread Cert.SDownRefIdeal.nD Cert.SDownRefIdeal.τ).loc Cert.SDownRefIdeal.main_arg2)
          ∧ r.2.mem ((c.tc : Thread Cert.SDownRefIdeal.nD Cert.SDownRefIdeal.τ).loc Cert.SDownRefIdeal.main_arg3) = m' ((c.tc : Thread Cert.SDownRefIdeal.nD Cert.SDownRefIdeal.τ).loc Cert.SDownRefIdeal.main_arg3)
          ∧ r.2.mem ((c.tc : Thread Cert.SDownRefIdeal.nD Cert.SDownRefIdeal.τ).loc Cert.SDownRefIdeal.main_arg4) = m' ((c.tc : Thread Cert.SDownRefIdeal.nD Cert.SDownRefIdeal.τ).loc Cert.SDownRefIdeal.main_arg4))

def preserves_SPrep_SPrepIdeal : Prop :=
  True

def algebraic_SPrepIdeal_SPrepRefIdeal [hSPrepIdeal : Cert.SPrepIdeal.Facts] [hSPrepRefIdeal : Cert.SPrepRefIdeal.Facts] : Prop :=
  ∀ (m : (ℓ : Loc Cert.SPrepIdeal.nD Cert.SPrepIdeal.τ Cert.SPrepIdeal.sig) → Buf (Elt Ideal) ℓ) (g : Dev Cert.SPrepIdeal.nD → PrngReg)
    (m' : (ℓ : Loc Cert.SPrepRefIdeal.nD Cert.SPrepRefIdeal.τ Cert.SPrepRefIdeal.sig) → Buf (Elt Ideal) ℓ) (g' : Dev Cert.SPrepRefIdeal.nD → PrngReg), Pre_SPrepIdeal m →
    (∀ c : Dev Cert.SPrepIdeal.nD,
      m' ((c.tc : Thread Cert.SPrepRefIdeal.nD Cert.SPrepRefIdeal.τ).loc Cert.SPrepRefIdeal.main_arg0) = m ((c.tc : Thread Cert.SPrepIdeal.nD Cert.SPrepIdeal.τ).loc Cert.SPrepIdeal.main_arg0)
      ∧ m' ((c.tc : Thread Cert.SPrepRefIdeal.nD Cert.SPrepRefIdeal.τ).loc Cert.SPrepRefIdeal.main_arg1) = m ((c.tc : Thread Cert.SPrepIdeal.nD Cert.SPrepIdeal.τ).loc Cert.SPrepIdeal.main_arg1)
      ∧ m' ((c.tc : Thread Cert.SPrepRefIdeal.nD Cert.SPrepRefIdeal.τ).loc Cert.SPrepRefIdeal.main_arg2) = m ((c.tc : Thread Cert.SPrepIdeal.nD Cert.SPrepIdeal.τ).loc Cert.SPrepIdeal.main_arg2)
      ∧ m' ((c.tc : Thread Cert.SPrepRefIdeal.nD Cert.SPrepRefIdeal.τ).loc Cert.SPrepRefIdeal.main_arg3) = m ((c.tc : Thread Cert.SPrepIdeal.nD Cert.SPrepIdeal.τ).loc Cert.SPrepIdeal.main_arg3)) →
    ∃ (v0 : (c : Dev Cert.SPrepIdeal.nD) → Buf (Elt Ideal) ((c.tc : Thread Cert.SPrepIdeal.nD Cert.SPrepIdeal.τ).loc Cert.SPrepIdeal.main_v73_3)),
      θ_run (Cert.SPrepIdeal.defs (F := Ideal)) (onTc (τ := Cert.SPrepIdeal.τ) (Cert.SPrepIdeal.main (F := Ideal))) ⟨m, fun _ => 0, g⟩ (fun r => ∀ c : Dev Cert.SPrepIdeal.nD,
          r.2.mem ((c.tc : Thread Cert.SPrepIdeal.nD Cert.SPrepIdeal.τ).loc Cert.SPrepIdeal.main_v73_3) = v0 c
          ∧ r.2.mem ((c.tc : Thread Cert.SPrepIdeal.nD Cert.SPrepIdeal.τ).loc Cert.SPrepIdeal.main_arg0) = m ((c.tc : Thread Cert.SPrepIdeal.nD Cert.SPrepIdeal.τ).loc Cert.SPrepIdeal.main_arg0)
          ∧ r.2.mem ((c.tc : Thread Cert.SPrepIdeal.nD Cert.SPrepIdeal.τ).loc Cert.SPrepIdeal.main_arg1) = m ((c.tc : Thread Cert.SPrepIdeal.nD Cert.SPrepIdeal.τ).loc Cert.SPrepIdeal.main_arg1)
          ∧ r.2.mem ((c.tc : Thread Cert.SPrepIdeal.nD Cert.SPrepIdeal.τ).loc Cert.SPrepIdeal.main_arg2) = m ((c.tc : Thread Cert.SPrepIdeal.nD Cert.SPrepIdeal.τ).loc Cert.SPrepIdeal.main_arg2)
          ∧ r.2.mem ((c.tc : Thread Cert.SPrepIdeal.nD Cert.SPrepIdeal.τ).loc Cert.SPrepIdeal.main_arg3) = m ((c.tc : Thread Cert.SPrepIdeal.nD Cert.SPrepIdeal.τ).loc Cert.SPrepIdeal.main_arg3))
      ∧ θ_run (Cert.SPrepRefIdeal.defs (F := Ideal)) (onTc (τ := Cert.SPrepRefIdeal.τ) (Cert.SPrepRefIdeal.main (F := Ideal))) ⟨m', fun _ => 0, g'⟩ (fun r => ∀ c : Dev Cert.SPrepRefIdeal.nD,
          r.2.mem ((c.tc : Thread Cert.SPrepRefIdeal.nD Cert.SPrepRefIdeal.τ).loc Cert.SPrepRefIdeal.main_v40) = v0 c
          ∧ r.2.mem ((c.tc : Thread Cert.SPrepRefIdeal.nD Cert.SPrepRefIdeal.τ).loc Cert.SPrepRefIdeal.main_arg0) = m' ((c.tc : Thread Cert.SPrepRefIdeal.nD Cert.SPrepRefIdeal.τ).loc Cert.SPrepRefIdeal.main_arg0)
          ∧ r.2.mem ((c.tc : Thread Cert.SPrepRefIdeal.nD Cert.SPrepRefIdeal.τ).loc Cert.SPrepRefIdeal.main_arg1) = m' ((c.tc : Thread Cert.SPrepRefIdeal.nD Cert.SPrepRefIdeal.τ).loc Cert.SPrepRefIdeal.main_arg1)
          ∧ r.2.mem ((c.tc : Thread Cert.SPrepRefIdeal.nD Cert.SPrepRefIdeal.τ).loc Cert.SPrepRefIdeal.main_arg2) = m' ((c.tc : Thread Cert.SPrepRefIdeal.nD Cert.SPrepRefIdeal.τ).loc Cert.SPrepRefIdeal.main_arg2)
          ∧ r.2.mem ((c.tc : Thread Cert.SPrepRefIdeal.nD Cert.SPrepRefIdeal.τ).loc Cert.SPrepRefIdeal.main_arg3) = m' ((c.tc : Thread Cert.SPrepRefIdeal.nD Cert.SPrepRefIdeal.τ).loc Cert.SPrepRefIdeal.main_arg3))

def preserves_SMix_SMixIdeal : Prop :=
  True

def algebraic_SMixIdeal_SMixRefIdeal [hSMixIdeal : Cert.SMixIdeal.Facts] [hSMixRefIdeal : Cert.SMixRefIdeal.Facts] : Prop :=
  ∀ (m : (ℓ : Loc Cert.SMixIdeal.nD Cert.SMixIdeal.τ Cert.SMixIdeal.sig) → Buf (Elt Ideal) ℓ) (g : Dev Cert.SMixIdeal.nD → PrngReg)
    (m' : (ℓ : Loc Cert.SMixRefIdeal.nD Cert.SMixRefIdeal.τ Cert.SMixRefIdeal.sig) → Buf (Elt Ideal) ℓ) (g' : Dev Cert.SMixRefIdeal.nD → PrngReg), Pre_SMixIdeal m →
    (∀ c : Dev Cert.SMixIdeal.nD,
      m' ((c.tc : Thread Cert.SMixRefIdeal.nD Cert.SMixRefIdeal.τ).loc Cert.SMixRefIdeal.main_arg0) = m ((c.tc : Thread Cert.SMixIdeal.nD Cert.SMixIdeal.τ).loc Cert.SMixIdeal.main_arg0)
      ∧ m' ((c.tc : Thread Cert.SMixRefIdeal.nD Cert.SMixRefIdeal.τ).loc Cert.SMixRefIdeal.main_arg1) = m ((c.tc : Thread Cert.SMixIdeal.nD Cert.SMixIdeal.τ).loc Cert.SMixIdeal.main_arg1)
      ∧ m' ((c.tc : Thread Cert.SMixRefIdeal.nD Cert.SMixRefIdeal.τ).loc Cert.SMixRefIdeal.main_arg2) = m ((c.tc : Thread Cert.SMixIdeal.nD Cert.SMixIdeal.τ).loc Cert.SMixIdeal.main_arg2)
      ∧ m' ((c.tc : Thread Cert.SMixRefIdeal.nD Cert.SMixRefIdeal.τ).loc Cert.SMixRefIdeal.main_arg3) = m ((c.tc : Thread Cert.SMixIdeal.nD Cert.SMixIdeal.τ).loc Cert.SMixIdeal.main_arg3)
      ∧ m' ((c.tc : Thread Cert.SMixRefIdeal.nD Cert.SMixRefIdeal.τ).loc Cert.SMixRefIdeal.main_arg4) = m ((c.tc : Thread Cert.SMixIdeal.nD Cert.SMixIdeal.τ).loc Cert.SMixIdeal.main_arg4)) →
    ∃ (v0 : (c : Dev Cert.SMixIdeal.nD) → Buf (Elt Ideal) ((c.tc : Thread Cert.SMixIdeal.nD Cert.SMixIdeal.τ).loc Cert.SMixIdeal.main_v53_1)) (v1 : (c : Dev Cert.SMixIdeal.nD) → Buf (Elt Ideal) ((c.tc : Thread Cert.SMixIdeal.nD Cert.SMixIdeal.τ).loc Cert.SMixIdeal.main_v53_2)) (v2 : (c : Dev Cert.SMixIdeal.nD) → Buf (Elt Ideal) ((c.tc : Thread Cert.SMixIdeal.nD Cert.SMixIdeal.τ).loc Cert.SMixIdeal.main_v58)),
      θ_run (Cert.SMixIdeal.defs (F := Ideal)) (onTc (τ := Cert.SMixIdeal.τ) (Cert.SMixIdeal.main (F := Ideal))) ⟨m, fun _ => 0, g⟩ (fun r => ∀ c : Dev Cert.SMixIdeal.nD,
          r.2.mem ((c.tc : Thread Cert.SMixIdeal.nD Cert.SMixIdeal.τ).loc Cert.SMixIdeal.main_v53_1) = v0 c
          ∧ r.2.mem ((c.tc : Thread Cert.SMixIdeal.nD Cert.SMixIdeal.τ).loc Cert.SMixIdeal.main_v53_2) = v1 c
          ∧ r.2.mem ((c.tc : Thread Cert.SMixIdeal.nD Cert.SMixIdeal.τ).loc Cert.SMixIdeal.main_v58) = v2 c
          ∧ r.2.mem ((c.tc : Thread Cert.SMixIdeal.nD Cert.SMixIdeal.τ).loc Cert.SMixIdeal.main_arg0) = m ((c.tc : Thread Cert.SMixIdeal.nD Cert.SMixIdeal.τ).loc Cert.SMixIdeal.main_arg0)
          ∧ r.2.mem ((c.tc : Thread Cert.SMixIdeal.nD Cert.SMixIdeal.τ).loc Cert.SMixIdeal.main_arg1) = m ((c.tc : Thread Cert.SMixIdeal.nD Cert.SMixIdeal.τ).loc Cert.SMixIdeal.main_arg1)
          ∧ r.2.mem ((c.tc : Thread Cert.SMixIdeal.nD Cert.SMixIdeal.τ).loc Cert.SMixIdeal.main_arg2) = m ((c.tc : Thread Cert.SMixIdeal.nD Cert.SMixIdeal.τ).loc Cert.SMixIdeal.main_arg2)
          ∧ r.2.mem ((c.tc : Thread Cert.SMixIdeal.nD Cert.SMixIdeal.τ).loc Cert.SMixIdeal.main_arg3) = m ((c.tc : Thread Cert.SMixIdeal.nD Cert.SMixIdeal.τ).loc Cert.SMixIdeal.main_arg3)
          ∧ r.2.mem ((c.tc : Thread Cert.SMixIdeal.nD Cert.SMixIdeal.τ).loc Cert.SMixIdeal.main_arg4) = m ((c.tc : Thread Cert.SMixIdeal.nD Cert.SMixIdeal.τ).loc Cert.SMixIdeal.main_arg4))
      ∧ θ_run (Cert.SMixRefIdeal.defs (F := Ideal)) (onTc (τ := Cert.SMixRefIdeal.τ) (Cert.SMixRefIdeal.main (F := Ideal))) ⟨m', fun _ => 0, g'⟩ (fun r => ∀ c : Dev Cert.SMixRefIdeal.nD,
          r.2.mem ((c.tc : Thread Cert.SMixRefIdeal.nD Cert.SMixRefIdeal.τ).loc Cert.SMixRefIdeal.main_v71) = v0 c
          ∧ r.2.mem ((c.tc : Thread Cert.SMixRefIdeal.nD Cert.SMixRefIdeal.τ).loc Cert.SMixRefIdeal.main_v101) = v1 c
          ∧ r.2.mem ((c.tc : Thread Cert.SMixRefIdeal.nD Cert.SMixRefIdeal.τ).loc Cert.SMixRefIdeal.main_v99) = v2 c
          ∧ r.2.mem ((c.tc : Thread Cert.SMixRefIdeal.nD Cert.SMixRefIdeal.τ).loc Cert.SMixRefIdeal.main_arg0) = m' ((c.tc : Thread Cert.SMixRefIdeal.nD Cert.SMixRefIdeal.τ).loc Cert.SMixRefIdeal.main_arg0)
          ∧ r.2.mem ((c.tc : Thread Cert.SMixRefIdeal.nD Cert.SMixRefIdeal.τ).loc Cert.SMixRefIdeal.main_arg1) = m' ((c.tc : Thread Cert.SMixRefIdeal.nD Cert.SMixRefIdeal.τ).loc Cert.SMixRefIdeal.main_arg1)
          ∧ r.2.mem ((c.tc : Thread Cert.SMixRefIdeal.nD Cert.SMixRefIdeal.τ).loc Cert.SMixRefIdeal.main_arg2) = m' ((c.tc : Thread Cert.SMixRefIdeal.nD Cert.SMixRefIdeal.τ).loc Cert.SMixRefIdeal.main_arg2)
          ∧ r.2.mem ((c.tc : Thread Cert.SMixRefIdeal.nD Cert.SMixRefIdeal.τ).loc Cert.SMixRefIdeal.main_arg3) = m' ((c.tc : Thread Cert.SMixRefIdeal.nD Cert.SMixRefIdeal.τ).loc Cert.SMixRefIdeal.main_arg3)
          ∧ r.2.mem ((c.tc : Thread Cert.SMixRefIdeal.nD Cert.SMixRefIdeal.τ).loc Cert.SMixRefIdeal.main_arg4) = m' ((c.tc : Thread Cert.SMixRefIdeal.nD Cert.SMixRefIdeal.τ).loc Cert.SMixRefIdeal.main_arg4))

def Claim : Prop :=
  ∃ (hRet : Cert.Ret.Facts) (hRetIdeal : Cert.RetIdeal.Facts) (hRetRefIdeal : Cert.RetRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hGate : Cert.Gate.Facts) (hGateIdeal : Cert.GateIdeal.Facts) (hGateRefIdeal : Cert.GateRefIdeal.Facts) (hConv : Cert.Conv.Facts) (hConvIdeal : Cert.ConvIdeal.Facts) (hConvRefIdeal : Cert.ConvRefIdeal.Facts) (hPrep : Cert.Prep.Facts) (hPrepIdeal : Cert.PrepIdeal.Facts) (hPrepRefIdeal : Cert.PrepRefIdeal.Facts) (hSIn : Cert.SIn.Facts) (hSInIdeal : Cert.SInIdeal.Facts) (hSInRefIdeal : Cert.SInRefIdeal.Facts) (hSUp : Cert.SUp.Facts) (hSUpIdeal : Cert.SUpIdeal.Facts) (hSUpRefIdeal : Cert.SUpRefIdeal.Facts) (hSDown : Cert.SDown.Facts) (hSDownIdeal : Cert.SDownIdeal.Facts) (hSDownRefIdeal : Cert.SDownRefIdeal.Facts) (hSPrep : Cert.SPrep.Facts) (hSPrepIdeal : Cert.SPrepIdeal.Facts) (hSPrepRefIdeal : Cert.SPrepRefIdeal.Facts) (hSMix : Cert.SMix.Facts) (hSMixIdeal : Cert.SMixIdeal.Facts) (hSMixRefIdeal : Cert.SMixRefIdeal.Facts),
    quiescent_Ret (hRet := hRet)
    ∧ quiescent_RetIdeal (hRetIdeal := hRetIdeal)
    ∧ quiescent_RetRefIdeal (hRetRefIdeal := hRetRefIdeal)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_Gate (hGate := hGate)
    ∧ quiescent_GateIdeal (hGateIdeal := hGateIdeal)
    ∧ quiescent_GateRefIdeal (hGateRefIdeal := hGateRefIdeal)
    ∧ quiescent_Conv (hConv := hConv)
    ∧ quiescent_ConvIdeal (hConvIdeal := hConvIdeal)
    ∧ quiescent_ConvRefIdeal (hConvRefIdeal := hConvRefIdeal)
    ∧ quiescent_Prep (hPrep := hPrep)
    ∧ quiescent_PrepIdeal (hPrepIdeal := hPrepIdeal)
    ∧ quiescent_PrepRefIdeal (hPrepRefIdeal := hPrepRefIdeal)
    ∧ quiescent_SIn (hSIn := hSIn)
    ∧ quiescent_SInIdeal (hSInIdeal := hSInIdeal)
    ∧ quiescent_SInRefIdeal (hSInRefIdeal := hSInRefIdeal)
    ∧ quiescent_SUp (hSUp := hSUp)
    ∧ quiescent_SUpIdeal (hSUpIdeal := hSUpIdeal)
    ∧ quiescent_SUpRefIdeal (hSUpRefIdeal := hSUpRefIdeal)
    ∧ quiescent_SDown (hSDown := hSDown)
    ∧ quiescent_SDownIdeal (hSDownIdeal := hSDownIdeal)
    ∧ quiescent_SDownRefIdeal (hSDownRefIdeal := hSDownRefIdeal)
    ∧ quiescent_SPrep (hSPrep := hSPrep)
    ∧ quiescent_SPrepIdeal (hSPrepIdeal := hSPrepIdeal)
    ∧ quiescent_SPrepRefIdeal (hSPrepRefIdeal := hSPrepRefIdeal)
    ∧ quiescent_SMix (hSMix := hSMix)
    ∧ quiescent_SMixIdeal (hSMixIdeal := hSMixIdeal)
    ∧ quiescent_SMixRefIdeal (hSMixRefIdeal := hSMixRefIdeal)
    ∧ preserves_Ret_RetIdeal
    ∧ algebraic_RetIdeal_RetRefIdeal (hRetIdeal := hRetIdeal) (hRetRefIdeal := hRetRefIdeal)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_Gate_GateIdeal
    ∧ algebraic_GateIdeal_GateRefIdeal (hGateIdeal := hGateIdeal) (hGateRefIdeal := hGateRefIdeal)
    ∧ preserves_Conv_ConvIdeal
    ∧ algebraic_ConvIdeal_ConvRefIdeal (hConvIdeal := hConvIdeal) (hConvRefIdeal := hConvRefIdeal)
    ∧ preserves_Prep_PrepIdeal
    ∧ algebraic_PrepIdeal_PrepRefIdeal (hPrepIdeal := hPrepIdeal) (hPrepRefIdeal := hPrepRefIdeal)
    ∧ preserves_SIn_SInIdeal
    ∧ algebraic_SInIdeal_SInRefIdeal (hSInIdeal := hSInIdeal) (hSInRefIdeal := hSInRefIdeal)
    ∧ preserves_SUp_SUpIdeal
    ∧ algebraic_SUpIdeal_SUpRefIdeal (hSUpIdeal := hSUpIdeal) (hSUpRefIdeal := hSUpRefIdeal)
    ∧ preserves_SDown_SDownIdeal
    ∧ algebraic_SDownIdeal_SDownRefIdeal (hSDownIdeal := hSDownIdeal) (hSDownRefIdeal := hSDownRefIdeal)
    ∧ preserves_SPrep_SPrepIdeal
    ∧ algebraic_SPrepIdeal_SPrepRefIdeal (hSPrepIdeal := hSPrepIdeal) (hSPrepRefIdeal := hSPrepRefIdeal)
    ∧ preserves_SMix_SMixIdeal
    ∧ algebraic_SMixIdeal_SMixRefIdeal (hSMixIdeal := hSMixIdeal) (hSMixRefIdeal := hSMixRefIdeal)
-- ==== Ret.lean ====
abbrev S8192x7680 : Shape := ⟨2, ![8192, 7680]⟩
abbrev S512 : Shape := ⟨1, ![512]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x0 : Shape := ⟨2, ![2048, 0]⟩
abbrev S2048x128 : Shape := ⟨2, ![2048, 128]⟩
abbrev S1x2048x1x128 : Shape := ⟨4, ![1, 2048, 1, 128]⟩
abbrev S1x512 : Shape := ⟨2, ![1, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S8192x512 : Shape := ⟨2, ![8192, 512]⟩
abbrev S4x4x128x128 : Shape := ⟨4, ![4, 4, 128, 128]⟩
abbrev S1x128x1 : Shape := ⟨3, ![1, 128, 1]⟩
abbrev S1x1x1 : Shape := ⟨3, ![1, 1, 1]⟩
abbrev S1x1x128x128 : Shape := ⟨4, ![1, 1, 128, 128]⟩
abbrev S1x1 : Shape := ⟨2, ![1, 1]⟩

abbrev nBuf : Space → Nat
  | .hbm => 103
  | .vmem => 24
  | .smem => 0
  | _ => 0

abbrev bufTy : (tb : Table) → Fin (tcTables nBuf tb) → BufTy
  | .hbm, ⟨0, _⟩ => ⟨S8192x7680, .f32⟩
  | .hbm, ⟨1, _⟩ => ⟨S512, .f32⟩
  | .hbm, ⟨2, _⟩ => ⟨S2048, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S_, .f32⟩
  | .hbm, ⟨20, _⟩ => ⟨S2048x0, .f32⟩
  | .hbm, ⟨21, _⟩ => ⟨S2048x128, .f32⟩
  | .hbm, ⟨22, _⟩ => ⟨S2048x64, .f32⟩
  | .hbm, ⟨23, _⟩ => ⟨S_, .f32⟩
  | .hbm, ⟨24, _⟩ => ⟨S2048x64, .f32⟩
  | .hbm, ⟨25, _⟩ => ⟨S2048x128, .f32⟩
  | .hbm, ⟨26, _⟩ => ⟨S_, .f32⟩
  | .hbm, ⟨27, _⟩ => ⟨S2048x64, .f32⟩
  | .hbm, ⟨28, _⟩ => ⟨S_, .f32⟩
  | .hbm, ⟨29, _⟩ => ⟨S2048x0, .f32⟩
  | .hbm, ⟨30, _⟩ => ⟨S2048x128, .f32⟩
  | .hbm, ⟨31, _⟩ => ⟨S1x2048x1x128, .f32⟩
  | .hbm, ⟨32, _⟩ => ⟨S1x2048x1x128, .f32⟩
  | .hbm, ⟨33, _⟩ => ⟨S2048x128, .f32⟩
  | .hbm, ⟨34, _⟩ => ⟨S1x2048x1x128, .f32⟩
  | .hbm, ⟨35, _⟩ => ⟨S1x2048x1x128, .f32⟩
  | .hbm, ⟨36, _⟩ => ⟨S2048x128, .f32⟩
  | .hbm, ⟨37, _⟩ => ⟨S1x2048x1x128, .f32⟩
  | .hbm, ⟨38, _⟩ => ⟨S1x2048x1x128, .f32⟩
  | .hbm, ⟨39, _⟩ => ⟨S2048x128, .f32⟩
  | .hbm, ⟨40, _⟩ => ⟨S2048x128, .f32⟩
  | .hbm, ⟨41, _⟩ => ⟨S1x512, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S128, .f32⟩
  | .hbm, ⟨54, _⟩ => ⟨S128x1, .f32⟩
  | .hbm, ⟨55, _⟩ => ⟨S1x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S_, .f32⟩
  | .hbm, ⟨60, _⟩ => ⟨S128x128, .f32⟩
  | .hbm, ⟨61, _⟩ => ⟨S128x128, .i1⟩
  | .hbm, ⟨62, _⟩ => ⟨S4x1x1, .f32⟩
  | .hbm, ⟨63, _⟩ => ⟨S_, .f32⟩
  | .hbm, ⟨64, _⟩ => ⟨S128x128, .f32⟩
  | .hbm, ⟨65, _⟩ => ⟨S128x128, .f32⟩
  | .hbm, ⟨66, _⟩ => ⟨S1x128x128, .f32⟩
  | .hbm, ⟨67, _⟩ => ⟨S4x128x128, .f32⟩
  | .hbm, ⟨68, _⟩ => ⟨S4x128x128, .f32⟩
  | .hbm, ⟨69, _⟩ => ⟨S4x128x128, .f32⟩
  | .hbm, ⟨70, _⟩ => ⟨S4x128x128, .f32⟩
  | .hbm, ⟨71, _⟩ => ⟨S_, .f32⟩
  | .hbm, ⟨72, _⟩ => ⟨S_, .f32⟩
  | .hbm, ⟨73, _⟩ => ⟨S4x128x128, .i1⟩
  | .hbm, ⟨74, _⟩ => ⟨S4x128x128, .f32⟩
  | .hbm, ⟨75, _⟩ => ⟨S4x128x128, .f32⟩
  | .hbm, ⟨76, _⟩ => ⟨S4x1, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S4x128, .f32⟩
  | .hbm, ⟨82, _⟩ => ⟨S4x128, .f32⟩
  | .hbm, ⟨83, _⟩ => ⟨S4x128, .f32⟩
  | .hbm, ⟨84, _⟩ => ⟨S4x128, .f32⟩
  | .hbm, ⟨85, _⟩ => ⟨S4x128x1, .f32⟩
  | .hbm, ⟨86, _⟩ => ⟨S4x1, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S4x128, .f32⟩
  | .hbm, ⟨92, _⟩ => ⟨S4x128, .f32⟩
  | .hbm, ⟨93, _⟩ => ⟨S4x128, .f32⟩
  | .hbm, ⟨94, _⟩ => ⟨S4x128, .f32⟩
  | .hbm, ⟨95, _⟩ => ⟨S4x128x1, .f32⟩
  | .hbm, ⟨96, _⟩ => ⟨S_, .f32⟩
  | .hbm, ⟨97, _⟩ => ⟨S4, .f32⟩
  | .hbm, ⟨98, _⟩ => ⟨S4, .f32⟩
  | .hbm, ⟨99, _⟩ => ⟨S4, .f32⟩
  | .hbm, ⟨100, _⟩ => ⟨S4x1x1, .f32⟩
  | .hbm, ⟨101, _⟩ => ⟨S8192x512, .bf16⟩
  | .hbm, ⟨102, _⟩ => ⟨S4x4x128x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x128x128, .f32⟩
  | .local _ .vmem, ⟨11, _⟩ => ⟨S1x128x128, .f32⟩
  | .local _ .vmem, ⟨12, _⟩ => ⟨S1x128x1, .f32⟩
  | .local _ .vmem, ⟨13, _⟩ => ⟨S1x128x1, .f32⟩
  | .local _ .vmem, ⟨14, _⟩ => ⟨S1x128x1, .f32⟩
  | .local _ .vmem, ⟨15, _⟩ => ⟨S1x128x1, .f32⟩
  | .local _ .vmem, ⟨16, _⟩ => ⟨S1x1x1, .f32⟩
  | .local _ .vmem, ⟨17, _⟩ => ⟨S1x1x1, .f32⟩
  | .local _ .vmem, ⟨18, _⟩ => ⟨S1x128, .f32⟩
  | .local _ .vmem, ⟨19, _⟩ => ⟨S1x128, .f32⟩
  | .local _ .vmem, ⟨20, _⟩ => ⟨S2048x128, .bf16⟩
  | .local _ .vmem, ⟨21, _⟩ => ⟨S2048x128, .bf16⟩
  | .local _ .vmem, ⟨22, _⟩ => ⟨S1x1x128x128, .f32⟩
  | .local _ .vmem, ⟨23, _⟩ => ⟨S1x1x128x128, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_10 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_13 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81_0 : Ref sig .tc := ⟨.hbm, 101, rfl⟩
abbrev main_v81_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v16 : BitVec 32 := Scalar.muli arg15 c128_i32
  v16
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v16 : BitVec 32 := Scalar.muli arg15 c128_i32
  let v17 : BitVec 32 := v16
  let v18 : Index := Scalar.indexCast v17
  let c0_18 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RetRefIdeal.lean ====
abbrev S8192x7680 : Shape := ⟨2, ![8192, 7680]⟩
abbrev S512 : Shape := ⟨1, ![512]⟩
abbrev S2048 : Shape := ⟨1, ![2048]⟩
abbrev S8192x512 : Shape := ⟨2, ![8192, 512]⟩
abbrev S4x2048x512 : Shape := ⟨3, ![4, 2048, 512]⟩
abbrev S4x2048x4x128 : Shape := ⟨4, ![4, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x4x64 : Shape := ⟨4, ![4, 2048, 4, 64]⟩
abbrev S1x2048x1x64 : Shape := ⟨4, ![1, 2048, 1, 64]⟩
abbrev S4x4x128x128 : Shape := ⟨4, ![4, 4, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x16x128x4x128 : Shape := ⟨5, ![4, 16, 128, 4, 128]⟩
abbrev S16x4x4x128x128 : Shape := ⟨5, ![16, 4, 4, 128, 128]⟩
abbrev S1x4x4x128x128 : Shape := ⟨5, ![1, 4, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S4x2048x4 : Shape := ⟨3, ![4, 2048, 4]⟩
abbrev S4x2048x4x1 : Shape := ⟨4, ![4, 2048, 4, 1]⟩
abbrev S1x1x4x128 : Shape := ⟨4, ![1, 1, 4, 128]⟩

abbrev nBuf : Space → Nat
  | .hbm => 255
  | .vmem => 0
  | .smem => 0
  | _ => 0

abbrev hbmTy0_0 (i : Nat) : BufTy := match i % 128 with
  | 0 => ⟨S8192x7680, .f32⟩
  | 1 => ⟨S512, .f32⟩
  | 2 => ⟨S2048, .i32⟩
  | 3 => ⟨S8192x512, .f32⟩
  | 4 => ⟨S4x2048x512, .f32⟩
  | 5 => ⟨S8192x512, .f32⟩
  | 6 => ⟨S4x2048x512, .f32⟩
  | 7 => ⟨S8192x512, .f32⟩
  | 8 => ⟨S4x2048x512, .f32⟩
  | 9 => ⟨S8192x512, .f32⟩
  | 10 => ⟨S4x2048x512, .f32⟩
  | 11 => ⟨S4x2048x4x128, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S2048, .f32⟩
  | 21 => ⟨S2048x1, .f32⟩
  | 22 => ⟨S1x64, .f32⟩
  | 23 => ⟨S2048x64, .f32⟩
  | 24 => ⟨S2048x64, .f32⟩
  | 25 => ⟨S2048x64, .f32⟩
  | 26 => ⟨S2048x64, .f32⟩
  | 27 => ⟨S2048x1x64, .f32⟩
  | 28 => ⟨S2048x64, .f32⟩
  | 29 => ⟨S2048x1x64, .f32⟩
  | 30 => ⟨S4x2048x4x64, .f32⟩
  | 31 => ⟨S4x2048x4x64, .f32⟩
  | 32 => ⟨S1x2048x1x64, .f32⟩
  | 33 => ⟨S4x2048x4x64, .f32⟩
  | 34 => ⟨S4x2048x4x64, .f32⟩
  | 35 => ⟨S1x2048x1x64, .f32⟩
  | 36 => ⟨S4x2048x4x64, .f32⟩
  | 37 => ⟨S4x2048x4x64, .f32⟩
  | 38 => ⟨S4x2048x4x64, .f32⟩
  | 39 => ⟨S1x2048x1x64, .f32⟩
  | 40 => ⟨S4x2048x4x64, .f32⟩
  | 41 => ⟨S4x2048x4x64, .f32⟩
  | 42 => ⟨S1x2048x1x64, .f32⟩
  | 43 => ⟨S4x2048x4x64, .f32⟩
  | 44 => ⟨S4x2048x4x64, .f32⟩
  | 45 => ⟨S4x2048x4x64, .f32⟩
  | 46 => ⟨S4x2048x4x128, .f32⟩
  | 47 => ⟨S4x2048x4x128, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S2048, .f32⟩
  | 57 => ⟨S2048x1, .f32⟩
  | 58 => ⟨S1x64, .f32⟩
  | 59 => ⟨S2048x64, .f32⟩
  | 60 => ⟨S2048x64, .f32⟩
  | 61 => ⟨S2048x64, .f32⟩
  | 62 => ⟨S2048x64, .f32⟩
  | 63 => ⟨S2048x1x64, .f32⟩
  | 64 => ⟨S2048x64, .f32⟩
  | 65 => ⟨S2048x1x64, .f32⟩
  | 66 => ⟨S4x2048x4x64, .f32⟩
  | 67 => ⟨S4x2048x4x64, .f32⟩
  | 68 => ⟨S1x2048x1x64, .f32⟩
  | 69 => ⟨S4x2048x4x64, .f32⟩
  | 70 => ⟨S4x2048x4x64, .f32⟩
  | 71 => ⟨S1x2048x1x64, .f32⟩
  | 72 => ⟨S4x2048x4x64, .f32⟩
  | 73 => ⟨S4x2048x4x64, .f32⟩
  | 74 => ⟨S4x2048x4x64, .f32⟩
  | 75 => ⟨S1x2048x1x64, .f32⟩
  | 76 => ⟨S4x2048x4x64, .f32⟩
  | 77 => ⟨S4x2048x4x64, .f32⟩
  | 78 => ⟨S1x2048x1x64, .f32⟩
  | 79 => ⟨S4x2048x4x64, .f32⟩
  | 80 => ⟨S4x2048x4x64, .f32⟩
  | 81 => ⟨S4x2048x4x64, .f32⟩
  | 82 => ⟨S4x2048x4x128, .f32⟩
  | 83 => ⟨S_, .f32⟩
  | 84 => ⟨S4x2048x4x128, .f32⟩
  | 85 => ⟨S4x2048x4x128, .f32⟩
  | 86 => ⟨S4x2048x4x128, .f32⟩
  | 87 => ⟨S_, .f32⟩
  | 88 => ⟨S4x4x128x128, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S_, .f32⟩
  | 97 => ⟨S4, .f32⟩
  | 98 => ⟨S4, .f32⟩
  | 99 => ⟨S4, .f32⟩
  | 100 => ⟨S128, .f32⟩
  | 101 => ⟨S128x1, .f32⟩
  | 102 => ⟨S1x128, .f32⟩
  | 103 => ⟨S128x128, .f32⟩
  | 104 => ⟨S128x128, .f32⟩
  | 105 => ⟨S128x128, .f32⟩
  | 106 => ⟨S_, .f32⟩
  | 107 => ⟨S128x128, .f32⟩
  | 108 => ⟨S128x128, .i1⟩
  | 109 => ⟨S4x1x1, .f32⟩
  | 110 => ⟨S_, .f32⟩
  | 111 => ⟨S128x128, .f32⟩
  | 112 => ⟨S128x128, .f32⟩
  | 113 => ⟨S1x128x128, .f32⟩
  | 114 => ⟨S4x128x128, .f32⟩
  | 115 => ⟨S4x128x128, .f32⟩
  | 116 => ⟨S4x128x128, .f32⟩
  | 117 => ⟨S4x128x128, .f32⟩
  | 118 => ⟨S_, .f32⟩
  | 119 => ⟨S_, .f32⟩
  | 120 => ⟨S4x128x128, .i1⟩
  | 121 => ⟨S4x128x128, .f32⟩
  | 122 => ⟨S4x128x128, .f32⟩
  | 123 => ⟨S4x1, .f32⟩
  | 124 => ⟨S_, .f32⟩
  | 125 => ⟨S128, .f32⟩
  | 126 => ⟨S128, .f32⟩
  | 127 => ⟨S1x128, .f32⟩
  | _ => ⟨S8192x7680, .f32⟩

abbrev hbmTy0_1 (i : Nat) : BufTy := match i % 128 with
  | 0 => ⟨S4x128, .f32⟩
  | 1 => ⟨S4x128, .f32⟩
  | 2 => ⟨S4x128, .f32⟩
  | 3 => ⟨S4x128, .f32⟩
  | 4 => ⟨S4x128x1, .f32⟩
  | 5 => ⟨S4x1, .f32⟩
  | 6 => ⟨S_, .f32⟩
  | 7 => ⟨S128, .f32⟩
  | 8 => ⟨S128, .f32⟩
  | 9 => ⟨S1x128, .f32⟩
  | 10 => ⟨S4x128, .f32⟩
  | 11 => ⟨S4x128, .f32⟩
  | 12 => ⟨S4x128, .f32⟩
  | 13 => ⟨S4x128, .f32⟩
  | 14 => ⟨S4x128x1, .f32⟩
  | 15 => ⟨S_, .f32⟩
  | 16 => ⟨S4, .f32⟩
  | 17 => ⟨S4, .f32⟩
  | 18 => ⟨S4, .f32⟩
  | 19 => ⟨S4x1x1, .f32⟩
  | 20 => ⟨S4x16x128x4x128, .f32⟩
  | 21 => ⟨S16x4x4x128x128, .f32⟩
  | 22 => ⟨S4x16x128x4x128, .f32⟩
  | 23 => ⟨S16x4x4x128x128, .f32⟩
  | 24 => ⟨S4x16x128x4x128, .f32⟩
  | 25 => ⟨S16x4x4x128x128, .f32⟩
  | 26 => ⟨S_, .f32⟩
  | 27 => ⟨S16x4x4x128x128, .f32⟩
  | 28 => ⟨S_, .i32⟩
  | 29 => ⟨S16x4x4x128x128, .f32⟩
  | 30 => ⟨S16x4x4x128x128, .f32⟩
  | 31 => ⟨S16x4x4x128x128, .f32⟩
  | 32 => ⟨S4x128x128, .f32⟩
  | 33 => ⟨S4x128x1, .f32⟩
  | 34 => ⟨S4x1x1, .f32⟩
  | 35 => ⟨S4x128x1, .f32⟩
  | 36 => ⟨S_, .i32⟩
  | 37 => ⟨S4x4x128x128, .f32⟩
  | 38 => ⟨S16x4x4x128x128, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x4x4x128x128, .f32⟩
  | 46 => ⟨S4x4x128x128, .f32⟩
  | 47 => ⟨S_, .i32⟩
  | 48 => ⟨S_, .i32⟩
  | 49 => ⟨S_, .i32⟩
  | 50 => ⟨S_, .i32⟩
  | 51 => ⟨S1x4x4x128x128, .f32⟩
  | 52 => ⟨S4x4x128x128, .f32⟩
  | 53 => ⟨S_, .i32⟩
  | 54 => ⟨S_, .i32⟩
  | 55 => ⟨S_, .i32⟩
  | 56 => ⟨S_, .i32⟩
  | 57 => ⟨S1x4x4x128x128, .f32⟩
  | 58 => ⟨S4x4x128x128, .f32⟩
  | 59 => ⟨S4x4x128x128, .f32⟩
  | 60 => ⟨S1x4x128x128, .f32⟩
  | 61 => ⟨S4x4x128x128, .f32⟩
  | 62 => ⟨S4x4x128x128, .f32⟩
  | 63 => ⟨S4x4x128x128, .f32⟩
  | 64 => ⟨S4x4x128x128, .f32⟩
  | 65 => ⟨S1x4x128x1, .f32⟩
  | 66 => ⟨S4x4x128x128, .f32⟩
  | 67 => ⟨S4x4x128x128, .f32⟩
  | 68 => ⟨S4x4x128x128, .f32⟩
  | 69 => ⟨S1x4x1x1, .f32⟩
  | 70 => ⟨S4x4x128x128, .f32⟩
  | 71 => ⟨S4x4x128x128, .f32⟩
  | 72 => ⟨S1x4x128x1, .f32⟩
  | 73 => ⟨S4x4x128x128, .f32⟩
  | 74 => ⟨S4x4x128x128, .f32⟩
  | 75 => ⟨S4x4x128x128, .f32⟩
  | 76 => ⟨S4x4x128x128, .f32⟩
  | 77 => ⟨S1x4x4x128x128, .f32⟩
  | 78 => ⟨S_, .i32⟩
  | 79 => ⟨S_, .i32⟩
  | 80 => ⟨S_, .i32⟩
  | 81 => ⟨S_, .i32⟩
  | 82 => ⟨S16x4x4x128x128, .f32⟩
  | 83 => ⟨S_, .i32⟩
  | 84 => ⟨S_, .i32⟩
  | 85 => ⟨S4x16x128x4x128, .f32⟩
  | 86 => ⟨S4x2048x4x128, .f32⟩
  | 87 => ⟨S_, .f32⟩
  | 88 => ⟨S4x2048x4, .f32⟩
  | 89 => ⟨S4x2048x4x1, .f32⟩
  | 90 => ⟨S_, .f32⟩
  | 91 => ⟨S4x2048x4x1, .f32⟩
  | 92 => ⟨S4x2048x4x1, .f32⟩
  | 93 => ⟨S4x2048x4x128, .f32⟩
  | 94 => ⟨S4x2048x4x128, .f32⟩
  | 95 => ⟨S4x2048x4x128, .f32⟩
  | 96 => ⟨S_, .f32⟩
  | 97 => ⟨S4x2048x4, .f32⟩
  | 98 => ⟨S4x2048x4x1, .f32⟩
  | 99 => ⟨S_, .f32⟩
  | 100 => ⟨S4x2048x4x1, .f32⟩
  | 101 => ⟨S4x2048x4x1, .f32⟩
  | 102 => ⟨S4x2048x4x128, .f32⟩
  | 103 => ⟨S4x2048x4x128, .f32⟩
  | 104 => ⟨S_, .f32⟩
  | 105 => ⟨S4x2048x4x1, .f32⟩
  | 106 => ⟨S4x2048x4x1, .f32⟩
  | 107 => ⟨S4x2048x4x1, .f32⟩
  | 108 => ⟨S4x2048x4x128, .f32⟩
  | 109 => ⟨S4x2048x4x128, .f32⟩
  | 110 => ⟨S4x128, .f32⟩
  | 111 => ⟨S1x1x4x128, .f32⟩
  | 112 => ⟨S4x2048x4x128, .f32⟩
  | 113 => ⟨S4x2048x4x128, .f32⟩
  | 114 => ⟨S4x2048x512, .f32⟩
  | 115 => ⟨S4x2048x512, .f32⟩
  | 116 => ⟨S4x2048x512, .f32⟩
  | 117 => ⟨S_, .f32⟩
  | 118 => ⟨S4x2048x512, .f32⟩
  | 119 => ⟨S4x2048x512, .f32⟩
  | 120 => ⟨S_, .f32⟩
  | 121 => ⟨S4x2048x512, .f32⟩
  | 122 => ⟨S4x2048x512, .f32⟩
  | 123 => ⟨S4x2048x512, .f32⟩
  | 124 => ⟨S4x2048x512, .f32⟩
  | 125 => ⟨S8192x512, .f32⟩
  | 126 => ⟨S8192x512, .bf16⟩
  | _ => ⟨S8192x7680, .f32⟩

abbrev hbmTy (i : Nat) : BufTy := match i / 128 with
  | 0 => hbmTy0_0 i
  | 1 => hbmTy0_1 i
  | _ => ⟨S8192x7680, .f32⟩

abbrev bufTy : (tb : Table) → Fin (tcTables nBuf tb) → BufTy
  | .hbm, ⟨i, _⟩ => hbmTy i
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_1 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_cst_3 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_cst_4 : Ref sig .tc := ⟨.hbm, 87, rfl⟩
abbrev main_v80 : Ref sig .tc := ⟨.hbm, 88, rfl⟩
abbrev main_v81 : Ref sig .tc := ⟨.hbm, 89, rfl⟩
abbrev main_cst_5 : Ref sig .tc := ⟨.hbm, 90, rfl⟩
abbrev main_v82 : Ref sig .tc := ⟨.hbm, 91, rfl⟩
abbrev main_v83 : Ref sig .tc := ⟨.hbm, 92, rfl⟩
abbrev main_cst_6 : Ref sig .tc := ⟨.hbm, 93, rfl⟩
abbrev main_v84 : Ref sig .tc := ⟨.hbm, 94, rfl⟩
abbrev main_v85 : Ref sig .tc := ⟨.hbm, 95, rfl⟩
abbrev main_cst_7 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_8 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_cst_9 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_cst_10 : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_v105 : Ref sig .tc := ⟨.hbm, 122, rfl⟩
abbrev main_v106 : Ref sig .tc := ⟨.hbm, 123, rfl⟩
abbrev main_cst_11 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_12 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_13 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_14 : Ref sig .tc := ⟨.hbm, 154, rfl⟩
abbrev main_v134 : Ref sig .tc := ⟨.hbm, 155, rfl⟩
abbrev main_c : Ref sig .tc := ⟨.hbm, 156, rfl⟩
abbrev main_v135_0 : Ref sig .tc := ⟨.hbm, 157, rfl⟩
abbrev main_v135_1 : Ref sig .tc := ⟨.hbm, 158, rfl⟩
abbrev main_v135_2 : Ref sig .tc := ⟨.hbm, 159, rfl⟩
abbrev main_v135_3 : Ref sig .tc := ⟨.hbm, 160, rfl⟩
abbrev main_v135_4 : Ref sig .tc := ⟨.hbm, 161, rfl⟩
abbrev main_v135_5 : Ref sig .tc := ⟨.hbm, 162, rfl⟩
abbrev main_v135_6 : Ref sig .tc := ⟨.hbm, 163, rfl⟩
abbrev main_v135_7 : Ref sig .tc := ⟨.hbm, 164, rfl⟩
abbrev main_v135_8 : Ref sig .tc := ⟨.hbm, 165, rfl⟩
abbrev main_v135_9 : Ref sig .tc := ⟨.hbm, 166, rfl⟩
abbrev main_while0c_c_29 : Ref sig .tc := ⟨.hbm, 167, rfl⟩
abbrev main_while0c_v165 : Ref sig .tc := ⟨.hbm, 168, rfl⟩
abbrev main_while0b_call1_c : Ref sig .tc := ⟨.hbm, 169, rfl⟩
abbrev main_while0b_call1_c_0 : Ref sig .tc := ⟨.hbm, 170, rfl⟩
abbrev main_while0b_call1_c_1 : Ref sig .tc := ⟨.hbm, 171, rfl⟩
abbrev main_while0b_call1_c_2 : Ref sig .tc := ⟨.hbm, 172, rfl⟩
abbrev main_while0b_call1_v0 : Ref sig .tc := ⟨.hbm, 173, rfl⟩
abbrev main_while0b_v165 : Ref sig .tc := ⟨.hbm, 174, rfl⟩
abbrev main_while0b_call2_c : Ref sig .tc := ⟨.hbm, 175, rfl⟩
abbrev main_while0b_call2_c_0 : Ref sig .tc := ⟨.hbm, 176, rfl⟩
abbrev main_while0b_call2_c_1 : Ref sig .tc := ⟨.hbm, 177, rfl⟩
abbrev main_while0b_call2_c_2 : Ref sig .tc := ⟨.hbm, 178, rfl⟩
abbrev main_while0b_call2_v0 : Ref sig .tc := ⟨.hbm, 179, rfl⟩
abbrev main_while0b_v166 : Ref sig .tc := ⟨.hbm, 180, rfl⟩
abbrev main_while0b_call3_c : Ref sig .tc := ⟨.hbm, 181, rfl⟩
abbrev main_while0b_call3_c_0 : Ref sig .tc := ⟨.hbm, 182, rfl⟩
abbrev main_while0b_call3_c_1 : Ref sig .tc := ⟨.hbm, 183, rfl⟩
abbrev main_while0b_call3_c_2 : Ref sig .tc := ⟨.hbm, 184, rfl⟩
abbrev main_while0b_call3_v0 : Ref sig .tc := ⟨.hbm, 185, rfl⟩
abbrev main_while0b_v167 : Ref sig .tc := ⟨.hbm, 186, rfl⟩
abbrev main_while0b_v168 : Ref sig .tc := ⟨.hbm, 187, rfl⟩
abbrev main_while0b_v169 : Ref sig .tc := ⟨.hbm, 188, rfl⟩
abbrev main_while0b_v170 : Ref sig .tc := ⟨.hbm, 189, rfl⟩
abbrev main_while0b_v171 : Ref sig .tc := ⟨.hbm, 190, rfl⟩
abbrev main_while0b_v172 : Ref sig .tc := ⟨.hbm, 191, rfl⟩
abbrev main_while0b_v173 : Ref sig .tc := ⟨.hbm, 192, rfl⟩
abbrev main_while0b_v174 : Ref sig .tc := ⟨.hbm, 193, rfl⟩
abbrev main_while0b_v175 : Ref sig .tc := ⟨.hbm, 194, rfl⟩
abbrev main_while0b_v176 : Ref sig .tc := ⟨.hbm, 195, rfl⟩
abbrev main_while0b_v177 : Ref sig .tc := ⟨.hbm, 196, rfl⟩
abbrev main_while0b_v178 : Ref sig .tc := ⟨.hbm, 197, rfl⟩
abbrev main_while0b_v179 : Ref sig .tc := ⟨.hbm, 198, rfl⟩
abbrev main_while0b_v180 : Ref sig .tc := ⟨.hbm, 199, rfl⟩
abbrev main_while0b_v181 : Ref sig .tc := ⟨.hbm, 200, rfl⟩
abbrev main_while0b_v182 : Ref sig .tc := ⟨.hbm, 201, rfl⟩
abbrev main_while0b_v183 : Ref sig .tc := ⟨.hbm, 202, rfl⟩
abbrev main_while0b_v184 : Ref sig .tc := ⟨.hbm, 203, rfl⟩
abbrev main_while0b_v185 : Ref sig .tc := ⟨.hbm, 204, rfl⟩
abbrev main_while0b_call4_v0 : Ref sig .tc := ⟨.hbm, 205, rfl⟩
abbrev main_while0b_call4_c : Ref sig .tc := ⟨.hbm, 206, rfl⟩
abbrev main_while0b_call4_c_0 : Ref sig .tc := ⟨.hbm, 207, rfl⟩
abbrev main_while0b_call4_c_1 : Ref sig .tc := ⟨.hbm, 208, rfl⟩
abbrev main_while0b_call4_c_2 : Ref sig .tc := ⟨.hbm, 209, rfl⟩
abbrev main_while0b_v186 : Ref sig .tc := ⟨.hbm, 210, rfl⟩
abbrev main_while0b_c_29 : Ref sig .tc := ⟨.hbm, 211, rfl⟩
abbrev main_while0b_v187 : Ref sig .tc := ⟨.hbm, 212, rfl⟩
abbrev main_v136 : Ref sig .tc := ⟨.hbm, 213, rfl⟩
abbrev main_v137 : Ref sig .tc := ⟨.hbm, 214, rfl⟩
abbrev main_cst_15 : Ref sig .tc := ⟨.hbm, 215, rfl⟩
abbrev main_v138 : Ref sig .tc := ⟨.hbm, 216, rfl⟩
abbrev main_v139 : Ref sig .tc := ⟨.hbm, 217, rfl⟩
abbrev main_cst_16 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_cst_17 : Ref sig .tc := ⟨.hbm, 224, rfl⟩
abbrev main_v145 : Ref sig .tc := ⟨.hbm, 225, rfl⟩
abbrev main_v146 : Ref sig .tc := ⟨.hbm, 226, rfl⟩
abbrev main_cst_18 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_cst_19 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_call5_v0 : Ref sig .tc := ⟨.hbm, 243, rfl⟩
abbrev main_call5_v1 : Ref sig .tc := ⟨.hbm, 244, rfl⟩
abbrev main_call5_cst : Ref sig .tc := ⟨.hbm, 245, rfl⟩
abbrev main_call5_v2 : Ref sig .tc := ⟨.hbm, 246, rfl⟩
abbrev main_call5_v3 : Ref sig .tc := ⟨.hbm, 247, rfl⟩
abbrev main_call5_cst_0 : Ref sig .tc := ⟨.hbm, 248, rfl⟩
abbrev main_call5_v4 : Ref sig .tc := ⟨.hbm, 249, rfl⟩
abbrev main_call5_v5 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩

abbrev nD : Nat := 1
abbrev τ : Topo := Topo.v7x

variable {F : FTy → Type} [FloatOps F]

abbrev main_while0_count : Scf.Loop 32 := ⟨0#32, 16#32, 1#32⟩
-- ==== Up.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x512 : Shape := ⟨2, ![2048, 512]⟩
abbrev S1024x512 : Shape := ⟨2, ![1024, 512]⟩
abbrev S4x2048x11264 : Shape := ⟨3, ![4, 2048, 11264]⟩
abbrev S4x2x11264 : Shape := ⟨3, ![4, 2, 11264]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S2048x11264, .bf16⟩
  | .hbm, ⟨3, _⟩ => ⟨S8192x11264, .f32⟩
  | .hbm, ⟨4, _⟩ => ⟨S4x2048x11264, .f32⟩
  | .hbm, ⟨5, _⟩ => ⟨S4x2x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8192x2048 : Shape := ⟨2, ![8192, 2048]⟩
abbrev S2048x11264 : Shape := ⟨2, ![2048, 11264]⟩
abbrev S8192x11264 : Shape := ⟨2, ![8192, 11264]⟩
abbrev S_ : Shape := ⟨0, ![]⟩
abbrev S4x2x11264 : Shape := ⟨3, ![4, 2, 11264]⟩
abbrev S4x2048x11264 : Shape := ⟨3, ![4, 2048, 11264]⟩
abbrev S4x2050x11264 : Shape := ⟨3, ![4, 2050, 11264]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x2048, .f32⟩
  | .hbm, ⟨3, _⟩ => ⟨S8192x11264, .f32⟩
  | .hbm, ⟨4, _⟩ => ⟨S_, .f32⟩
  | .hbm, ⟨5, _⟩ => ⟨S4x2x11264, .f32⟩
  | .hbm, ⟨6, _⟩ => ⟨S4x2048x11264, .f32⟩
  | .hbm, ⟨7, _⟩ => ⟨S4x2050x11264, .f32⟩
  | .hbm, ⟨8, _⟩ => ⟨S4x2x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== In.lean ====
abbrev S8192x2048 : Shape := ⟨2, ![8192, 2048]⟩
abbrev S2048x7760 : Shape := ⟨2, ![2048, 7760]⟩
abbrev S2048x6144 : Shape := ⟨2, ![2048, 6144]⟩
abbrev S2048x1536 : Shape := ⟨2, ![2048, 1536]⟩
abbrev S2048x7680 : Shape := ⟨2, ![2048, 7680]⟩
abbrev S2048x80 : Shape := ⟨2, ![2048, 80]⟩
abbrev S_ : Shape := ⟨0, ![]⟩
abbrev S2048x128 : Shape := ⟨2, ![2048, 128]⟩
abbrev S8192x7680 : Shape := ⟨2, ![8192, 7680]⟩
abbrev S8192x128 : Shape := ⟨2, ![8192, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S8192x1024 : Shape := ⟨2, ![8192, 1024]⟩
abbrev S4x2048x8x128 : Shape := ⟨4, ![4, 2048, 8, 128]⟩

abbrev nBuf : Space → Nat
  | .hbm => 16
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x7760, .f32⟩
  | .hbm, ⟨2, _⟩ => ⟨S2048x6144, .f32⟩
  | .hbm, ⟨3, _⟩ => ⟨S2048x1536, .f32⟩
  | .hbm, ⟨4, _⟩ => ⟨S2048x7680, .f32⟩
  | .hbm, ⟨5, _⟩ => ⟨S2048x7680, .bf16⟩
  | .hbm, ⟨6, _⟩ => ⟨S2048x80, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S8192x2048, .bf16⟩
  | .hbm, ⟨12, _⟩ => ⟨S8192x7680, .f32⟩
  | .hbm, ⟨13, _⟩ => ⟨S8192x128, .f32⟩
  | .hbm, ⟨14, _⟩ => ⟨S8192x1024, .f32⟩
  | .hbm, ⟨15, _⟩ => ⟨S4x2048x8x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S1024x512, .f32⟩
  | .local _ .vmem, ⟨6, _⟩ => ⟨S1024x512, .f32⟩
  | .local _ .vmem, ⟨7, _⟩ => ⟨S1024x128, .f32⟩
  | .local _ .vmem, ⟨8, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 15], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InRefIdeal.lean ====
abbrev S8192x2048 : Shape := ⟨2, ![8192, 2048]⟩
abbrev S2048x7760 : Shape := ⟨2, ![2048, 7760]⟩
abbrev S8192x7760 : Shape := ⟨2, ![8192, 7760]⟩
abbrev S8192x6144 : Shape := ⟨2, ![8192, 6144]⟩
abbrev S8192x80 : Shape := ⟨2, ![8192, 80]⟩
abbrev S8192x1536 : Shape := ⟨2, ![8192, 1536]⟩
abbrev S8192x7680 : Shape := ⟨2, ![8192, 7680]⟩
abbrev S_ : Shape := ⟨0, ![]⟩
abbrev S8192x48 : Shape := ⟨2, ![8192, 48]⟩
abbrev S8192x128 : Shape := ⟨2, ![8192, 128]⟩
abbrev S8192x1024 : Shape := ⟨2, ![8192, 1024]⟩
abbrev S4x2048x8x128 : Shape := ⟨4, ![4, 2048, 8, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7760, .f32⟩
  | .hbm, ⟨2, _⟩ => ⟨S8192x7760, .f32⟩
  | .hbm, ⟨3, _⟩ => ⟨S8192x6144, .f32⟩
  | .hbm, ⟨4, _⟩ => ⟨S8192x80, .f32⟩
  | .hbm, ⟨5, _⟩ => ⟨S8192x1536, .f32⟩
  | .hbm, ⟨6, _⟩ => ⟨S8192x7680, .f32⟩
  | .hbm, ⟨7, _⟩ => ⟨S_, .f32⟩
  | .hbm, ⟨8, _⟩ => ⟨S8192x48, .f32⟩
  | .hbm, ⟨9, _⟩ => ⟨S8192x128, .f32⟩
  | .hbm, ⟨10, _⟩ => ⟨S8192x1024, .f32⟩
  | .hbm, ⟨11, _⟩ => ⟨S4x2048x8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S1x2048 : Shape := ⟨2, ![1, 2048]⟩
abbrev S256x512 : Shape := ⟨2, ![256, 512]⟩
abbrev S256x1024 : Shape := ⟨2, ![256, 1024]⟩
abbrev S256x2048 : Shape := ⟨2, ![256, 2048]⟩
abbrev S512x2048 : Shape := ⟨2, ![512, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S8192x512, .f32⟩
  | .hbm, ⟨8, _⟩ => ⟨S8192x1024, .f32⟩
  | .hbm, ⟨9, _⟩ => ⟨S8192x512, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x5632, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Gate.lean ====
abbrev S8192x11264 : Shape := ⟨2, ![8192, 11264]⟩
abbrev S3x11264 : Shape := ⟨2, ![3, 11264]⟩
abbrev S8192x5632 : Shape := ⟨2, ![8192, 5632]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S8192x5632, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateRefIdeal.lean ====
abbrev S8192x11264 : Shape := ⟨2, ![8192, 11264]⟩
abbrev S3x11264 : Shape := ⟨2, ![3, 11264]⟩
abbrev S4x2048x11264 : Shape := ⟨3, ![4, 2048, 11264]⟩
abbrev S_ : Shape := ⟨0, ![]⟩
abbrev S4x2x11264 : Shape := ⟨3, ![4, 2, 11264]⟩
abbrev S4x2050x11264 : Shape := ⟨3, ![4, 2050, 11264]⟩
abbrev S1x11264 : Shape := ⟨2, ![1, 11264]⟩
abbrev S11264 : Shape := ⟨1, ![11264]⟩
abbrev S1x1x11264 : Shape := ⟨3, ![1, 1, 11264]⟩
abbrev S4x2048x5632 : Shape := ⟨3, ![4, 2048, 5632]⟩
abbrev S8192x5632 : Shape := ⟨2, ![8192, 5632]⟩

abbrev nBuf : Space → Nat
  | .hbm => 41
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S4x2048x11264, .f32⟩
  | .hbm, ⟨3, _⟩ => ⟨S_, .f32⟩
  | .hbm, ⟨4, _⟩ => ⟨S4x2x11264, .f32⟩
  | .hbm, ⟨5, _⟩ => ⟨S4x2050x11264, .f32⟩
  | .hbm, ⟨6, _⟩ => ⟨S1x11264, .f32⟩
  | .hbm, ⟨7, _⟩ => ⟨S11264, .f32⟩
  | .hbm, ⟨8, _⟩ => ⟨S4x2048x11264, .f32⟩
  | .hbm, ⟨9, _⟩ => ⟨S1x1x11264, .f32⟩
  | .hbm, ⟨10, _⟩ => ⟨S4x2048x11264, .f32⟩
  | .hbm, ⟨11, _⟩ => ⟨S4x2048x11264, .f32⟩
  | .hbm, ⟨12, _⟩ => ⟨S1x11264, .f32⟩
  | .hbm, ⟨13, _⟩ => ⟨S11264, .f32⟩
  | .hbm, ⟨14, _⟩ => ⟨S4x2048x11264, .f32⟩
  | .hbm, ⟨15, _⟩ => ⟨S1x1x11264, .f32⟩
  | .hbm, ⟨16, _⟩ => ⟨S4x2048x11264, .f32⟩
  | .hbm, ⟨17, _⟩ => ⟨S4x2048x11264, .f32⟩
  | .hbm, ⟨18, _⟩ => ⟨S4x2048x11264, .f32⟩
  | .hbm, ⟨19, _⟩ => ⟨S1x11264, .f32⟩
  | .hbm, ⟨20, _⟩ => ⟨S11264, .f32⟩
  | .hbm, ⟨21, _⟩ => ⟨S4x2048x11264, .f32⟩
  | .hbm, ⟨22, _⟩ => ⟨S1x1x11264, .f32⟩
  | .hbm, ⟨23, _⟩ => ⟨S4x2048x11264, .f32⟩
  | .hbm, ⟨24, _⟩ => ⟨S4x2048x11264, .f32⟩
  | .hbm, ⟨25, _⟩ => ⟨S4x2048x11264, .f32⟩
  | .hbm, ⟨26, _⟩ => ⟨S4x2x11264, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S_, .f32⟩
  | .hbm, ⟨32, _⟩ => ⟨S4x2048x5632, .f32⟩
  | .hbm, ⟨33, _⟩ => ⟨S4x2048x5632, .f32⟩
  | .hbm, ⟨34, _⟩ => ⟨S_, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S8192x5632, .f32⟩
  | .hbm, ⟨40, _⟩ => ⟨S8192x5632, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Conv.lean ====
abbrev S8192x7680 : Shape := ⟨2, ![8192, 7680]⟩
abbrev S3x512 : Shape := ⟨2, ![3, 512]⟩
abbrev S8192x512 : Shape := ⟨2, ![8192, 512]⟩
abbrev S4x2x512 : Shape := ⟨3, ![4, 2, 512]⟩
abbrev S2048x512 : Shape := ⟨2, ![2048, 512]⟩
abbrev S1x2x512 : Shape := ⟨3, ![1, 2, 512]⟩
abbrev S1x512 : Shape := ⟨2, ![1, 512]⟩
abbrev S2x512 : Shape := ⟨2, ![2, 512]⟩

abbrev nBuf : Space → Nat
  | .hbm => 4
  | .vmem => 11
  | .smem => 0
  | _ => 0

abbrev bufTy : (tb : Table) → Fin (tcTables nBuf tb) → BufTy
  | .hbm, ⟨0, _⟩ => ⟨S8192x7680, .f32⟩
  | .hbm, ⟨1, _⟩ => ⟨S3x512, .f32⟩
  | .hbm, ⟨2, _⟩ => ⟨S8192x512, .bf16⟩
  | .hbm, ⟨3, _⟩ => ⟨S4x2x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S2048x512, .bf16⟩
  | .local _ .vmem, ⟨8, _⟩ => ⟨S2048x512, .bf16⟩
  | .local _ .vmem, ⟨9, _⟩ => ⟨S1x2x512, .f32⟩
  | .local _ .vmem, ⟨10, _⟩ => ⟨S1x2x512, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvRefIdeal.lean ====
abbrev S8192x7680 : Shape := ⟨2, ![8192, 7680]⟩
abbrev S3x512 : Shape := ⟨2, ![3, 512]⟩
abbrev S8192x1536 : Shape := ⟨2, ![8192, 1536]⟩
abbrev S4x2048x1536 : Shape := ⟨3, ![4, 2048, 1536]⟩
abbrev S4x2048x512 : Shape := ⟨3, ![4, 2048, 512]⟩
abbrev S_ : Shape := ⟨0, ![]⟩
abbrev S4x2x512 : Shape := ⟨3, ![4, 2, 512]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩
abbrev S8192x512 : Shape := ⟨2, ![8192, 512]⟩

abbrev nBuf : Space → Nat
  | .hbm => 35
  | .vmem => 0
  | .smem => 0
  | _ => 0

abbrev bufTy : (tb : Table) → Fin (tcTables nBuf tb) → BufTy
  | .hbm, ⟨0, _⟩ => ⟨S8192x7680, .f32⟩
  | .hbm, ⟨1, _⟩ => ⟨S3x512, .f32⟩
  | .hbm, ⟨2, _⟩ => ⟨S8192x1536, .f32⟩
  | .hbm, ⟨3, _⟩ => ⟨S4x2048x1536, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x512, .f32⟩
  | .hbm, ⟨8, _⟩ => ⟨S_, .f32⟩
  | .hbm, ⟨9, _⟩ => ⟨S4x2x512, .f32⟩
  | .hbm, ⟨10, _⟩ => ⟨S4x2050x512, .f32⟩
  | .hbm, ⟨11, _⟩ => ⟨S1x512, .f32⟩
  | .hbm, ⟨12, _⟩ => ⟨S512, .f32⟩
  | .hbm, ⟨13, _⟩ => ⟨S4x2048x512, .f32⟩
  | .hbm, ⟨14, _⟩ => ⟨S1x1x512, .f32⟩
  | .hbm, ⟨15, _⟩ => ⟨S4x2048x512, .f32⟩
  | .hbm, ⟨16, _⟩ => ⟨S4x2048x512, .f32⟩
  | .hbm, ⟨17, _⟩ => ⟨S1x512, .f32⟩
  | .hbm, ⟨18, _⟩ => ⟨S512, .f32⟩
  | .hbm, ⟨19, _⟩ => ⟨S4x2048x512, .f32⟩
  | .hbm, ⟨20, _⟩ => ⟨S1x1x512, .f32⟩
  | .hbm, ⟨21, _⟩ => ⟨S4x2048x512, .f32⟩
  | .hbm, ⟨22, _⟩ => ⟨S4x2048x512, .f32⟩
  | .hbm, ⟨23, _⟩ => ⟨S4x2048x512, .f32⟩
  | .hbm, ⟨24, _⟩ => ⟨S1x512, .f32⟩
  | .hbm, ⟨25, _⟩ => ⟨S512, .f32⟩
  | .hbm, ⟨26, _⟩ => ⟨S4x2048x512, .f32⟩
  | .hbm, ⟨27, _⟩ => ⟨S1x1x512, .f32⟩
  | .hbm, ⟨28, _⟩ => ⟨S4x2048x512, .f32⟩
  | .hbm, ⟨29, _⟩ => ⟨S4x2048x512, .f32⟩
  | .hbm, ⟨30, _⟩ => ⟨S4x2048x512, .f32⟩
  | .hbm, ⟨31, _⟩ => ⟨S4x2x512, .f32⟩
  | .hbm, ⟨32, _⟩ => ⟨S4x2048x512, .f32⟩
  | .hbm, ⟨33, _⟩ => ⟨S8192x512, .f32⟩
  | .hbm, ⟨34, _⟩ => ⟨S8192x512, .bf16⟩
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== Prep.lean ====
abbrev S8192x7680 : Shape := ⟨2, ![8192, 7680]⟩
abbrev S8192x128 : Shape := ⟨2, ![8192, 128]⟩
abbrev S64 : Shape := ⟨1, ![64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S2048x112 : Shape := ⟨2, ![2048, 112]⟩
abbrev S1x2048x1x128 : Shape := ⟨4, ![1, 2048, 1, 128]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S128 : Shape := ⟨1, ![128]⟩
abbrev S1x128 : Shape := ⟨2, ![1, 128]⟩
abbrev S8192x1024 : Shape := ⟨2, ![8192, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 94
  | .vmem => 38
  | .smem => 0
  | _ => 0

abbrev bufTy : (tb : Table) → Fin (tcTables nBuf tb) → BufTy
  | .hbm, ⟨0, _⟩ => ⟨S8192x7680, .f32⟩
  | .hbm, ⟨1, _⟩ => ⟨S8192x128, .f32⟩
  | .hbm, ⟨2, _⟩ => ⟨S64, .f32⟩
  | .hbm, ⟨3, _⟩ => ⟨S64, .f32⟩
  | .hbm, ⟨4, _⟩ => ⟨S2048, .i32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S2048, .f32⟩
  | .hbm, ⟨14, _⟩ => ⟨S2048x1, .f32⟩
  | .hbm, ⟨15, _⟩ => ⟨S1x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S_, .f32⟩
  | .hbm, ⟨22, _⟩ => ⟨S2048x96, .f32⟩
  | .hbm, ⟨23, _⟩ => ⟨S2048x128, .f32⟩
  | .hbm, ⟨24, _⟩ => ⟨S2048x16, .f32⟩
  | .hbm, ⟨25, _⟩ => ⟨S_, .f32⟩
  | .hbm, ⟨26, _⟩ => ⟨S2048x112, .f32⟩
  | .hbm, ⟨27, _⟩ => ⟨S2048x128, .f32⟩
  | .hbm, ⟨28, _⟩ => ⟨S_, .f32⟩
  | .hbm, ⟨29, _⟩ => ⟨S2048x16, .f32⟩
  | .hbm, ⟨30, _⟩ => ⟨S_, .f32⟩
  | .hbm, ⟨31, _⟩ => ⟨S2048x96, .f32⟩
  | .hbm, ⟨32, _⟩ => ⟨S2048x128, .f32⟩
  | .hbm, ⟨33, _⟩ => ⟨S1x2048x1x128, .f32⟩
  | .hbm, ⟨34, _⟩ => ⟨S1x2048x1x128, .f32⟩
  | .hbm, ⟨35, _⟩ => ⟨S2048x128, .f32⟩
  | .hbm, ⟨36, _⟩ => ⟨S1x2048x1x128, .f32⟩
  | .hbm, ⟨37, _⟩ => ⟨S1x2048x1x128, .f32⟩
  | .hbm, ⟨38, _⟩ => ⟨S2048x128, .f32⟩
  | .hbm, ⟨39, _⟩ => ⟨S1x2048x1x128, .f32⟩
  | .hbm, ⟨40, _⟩ => ⟨S1x2048x1x128, .f32⟩
  | .hbm, ⟨41, _⟩ => ⟨S2048x128, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S2048, .f32⟩
  | .hbm, ⟨51, _⟩ => ⟨S2048x1, .f32⟩
  | .hbm, ⟨52, _⟩ => ⟨S1x8, .f32⟩
  | .hbm, ⟨53, _⟩ => ⟨S2048x8, .f32⟩
  | .hbm, ⟨54, _⟩ => ⟨S2048x8, .f32⟩
  | .hbm, ⟨55, _⟩ => ⟨S2048x8, .f32⟩
  | .hbm, ⟨56, _⟩ => ⟨S2048x8, .f32⟩
  | .hbm, ⟨57, _⟩ => ⟨S2048x8, .f32⟩
  | .hbm, ⟨58, _⟩ => ⟨S_, .f32⟩
  | .hbm, ⟨59, _⟩ => ⟨S2048x48, .f32⟩
  | .hbm, ⟨60, _⟩ => ⟨S2048x64, .f32⟩
  | .hbm, ⟨61, _⟩ => ⟨S2048x8, .f32⟩
  | .hbm, ⟨62, _⟩ => ⟨S_, .f32⟩
  | .hbm, ⟨63, _⟩ => ⟨S2048x56, .f32⟩
  | .hbm, ⟨64, _⟩ => ⟨S2048x64, .f32⟩
  | .hbm, ⟨65, _⟩ => ⟨S_, .f32⟩
  | .hbm, ⟨66, _⟩ => ⟨S2048x8, .f32⟩
  | .hbm, ⟨67, _⟩ => ⟨S_, .f32⟩
  | .hbm, ⟨68, _⟩ => ⟨S2048x48, .f32⟩
  | .hbm, ⟨69, _⟩ => ⟨S2048x64, .f32⟩
  | .hbm, ⟨70, _⟩ => ⟨S1x2048x1x64, .f32⟩
  | .hbm, ⟨71, _⟩ => ⟨S1x2048x2x64, .f32⟩
  | .hbm, ⟨72, _⟩ => ⟨S2048x128, .f32⟩
  | .hbm, ⟨73, _⟩ => ⟨S1x2048x1x64, .f32⟩
  | .hbm, ⟨74, _⟩ => ⟨S1x2048x2x64, .f32⟩
  | .hbm, ⟨75, _⟩ => ⟨S2048x128, .f32⟩
  | .hbm, ⟨76, _⟩ => ⟨S1x2048x1x64, .f32⟩
  | .hbm, ⟨77, _⟩ => ⟨S1x2048x2x64, .f32⟩
  | .hbm, ⟨78, _⟩ => ⟨S2048x128, .f32⟩
  | .hbm, ⟨79, _⟩ => ⟨S_, .i32⟩
  | .hbm, ⟨80, _⟩ => ⟨S_, .f32⟩
  | .hbm, ⟨81, _⟩ => ⟨S128, .f32⟩
  | .hbm, ⟨82, _⟩ => ⟨S1x128, .f32⟩
  | .hbm, ⟨83, _⟩ => ⟨S_, .i32⟩
  | .hbm, ⟨84, _⟩ => ⟨S_, .f32⟩
  | .hbm, ⟨85, _⟩ => ⟨S128, .f32⟩
  | .hbm, ⟨86, _⟩ => ⟨S1x128, .f32⟩
  | .hbm, ⟨87, _⟩ => ⟨S8192x1024, .bf16⟩
  | .hbm, ⟨88, _⟩ => ⟨S8192x1024, .bf16⟩
  | .hbm, ⟨89, _⟩ => ⟨S8192x1024, .bf16⟩
  | .hbm, ⟨90, _⟩ => ⟨S8192x1024, .f32⟩
  | .hbm, ⟨91, _⟩ => ⟨S8192x1024, .bf16⟩
  | .hbm, ⟨92, _⟩ => ⟨S8192x128, .bf16⟩
  | .hbm, ⟨93, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S1x128, .f32⟩
  | .local _ .vmem, ⟨23, _⟩ => ⟨S1x128, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S256x128, .bf16⟩
  | .local _ .vmem, ⟨35, _⟩ => ⟨S256x128, .bf16⟩
  | .local _ .vmem, ⟨36, _⟩ => ⟨S256x128, .f32⟩
  | .local _ .vmem, ⟨37, _⟩ => ⟨S256x128, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c : Ref sig .tc := ⟨.hbm, 79, rfl⟩
abbrev main_call0_v0 : Ref sig .tc := ⟨.hbm, 80, rfl⟩
abbrev main_v63 : Ref sig .tc := ⟨.hbm, 81, rfl⟩
abbrev main_v64 : Ref sig .tc := ⟨.hbm, 82, rfl⟩
abbrev main_c_11 : Ref sig .tc := ⟨.hbm, 83, rfl⟩
abbrev main_call1_v0 : Ref sig .tc := ⟨.hbm, 84, rfl⟩
abbrev main_v65 : Ref sig .tc := ⟨.hbm, 85, rfl⟩
abbrev main_v66 : Ref sig .tc := ⟨.hbm, 86, rfl⟩
abbrev main_v67_0 : Ref sig .tc := ⟨.hbm, 87, rfl⟩
abbrev main_v67_1 : Ref sig .tc := ⟨.hbm, 88, rfl⟩
abbrev main_v67_2 : Ref sig .tc := ⟨.hbm, 89, rfl⟩
abbrev main_v67_3 : Ref sig .tc := ⟨.hbm, 90, rfl⟩
abbrev main_v67_4 : Ref sig .tc := ⟨.hbm, 91, rfl⟩
abbrev main_v67_5 : Ref sig .tc := ⟨.hbm, 92, rfl⟩
abbrev main_v67_6 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PrepRefIdeal.lean ====
abbrev S8192x7680 : Shape := ⟨2, ![8192, 7680]⟩
abbrev S8192x128 : Shape := ⟨2, ![8192, 128]⟩
abbrev S64 : Shape := ⟨1, ![64]⟩
abbrev S2048 : Shape := ⟨1, ![2048]⟩
abbrev S8192x1024 : Shape := ⟨2, ![8192, 1024]⟩
abbrev S4x2048x8x128 : Shape := ⟨4, ![4, 2048, 8, 128]⟩
abbrev S4x2048x8x32 : Shape := ⟨4, ![4, 2048, 8, 32]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x2048x8x96 : Shape := ⟨4, ![4, 2048, 8, 96]⟩

abbrev nBuf : Space → Nat
  | .hbm => 46
  | .vmem => 0
  | .smem => 0
  | _ => 0

abbrev bufTy : (tb : Table) → Fin (tcTables nBuf tb) → BufTy
  | .hbm, ⟨0, _⟩ => ⟨S8192x7680, .f32⟩
  | .hbm, ⟨1, _⟩ => ⟨S8192x128, .f32⟩
  | .hbm, ⟨2, _⟩ => ⟨S64, .f32⟩
  | .hbm, ⟨3, _⟩ => ⟨S64, .f32⟩
  | .hbm, ⟨4, _⟩ => ⟨S2048, .i32⟩
  | .hbm, ⟨5, _⟩ => ⟨S8192x1024, .f32⟩
  | .hbm, ⟨6, _⟩ => ⟨S4x2048x8x128, .f32⟩
  | .hbm, ⟨7, _⟩ => ⟨S4x2048x8x32, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S2048, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x1x16, .f32⟩
  | .hbm, ⟨24, _⟩ => ⟨S2048x16, .f32⟩
  | .hbm, ⟨25, _⟩ => ⟨S2048x1x16, .f32⟩
  | .hbm, ⟨26, _⟩ => ⟨S4x2048x8x16, .f32⟩
  | .hbm, ⟨27, _⟩ => ⟨S4x2048x8x16, .f32⟩
  | .hbm, ⟨28, _⟩ => ⟨S1x2048x1x16, .f32⟩
  | .hbm, ⟨29, _⟩ => ⟨S4x2048x8x16, .f32⟩
  | .hbm, ⟨30, _⟩ => ⟨S4x2048x8x16, .f32⟩
  | .hbm, ⟨31, _⟩ => ⟨S1x2048x1x16, .f32⟩
  | .hbm, ⟨32, _⟩ => ⟨S4x2048x8x16, .f32⟩
  | .hbm, ⟨33, _⟩ => ⟨S4x2048x8x16, .f32⟩
  | .hbm, ⟨34, _⟩ => ⟨S4x2048x8x16, .f32⟩
  | .hbm, ⟨35, _⟩ => ⟨S1x2048x1x16, .f32⟩
  | .hbm, ⟨36, _⟩ => ⟨S4x2048x8x16, .f32⟩
  | .hbm, ⟨37, _⟩ => ⟨S4x2048x8x16, .f32⟩
  | .hbm, ⟨38, _⟩ => ⟨S1x2048x1x16, .f32⟩
  | .hbm, ⟨39, _⟩ => ⟨S4x2048x8x16, .f32⟩
  | .hbm, ⟨40, _⟩ => ⟨S4x2048x8x16, .f32⟩
  | .hbm, ⟨41, _⟩ => ⟨S4x2048x8x16, .f32⟩
  | .hbm, ⟨42, _⟩ => ⟨S4x2048x8x32, .f32⟩
  | .hbm, ⟨43, _⟩ => ⟨S4x2048x8x96, .f32⟩
  | .hbm, ⟨44, _⟩ => ⟨S4x2048x8x128, .f32⟩
  | .hbm, ⟨45, _⟩ => ⟨S8192x1024, .f32⟩
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== SIn.lean ====
abbrev S8x2048 : Shape := ⟨2, ![8, 2048]⟩
abbrev S2048x7760 : Shape := ⟨2, ![2048, 7760]⟩
abbrev S2048x6144 : Shape := ⟨2, ![2048, 6144]⟩
abbrev S2048x1536 : Shape := ⟨2, ![2048, 1536]⟩
abbrev S2048x7680 : Shape := ⟨2, ![2048, 7680]⟩
abbrev S2048x80 : Shape := ⟨2, ![2048, 80]⟩
abbrev S_ : Shape := ⟨0, ![]⟩
abbrev S2048x128 : Shape := ⟨2, ![2048, 128]⟩
abbrev S8x7680 : Shape := ⟨2, ![8, 7680]⟩
abbrev S8x128 : Shape := ⟨2, ![8, 128]⟩
abbrev S2048x512 : Shape := ⟨2, ![2048, 512]⟩
abbrev S8x512 : Shape := ⟨2, ![8, 512]⟩
abbrev S8x1024 : Shape := ⟨2, ![8, 1024]⟩
abbrev S8x1x8x128 : Shape := ⟨4, ![8, 1, 8, 128]⟩

abbrev nBuf : Space → Nat
  | .hbm => 15
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x7760, .f32⟩
  | .hbm, ⟨2, _⟩ => ⟨S2048x6144, .f32⟩
  | .hbm, ⟨3, _⟩ => ⟨S2048x1536, .f32⟩
  | .hbm, ⟨4, _⟩ => ⟨S2048x7680, .f32⟩
  | .hbm, ⟨5, _⟩ => ⟨S2048x7680, .bf16⟩
  | .hbm, ⟨6, _⟩ => ⟨S2048x80, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S8x7680, .f32⟩
  | .hbm, ⟨12, _⟩ => ⟨S8x128, .f32⟩
  | .hbm, ⟨13, _⟩ => ⟨S8x1024, .f32⟩
  | .hbm, ⟨14, _⟩ => ⟨S8x1x8x128, .f32⟩
  | .local _ .vmem, ⟨0, _⟩ => ⟨S8x2048, .f32⟩
  | .local _ .vmem, ⟨1, _⟩ => ⟨S2048x512, .bf16⟩
  | .local _ .vmem, ⟨2, _⟩ => ⟨S2048x512, .bf16⟩
  | .local _ .vmem, ⟨3, _⟩ => ⟨S2048x128, .bf16⟩
  | .local _ .vmem, ⟨4, _⟩ => ⟨S8x512, .f32⟩
  | .local _ .vmem, ⟨5, _⟩ => ⟨S8x512, .f32⟩
  | .local _ .vmem, ⟨6, _⟩ => ⟨S8x128, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 15], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== SInRefIdeal.lean ====
abbrev S8x2048 : Shape := ⟨2, ![8, 2048]⟩
abbrev S2048x7760 : Shape := ⟨2, ![2048, 7760]⟩
abbrev S8x7760 : Shape := ⟨2, ![8, 7760]⟩
abbrev S8x6144 : Shape := ⟨2, ![8, 6144]⟩
abbrev S8x80 : Shape := ⟨2, ![8, 80]⟩
abbrev S8x1536 : Shape := ⟨2, ![8, 1536]⟩
abbrev S8x7680 : Shape := ⟨2, ![8, 7680]⟩
abbrev S_ : Shape := ⟨0, ![]⟩
abbrev S8x48 : Shape := ⟨2, ![8, 48]⟩
abbrev S8x128 : Shape := ⟨2, ![8, 128]⟩
abbrev S8x1024 : Shape := ⟨2, ![8, 1024]⟩
abbrev S8x1x8x128 : Shape := ⟨4, ![8, 1, 8, 128]⟩

abbrev nBuf : Space → Nat
  | .hbm => 12
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x7760, .f32⟩
  | .hbm, ⟨2, _⟩ => ⟨S8x7760, .f32⟩
  | .hbm, ⟨3, _⟩ => ⟨S8x6144, .f32⟩
  | .hbm, ⟨4, _⟩ => ⟨S8x80, .f32⟩
  | .hbm, ⟨5, _⟩ => ⟨S8x1536, .f32⟩
  | .hbm, ⟨6, _⟩ => ⟨S8x7680, .f32⟩
  | .hbm, ⟨7, _⟩ => ⟨S_, .f32⟩
  | .hbm, ⟨8, _⟩ => ⟨S8x48, .f32⟩
  | .hbm, ⟨9, _⟩ => ⟨S8x128, .f32⟩
  | .hbm, ⟨10, _⟩ => ⟨S8x1024, .f32⟩
  | .hbm, ⟨11, _⟩ => ⟨S8x1x8x128, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SUp.lean ====
abbrev S8x2048 : Shape := ⟨2, ![8, 2048]⟩
abbrev S8x2x11264 : Shape := ⟨3, ![8, 2, 11264]⟩
abbrev S2048x11264 : Shape := ⟨2, ![2048, 11264]⟩
abbrev S8x11264 : Shape := ⟨2, ![8, 11264]⟩
abbrev S2048x512 : Shape := ⟨2, ![2048, 512]⟩
abbrev S8x512 : Shape := ⟨2, ![8, 512]⟩
abbrev S8x1x11264 : Shape := ⟨3, ![8, 1, 11264]⟩

abbrev nBuf : Space → Nat
  | .hbm => 10
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x2x11264, .f32⟩
  | .hbm, ⟨2, _⟩ => ⟨S2048x11264, .f32⟩
  | .hbm, ⟨3, _⟩ => ⟨S2048x11264, .bf16⟩
  | .hbm, ⟨4, _⟩ => ⟨S8x11264, .f32⟩
  | .hbm, ⟨5, _⟩ => ⟨S8x1x11264, .f32⟩
  | .hbm, ⟨6, _⟩ => ⟨S8x11264, .f32⟩
  | .hbm, ⟨7, _⟩ => ⟨S8x1x11264, .f32⟩
  | .hbm, ⟨8, _⟩ => ⟨S8x1x11264, .f32⟩
  | .hbm, ⟨9, _⟩ => ⟨S8x2x11264, .f32⟩
  | .local _ .vmem, ⟨0, _⟩ => ⟨S8x2048, .f32⟩
  | .local _ .vmem, ⟨1, _⟩ => ⟨S2048x512, .bf16⟩
  | .local _ .vmem, ⟨2, _⟩ => ⟨S2048x512, .bf16⟩
  | .local _ .vmem, ⟨3, _⟩ => ⟨S8x512, .f32⟩
  | .local _ .vmem, ⟨4, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SUpRefIdeal.lean ====
abbrev S8x2048 : Shape := ⟨2, ![8, 2048]⟩
abbrev S8x2x11264 : Shape := ⟨3, ![8, 2, 11264]⟩
abbrev S2048x11264 : Shape := ⟨2, ![2048, 11264]⟩
abbrev S8x11264 : Shape := ⟨2, ![8, 11264]⟩
abbrev S8x1x11264 : Shape := ⟨3, ![8, 1, 11264]⟩
abbrev S8x3x11264 : Shape := ⟨3, ![8, 3, 11264]⟩

abbrev nBuf : Space → Nat
  | .hbm => 7
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2x11264, .f32⟩
  | .hbm, ⟨2, _⟩ => ⟨S2048x11264, .f32⟩
  | .hbm, ⟨3, _⟩ => ⟨S8x11264, .f32⟩
  | .hbm, ⟨4, _⟩ => ⟨S8x1x11264, .f32⟩
  | .hbm, ⟨5, _⟩ => ⟨S8x3x11264, .f32⟩
  | .hbm, ⟨6, _⟩ => ⟨S8x2x11264, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SDown.lean ====
abbrev S8x5632 : Shape := ⟨2, ![8, 5632]⟩
abbrev S5632x2048 : Shape := ⟨2, ![5632, 2048]⟩
abbrev S8x2048 : Shape := ⟨2, ![8, 2048]⟩
abbrev S2048 : Shape := ⟨1, ![2048]⟩
abbrev S1x2048 : Shape := ⟨2, ![1, 2048]⟩
abbrev S8x512 : Shape := ⟨2, ![8, 512]⟩
abbrev S512x2048 : Shape := ⟨2, ![512, 2048]⟩
abbrev S8 : Shape := ⟨1, ![8]⟩
abbrev S8x1 : Shape := ⟨2, ![8, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x5632, .f32⟩
  | .hbm, ⟨1, _⟩ => ⟨S5632x2048, .f32⟩
  | .hbm, ⟨2, _⟩ => ⟨S8x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S8x2048, .f32⟩
  | .hbm, ⟨9, _⟩ => ⟨S8x2048, .f32⟩
  | .local _ .vmem, ⟨0, _⟩ => ⟨S8x512, .f32⟩
  | .local _ .vmem, ⟨1, _⟩ => ⟨S8x512, .f32⟩
  | .local _ .vmem, ⟨2, _⟩ => ⟨S512x2048, .bf16⟩
  | .local _ .vmem, ⟨3, _⟩ => ⟨S512x2048, .bf16⟩
  | .local _ .vmem, ⟨4, _⟩ => ⟨S8x2048, .f32⟩
  | .local _ .vmem, ⟨5, _⟩ => ⟨S1x2048, .f32⟩
  | .local _ .vmem, ⟨6, _⟩ => ⟨S1x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | _, _ => ⟨S8x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== SDownRefIdeal.lean ====
abbrev S8x5632 : Shape := ⟨2, ![8, 5632]⟩
abbrev S5632x2048 : Shape := ⟨2, ![5632, 2048]⟩
abbrev S8x2048 : Shape := ⟨2, ![8, 2048]⟩
abbrev S2048 : Shape := ⟨1, ![2048]⟩
abbrev S_ : Shape := ⟨0, ![]⟩
abbrev S8 : Shape := ⟨1, ![8]⟩
abbrev S8x1 : Shape := ⟨2, ![8, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x5632, .f32⟩
  | .hbm, ⟨1, _⟩ => ⟨S5632x2048, .f32⟩
  | .hbm, ⟨2, _⟩ => ⟨S8x2048, .f32⟩
  | .hbm, ⟨3, _⟩ => ⟨S2048, .f32⟩
  | .hbm, ⟨4, _⟩ => ⟨S2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x2048, .f32⟩
  | .hbm, ⟨26, _⟩ => ⟨S8x2048, .f32⟩
  | .hbm, ⟨27, _⟩ => ⟨S_, .f32⟩
  | .hbm, ⟨28, _⟩ => ⟨S8x1, .f32⟩
  | .hbm, ⟨29, _⟩ => ⟨S8x1, .f32⟩
  | .hbm, ⟨30, _⟩ => ⟨S8x1, .f32⟩
  | .hbm, ⟨31, _⟩ => ⟨S8x2048, .f32⟩
  | .hbm, ⟨32, _⟩ => ⟨S8x2048, .f32⟩
  | .hbm, ⟨33, _⟩ => ⟨S1x2048, .f32⟩
  | .hbm, ⟨34, _⟩ => ⟨S8x2048, .f32⟩
  | .hbm, ⟨35, _⟩ => ⟨S8x2048, .f32⟩
  | .hbm, ⟨36, _⟩ => ⟨S1x2048, .f32⟩
  | .hbm, ⟨37, _⟩ => ⟨S8x2048, .f32⟩
  | .hbm, ⟨38, _⟩ => ⟨S8x2048, .f32⟩
  | _, _ => ⟨S8x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== SPrep.lean ====
abbrev S8x7680 : Shape := ⟨2, ![8, 7680]⟩
abbrev S8x128 : Shape := ⟨2, ![8, 128]⟩
abbrev S64 : Shape := ⟨1, ![64]⟩
abbrev S1 : Shape := ⟨1, ![1]⟩
abbrev S_ : Shape := ⟨0, ![]⟩
abbrev S16 : Shape := ⟨1, ![16]⟩
abbrev S1x1 : Shape := ⟨2, ![1, 1]⟩
abbrev S1x16 : Shape := ⟨2, ![1, 16]⟩
abbrev S1x96 : Shape := ⟨2, ![1, 96]⟩
abbrev S1x128 : Shape := ⟨2, ![1, 128]⟩
abbrev S1x112 : Shape := ⟨2, ![1, 112]⟩
abbrev S1x1x1x128 : Shape := ⟨4, ![1, 1, 1, 128]⟩
abbrev S8 : Shape := ⟨1, ![8]⟩
abbrev S1x8 : Shape := ⟨2, ![1, 8]⟩
abbrev S1x48 : Shape := ⟨2, ![1, 48]⟩
abbrev S1x64 : Shape := ⟨2, ![1, 64]⟩
abbrev S1x56 : Shape := ⟨2, ![1, 56]⟩
abbrev S1x1x1x64 : Shape := ⟨4, ![1, 1, 1, 64]⟩
abbrev S1x1x2x64 : Shape := ⟨4, ![1, 1, 2, 64]⟩
abbrev S128 : Shape := ⟨1, ![128]⟩
abbrev S8x1024 : Shape := ⟨2, ![8, 1024]⟩
abbrev S8x1 : Shape := ⟨2, ![8, 1]⟩

abbrev nBuf : Space → Nat
  | .hbm => 101
  | .vmem => 20
  | .smem => 0
  | _ => 0

abbrev bufTy : (tb : Table) → Fin (tcTables nBuf tb) → BufTy
  | .hbm, ⟨0, _⟩ => ⟨S8x7680, .f32⟩
  | .hbm, ⟨1, _⟩ => ⟨S8x128, .f32⟩
  | .hbm, ⟨2, _⟩ => ⟨S64, .f32⟩
  | .hbm, ⟨3, _⟩ => ⟨S64, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S1, .f32⟩
  | .hbm, ⟨17, _⟩ => ⟨S1x1, .f32⟩
  | .hbm, ⟨18, _⟩ => ⟨S1x16, .f32⟩
  | .hbm, ⟨19, _⟩ => ⟨S1x16, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S_, .f32⟩
  | .hbm, ⟨24, _⟩ => ⟨S1x96, .f32⟩
  | .hbm, ⟨25, _⟩ => ⟨S1x128, .f32⟩
  | .hbm, ⟨26, _⟩ => ⟨S1x16, .f32⟩
  | .hbm, ⟨27, _⟩ => ⟨S_, .f32⟩
  | .hbm, ⟨28, _⟩ => ⟨S1x112, .f32⟩
  | .hbm, ⟨29, _⟩ => ⟨S1x128, .f32⟩
  | .hbm, ⟨30, _⟩ => ⟨S_, .f32⟩
  | .hbm, ⟨31, _⟩ => ⟨S1x16, .f32⟩
  | .hbm, ⟨32, _⟩ => ⟨S_, .f32⟩
  | .hbm, ⟨33, _⟩ => ⟨S1x96, .f32⟩
  | .hbm, ⟨34, _⟩ => ⟨S1x128, .f32⟩
  | .hbm, ⟨35, _⟩ => ⟨S1x1x1x128, .f32⟩
  | .hbm, ⟨36, _⟩ => ⟨S1x1x1x128, .f32⟩
  | .hbm, ⟨37, _⟩ => ⟨S1x128, .f32⟩
  | .hbm, ⟨38, _⟩ => ⟨S1x1x1x128, .f32⟩
  | .hbm, ⟨39, _⟩ => ⟨S1x1x1x128, .f32⟩
  | .hbm, ⟨40, _⟩ => ⟨S1x128, .f32⟩
  | .hbm, ⟨41, _⟩ => ⟨S1x1x1x128, .f32⟩
  | .hbm, ⟨42, _⟩ => ⟨S1x1x1x128, .f32⟩
  | .hbm, ⟨43, _⟩ => ⟨S1x128, .f32⟩
  | .hbm, ⟨44, _⟩ => ⟨S8x128, .f32⟩
  | .hbm, ⟨45, _⟩ => ⟨S8x128, .f32⟩
  | .hbm, ⟨46, _⟩ => ⟨S8x128, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S1, .f32⟩
  | .hbm, ⟨56, _⟩ => ⟨S1x1, .f32⟩
  | .hbm, ⟨57, _⟩ => ⟨S1x8, .f32⟩
  | .hbm, ⟨58, _⟩ => ⟨S1x8, .f32⟩
  | .hbm, ⟨59, _⟩ => ⟨S1x8, .f32⟩
  | .hbm, ⟨60, _⟩ => ⟨S1x8, .f32⟩
  | .hbm, ⟨61, _⟩ => ⟨S1x8, .f32⟩
  | .hbm, ⟨62, _⟩ => ⟨S_, .f32⟩
  | .hbm, ⟨63, _⟩ => ⟨S1x48, .f32⟩
  | .hbm, ⟨64, _⟩ => ⟨S1x64, .f32⟩
  | .hbm, ⟨65, _⟩ => ⟨S1x8, .f32⟩
  | .hbm, ⟨66, _⟩ => ⟨S_, .f32⟩
  | .hbm, ⟨67, _⟩ => ⟨S1x56, .f32⟩
  | .hbm, ⟨68, _⟩ => ⟨S1x64, .f32⟩
  | .hbm, ⟨69, _⟩ => ⟨S_, .f32⟩
  | .hbm, ⟨70, _⟩ => ⟨S1x8, .f32⟩
  | .hbm, ⟨71, _⟩ => ⟨S_, .f32⟩
  | .hbm, ⟨72, _⟩ => ⟨S1x48, .f32⟩
  | .hbm, ⟨73, _⟩ => ⟨S1x64, .f32⟩
  | .hbm, ⟨74, _⟩ => ⟨S1x1x1x64, .f32⟩
  | .hbm, ⟨75, _⟩ => ⟨S1x1x2x64, .f32⟩
  | .hbm, ⟨76, _⟩ => ⟨S1x128, .f32⟩
  | .hbm, ⟨77, _⟩ => ⟨S1x1x1x64, .f32⟩
  | .hbm, ⟨78, _⟩ => ⟨S1x1x2x64, .f32⟩
  | .hbm, ⟨79, _⟩ => ⟨S1x128, .f32⟩
  | .hbm, ⟨80, _⟩ => ⟨S1x1x1x64, .f32⟩
  | .hbm, ⟨81, _⟩ => ⟨S1x1x2x64, .f32⟩
  | .hbm, ⟨82, _⟩ => ⟨S1x128, .f32⟩
  | .hbm, ⟨83, _⟩ => ⟨S8x128, .f32⟩
  | .hbm, ⟨84, _⟩ => ⟨S8x128, .f32⟩
  | .hbm, ⟨85, _⟩ => ⟨S8x128, .f32⟩
  | .hbm, ⟨86, _⟩ => ⟨S_, .i32⟩
  | .hbm, ⟨87, _⟩ => ⟨S_, .f32⟩
  | .hbm, ⟨88, _⟩ => ⟨S128, .f32⟩
  | .hbm, ⟨89, _⟩ => ⟨S1x128, .f32⟩
  | .hbm, ⟨90, _⟩ => ⟨S_, .i32⟩
  | .hbm, ⟨91, _⟩ => ⟨S_, .f32⟩
  | .hbm, ⟨92, _⟩ => ⟨S128, .f32⟩
  | .hbm, ⟨93, _⟩ => ⟨S1x128, .f32⟩
  | .hbm, ⟨94, _⟩ => ⟨S8x1024, .f32⟩
  | .hbm, ⟨95, _⟩ => ⟨S8x1024, .f32⟩
  | .hbm, ⟨96, _⟩ => ⟨S8x1024, .f32⟩
  | .hbm, ⟨97, _⟩ => ⟨S8x1024, .f32⟩
  | .hbm, ⟨98, _⟩ => ⟨S8x1024, .f32⟩
  | .hbm, ⟨99, _⟩ => ⟨S8x128, .f32⟩
  | .hbm, ⟨100, _⟩ => ⟨S8x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S1x128, .f32⟩
  | .local _ .vmem, ⟨12, _⟩ => ⟨S1x128, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x128, .f32⟩
  | .local _ .vmem, ⟨19, _⟩ => ⟨S8x128, .f32⟩
  | _, _ => ⟨S8x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_11 : Ref sig .tc := ⟨.hbm, 86, rfl⟩
abbrev main_call0_v0 : Ref sig .tc := ⟨.hbm, 87, rfl⟩
abbrev main_v69 : Ref sig .tc := ⟨.hbm, 88, rfl⟩
abbrev main_v70 : Ref sig .tc := ⟨.hbm, 89, rfl⟩
abbrev main_c_12 : Ref sig .tc := ⟨.hbm, 90, rfl⟩
abbrev main_call1_v0 : Ref sig .tc := ⟨.hbm, 91, rfl⟩
abbrev main_v71 : Ref sig .tc := ⟨.hbm, 92, rfl⟩
abbrev main_v72 : Ref sig .tc := ⟨.hbm, 93, rfl⟩
abbrev main_v73_0 : Ref sig .tc := ⟨.hbm, 94, rfl⟩
abbrev main_v73_1 : Ref sig .tc := ⟨.hbm, 95, rfl⟩
abbrev main_v73_2 : Ref sig .tc := ⟨.hbm, 96, rfl⟩
abbrev main_v73_3 : Ref sig .tc := ⟨.hbm, 97, rfl⟩
abbrev main_v73_4 : Ref sig .tc := ⟨.hbm, 98, rfl⟩
abbrev main_v73_5 : Ref sig .tc := ⟨.hbm, 99, rfl⟩
abbrev main_v73_6 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== SPrepRefIdeal.lean ====
abbrev S8x7680 : Shape := ⟨2, ![8, 7680]⟩
abbrev S8x128 : Shape := ⟨2, ![8, 128]⟩
abbrev S64 : Shape := ⟨1, ![64]⟩
abbrev S1 : Shape := ⟨1, ![1]⟩
abbrev S_ : Shape := ⟨0, ![]⟩
abbrev S8x1024 : Shape := ⟨2, ![8, 1024]⟩
abbrev S8x1x8x128 : Shape := ⟨4, ![8, 1, 8, 128]⟩
abbrev S8x1x8x32 : Shape := ⟨4, ![8, 1, 8, 32]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S8x1x8x16 : Shape := ⟨4, ![8, 1, 8, 16]⟩
abbrev S1x1x1x16 : Shape := ⟨4, ![1, 1, 1, 16]⟩
abbrev S8x1x8x96 : Shape := ⟨4, ![8, 1, 8, 96]⟩

abbrev nBuf : Space → Nat
  | .hbm => 48
  | .vmem => 0
  | .smem => 0
  | _ => 0

abbrev bufTy : (tb : Table) → Fin (tcTables nBuf tb) → BufTy
  | .hbm, ⟨0, _⟩ => ⟨S8x7680, .f32⟩
  | .hbm, ⟨1, _⟩ => ⟨S8x128, .f32⟩
  | .hbm, ⟨2, _⟩ => ⟨S64, .f32⟩
  | .hbm, ⟨3, _⟩ => ⟨S64, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S8x1024, .f32⟩
  | .hbm, ⟨9, _⟩ => ⟨S8x1x8x128, .f32⟩
  | .hbm, ⟨10, _⟩ => ⟨S8x1x8x32, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S1, .f32⟩
  | .hbm, ⟨20, _⟩ => ⟨S1x1, .f32⟩
  | .hbm, ⟨21, _⟩ => ⟨S1x16, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x1x16, .f32⟩
  | .hbm, ⟨26, _⟩ => ⟨S1x16, .f32⟩
  | .hbm, ⟨27, _⟩ => ⟨S1x1x16, .f32⟩
  | .hbm, ⟨28, _⟩ => ⟨S8x1x8x16, .f32⟩
  | .hbm, ⟨29, _⟩ => ⟨S8x1x8x16, .f32⟩
  | .hbm, ⟨30, _⟩ => ⟨S1x1x1x16, .f32⟩
  | .hbm, ⟨31, _⟩ => ⟨S8x1x8x16, .f32⟩
  | .hbm, ⟨32, _⟩ => ⟨S8x1x8x16, .f32⟩
  | .hbm, ⟨33, _⟩ => ⟨S1x1x1x16, .f32⟩
  | .hbm, ⟨34, _⟩ => ⟨S8x1x8x16, .f32⟩
  | .hbm, ⟨35, _⟩ => ⟨S8x1x8x16, .f32⟩
  | .hbm, ⟨36, _⟩ => ⟨S8x1x8x16, .f32⟩
  | .hbm, ⟨37, _⟩ => ⟨S1x1x1x16, .f32⟩
  | .hbm, ⟨38, _⟩ => ⟨S8x1x8x16, .f32⟩
  | .hbm, ⟨39, _⟩ => ⟨S8x1x8x16, .f32⟩
  | .hbm, ⟨40, _⟩ => ⟨S1x1x1x16, .f32⟩
  | .hbm, ⟨41, _⟩ => ⟨S8x1x8x16, .f32⟩
  | .hbm, ⟨42, _⟩ => ⟨S8x1x8x16, .f32⟩
  | .hbm, ⟨43, _⟩ => ⟨S8x1x8x16, .f32⟩
  | .hbm, ⟨44, _⟩ => ⟨S8x1x8x32, .f32⟩
  | .hbm, ⟨45, _⟩ => ⟨S8x1x8x96, .f32⟩
  | .hbm, ⟨46, _⟩ => ⟨S8x1x8x128, .f32⟩
  | .hbm, ⟨47, _⟩ => ⟨S8x1024, .f32⟩
  | _, _ => ⟨S8x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== SMix.lean ====
abbrev S8x7680 : Shape := ⟨2, ![8, 7680]⟩
abbrev S8x4x128x128 : Shape := ⟨4, ![8, 4, 128, 128]⟩
abbrev S8x2x512 : Shape := ⟨3, ![8, 2, 512]⟩
abbrev S512 : Shape := ⟨1, ![512]⟩
abbrev S3x512 : Shape := ⟨2, ![3, 512]⟩
abbrev S1 : Shape := ⟨1, ![1]⟩
abbrev S_ : Shape := ⟨0, ![]⟩
abbrev S64 : Shape := ⟨1, ![64]⟩
abbrev S1x1 : Shape := ⟨2, ![1, 1]⟩
abbrev S1x64 : Shape := ⟨2, ![1, 64]⟩
abbrev S1x0 : Shape := ⟨2, ![1, 0]⟩
abbrev S1x128 : Shape := ⟨2, ![1, 128]⟩
abbrev S1x1x1x128 : Shape := ⟨4, ![1, 1, 1, 128]⟩
abbrev S8x128 : Shape := ⟨2, ![8, 128]⟩
abbrev S4 : Shape := ⟨1, ![4]⟩
abbrev S4x128 : Shape := ⟨2, ![4, 128]⟩
abbrev S1x512 : Shape := ⟨2, ![1, 512]⟩
abbrev S8x1x512 : Shape := ⟨3, ![8, 1, 512]⟩
abbrev S8x512 : Shape := ⟨2, ![8, 512]⟩
abbrev S128x128 : Shape := ⟨2, ![128, 128]⟩
abbrev S8 : Shape := ⟨1, ![8]⟩
abbrev S8x1 : Shape := ⟨2, ![8, 1]⟩
abbrev S1x1x128x128 : Shape := ⟨4, ![1, 1, 128, 128]⟩

abbrev nBuf : Space → Nat
  | .hbm => 77
  | .vmem => 13
  | .smem => 0
  | _ => 0

abbrev bufTy : (tb : Table) → Fin (tcTables nBuf tb) → BufTy
  | .hbm, ⟨0, _⟩ => ⟨S8x7680, .f32⟩
  | .hbm, ⟨1, _⟩ => ⟨S8x4x128x128, .f32⟩
  | .hbm, ⟨2, _⟩ => ⟨S8x2x512, .f32⟩
  | .hbm, ⟨3, _⟩ => ⟨S512, .f32⟩
  | .hbm, ⟨4, _⟩ => ⟨S3x512, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1, .f32⟩
  | .hbm, ⟨18, _⟩ => ⟨S1x1, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S_, .f32⟩
  | .hbm, ⟨25, _⟩ => ⟨S1x0, .f32⟩
  | .hbm, ⟨26, _⟩ => ⟨S1x128, .f32⟩
  | .hbm, ⟨27, _⟩ => ⟨S1x64, .f32⟩
  | .hbm, ⟨28, _⟩ => ⟨S_, .f32⟩
  | .hbm, ⟨29, _⟩ => ⟨S1x64, .f32⟩
  | .hbm, ⟨30, _⟩ => ⟨S1x128, .f32⟩
  | .hbm, ⟨31, _⟩ => ⟨S_, .f32⟩
  | .hbm, ⟨32, _⟩ => ⟨S1x64, .f32⟩
  | .hbm, ⟨33, _⟩ => ⟨S_, .f32⟩
  | .hbm, ⟨34, _⟩ => ⟨S1x0, .f32⟩
  | .hbm, ⟨35, _⟩ => ⟨S1x128, .f32⟩
  | .hbm, ⟨36, _⟩ => ⟨S1x1x1x128, .f32⟩
  | .hbm, ⟨37, _⟩ => ⟨S1x1x1x128, .f32⟩
  | .hbm, ⟨38, _⟩ => ⟨S1x128, .f32⟩
  | .hbm, ⟨39, _⟩ => ⟨S1x1x1x128, .f32⟩
  | .hbm, ⟨40, _⟩ => ⟨S1x1x1x128, .f32⟩
  | .hbm, ⟨41, _⟩ => ⟨S1x128, .f32⟩
  | .hbm, ⟨42, _⟩ => ⟨S1x1x1x128, .f32⟩
  | .hbm, ⟨43, _⟩ => ⟨S1x1x1x128, .f32⟩
  | .hbm, ⟨44, _⟩ => ⟨S1x128, .f32⟩
  | .hbm, ⟨45, _⟩ => ⟨S8x128, .f32⟩
  | .hbm, ⟨46, _⟩ => ⟨S1x128, .f32⟩
  | .hbm, ⟨47, _⟩ => ⟨S8x128, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4x128, .f32⟩
  | .hbm, ⟨61, _⟩ => ⟨S512, .f32⟩
  | .hbm, ⟨62, _⟩ => ⟨S1x512, .f32⟩
  | .hbm, ⟨63, _⟩ => ⟨S1x512, .f32⟩
  | .hbm, ⟨64, _⟩ => ⟨S8x1x512, .f32⟩
  | .hbm, ⟨65, _⟩ => ⟨S8x512, .f32⟩
  | .hbm, ⟨66, _⟩ => ⟨S8x1x512, .f32⟩
  | .hbm, ⟨67, _⟩ => ⟨S8x512, .f32⟩
  | .hbm, ⟨68, _⟩ => ⟨S8x512, .f32⟩
  | .hbm, ⟨69, _⟩ => ⟨S8x4x128x128, .f32⟩
  | .hbm, ⟨70, _⟩ => ⟨S8x512, .f32⟩
  | .hbm, ⟨71, _⟩ => ⟨S8x512, .f32⟩
  | .hbm, ⟨72, _⟩ => ⟨S8x1x512, .f32⟩
  | .hbm, ⟨73, _⟩ => ⟨S8x512, .f32⟩
  | .hbm, ⟨74, _⟩ => ⟨S8x1x512, .f32⟩
  | .hbm, ⟨75, _⟩ => ⟨S8x1x512, .f32⟩
  | .hbm, ⟨76, _⟩ => ⟨S8x2x512, .f32⟩
  | .local _ .vmem, ⟨0, _⟩ => ⟨S8x7680, .f32⟩
  | .local _ .vmem, ⟨1, _⟩ => ⟨S8x4x128x128, .f32⟩
  | .local _ .vmem, ⟨2, _⟩ => ⟨S8x128, .f32⟩
  | .local _ .vmem, ⟨3, _⟩ => ⟨S8x128, .f32⟩
  | .local _ .vmem, ⟨4, _⟩ => ⟨S1x512, .f32⟩
  | .local _ .vmem, ⟨5, _⟩ => ⟨S1x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S8x512, .f32⟩
  | .local _ .vmem, ⟨10, _⟩ => ⟨S8x4x128x128, .f32⟩
  | .local _ .vmem, ⟨11, _⟩ => ⟨S8x512, .f32⟩
  | .local _ .vmem, ⟨12, _⟩ => ⟨S8x512, .f32⟩
  | _, _ => ⟨S8x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53_0 : Ref sig .tc := ⟨.hbm, 68, rfl⟩
abbrev main_v53_1 : Ref sig .tc := ⟨.hbm, 69, rfl⟩
abbrev main_v53_2 : Ref sig .tc := ⟨.hbm, 70, rfl⟩
abbrev main_v53_3 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S8x7680 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== SMixRefIdeal.lean ====
abbrev S8x7680 : Shape := ⟨2, ![8, 7680]⟩
abbrev S8x4x128x128 : Shape := ⟨4, ![8, 4, 128, 128]⟩
abbrev S8x2x512 : Shape := ⟨3, ![8, 2, 512]⟩
abbrev S512 : Shape := ⟨1, ![512]⟩
abbrev S3x512 : Shape := ⟨2, ![3, 512]⟩
abbrev S1 : Shape := ⟨1, ![1]⟩
abbrev S_ : Shape := ⟨0, ![]⟩
abbrev S8x512 : Shape := ⟨2, ![8, 512]⟩
abbrev S8x1x4x128 : Shape := ⟨4, ![8, 1, 4, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S8x1x4x64 : Shape := ⟨4, ![8, 1, 4, 64]⟩
abbrev S1x1x1x64 : Shape := ⟨4, ![1, 1, 1, 64]⟩
abbrev S8x4x1x128 : Shape := ⟨4, ![8, 4, 1, 128]⟩
abbrev S4 : Shape := ⟨1, ![4]⟩
abbrev S4x1 : Shape := ⟨2, ![4, 1]⟩
abbrev S4x1x1 : Shape := ⟨3, ![4, 1, 1]⟩
abbrev S1x4x1x1 : Shape := ⟨4, ![1, 4, 1, 1]⟩
abbrev S8x1536 : Shape := ⟨2, ![8, 1536]⟩
abbrev S8x1x1536 : Shape := ⟨3, ![8, 1, 1536]⟩
abbrev S8x1x512 : Shape := ⟨3, ![8, 1, 512]⟩
abbrev S8x3x512 : Shape := ⟨3, ![8, 3, 512]⟩
abbrev S1x512 : Shape := ⟨2, ![1, 512]⟩
abbrev S1x1x512 : Shape := ⟨3, ![1, 1, 512]⟩

abbrev nBuf : Space → Nat
  | .hbm => 116
  | .vmem => 0
  | .smem => 0
  | _ => 0

abbrev bufTy : (tb : Table) → Fin (tcTables nBuf tb) → BufTy
  | .hbm, ⟨0, _⟩ => ⟨S8x7680, .f32⟩
  | .hbm, ⟨1, _⟩ => ⟨S8x4x128x128, .f32⟩
  | .hbm, ⟨2, _⟩ => ⟨S8x2x512, .f32⟩
  | .hbm, ⟨3, _⟩ => ⟨S512, .f32⟩
  | .hbm, ⟨4, _⟩ => ⟨S3x512, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S8x512, .f32⟩
  | .hbm, ⟨10, _⟩ => ⟨S8x1x4x128, .f32⟩
  | .hbm, ⟨11, _⟩ => ⟨S8x512, .f32⟩
  | .hbm, ⟨12, _⟩ => ⟨S8x1x4x128, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1, .f32⟩
  | .hbm, ⟨22, _⟩ => ⟨S1x1, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x1x64, .f32⟩
  | .hbm, ⟨28, _⟩ => ⟨S1x64, .f32⟩
  | .hbm, ⟨29, _⟩ => ⟨S1x1x64, .f32⟩
  | .hbm, ⟨30, _⟩ => ⟨S8x1x4x64, .f32⟩
  | .hbm, ⟨31, _⟩ => ⟨S8x1x4x64, .f32⟩
  | .hbm, ⟨32, _⟩ => ⟨S1x1x1x64, .f32⟩
  | .hbm, ⟨33, _⟩ => ⟨S8x1x4x64, .f32⟩
  | .hbm, ⟨34, _⟩ => ⟨S8x1x4x64, .f32⟩
  | .hbm, ⟨35, _⟩ => ⟨S1x1x1x64, .f32⟩
  | .hbm, ⟨36, _⟩ => ⟨S8x1x4x64, .f32⟩
  | .hbm, ⟨37, _⟩ => ⟨S8x1x4x64, .f32⟩
  | .hbm, ⟨38, _⟩ => ⟨S8x1x4x64, .f32⟩
  | .hbm, ⟨39, _⟩ => ⟨S1x1x1x64, .f32⟩
  | .hbm, ⟨40, _⟩ => ⟨S8x1x4x64, .f32⟩
  | .hbm, ⟨41, _⟩ => ⟨S8x1x4x64, .f32⟩
  | .hbm, ⟨42, _⟩ => ⟨S1x1x1x64, .f32⟩
  | .hbm, ⟨43, _⟩ => ⟨S8x1x4x64, .f32⟩
  | .hbm, ⟨44, _⟩ => ⟨S8x1x4x64, .f32⟩
  | .hbm, ⟨45, _⟩ => ⟨S8x1x4x64, .f32⟩
  | .hbm, ⟨46, _⟩ => ⟨S8x1x4x128, .f32⟩
  | .hbm, ⟨47, _⟩ => ⟨S_, .f32⟩
  | .hbm, ⟨48, _⟩ => ⟨S8x1x4x128, .f32⟩
  | .hbm, ⟨49, _⟩ => ⟨S8x1x4x128, .f32⟩
  | .hbm, ⟨50, _⟩ => ⟨S8x4x1x128, .f32⟩
  | .hbm, ⟨51, _⟩ => ⟨S8x4x1x128, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S1, .f32⟩
  | .hbm, ⟨64, _⟩ => ⟨S4x1, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1x1, .f32⟩
  | .hbm, ⟨69, _⟩ => ⟨S4x1, .f32⟩
  | .hbm, ⟨70, _⟩ => ⟨S4x1, .f32⟩
  | .hbm, ⟨71, _⟩ => ⟨S4x1, .f32⟩
  | .hbm, ⟨72, _⟩ => ⟨S4x1x1, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S4x1x1, .f32⟩
  | .hbm, ⟨78, _⟩ => ⟨S1x4x1x1, .f32⟩
  | .hbm, ⟨79, _⟩ => ⟨S8x4x128x128, .f32⟩
  | .hbm, ⟨80, _⟩ => ⟨S8x4x128x128, .f32⟩
  | .hbm, ⟨81, _⟩ => ⟨S1x4x1x1, .f32⟩
  | .hbm, ⟨82, _⟩ => ⟨S8x4x1x128, .f32⟩
  | .hbm, ⟨83, _⟩ => ⟨S8x4x1x128, .f32⟩
  | .hbm, ⟨84, _⟩ => ⟨S8x4x128x128, .f32⟩
  | .hbm, ⟨85, _⟩ => ⟨S8x4x128x128, .f32⟩
  | .hbm, ⟨86, _⟩ => ⟨S8x1536, .f32⟩
  | .hbm, ⟨87, _⟩ => ⟨S8x1x1536, .f32⟩
  | .hbm, ⟨88, _⟩ => ⟨S8x1x512, .f32⟩
  | .hbm, ⟨89, _⟩ => ⟨S8x1x512, .f32⟩
  | .hbm, ⟨90, _⟩ => ⟨S8x1x512, .f32⟩
  | .hbm, ⟨91, _⟩ => ⟨S8x1x512, .f32⟩
  | .hbm, ⟨92, _⟩ => ⟨S8x3x512, .f32⟩
  | .hbm, ⟨93, _⟩ => ⟨S1x512, .f32⟩
  | .hbm, ⟨94, _⟩ => ⟨S512, .f32⟩
  | .hbm, ⟨95, _⟩ => ⟨S8x1x512, .f32⟩
  | .hbm, ⟨96, _⟩ => ⟨S1x1x512, .f32⟩
  | .hbm, ⟨97, _⟩ => ⟨S8x1x512, .f32⟩
  | .hbm, ⟨98, _⟩ => ⟨S8x1x512, .f32⟩
  | .hbm, ⟨99, _⟩ => ⟨S1x512, .f32⟩
  | .hbm, ⟨100, _⟩ => ⟨S512, .f32⟩
  | .hbm, ⟨101, _⟩ => ⟨S8x1x512, .f32⟩
  | .hbm, ⟨102, _⟩ => ⟨S1x1x512, .f32⟩
  | .hbm, ⟨103, _⟩ => ⟨S8x1x512, .f32⟩
  | .hbm, ⟨104, _⟩ => ⟨S8x1x512, .f32⟩
  | .hbm, ⟨105, _⟩ => ⟨S8x1x512, .f32⟩
  | .hbm, ⟨106, _⟩ => ⟨S1x512, .f32⟩
  | .hbm, ⟨107, _⟩ => ⟨S512, .f32⟩
  | .hbm, ⟨108, _⟩ => ⟨S8x1x512, .f32⟩
  | .hbm, ⟨109, _⟩ => ⟨S1x1x512, .f32⟩
  | .hbm, ⟨110, _⟩ => ⟨S8x1x512, .f32⟩
  | .hbm, ⟨111, _⟩ => ⟨S8x1x512, .f32⟩
  | .hbm, ⟨112, _⟩ => ⟨S8x1x512, .f32⟩
  | .hbm, ⟨113, _⟩ => ⟨S8x2x512, .f32⟩
  | .hbm, ⟨114, _⟩ => ⟨S8x1x512, .f32⟩
  | .hbm, ⟨115, _⟩ => ⟨S8x512, .f32⟩
  | _, _ => ⟨S8x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩

abbrev nD : Nat := 1
abbrev τ : Topo := Topo.v7x

variable {F : FTy → Type} [FloatOps F]
-- ==== Proof.RetLoop.lean ====
/- The loop of the retention kernel's body: sixteen trips over chunks of 128 rows. What each trip carries
   on and which rows it stores, as one recursion over the block's contents. -/
module

public import proofs.«01_k».proof.Proof.Gen.RetIdeal.Frame
public import Idealize.ShloMosaic.Lib.Pipeline.ValueKit
public import Idealize.ShloMosaic.Lib.WholeRead
public import Idealize.ShloMosaic.Lib.Claim

@[expose] public section

set_option maxRecDepth 16384

noncomputable section

open Idealize.ShloMosaic Idealize.ShloMosaic.TcCoe Idealize.SL.Sem

namespace Cert.Proof.RetLoop

open Cert.RetIdeal Cert.RetIdeal.Gen

/-- The loop runs sixteen times. -/
theorem trips_eq : k0_t1_loop.trips = 16 := by decide +kernel

/-- Trip `k` starts at row `128 * k`. -/
theorem off_eq : ∀ k : Fin k0_t1_loop.trips, k0_off1 k = ![128 * k.val, 0] := by decide +kernel

/-- Chunk `n` of a block: its rows from `128 * n` on. -/
def sub (x : Vec Ideal S2048x128 .f32) (n : ℕ) : Vec Ideal S128x128 .f32 :=
  fun y => x (ix2 ⟨(128 * n + (y 0).val) % 2048, Nat.mod_lt _ (by omega)⟩ (y 1))

/-- The rectangle of trip `k`'s rows at a row and a column. -/
theorem emb_at (k : Fin k0_t1_loop.trips) (h) (r e : Fin 128) :
    (Rect.unit (s := S2048x128) (k0_off1 k) S128x128.size h).emb (ix2 r e)
      = (ix2 ⟨(128 * k.val + r.val) % 2048, Nat.mod_lt _ (by omega)⟩ e : S2048x128.Idx) := by
  have hk : k.val < 16 := trips_eq ▸ k.isLt
  have ho := off_eq k
  funext a
  apply Fin.ext
  have hr := r.isLt
  fin_cases a
  · have := congrFun ho 0
    rw [Rect.emb_apply]
    simp [Rect.unit] at this ⊢
    omega
  · have := congrFun ho 1
    rw [Rect.emb_apply]
    simp [Rect.unit] at this ⊢
    omega

/-- A load of trip `k`'s rows reads the chunk. -/
theorem read_chunk (k : Fin k0_t1_loop.trips) (arg : Memref sig .tc .vmem S2048x128 .f32) (h : arg.IsWhole)
    (x : Vec Ideal S2048x128 .f32) (hb) :
    View.readAt (Elt Ideal) arg.view (Rect.unit (s := S2048x128) (k0_off1 k) S128x128.size hb).toLoadRect (h.unread x)
      = sub x k.val := by
  funext y
  obtain ⟨r, e, rfl⟩ : ∃ (r : Fin 128) (e : Fin 128), y = ix2 r e := ⟨y 0, y 1, eq_ix2 y⟩
  refine (Memref.IsWhole.readAt_unread h x _ _).trans (congrArg x ?_)
  exact emb_at k hb r e

/-- What the loop carries after `n` chunks: the state, from zeros. -/
def CARRY (v4 : Vec Ideal S1x128x1 .f32) (v6 : Vec Ideal S1x1x1 .f32)
    (x3 x4 x6 x7 : Vec Ideal S2048x128 .f32) : ℕ → FVec Ideal S128x128 .f32
  | 0 => k0_pay5 (F := Ideal)
  | n + 1 => k0_pay13 (k0_pay3 v4) (k0_pay4 v6) (CARRY v4 v6 x3 x4 x6 x7 n) (sub x6 n) (sub x7 n) (sub x3 n) (sub x4 n)

/-- The rows trip `n` stores. -/
def STORED (v0 : Vec Ideal S1x128x128 .f32) (v2 v4 : Vec Ideal S1x128x1 .f32) (v6 : Vec Ideal S1x1x1 .f32)
    (v8 : Vec Ideal S1x128 .f32) (x2 x3 x4 x5 x6 x7 : Vec Ideal S2048x128 .f32) (n : ℕ) : FVec Ideal S128x128 .bf16 :=
  k0_pay6 v8
    (k0_pay12 (k0_pay1 v0) (k0_pay2 v2) (CARRY v4 v6 x3 x4 x6 x7 n) (sub x6 n) (sub x7 n) (sub x2 n) (sub x3 n) (sub x4 n))
    (k0_pay14 (k0_pay1 v0) (k0_pay2 v2) (CARRY v4 v6 x3 x4 x6 x7 n) (sub x6 n) (sub x7 n) (sub x2 n) (sub x3 n) (sub x4 n))
    (sub x5 n)

/-- One trip's result: the next state. -/
theorem trip_result (𝒱 : Variants) (c : Dev nD) (bd : Option 𝒱.V) (i : grid0.Coords)
    (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x1 .f32) (harg9 : arg9.IsWhole) (arg10 : Memref sig .tc .vmem S1x128x1 .f32) (harg10 : arg10.IsWhole) (arg11 : Memref sig .tc .vmem S1x1x1 .f32) (harg11 : arg11.IsWhole) (arg12 : Memref sig .tc .vmem S1x128 .f32) (harg12 : arg12.IsWhole) (arg13 : Memref sig .tc .vmem S2048x128 .bf16) (harg13 : arg13.IsWhole) (arg14 : Memref sig .tc .vmem S1x1x128x128 .f32) (harg14 : arg14.IsWhole)
    (v0 : Vec Ideal S1x128x128 .f32) (v2 : Vec Ideal S1x128x1 .f32) (v4 : Vec Ideal S1x128x1 .f32) (v6 : Vec Ideal S1x1x1 .f32) (v8 : Vec Ideal S1x128 .f32) (x2 : Vec Ideal S2048x128 .f32) (x3 : Vec Ideal S2048x128 .f32) (x4 : Vec Ideal S2048x128 .f32) (x5 : Vec Ideal S2048x128 .f32) (x6 : Vec Ideal S2048x128 .f32) (x7 : Vec Ideal S2048x128 .f32) (k : Fin k0_t1_loop.trips) (acc : FVec Ideal S128x128 .f32) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8
      (harg2.unread x2) (harg3.unread x3) (harg4.unread x4) (harg5.unread x5) (harg6.unread x6) (harg7.unread x7) k acc
      = k0_pay13 (k0_pay3 v4) (k0_pay4 v6) acc (sub x6 k.val) (sub x7 k.val) (sub x3 k.val) (sub x4 k.val) := by
  unfold tripR_k0_t1 trip_k0_t1
  dsimp only
  unfold trip_k0_t1.sl.r_1
  rw [← read_chunk k arg6 harg6 x6 (k0_off1_inb k), ← read_chunk k arg7 harg7 x7 (k0_off1_inb k),
    ← read_chunk k arg3 harg3 x3 (k0_off1_inb k), ← read_chunk k arg4 harg4 x4 (k0_off1_inb k)]

/-- One trip's stores: one piece, the trip's rows. -/
theorem trip_pieces (𝒱 : Variants) (c : Dev nD) (bd : Option 𝒱.V) (i : grid0.Coords)
    (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x1 .f32) (harg9 : arg9.IsWhole) (arg10 : Memref sig .tc .vmem S1x128x1 .f32) (harg10 : arg10.IsWhole) (arg11 : Memref sig .tc .vmem S1x1x1 .f32) (harg11 : arg11.IsWhole) (arg12 : Memref sig .tc .vmem S1x128 .f32) (harg12 : arg12.IsWhole) (arg13 : Memref sig .tc .vmem S2048x128 .bf16) (harg13 : arg13.IsWhole) (arg14 : Memref sig .tc .vmem S1x1x128x128 .f32) (harg14 : arg14.IsWhole)
    (v0 : Vec Ideal S1x128x128 .f32) (v2 : Vec Ideal S1x128x1 .f32) (v4 : Vec Ideal S1x128x1 .f32) (v6 : Vec Ideal S1x1x1 .f32) (v8 : Vec Ideal S1x128 .f32) (x2 : Vec Ideal S2048x128 .f32) (x3 : Vec Ideal S2048x128 .f32) (x4 : Vec Ideal S2048x128 .f32) (x5 : Vec Ideal S2048x128 .f32) (x6 : Vec Ideal S2048x128 .f32) (x7 : Vec Ideal S2048x128 .f32) (k : Fin k0_t1_loop.trips) (acc : FVec Ideal S128x128 .f32) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8
      (harg2.unread x2) (harg3.unread x3) (harg4.unread x4) (harg5.unread x5) (harg6.unread x6) (harg7.unread x7) k acc
      = [⟨Rect.unit (s := S2048x128) (k0_off1 k) S128x128.size (k0_off1_inb k),
          k0_pay6 v8
            (k0_pay12 (k0_pay1 v0) (k0_pay2 v2) acc (sub x6 k.val) (sub x7 k.val) (sub x2 k.val) (sub x3 k.val) (sub x4 k.val))
            (k0_pay14 (k0_pay1 v0) (k0_pay2 v2) acc (sub x6 k.val) (sub x7 k.val) (sub x2 k.val) (sub x3 k.val) (sub x4 k.val))
            (sub x5 k.val)⟩] := by
  unfold tripL_k0_t1 trip_k0_t1
  dsimp only
  unfold trip_k0_t1.sl.r trip_k0_t1.sl.r_2
  rw [← read_chunk k arg6 harg6 x6 (k0_off1_inb k), ← read_chunk k arg7 harg7 x7 (k0_off1_inb k),
    ← read_chunk k arg3 harg3 x3 (k0_off1_inb k), ← read_chunk k arg4 harg4 x4 (k0_off1_inb k),
    ← read_chunk k arg2 harg2 x2 (k0_off1_inb k), ← read_chunk k arg5 harg5 x5 (k0_off1_inb k)]

/-- After `n` trips the loop carries the state after `n` chunks. -/
theorem carried (𝒱 : Variants) (c : Dev nD) (bd : Option 𝒱.V) (i : grid0.Coords)
    (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x1 .f32) (harg9 : arg9.IsWhole) (arg10 : Memref sig .tc .vmem S1x128x1 .f32) (harg10 : arg10.IsWhole) (arg11 : Memref sig .tc .vmem S1x1x1 .f32) (harg11 : arg11.IsWhole) (arg12 : Memref sig .tc .vmem S1x128 .f32) (harg12 : arg12.IsWhole) (arg13 : Memref sig .tc .vmem S2048x128 .bf16) (harg13 : arg13.IsWhole) (arg14 : Memref sig .tc .vmem S1x1x128x128 .f32) (harg14 : arg14.IsWhole)
    (v0 : Vec Ideal S1x128x128 .f32) (v2 : Vec Ideal S1x128x1 .f32) (v4 : Vec Ideal S1x128x1 .f32) (v6 : Vec Ideal S1x1x1 .f32) (v8 : Vec Ideal S1x128 .f32) (x2 : Vec Ideal S2048x128 .f32) (x3 : Vec Ideal S2048x128 .f32) (x4 : Vec Ideal S2048x128 .f32) (x5 : Vec Ideal S2048x128 .f32) (x6 : Vec Ideal S2048x128 .f32) (x7 : Vec Ideal S2048x128 .f32) (n : ℕ) (hn : n ≤ 16) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8 (harg2.unread x2) (harg3.unread x3) (harg4.unread x4) (harg5.unread x5) (harg6.unread x6) (harg7.unread x7) (k0_pay5 (F := Ideal)) n).1
      = CARRY v4 v6 x3 x4 x6 x7 n := by
  induction n with
  | zero => rfl
  | succ n ih =>
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8 (harg2.unread x2) (harg3.unread x3) (harg4.unread x4) (harg5.unread x5) (harg6.unread x6) (harg7.unread x7) (k0_pay5 (F := Ideal)) ⟨n, by rw [trips_eq]; omega⟩
    refine (congrArg Prod.fst hs).trans ?_
    dsimp only
    rw [ih (by omega)]
    exact trip_result 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8 x2 x3 x4 x5 x6 x7 ⟨n, _⟩ _

/-- After `K` trips the rows of the chunks before `K` hold what their trips stored. -/
theorem stored (𝒱 : Variants) (c : Dev nD) (bd : Option 𝒱.V) (i : grid0.Coords)
    (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x1 .f32) (harg9 : arg9.IsWhole) (arg10 : Memref sig .tc .vmem S1x128x1 .f32) (harg10 : arg10.IsWhole) (arg11 : Memref sig .tc .vmem S1x1x1 .f32) (harg11 : arg11.IsWhole) (arg12 : Memref sig .tc .vmem S1x128 .f32) (harg12 : arg12.IsWhole) (arg13 : Memref sig .tc .vmem S2048x128 .bf16) (harg13 : arg13.IsWhole) (arg14 : Memref sig .tc .vmem S1x1x128x128 .f32) (harg14 : arg14.IsWhole)
    (v0 : Vec Ideal S1x128x128 .f32) (v2 : Vec Ideal S1x128x1 .f32) (v4 : Vec Ideal S1x128x1 .f32) (v6 : Vec Ideal S1x1x1 .f32) (v8 : Vec Ideal S1x128 .f32) (x2 : Vec Ideal S2048x128 .f32) (x3 : Vec Ideal S2048x128 .f32) (x4 : Vec Ideal S2048x128 .f32) (x5 : Vec Ideal S2048x128 .f32) (x6 : Vec Ideal S2048x128 .f32) (x7 : Vec Ideal S2048x128 .f32) (K : ℕ) (hK : K ≤ 16) (n : ℕ) (hn : n < K) (r e : Fin 128) :
    View.canon (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8 (harg2.unread x2) (harg3.unread x3) (harg4.unread x4) (harg5.unread x5) (harg6.unread x6) (harg7.unread x7) (k0_pay5 (F := Ideal)) K).2
      (ix2 ⟨(128 * n + r.val) % 2048, Nat.mod_lt _ (by omega)⟩ e)
      = STORED v0 v2 v4 v6 v8 x2 x3 x4 x5 x6 x7 n (ix2 r e) := by
  induction K with
  | zero => omega
  | succ K ih =>
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8 (harg2.unread x2) (harg3.unread x3) (harg4.unread x4) (harg5.unread x5) (harg6.unread x6) (harg7.unread x7) (k0_pay5 (F := Ideal)) ⟨K, by rw [trips_eq]; omega⟩
    have h2 := congrArg Prod.snd hs
    dsimp only at h2
    rw [carried 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8 x2 x3 x4 x5 x6 x7 K (by omega),
      trip_pieces 𝒱 c bd i arg2 harg2 arg3 harg3 arg4 harg4 arg5 harg5 arg6 harg6 arg7 harg7 arg8 harg8 arg9 harg9 arg10 harg10 arg11 harg11 arg12 harg12 arg13 harg13 arg14 harg14 v0 v2 v4 v6 v8 x2 x3 x4 x5 x6 x7 ⟨K, _⟩] at h2
    refine (congrArg (fun L => View.canon L _) h2).trans ?_
    rw [List.singleton_append]
    by_cases hc : n = K
    · subst hc
      have he := emb_at ⟨n, by rw [trips_eq]; omega⟩ (k0_off1_inb _) r e
      rw [← he]
      exact View.canon_cons_emb (Rect.unit (s := S2048x128) (k0_off1 ⟨n, by rw [trips_eq]; omega⟩) S128x128.size (k0_off1_inb _)) _ _ (ix2 r e)
    · refine (View.canon_cons_of_not_mem _ _ ?_).trans (ih (by omega) (by omega))
      intro hm
      obtain ⟨y, hy⟩ := LoadRect.exists_idx_of_mem _ hm
      obtain ⟨r', e', rfl⟩ : ∃ (r : Fin 128) (e : Fin 128), y = ix2 r e := ⟨y 0, y 1, eq_ix2 y⟩
      replace hy := (emb_at ⟨K, by rw [trips_eq]; omega⟩ (k0_off1_inb _) r' e').symm.trans hy
      have h0 := congrArg Fin.val (congrFun hy 0)
      have h1 : (128 * K + r'.val) % 2048 = (128 * n + r.val) % 2048 := h0
      have := r.isLt
      have := r'.isLt
      omega

end Cert.Proof.RetLoop

end
-- ==== Proof.RetTab.lean ====
/- The retention's tables: the rotary cosines and sines, the decay matrix of a chunk, the factors by which a
   row sees the carried state and by which it enters the next one, and the decay of the state over a chunk.
   Reference and kernel both build them from the same lines, so each is one named term here. -/
module

public import proofs.«01_k».proof.Proof.Gen.RetRefIdeal
public import proofs.«01_k».proof.Proof.Gen.RetRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.StableHlo

namespace Cert.Proof.RetTab

open Cert.RetRefIdeal Cert.RetRefIdeal.Gen

/-- The angles of the rotary embedding: position times `10000 ^ (-j / 64)`. -/
def ANG : FVec Ideal S2048x64 .f32 :=
  mulf (broadcastInDim S2048x64 ![0, 1] bcast_S2048x1_S2048x64_0_1
      (broadcastInDim S2048x1 ![0] bcast_S2048_S2048x1_0 (sitofp .f32 (iotaInDim S2048 32 0))))
    (broadcastInDim S2048x64 ![0, 1] bcast_S1x64_S2048x64_0_1
      (broadcastInDim S1x64 ![1] bcast_S64_S1x64_1
        (Host.powf (broadcastInDim S64 ![] bcast_S_S64 (constant S_ .f32 0x461C4000#32))
          (Host.divf (Host.negf (sitofp .f32 (iotaInDim S64 32 0)))
            (broadcastInDim S64 ![] bcast_S_S64 (constant S_ .f32 0x42800000#32))))))

/-- The logarithms of the four heads' decay rates, `log (1 - 2 ^ (-5 - h))`. -/
def LG : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The row numbers `0 … 127` of a chunk. -/
def ROW : FVec Ideal S128 .f32 := sitofp .f32 (iotaInDim S128 32 0)

/-- The distance of two rows of a chunk. -/
def DIFF : FVec Ideal S128x128 .f32 :=
  subf (broadcastInDim S128x128 ![0, 1] bcast_S128x1_S128x128_0_1 (broadcastInDim S128x1 ![0] bcast_S128_S128x1_0 ROW))
    (broadcastInDim S128x128 ![0, 1] bcast_S1x128_S128x128_0_1 (broadcastInDim S1x128 ![1] bcast_S128_S1x128_1 ROW))

/-- The decay matrix of a chunk, zero above the diagonal. -/
def DEC : FVec Ideal S4x128x128 .f32 :=
  select (broadcastInDim S4x128x128 ![1, 2] bcast_S128x128_S4x128x128_1_2
      (cmpf .oge DIFF (broadcastInDim S128x128 ![] bcast_S_S128x128 (constant S_ .f32 0x00000000#32))))
    (Host.exp (mulf
      (broadcastInDim S4x128x128 ![0, 1, 2] bcast_S4x1x1_S4x128x128_0_1_2 (broadcastInDim S4x1x1 ![0] bcast_S4_S4x1x1_0 LG))
      (broadcastInDim S4x128x128 ![0, 1, 2] bcast_S1x128x128_S4x128x128_0_1_2
        (broadcastInDim S1x128x128 ![1, 2] bcast_S128x128_S1x128x128_1_2
          (maximumf DIFF (broadcastInDim S128x128 ![] bcast_S_S128x128 (constant S_ .f32 0x00000000#32)))))))
    (broadcastInDim S4x128x128 ![] bcast_S_S4x128x128 (constant S_ .f32 0x00000000#32))

/-- The factor `exp (lg * (i + 1))` by which row `i` sees the carried state. -/
def XI : FVec Ideal S4x128x1 .f32 :=
  broadcastInDim S4x128x1 ![0, 1] bcast_S4x128_S4x128x1_0_1 (Host.exp (mulf
    (broadcastInDim S4x128 ![0, 1] bcast_S4x1_S4x128_0_1 (broadcastInDim S4x1 ![0] bcast_S4_S4x1_0 LG))
    (broadcastInDim S4x128 ![0, 1] bcast_S1x128_S4x128_0_1 (broadcastInDim S1x128 ![1] bcast_S128_S1x128_1
      (addf ROW (broadcastInDim S128 ![] bcast_S_S128 (constant S_ .f32 0x3F800000#32)))))))

/-- The factor `exp (lg * (127 - j))` by which row `j` enters the next state. -/
def ZETA : FVec Ideal S4x128x1 .f32 :=
  broadcastInDim S4x128x1 ![0, 1] bcast_S4x128_S4x128x1_0_1 (Host.exp (mulf
    (broadcastInDim S4x128 ![0, 1] bcast_S4x1_S4x128_0_1 (broadcastInDim S4x1 ![0] bcast_S4_S4x1_0 LG))
    (broadcastInDim S4x128 ![0, 1] bcast_S1x128_S4x128_0_1 (broadcastInDim S1x128 ![1] bcast_S128_S1x128_1
      (subf (broadcastInDim S128 ![] bcast_S_S128 (constant S_ .f32 0x42FE0000#32)) ROW)))))

/-- The decay `exp (128 * lg)` of the state over a chunk. -/
def GC : FVec Ideal S4x1x1 .f32 :=
  broadcastInDim S4x1x1 ![0] bcast_S4_S4x1x1_0 (Host.exp (mulf LG
    (broadcastInDim S4 ![] bcast_S_S4 (constant S_ .f32 0x43000000#32))))

/-- One of the four bands of 512 columns, cut into heads. -/
def HEADS (x : FVec Ideal S8192x512 .f32) : FVec Ideal S4x2048x4x128 .f32 :=
  shapeCast S4x2048x4x128 (shapeCast S4x2048x512 x shapeCasts_S8192x512_S4x2048x512) shapeCasts_S4x2048x512_S4x2048x4x128

/-- A table of the rotary embedding over batches and heads. -/
def OVER (t : FVec Ideal S2048x64 .f32) : FVec Ideal S4x2048x4x64 .f32 :=
  broadcastInDim S4x2048x4x64 ![0, 1, 2, 3] bcast_S1x2048x1x64_S4x2048x4x64_0_1_2_3
    (broadcastInDim S1x2048x1x64 ![1, 2, 3] bcast_S2048x1x64_S1x2048x1x64_1_2_3
      (broadcastInDim S2048x1x64 ![0, 2] bcast_S2048x64_S2048x1x64_0_2 t))

/-- The rotary embedding of all heads: the two halves of a head turned by the angles. -/
def ROPE (x : FVec Ideal S4x2048x4x128 .f32) : FVec Ideal S4x2048x4x128 .f32 :=
  concatenate S4x2048x4x128 3
    [⟨S4x2048x4x64, subf
      (mulf (extractStridedSlice S4x2048x4x64 ![0, 0, 0, 0] x slices_S4x2048x4x128_S4x2048x4x64_0_0_0_0) (OVER (Host.cos ANG)))
      (mulf (extractStridedSlice S4x2048x4x64 ![0, 0, 0, 64] x slices_S4x2048x4x128_S4x2048x4x64_0_0_0_64) (OVER (Host.sin ANG)))⟩,
     ⟨S4x2048x4x64, addf
      (mulf (extractStridedSlice S4x2048x4x64 ![0, 0, 0, 64] x slices_S4x2048x4x128_S4x2048x4x64_0_0_0_64) (OVER (Host.cos ANG)))
      (mulf (extractStridedSlice S4x2048x4x64 ![0, 0, 0, 0] x slices_S4x2048x4x128_S4x2048x4x64_0_0_0_0) (OVER (Host.sin ANG)))⟩]
    concatenates_S4x2048x4x64_S4x2048x4x64_S4x2048x4x128_d3

/-- The sixteen chunks of 128 rows, the chunk number first and the head before the row. -/
def CHUNKS (x : FVec Ideal S4x2048x4x128 .f32) : FVec Ideal S16x4x4x128x128 .f32 :=
  transpose S16x4x4x128x128 [1, 0, 3, 2, 4] (shapeCast S4x16x128x4x128 x shapeCasts_S4x2048x4x128_S4x16x128x4x128)
    transposes_S4x16x128x4x128_S16x4x4x128x128_1_0_3_2_4

/-- The chunks of the queries. -/
def QC (z : FVec Ideal S8192x7680 .f32) : FVec Ideal S16x4x4x128x128 .f32 :=
  CHUNKS (ROPE (HEADS (extractStridedSlice S8192x512 ![0, 0] z slices_S8192x7680_S8192x512_0_0)))

/-- The chunks of the keys, scaled by `128 ^ (-1/2)`. -/
def KC (z : FVec Ideal S8192x7680 .f32) : FVec Ideal S16x4x4x128x128 .f32 :=
  CHUNKS (mulf (ROPE (HEADS (extractStridedSlice S8192x512 ![0, 512] z slices_S8192x7680_S8192x512_0_512)))
    (broadcastInDim S4x2048x4x128 ![] bcast_S_S4x2048x4x128 (constant S_ .f32 0x3DB504F3#32)))

/-- The chunks of the values. -/
def VC (z : FVec Ideal S8192x7680 .f32) : FVec Ideal S16x4x4x128x128 .f32 :=
  CHUNKS (HEADS (extractStridedSlice S8192x512 ![0, 1024] z slices_S8192x7680_S8192x512_0_1024))

open Cert.RetRefIdeal.Value

variable (m : (ℓ : Loc nD τ sig) → Buf (Elt Ideal) ℓ) (c : Dev nD)

/-- The first argument: the projected rows. -/
abbrev Z : FVec Ideal S8192x7680 .f32 := m ((c.tc : Thread nD τ).loc main_arg0)
/-- The second argument: the head norm's weights. -/
abbrev GN : FVec Ideal S512 .f32 := m ((c.tc : Thread nD τ).loc main_arg1)

set_option maxHeartbeats 1000000 in
/-- The scan starts with the queries' chunks. -/
theorem entry_q : entryContents preI m c (Proc.devRef .tc main_v135_0) = QC (Z m c) := by
  simp only [entryContents, afterL_cons, afterL_nil]
  after_reads_simp
  rfl
set_option maxHeartbeats 1000000 in
/-- The scan starts with the keys' chunks. -/
theorem entry_k : entryContents preI m c (Proc.devRef .tc main_v135_1) = KC (Z m c) := by
  simp only [entryContents, afterL_cons, afterL_nil]
  after_reads_simp
  rfl
set_option maxHeartbeats 1000000 in
/-- The scan starts with the values' chunks. -/
theorem entry_v : entryContents preI m c (Proc.devRef .tc main_v135_2) = VC (Z m c) := by
  simp only [entryContents, afterL_cons, afterL_nil]
  after_reads_simp
  rfl
set_option maxHeartbeats 1000000 in
/-- The decay matrix at the scan's start. -/
theorem entry_dec : entryContents preI m c (Proc.devRef .tc main_v135_3) = DEC := by
  simp only [entryContents, afterL_cons, afterL_nil]
  after_reads_simp
  rfl
set_option maxHeartbeats 1000000 in
/-- The factors of the carried state at the scan's start. -/
theorem entry_xi : entryContents preI m c (Proc.devRef .tc main_v135_4) = XI := by
  simp only [entryContents, afterL_cons, afterL_nil]
  after_reads_simp
  rfl
set_option maxHeartbeats 1000000 in
/-- The state's decay at the scan's start. -/
theorem entry_gc : entryContents preI m c (Proc.devRef .tc main_v135_5) = GC := by
  simp only [entryContents, afterL_cons, afterL_nil]
  after_reads_simp
  rfl
set_option maxHeartbeats 1000000 in
/-- The factors of the rows at the scan's start. -/
theorem entry_zeta : entryContents preI m c (Proc.devRef .tc main_v135_6) = ZETA := by
  simp only [entryContents, afterL_cons, afterL_nil]
  after_reads_simp
  rfl
set_option maxHeartbeats 1000000 in
/-- The state starts at zero. -/
theorem entry_st : entryContents preI m c (Proc.devRef .tc main_v135_8) =
    broadcastInDim S4x4x128x128 ![] bcast_S_S4x4x128x128 (constant (F := Ideal) S_ .f32 0x00000000#32) := by
  simp only [entryContents, afterL_cons, afterL_nil]
  after_reads_simp
  rfl

end Cert.Proof.RetTab

end

end
-- ==== Proof.RetCos.lean ====
/- The two rotary tables the retention kernel's call is given. -/
module

public import proofs.«01_k».proof.Proof.Gen.RetIdeal.Frame
public import proofs.«01_k».proof.Proof.RetTab
public import Idealize.ShloMosaic.Lib.StableHlo.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo

namespace Cert.Proof.RetCos

open Cert.RetIdeal Cert.RetIdeal.Gen
open Cert.Proof.RetTab (ANG DEC XI ZETA GC)

variable (m : (ℓ : Loc nD τ sig) → Buf (Elt Ideal) ℓ) (c : Dev nD)

/-- The kernel's cosine table: the cosines over both halves of a head. -/
def COS : FVec Ideal S2048x128 .f32 :=
  shapeCast S2048x128 (broadcastInDim S1x2048x1x128 ![0, 1, 2, 3] bcast_S1x2048x1x128_S1x2048x1x128_0_1_2_3
    (shapeCast S1x2048x1x128 (concatenate S2048x128 1
      [⟨S2048x64, Host.cos ANG⟩, ⟨S2048x64, Host.cos ANG⟩,
       ⟨S2048x0, broadcastInDim S2048x0 ![] bcast_S_S2048x0 (constant S_ .f32 0x3F800000#32)⟩]
      concatenates_S2048x64_S2048x64_S2048x0_S2048x128_d1) shapeCasts_S2048x128_S1x2048x1x128))
    shapeCasts_S1x2048x1x128_S2048x128

/-- The kernel's sine table: the negated sines over the first half of a head, the sines over the second. -/
def SIN : FVec Ideal S2048x128 .f32 :=
  addf
  (shapeCast S2048x128 (broadcastInDim S1x2048x1x128 ![0, 1, 2, 3] bcast_S1x2048x1x128_S1x2048x1x128_0_1_2_3
    (shapeCast S1x2048x1x128 (concatenate S2048x128 1
      [⟨S2048x64, Host.negf (Host.sin ANG)⟩,
       ⟨S2048x64, broadcastInDim S2048x64 ![] bcast_S_S2048x64 (constant S_ .f32 0x00000000#32)⟩]
      concatenates_S2048x64_S2048x64_S2048x128_d1) shapeCasts_S2048x128_S1x2048x1x128))
    shapeCasts_S1x2048x1x128_S2048x128)
  (shapeCast S2048x128 (broadcastInDim S1x2048x1x128 ![0, 1, 2, 3] bcast_S1x2048x1x128_S1x2048x1x128_0_1_2_3
    (shapeCast S1x2048x1x128 (concatenate S2048x128 1
      [⟨S2048x64, broadcastInDim S2048x64 ![] bcast_S_S2048x64 (constant S_ .f32 0x00000000#32)⟩,
       ⟨S2048x64, Host.sin ANG⟩,
       ⟨S2048x0, broadcastInDim S2048x0 ![] bcast_S_S2048x0 (constant S_ .f32 0x00000000#32)⟩]
      concatenates_S2048x64_S2048x64_S2048x0_S2048x128_d1) shapeCasts_S2048x128_S1x2048x1x128))
    shapeCasts_S1x2048x1x128_S2048x128)

set_option maxHeartbeats 1000000 in
/-- The cosines where the cosine table is put together. -/
theorem up_13 : (upto (hostOps0 ++ (hostOps0_1 ++ hostOps0_2)) (fun b => m (c, b)) 19 (Proc.devRef .tc main_v13) : FVec Ideal S2048x64 .f32) = Host.cos ANG := by
  after_reads_simp
  rfl

set_option maxHeartbeats 1000000 in
/-- The empty third part of the cosine table. -/
theorem up_15 : (upto (hostOps0 ++ (hostOps0_1 ++ hostOps0_2)) (fun b => m (c, b)) 19 (Proc.devRef .tc main_v15) : FVec Ideal S2048x0 .f32) = broadcastInDim S2048x0 ![] bcast_S_S2048x0 (constant (F := Ideal) S_ .f32 0x3F800000#32) := by
  after_reads_simp

set_option maxHeartbeats 1000000 in
/-- The negated sines where the first sine table is put together. -/
theorem up_17 : (upto (hostOps0 ++ (hostOps0_1 ++ hostOps0_2)) (fun b => m (c, b)) 23 (Proc.devRef .tc main_v17) : FVec Ideal S2048x64 .f32) = Host.negf (Host.sin ANG) := by
  after_reads_simp
  rfl

set_option maxHeartbeats 1000000 in
/-- The zeros of the first sine table. -/
theorem up_18 : (upto (hostOps0 ++ (hostOps0_1 ++ hostOps0_2)) (fun b => m (c, b)) 23 (Proc.devRef .tc main_v18) : FVec Ideal S2048x64 .f32) = broadcastInDim S2048x64 ![] bcast_S_S2048x64 (constant (F := Ideal) S_ .f32 0x00000000#32) := by
  after_reads_simp

set_option maxHeartbeats 1000000 in
/-- The zeros of the second sine table. -/
theorem up_20 : (upto (hostOps0 ++ (hostOps0_1 ++ hostOps0_2)) (fun b => m (c, b)) 28 (Proc.devRef .tc main_v20) : FVec Ideal S2048x64 .f32) = broadcastInDim S2048x64 ![] bcast_S_S2048x64 (constant (F := Ideal) S_ .f32 0x00000000#32) := by
  after_reads_simp

set_option maxHeartbeats 1000000 in
/-- The sines where the second sine table is put together. -/
theorem up_14 : (upto (hostOps0 ++ (hostOps0_1 ++ hostOps0_2)) (fun b => m (c, b)) 28 (Proc.devRef .tc main_v14) : FVec Ideal S2048x64 .f32) = Host.sin ANG := by
  after_reads_simp
  rfl

set_option maxHeartbeats 1000000 in
/-- The empty third part of the second sine table. -/
theorem up_21 : (upto (hostOps0 ++ (hostOps0_1 ++ hostOps0_2)) (fun b => m (c, b)) 28 (Proc.devRef .tc main_v21) : FVec Ideal S2048x0 .f32) = broadcastInDim S2048x0 ![] bcast_S_S2048x0 (constant (F := Ideal) S_ .f32 0x00000000#32) := by
  after_reads_simp

set_option maxHeartbeats 1000000 in
/-- The cosine table. -/
theorem V_cos : V m c main_v25 = COS := by
  simp only [V, List.flatten_cons, List.flatten_nil, List.append_nil, afterL_cons, afterL_nil]
  after_reads_simp
  show shapeCast S2048x128 (broadcastInDim S1x2048x1x128 ![0, 1, 2, 3] bcast_S1x2048x1x128_S1x2048x1x128_0_1_2_3
    (shapeCast S1x2048x1x128 (concatenate S2048x128 1
      [⟨S2048x64, (upto (hostOps0 ++ (hostOps0_1 ++ hostOps0_2)) (fun b => m (c, b)) 19 (Proc.devRef .tc main_v13) : FVec Ideal S2048x64 .f32)⟩,
       ⟨S2048x64, (upto (hostOps0 ++ (hostOps0_1 ++ hostOps0_2)) (fun b => m (c, b)) 19 (Proc.devRef .tc main_v13) : FVec Ideal S2048x64 .f32)⟩,
       ⟨S2048x0, (upto (hostOps0 ++ (hostOps0_1 ++ hostOps0_2)) (fun b => m (c, b)) 19 (Proc.devRef .tc main_v15) : FVec Ideal S2048x0 .f32)⟩]
      concatenates_S2048x64_S2048x64_S2048x0_S2048x128_d1) shapeCasts_S2048x128_S1x2048x1x128))
    shapeCasts_S1x2048x1x128_S2048x128 = COS
  rw [up_13, up_15]
  rfl

set_option maxHeartbeats 1000000 in
/-- The sine table. -/
theorem V_sin : V m c main_v32 = SIN := by
  simp only [V, List.flatten_cons, List.flatten_nil, List.append_nil, afterL_cons, afterL_nil]
  after_reads_simp
  show addf
    (shapeCast S2048x128 (broadcastInDim S1x2048x1x128 ![0, 1, 2, 3] bcast_S1x2048x1x128_S1x2048x1x128_0_1_2_3
    (shapeCast S1x2048x1x128 (concatenate S2048x128 1
      [⟨S2048x64, (upto (hostOps0 ++ (hostOps0_1 ++ hostOps0_2)) (fun b => m (c, b)) 23 (Proc.devRef .tc main_v17) : FVec Ideal S2048x64 .f32)⟩,
       ⟨S2048x64, (upto (hostOps0 ++ (hostOps0_1 ++ hostOps0_2)) (fun b => m (c, b)) 23 (Proc.devRef .tc main_v18) : FVec Ideal S2048x64 .f32)⟩]
      concatenates_S2048x64_S2048x64_S2048x128_d1) shapeCasts_S2048x128_S1x2048x1x128))
    shapeCasts_S1x2048x1x128_S2048x128)
    (shapeCast S2048x128 (broadcastInDim S1x2048x1x128 ![0, 1, 2, 3] bcast_S1x2048x1x128_S1x2048x1x128_0_1_2_3
    (shapeCast S1x2048x1x128 (concatenate S2048x128 1
      [⟨S2048x64, (upto (hostOps0 ++ (hostOps0_1 ++ hostOps0_2)) (fun b => m (c, b)) 28 (Proc.devRef .tc main_v20) : FVec Ideal S2048x64 .f32)⟩,
       ⟨S2048x64, (upto (hostOps0 ++ (hostOps0_1 ++ hostOps0_2)) (fun b => m (c, b)) 28 (Proc.devRef .tc main_v14) : FVec Ideal S2048x64 .f32)⟩,
       ⟨S2048x0, (upto (hostOps0 ++ (hostOps0_1 ++ hostOps0_2)) (fun b => m (c, b)) 28 (Proc.devRef .tc main_v21) : FVec Ideal S2048x0 .f32)⟩]
      concatenates_S2048x64_S2048x64_S2048x0_S2048x128_d1) shapeCasts_S2048x128_S1x2048x1x128))
    shapeCasts_S1x2048x1x128_S2048x128) = SIN
  rw [up_17, up_18, up_20, up_14, up_21]
  rfl

/-- One entry of the cosine table. -/
theorem COS_at (s : Fin 2048) (e : Fin 128) :
    COS (ix2 s e) = Host.cos ANG (ix2 s ⟨e.val % 64, by omega⟩) := by
  pointwise [COS]
  have he := e.isLt
  by_cases h : e.val < 64
  · rw [dif_pos h]
    exact congrArg (fun k => Ideal.cos (ANG (ix2 s k))) (Fin.ext (Nat.mod_eq_of_lt h).symm)
  · rw [dif_neg h, dif_pos (by omega)]
    exact congrArg (fun k => Ideal.cos (ANG (ix2 s k))) (Fin.ext (by show e.val - 64 = e.val % 64; omega))

/-- One entry of the sine table. -/
theorem SIN_at (s : Fin 2048) (e : Fin 128) :
    SIN (ix2 s e) = if e.val < 64 then -(Host.sin ANG (ix2 s ⟨e.val % 64, by omega⟩)) else Host.sin ANG (ix2 s ⟨e.val % 64, by omega⟩) := by
  pointwise [SIN]
  have he := e.isLt
  by_cases h : e.val < 64
  · rw [dif_pos h, dif_pos h, if_pos h, add_zero]
    exact congrArg (fun k => -Ideal.sin (ANG (ix2 s k))) (Fin.ext (Nat.mod_eq_of_lt h).symm)
  · rw [dif_neg h, dif_neg h, if_neg h, dif_pos (by omega), zero_add]
    exact congrArg (fun k => Ideal.sin (ANG (ix2 s k))) (Fin.ext (by show e.val - 64 = e.val % 64; omega))

end Cert.Proof.RetCos

end
-- ==== Proof.RetScan.lean ====
/- The reference's scan over the sixteen chunks, read at one batch and one head: the state after `n` chunks
   and the rows of chunk `n`, by induction on the number of chunks. -/
module

public import proofs.«01_k».proof.Proof.RetTab
public import Idealize.ShloMosaic.Lib.WordCmp

@[expose] public section

set_option maxRecDepth 16384

noncomputable section

open Idealize.ShloMosaic Idealize.ShloMosaic.TcCoe Idealize.SL.Sem
open Idealize.ShloMosaic.StableHlo

namespace Cert.Proof.RetScan

open Cert.RetRefIdeal Cert.RetRefIdeal.Gen Cert.RetRefIdeal.Value Cert.Proof.RetTab

/-- The retention's state of one head after `n` chunks with keys `K`, values `W`, row factors `ze` and decay `gc`. -/
def ST (K W : ℕ → Fin 128 → Fin 128 → EReal) (ze : Fin 128 → EReal) (gc : EReal) : ℕ → Fin 128 → Fin 128 → EReal
  | 0 => fun _ _ => 0
  | n + 1 => fun d e => ST K W ze gc n d e * gc + ∑ j : Fin 128, (K n j d * ze j) * W n j e

/-- The rows of one chunk of one head: the decayed attention inside the chunk plus what the state `R` gives. -/
def OUT (Q K W : Fin 128 → Fin 128 → EReal) (D : Fin 128 → Fin 128 → EReal) (xi : Fin 128 → EReal)
    (R : Fin 128 → Fin 128 → EReal) (i e : Fin 128) : EReal :=
  (∑ j : Fin 128, ((∑ d : Fin 128, Q i d * K j d) * D i j) * W j e) + (∑ d : Fin 128, Q i d * R d e) * xi i

/-- Chunk `n` of one batch and head. -/
def at5 (X : FVec Ideal S16x4x4x128x128 .f32) (b h : Fin 4) (n : ℕ) (i d : Fin 128) : EReal :=
  X (ix5 ⟨n % 16, Nat.mod_lt _ (by decide)⟩ b h i d)

/-- The state of a batch and a head of the reference after `n` chunks. -/
def STATE (z : FVec Ideal S8192x7680 .f32) (b h : Fin 4) (n : ℕ) : Fin 128 → Fin 128 → EReal :=
  ST (at5 (KC z) b h) (at5 (VC z) b h) (fun j => ZETA (ix3 h j 0)) (GC (ix3 h 0 0)) n

/-- The rows of chunk `n` of a batch and a head of the reference. -/
def ROWS (z : FVec Ideal S8192x7680 .f32) (b h : Fin 4) (n : ℕ) (i e : Fin 128) : EReal :=
  OUT (at5 (QC z) b h n) (at5 (KC z) b h n) (at5 (VC z) b h n) (fun i j => DEC (ix3 h i j)) (fun i => XI (ix3 h i 0))
    (STATE z b h n) i e

/-- The counter of trip `k` as an integer. -/
theorem ctr_int : ∀ k : Fin 16, (Scf.iv 0#32 1#32 k.val).toInt = (k.val : Int) := by decide

/-- The slice at the counter is the chunk. -/
theorem chunk_at (X : FVec Ideal S16x4x4x128x128 .f32) (k : ℕ) (hk : k < 16) (b h : Fin 4) (i d : Fin 128) :
    shapeCast S4x4x128x128 (Host.dynamicSlice S1x4x4x128x128 X
      (fun a => (((![(fun _ => Scf.iv 0#32 1#32 k), constantI S_ 32 0#32, constantI S_ 32 0#32, constantI S_ 32 0#32,
        constantI S_ 32 0#32] : Fin 5 → (⟨S_, .i32⟩ : BufTy).Contents (Elt Ideal))) a (Shape.Idx.first h_S_)).toInt)
      sliceFits_S16x4x4x128x128_S1x4x4x128x128) shapeCasts_S1x4x4x128x128_S4x4x128x128 (ix4 b h i d) = at5 X b h k i d := by
  rw [WordCmp.dynamicSlice_eq_extract S1x4x4x128x128 X _ _ (![k, 0, 0, 0, 0])
    ⟨rfl, fun a => by fin_cases a <;> simp [S16x4x4x128x128, S1x4x4x128x128] <;> omega⟩
    (fun a => by
      fin_cases a
      · exact ctr_int ⟨k, hk⟩
      all_goals rfl)]
  unfold at5
  pointwise []
  exact congrArg (fun n => X (ix5 n b h i d)) (Fin.ext (Nat.mod_eq_of_lt hk).symm)

/-- The new state of one trip, at an index. -/
theorem state_step (R : FVec Ideal S4x4x128x128 .f32) (G : FVec Ideal S4x1x1 .f32) (Ze : FVec Ideal S4x128x1 .f32)
    (K W : FVec Ideal S4x4x128x128 .f32) (b h : Fin 4) (d e : Fin 128) :
    addf (mulf R (broadcastInDim S4x4x128x128 ![0, 1, 2, 3] bcast_S1x4x1x1_S4x4x128x128_0_1_2_3
        (broadcastInDim S1x4x1x1 ![1, 2, 3] bcast_S4x1x1_S1x4x1x1_1_2_3 G)))
      (Host.dotGeneral dot_S4x4x128x128_S4x4x128x128_S4x4x128x128_2_2_3_3_01_01 none
        (mulf K (broadcastInDim S4x4x128x128 ![0, 1, 2, 3] bcast_S1x4x128x1_S4x4x128x128_0_1_2_3
          (broadcastInDim S1x4x128x1 ![1, 2, 3] bcast_S4x128x1_S1x4x128x1_1_2_3 Ze))) W) (ix4 b h d e)
    = R (ix4 b h d e) * G (ix3 h 0 0)
      + ∑ j : Fin 128, (K (ix4 b h j d) * Ze (ix3 h j 0)) * W (ix4 b h j e) := by
  pointwise [dot_S4x4x128x128_S4x4x128x128_S4x4x128x128_2_2_3_3_01_01]

/-- The rows of one trip, at an index. -/
theorem rows_step (Q K W R : FVec Ideal S4x4x128x128 .f32) (D : FVec Ideal S4x128x128 .f32) (X : FVec Ideal S4x128x1 .f32)
    (b h : Fin 4) (i e : Fin 128) :
    addf (Host.dotGeneral dot_S4x4x128x128_S4x4x128x128_S4x4x128x128_3_2_2_3_01_01 none
        (mulf (Host.dotGeneral dot_S4x4x128x128_S4x4x128x128_S4x4x128x128_3_3_2_2_01_01 none Q K)
          (broadcastInDim S4x4x128x128 ![0, 1, 2, 3] bcast_S1x4x128x128_S4x4x128x128_0_1_2_3
            (broadcastInDim S1x4x128x128 ![1, 2, 3] bcast_S4x128x128_S1x4x128x128_1_2_3 D))) W)
      (mulf (Host.dotGeneral dot_S4x4x128x128_S4x4x128x128_S4x4x128x128_3_2_2_3_01_01 none Q R)
        (broadcastInDim S4x4x128x128 ![0, 1, 2, 3] bcast_S1x4x128x1_S4x4x128x128_0_1_2_3
          (broadcastInDim S1x4x128x1 ![1, 2, 3] bcast_S4x128x1_S1x4x128x1_1_2_3 X))) (ix4 b h i e)
    = OUT (fun i d => Q (ix4 b h i d)) (fun j d => K (ix4 b h j d)) (fun j e => W (ix4 b h j e)) (fun i j => D (ix3 h i j))
        (fun i => X (ix3 h i 0)) (fun d e => R (ix4 b h d e)) i e := by
  unfold OUT
  pointwise [dot_S4x4x128x128_S4x4x128x128_S4x4x128x128_3_2_2_3_01_01, dot_S4x4x128x128_S4x4x128x128_S4x4x128x128_3_3_2_2_01_01]

/-- The stack of rows after trip `k`'s block is written: the block at chunk `k`, what was there before elsewhere. -/
theorem stack_step (O : FVec Ideal S16x4x4x128x128 .f32) (Y : FVec Ideal S4x4x128x128 .f32) (k : ℕ) (hk : k < 16)
    (n : Fin 16) (b h : Fin 4) (i e : Fin 128) :
    Host.dynamicUpdateSlice O (broadcastInDim S1x4x4x128x128 ![1, 2, 3, 4] bcast_S4x4x128x128_S1x4x4x128x128_1_2_3_4 Y)
      (fun a => (((![(fun _ => Scf.iv 0#32 1#32 k), constantI S_ 32 0#32, constantI S_ 32 0#32, constantI S_ 32 0#32,
        constantI S_ 32 0#32] : Fin 5 → (⟨S_, .i32⟩ : BufTy).Contents (Elt Ideal))) a (Shape.Idx.first h_S_)).toInt)
      updateFits_S16x4x4x128x128_S1x4x4x128x128 (ix5 n b h i e)
    = if n.val = k then Y (ix4 b h i e) else O (ix5 n b h i e) := by
  refine (congrFun (WordCmp.dynamicUpdateSlice_eq_update (s := S16x4x4x128x128) (u := S1x4x4x128x128) O _ _ _ (![k, 0, 0, 0, 0])
    ⟨rfl, fun a => by fin_cases a <;> simp [S16x4x4x128x128, S1x4x4x128x128] <;> omega⟩
    (fun a => by
      fin_cases a
      · exact ctr_int ⟨k, hk⟩
      all_goals rfl)) _).trans ?_
  pointwise []
  by_cases hnk : n.val = k
  · rw [if_pos hnk, dif_pos ⟨by omega, by omega⟩]
  · rw [if_neg hnk, dif_neg (by omega)]

variable (m : (ℓ : Loc nD τ sig) → Buf (Elt Ideal) ℓ) (c : Dev nD)

/-- The carried buffers before trip `k`. -/
def AT (k : ℕ) : Valuation τ sig (Elt Ideal) := STEP^[k] (entryContents preI m c)

/-- One more trip is one more step. -/
theorem AT_succ (k : ℕ) : AT m c (k + 1) = STEP (AT m c k) := Function.iterate_succ_apply' _ _ _

/-- The counter before trip `k`. -/
theorem at_ctr (k : ℕ) : AT m c k (Proc.devRef .tc main_v135_7) = fun _ => Scf.iv 0#32 1#32 k :=
  (atK_agree m c k main_v135_7 (by decide)).symm.trans (atK_ctr m c k)

/-- The queries' chunks stay. -/
theorem at_q : ∀ k, AT m c k (Proc.devRef .tc main_v135_0) = QC (Z m c)
  | 0 => entry_q m c
  | k + 1 => by rw [AT_succ, STEP_main_v135_0]; exact at_q k
/-- The keys' chunks stay. -/
theorem at_k : ∀ k, AT m c k (Proc.devRef .tc main_v135_1) = KC (Z m c)
  | 0 => entry_k m c
  | k + 1 => by rw [AT_succ, STEP_main_v135_1]; exact at_k k
/-- The values' chunks stay. -/
theorem at_v : ∀ k, AT m c k (Proc.devRef .tc main_v135_2) = VC (Z m c)
  | 0 => entry_v m c
  | k + 1 => by rw [AT_succ, STEP_main_v135_2]; exact at_v k
/-- The decay matrix stays. -/
theorem at_dec : ∀ k, AT m c k (Proc.devRef .tc main_v135_3) = DEC
  | 0 => entry_dec m c
  | k + 1 => by rw [AT_succ, STEP_main_v135_3]; exact at_dec k
/-- The factors of the carried state stay. -/
theorem at_xi : ∀ k, AT m c k (Proc.devRef .tc main_v135_4) = XI
  | 0 => entry_xi m c
  | k + 1 => by rw [AT_succ, STEP_main_v135_4]; exact at_xi k
/-- The state's decay stays. -/
theorem at_gc : ∀ k, AT m c k (Proc.devRef .tc main_v135_5) = GC
  | 0 => entry_gc m c
  | k + 1 => by rw [AT_succ, STEP_main_v135_5]; exact at_gc k
/-- The factors of the rows stay. -/
theorem at_zeta : ∀ k, AT m c k (Proc.devRef .tc main_v135_6) = ZETA
  | 0 => entry_zeta m c
  | k + 1 => by rw [AT_succ, STEP_main_v135_6]; exact at_zeta k

/-- The queries' chunk that trip `k` reads. -/
theorem trip_q (k : ℕ) (hk : k < 16) (b h : Fin 4) (i d : Fin 128) :
    (res_main_while0b_v165 (AT m c k) : FVec Ideal S4x4x128x128 .f32) (ix4 b h i d) = at5 (QC (Z m c)) b h k i d := by
  rw [res_main_while0b_v165, at_q, at_ctr]
  exact chunk_at _ k hk b h i d
/-- The keys' chunk that trip `k` reads. -/
theorem trip_k (k : ℕ) (hk : k < 16) (b h : Fin 4) (i d : Fin 128) :
    (res_main_while0b_v166 (AT m c k) : FVec Ideal S4x4x128x128 .f32) (ix4 b h i d) = at5 (KC (Z m c)) b h k i d := by
  rw [res_main_while0b_v166, at_k, at_ctr]
  exact chunk_at _ k hk b h i d
/-- The values' chunk that trip `k` reads. -/
theorem trip_v (k : ℕ) (hk : k < 16) (b h : Fin 4) (i d : Fin 128) :
    (res_main_while0b_v167 (AT m c k) : FVec Ideal S4x4x128x128 .f32) (ix4 b h i d) = at5 (VC (Z m c)) b h k i d := by
  rw [res_main_while0b_v167, at_v, at_ctr]
  exact chunk_at _ k hk b h i d

/-- The state before trip `k`. -/
theorem at_state : ∀ k, k ≤ 16 → ∀ (b h : Fin 4) (d e : Fin 128),
    (AT m c k (Proc.devRef .tc main_v135_8) : FVec Ideal S4x4x128x128 .f32) (ix4 b h d e) = STATE (Z m c) b h k d e
  | 0, _, b, h, d, e => by
    rw [show AT m c 0 = entryContents preI m c from rfl, entry_st]
    unfold STATE ST
    pointwise []
  | k + 1, hk, b, h, d, e => by
    rw [AT_succ, STEP_main_v135_8, step_main_v135_8, at_gc, at_zeta]
    refine (state_step _ _ _ _ _ b h d e).trans ?_
    rw [at_state k (by omega)]
    refine congrArg₂ (· + ·) rfl (Finset.sum_congr rfl fun j _ => ?_)
    rw [trip_k m c k (by omega), trip_v m c k (by omega)]

/-- The stack of rows before trip `k` holds the rows of the chunks before it. -/
theorem at_rows : ∀ k, k ≤ 16 → ∀ (n : Fin 16) (_ : n.val < k) (b h : Fin 4) (i e : Fin 128),
    (AT m c k (Proc.devRef .tc main_v135_9) : FVec Ideal S16x4x4x128x128 .f32) (ix5 n b h i e)
      = ROWS (Z m c) b h n.val i e
  | 0, _, n, hn, _, _, _, _ => absurd hn (Nat.not_lt_zero _)
  | k + 1, hk, n, hn, b, h, i, e => by
    rw [AT_succ, STEP_main_v135_9, step_main_v135_9, at_ctr, at_dec, at_xi]
    refine (stack_step _ _ k (by omega) n b h i e).trans ?_
    by_cases hnk : n.val = k
    · rw [if_pos hnk, rows_step, hnk]
      unfold ROWS
      simp only [trip_q m c k (by omega), trip_k m c k (by omega), trip_v m c k (by omega), at_state m c k (by omega)]
    · rw [if_neg hnk]
      exact at_rows k (by omega) n (by omega) b h i e

end Cert.Proof.RetScan

end

end
-- ==== Proof.RetRef.lean ====
/- The reference of the retention run to its end: its two results are the rows of the sixteen chunks after the
   head norm and the gate, and the state after the sixteenth chunk. -/
module

public import proofs.«01_k».proof.Proof.RetScan

@[expose] public section

set_option maxRecDepth 16384

noncomputable section

open Idealize.ShloMosaic Idealize.ShloMosaic.TcCoe Idealize.SL.Sem
open Idealize.ShloMosaic.StableHlo

namespace Cert.Proof.RetRef

open Cert.RetRefIdeal Cert.RetRefIdeal.Gen Cert.RetRefIdeal.Value Cert.Proof.RetTab Cert.Proof.RetScan

/-- The chunks put back into rows. -/
def UNCHUNK (o : FVec Ideal S16x4x4x128x128 .f32) : FVec Ideal S4x2048x4x128 .f32 :=
  shapeCast S4x2048x4x128 (transpose S4x16x128x4x128 [1, 0, 3, 2, 4] o
    transposes_S16x4x4x128x128_S4x16x128x4x128_1_0_3_2_4) shapeCasts_S4x16x128x4x128_S4x2048x4x128

/-- The mean over a head's 128 columns. -/
def HMEAN (x : FVec Ideal S4x2048x4x128 .f32) : FVec Ideal S4x2048x4x1 .f32 :=
  Host.divf (broadcastInDim S4x2048x4x1 ![0, 1, 2] bcast_S4x2048x4_S4x2048x4x1_0_1_2
      (Host.reduceAdd x (constant S_ .f32 0x00000000#32) reducesTo_S4x2048x4x128_S4x2048x4_d3 h_S_))
    (broadcastInDim S4x2048x4x1 ![] bcast_S_S4x2048x4x1 (constant S_ .f32 0x43000000#32))

/-- A head's columns less their mean. -/
def HCEN (x : FVec Ideal S4x2048x4x128 .f32) : FVec Ideal S4x2048x4x128 .f32 :=
  subf x (broadcastInDim S4x2048x4x128 ![0, 1, 2, 3] bcast_S4x2048x4x1_S4x2048x4x128_0_1_2_3 (HMEAN x))

/-- The head norm with its weights. -/
def HNORM (x : FVec Ideal S4x2048x4x128 .f32) (g : FVec Ideal S512 .f32) : FVec Ideal S4x2048x4x128 .f32 :=
  mulf (mulf (HCEN x) (broadcastInDim S4x2048x4x128 ![0, 1, 2, 3] bcast_S4x2048x4x1_S4x2048x4x128_0_1_2_3
      (Host.rsqrt (addf (HMEAN (mulf (HCEN x) (HCEN x)))
        (broadcastInDim S4x2048x4x1 ![] bcast_S_S4x2048x4x1 (constant S_ .f32 0x3727C5AC#32))))))
    (broadcastInDim S4x2048x4x128 ![0, 1, 2, 3] bcast_S1x1x4x128_S4x2048x4x128_0_1_2_3
      (broadcastInDim S1x1x4x128 ![2, 3] bcast_S4x128_S1x1x4x128_2_3 (shapeCast S4x128 g shapeCasts_S512_S4x128)))

/-- The gate `x / (1 + exp (-x))`. -/
def SILU (x : FVec Ideal S4x2048x512 .f32) : FVec Ideal S4x2048x512 .f32 :=
  mulf x (Host.divf (broadcastInDim S4x2048x512 ![] bcast_S_S4x2048x512 (constant S_ .f32 0x3F800000#32))
    (addf (broadcastInDim S4x2048x512 ![] bcast_S_S4x2048x512 (constant S_ .f32 0x3F800000#32)) (Host.exp (Host.negf x))))

/-- The gate's band of the projected rows. -/
def GATE (z : FVec Ideal S8192x7680 .f32) : FVec Ideal S4x2048x512 .f32 :=
  shapeCast S4x2048x512 (extractStridedSlice S8192x512 ![0, 1536] z slices_S8192x7680_S8192x512_0_1536)
    shapeCasts_S8192x512_S4x2048x512

/-- The first result, of the gate's band, the stack of chunks and the norm's weights. -/
def RES (v : FVec Ideal S4x2048x512 .f32) (o : FVec Ideal S16x4x4x128x128 .f32) (g : FVec Ideal S512 .f32) :
    FVec Ideal S8192x512 .bf16 :=
  truncf .bf16 (shapeCast S8192x512 (mulf (shapeCast S4x2048x512 (HNORM (UNCHUNK o) g) shapeCasts_S4x2048x4x128_S4x2048x512)
    (SILU v)) shapeCasts_S4x2048x512_S8192x512) bitsLt_bf16_f32

set_option maxHeartbeats 1000000 in
/-- The operations after the scan give the first result. -/
theorem post_rows (V : Valuation τ sig (Elt Ideal)) : afterL postI V (Proc.devRef .tc main_v164)
    = RES (V (Proc.devRef .tc main_v8)) (V (Proc.devRef .tc main_v135_9)) (V (Proc.devRef .tc main_arg1)) := by
  simp only [postI, afterL_cons, afterL_nil]
  after_reads_simp
  rfl
/-- They leave the state. -/
theorem post_state (V : Valuation τ sig (Elt Ideal)) : afterL postI V (Proc.devRef .tc main_v135_8)
    = V (Proc.devRef .tc main_v135_8) := by
  simp only [postI, afterL_cons, afterL_nil]
  after_reads_simp
/-- They leave the first argument. -/
theorem post_arg0 (V : Valuation τ sig (Elt Ideal)) : afterL postI V (Proc.devRef .tc main_arg0)
    = V (Proc.devRef .tc main_arg0) := by
  simp only [postI, afterL_cons, afterL_nil]
  after_reads_simp
/-- They leave the second argument. -/
theorem post_arg1 (V : Valuation τ sig (Elt Ideal)) : afterL postI V (Proc.devRef .tc main_arg1)
    = V (Proc.devRef .tc main_arg1) := by
  simp only [postI, afterL_cons, afterL_nil]
  after_reads_simp

variable (m : (ℓ : Loc nD τ sig) → Buf (Elt Ideal) ℓ) (c : Dev nD)

/-- A buffer that neither the scan's condition nor its body writes is as at the scan's start. -/
theorem loop_keeps (r : Ref sig .tc)
    (h : r ∉ condOps_W ++ while0Ops0_W ++ while0Ops0_1_W ++ while0Ops0_2_W ++ while0Ops0_3_W ++ while0Ops0_4_W ++ while0Ops0_5_W) :
    ∀ k, atK m k c (Proc.devRef .tc r) = entryContents preI m c (Proc.devRef .tc r)
  | 0 => rfl
  | k + 1 => by
    simp only [List.mem_append, not_or] at h
    obtain ⟨⟨⟨⟨⟨⟨h0, h1⟩, h2⟩, h3⟩, h4⟩, h5⟩, h6⟩ := h
    rw [show atK m (k + 1) c = afterL bodyI (after condOps (atK m k c)) from rfl]
    simp only [bodyI, afterL_cons, afterL_nil]
    rw [after_of_writes_sub _ _ while0Ops0_5_writes (by simpa using h6), after_of_writes_sub _ _ while0Ops0_4_writes (by simpa using h5),
      after_of_writes_sub _ _ while0Ops0_3_writes (by simpa using h4), after_of_writes_sub _ _ while0Ops0_2_writes (by simpa using h3),
      after_of_writes_sub _ _ while0Ops0_1_writes (by simpa using h2), after_of_writes_sub _ _ while0Ops0_writes (by simpa using h1),
      after_of_writes_sub _ _ condOps_writes (by simpa using h0)]
    exact loop_keeps r (by simp only [List.mem_append, not_or]; exact ⟨⟨⟨⟨⟨⟨h0, h1⟩, h2⟩, h3⟩, h4⟩, h5⟩, h6⟩) k

/-- The gate's band at the scan's start. -/
theorem entry_gate : entryContents preI m c (Proc.devRef .tc main_v8) = GATE (Z m c) := by
  simp only [entryContents, preI, afterL_cons, afterL_nil]
  after_reads_simp
  rfl
/-- The first argument at the scan's start. -/
theorem entry_arg0 : entryContents preI m c (Proc.devRef .tc main_arg0) = m ((c.tc : Thread nD τ).loc main_arg0) := by
  simp only [entryContents, preI, afterL_cons, afterL_nil]
  after_reads_simp
/-- The second argument at the scan's start. -/
theorem entry_arg1 : entryContents preI m c (Proc.devRef .tc main_arg1) = m ((c.tc : Thread nD τ).loc main_arg1) := by
  simp only [entryContents, preI, afterL_cons, afterL_nil]
  after_reads_simp

/-- The stack of all chunks' rows. -/
def STACK (z : FVec Ideal S8192x7680 .f32) : FVec Ideal S16x4x4x128x128 .f32 :=
  fun y => ROWS z (y 1) (y 2) (y 0).val (y 3) (y 4)

/-- The final states of all batches and heads. -/
def STATES (z : FVec Ideal S8192x7680 .f32) : FVec Ideal S4x4x128x128 .f32 :=
  fun y => STATE z (y 0) (y 1) 16 (y 2) (y 3)

/-- The scan ends with the stack of all chunks' rows. -/
theorem end_rows : atK m 16 c (Proc.devRef .tc main_v135_9) = STACK (Z m c) := by
  rw [atK_agree m c 16 main_v135_9 (by decide)]
  funext y
  obtain ⟨n, b, h, i, e, rfl⟩ : ∃ (n : Fin 16) (b h : Fin 4) (i e : Fin 128), y = ix5 n b h i e :=
    ⟨y 0, y 1, y 2, y 3, y 4, eq_ix5 y⟩
  exact at_rows m c 16 le_rfl n n.isLt b h i e

/-- The scan ends with the states after sixteen chunks. -/
theorem end_state : atK m 16 c (Proc.devRef .tc main_v135_8) = STATES (Z m c) := by
  rw [atK_agree m c 16 main_v135_8 (by decide)]
  funext y
  obtain ⟨b, h, i, e, rfl⟩ : ∃ (b h : Fin 4) (i e : Fin 128), y = ix4 b h i e := ⟨y 0, y 1, y 2, y 3, eq_ix4 y⟩
  exact at_state m c 16 le_rfl b h i e

/-- Every run of the reference ends with its two results as stated and its arguments unchanged. -/
theorem run (ρ : Dev nD → PrngReg) : θ_run (defs (F := Ideal)) (onTc (τ := τ) (main (F := Ideal))) ⟨m, fun _ => 0, ρ⟩
    (fun r => ∀ c : Dev nD,
      r.2.mem ((c.tc : Thread nD τ).loc main_v164)
        = RES (GATE (m ((c.tc : Thread nD τ).loc main_arg0))) (STACK (m ((c.tc : Thread nD τ).loc main_arg0)))
            (m ((c.tc : Thread nD τ).loc main_arg1))
      ∧ r.2.mem ((c.tc : Thread nD τ).loc main_v135_8) = STATES (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ?_) (run_fold m ρ)
  have keep : ∀ r : Ref sig .tc, r ∉ condOps_W →
      after condOps (atK m 16 c) (Proc.devRef .tc r) = atK m 16 c (Proc.devRef .tc r) :=
    fun r hr => after_of_writes_sub _ _ condOps_writes hr
  refine ⟨?_, ?_, ?_, ?_⟩
  · exact (h c main_v164 rfl).trans ((post_rows _).trans (congr (congrArg₂ RES
      ((keep main_v8 (by decide)).trans ((loop_keeps m c main_v8 (by decide) 16).trans (entry_gate m c)))
      ((keep main_v135_9 (by decide)).trans (end_rows m c)))
      ((keep main_arg1 (by decide)).trans ((loop_keeps m c main_arg1 (by decide) 16).trans (entry_arg1 m c)))))
  · exact (h c main_v135_8 rfl).trans ((post_state _).trans ((keep main_v135_8 (by decide)).trans (end_state m c)))
  · exact (h c main_arg0 rfl).trans ((post_arg0 _).trans
      ((keep main_arg0 (by decide)).trans ((loop_keeps m c main_arg0 (by decide) 16).trans (entry_arg0 m c))))
  · exact (h c main_arg1 rfl).trans ((post_arg1 _).trans
      ((keep main_arg1 (by decide)).trans ((loop_keeps m c main_arg1 (by decide) 16).trans (entry_arg1 m c))))

/-- The mean of 128 numbers. -/
def avg (x : Fin 128 → EReal) : EReal :=
  Ideal.div (∑ e : Fin 128, x e) (Ideal.ofBits .f32 0x43000000#32)

/-- The norm of one row of a head before its weights. -/
def hnorm (x : Fin 128 → EReal) (e : Fin 128) : EReal :=
  (x e - avg x) * Ideal.rsqrt (avg (fun e => (x e - avg x) * (x e - avg x)) + Ideal.ofBits .f32 0x3727C5AC#32)

/-- One number gated by another. -/
def gated (x g : EReal) : EReal := x * (g * Ideal.div 1 (1 + Ideal.exp (-g)))

/-- The chunks put back into rows, at an index. -/
theorem UNCHUNK_at (o : FVec Ideal S16x4x4x128x128 .f32) (b h : Fin 4) (n : Fin 16) (i e : Fin 128) :
    UNCHUNK o (ix4 b ⟨128 * n.val + i.val, by have := n.isLt; have := i.isLt; omega⟩ h e) = o (ix5 n b h i e) := by
  unfold UNCHUNK
  pointwise []

/-- The head's mean at an index. -/
theorem HMEAN_at (x : FVec Ideal S4x2048x4x128 .f32) (b h : Fin 4) (s : Fin 2048) :
    HMEAN x (ix4 b s h 0) = avg (fun e => x (ix4 b s h e)) := by
  unfold HMEAN avg
  pointwise []

/-- The head norm at an index. -/
theorem HNORM_at (x : FVec Ideal S4x2048x4x128 .f32) (g : FVec Ideal S512 .f32) (b h : Fin 4) (s : Fin 2048) (e : Fin 128) :
    HNORM x g (ix4 b s h e) = hnorm (fun e => x (ix4 b s h e)) e
      * g (ix1 ⟨h.val * 128 + e.val, by have := h.isLt; have := e.isLt; omega⟩) := by
  unfold HNORM HCEN hnorm
  pointwise [HMEAN_at]

/-- The first result at row `128 n + i` of batch `b` and column `e` of head `h`. -/
theorem RES_at (v : FVec Ideal S4x2048x512 .f32) (o : FVec Ideal S16x4x4x128x128 .f32) (g : FVec Ideal S512 .f32)
    (b h : Fin 4) (n : Fin 16) (i e : Fin 128) :
    RES v o g (ix2 ⟨2048 * b.val + (128 * n.val + i.val), by have := b.isLt; have := n.isLt; have := i.isLt; omega⟩
        ⟨h.val * 128 + e.val, by have := h.isLt; have := e.isLt; omega⟩)
      = gated (hnorm (fun e => o (ix5 n b h i e)) e * g (ix1 ⟨h.val * 128 + e.val, by have := h.isLt; have := e.isLt; omega⟩))
          (v (ix3 b ⟨128 * n.val + i.val, by have := n.isLt; have := i.isLt; omega⟩
            ⟨h.val * 128 + e.val, by have := h.isLt; have := e.isLt; omega⟩)) := by
  unfold RES SILU gated
  pointwise [HNORM_at]
  have e : (2048 * b.val + (128 * n.val + i.val)) % 2048 = 128 * n.val + i.val := by
    have := n.isLt; have := i.isLt; omega
  simp only [e, UNCHUNK_at]

end Cert.Proof.RetRef

end

end
-- ==== Proof.RetPay.lean ====
/- What the retention kernel computes on a chunk, entry by entry. -/
module

public import proofs.«01_k».proof.Proof.Gen.RetIdeal.Skeleton
public import proofs.«01_k».proof.Proof.RetRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.RetPay

open Cert.RetIdeal Cert.RetIdeal.Gen

/-- A row turned by its angles: the table of cosines against the row, the table of sines against its halves exchanged. -/
def turn (x co si : Fin 128 → EReal) (e : Fin 128) : EReal :=
  x e * co e + x ⟨(e.val + 64) % 128, Nat.mod_lt _ (by omega)⟩ * si e

/-- The turned and scaled keys. -/
theorem pay10_at (v19 v22 v27 : Vec Ideal S128x128 .f32) (i e : Fin 128) :
    k0_pay10 (F := Ideal) v19 v22 v27 (ix2 i e)
      = turn (fun e => v27 (ix2 i e)) (fun e => v19 (ix2 i e)) (fun e => v22 (ix2 i e)) e * Ideal.ofBits .f32 0x3DB504F3#32 := by
  pointwise [k0_pay10, k0_pay8, k0_pay9]
  unfold turn
  rfl

/-- The rows of a chunk: against the chunk's keys under the decay, and against the carried state. -/
theorem pay12_at (v1 : FVec Ideal S128x128 .f32) (v3 : FVec Ideal S128x1 .f32) (R : FVec Ideal S128x128 .f32)
    (v19 v22 v25 v27 v40 : Vec Ideal S128x128 .f32) (i e : Fin 128) :
    k0_pay12 (F := Ideal) v1 v3 R v19 v22 v25 v27 v40 (ix2 i e)
      = (∑ j : Fin 128, ((∑ d : Fin 128, turn (fun e => v25 (ix2 i e)) (fun e => v19 (ix2 i e)) (fun e => v22 (ix2 i e)) d
            * k0_pay10 (F := Ideal) v19 v22 v27 (ix2 j d)) * v1 (ix2 i j)) * v40 (ix2 j e))
        + (∑ d : Fin 128, turn (fun e => v25 (ix2 i e)) (fun e => v19 (ix2 i e)) (fun e => v22 (ix2 i e)) d * R (ix2 d e)) * v3 (ix2 i 0) := by
  pointwise [k0_pay12, k0_pay8, k0_pay9, k0_pay11]
  unfold turn
  rfl

/-- The next state. -/
theorem pay13_at (v5 : FVec Ideal S128x1 .f32) (v7 : FVec Ideal S1x1 .f32) (R : FVec Ideal S128x128 .f32)
    (v19 v22 v27 v40 : Vec Ideal S128x128 .f32) (d e : Fin 128) :
    k0_pay13 (F := Ideal) v5 v7 R v19 v22 v27 v40 (ix2 d e)
      = R (ix2 d e) * v7 (ix2 0 0)
        + ∑ j : Fin 128, (k0_pay10 (F := Ideal) v19 v22 v27 (ix2 j d) * v5 (ix2 j 0)) * v40 (ix2 j e) := by
  pointwise [k0_pay13, k0_pay11]

/-- The sums of the rows. -/
theorem pay14_at (v1 : FVec Ideal S128x128 .f32) (v3 : FVec Ideal S128x1 .f32) (R : FVec Ideal S128x128 .f32)
    (v19 v22 v25 v27 v40 : Vec Ideal S128x128 .f32) (i : Fin 128) :
    k0_pay14 (F := Ideal) v1 v3 R v19 v22 v25 v27 v40 (ix2 i 0)
      = ∑ e : Fin 128, k0_pay12 (F := Ideal) v1 v3 R v19 v22 v25 v27 v40 (ix2 i e) := by
  pointwise [k0_pay14]

/-- The normed and gated rows. -/
theorem pay6_at (gn : Vec Ideal S1x128 .f32) (o : FVec Ideal S128x128 .f32) (s : FVec Ideal S128x1 .f32)
    (g : Vec Ideal S128x128 .f32) (hs : ∀ i : Fin 128, s (ix2 i 0) = ∑ e : Fin 128, o (ix2 i e)) (i e : Fin 128) :
    k0_pay6 (F := Ideal) gn o s g (ix2 i e)
      = RetRef.gated (RetRef.hnorm (fun e => o (ix2 i e)) e * gn (ix2 0 e)) (g (ix2 i e)) := by
  pointwise [k0_pay6, hs]
  rw [zero_sub]
  rfl

/-- The state starts at zero. -/
theorem pay5_at (d e : Fin 128) : k0_pay5 (F := Ideal) (ix2 d e) = 0 := by
  pointwise [k0_pay5]

/-- The tables as the loop takes them. -/
theorem pay1_at (v : Vec Ideal S1x128x128 .f32) (i j : Fin 128) : k0_pay1 (F := Ideal) v (ix2 i j) = v (ix3 0 i j) := by
  pointwise [k0_pay1]
theorem pay2_at (v : Vec Ideal S1x128x1 .f32) (i : Fin 128) : k0_pay2 (F := Ideal) v (ix2 i 0) = v (ix3 0 i 0) := by
  pointwise [k0_pay2]
theorem pay3_at (v : Vec Ideal S1x128x1 .f32) (i : Fin 128) : k0_pay3 (F := Ideal) v (ix2 i 0) = v (ix3 0 i 0) := by
  pointwise [k0_pay3]
theorem pay4_at (v : Vec Ideal S1x1x1 .f32) : k0_pay4 (F := Ideal) v (ix2 0 0) = v (ix3 0 0 0) := by
  pointwise [k0_pay4]

end Cert.Proof.RetPay

end
-- ==== Proof.RetTurn.lean ====
/- The chunks of queries, keys and values of the reference, entry by entry, in the terms of the kernel's rotary tables. -/
module

public import proofs.«01_k».proof.Proof.RetCos
public import proofs.«01_k».proof.Proof.RetPay

@[expose] public section

set_option maxRecDepth 16384

noncomputable section

open Idealize.ShloMosaic Idealize.ShloMosaic.TcCoe Idealize.SL.Sem

namespace Cert.Proof.RetTurn

open Cert.RetRefIdeal Cert.RetRefIdeal.Gen
open Cert.Proof.RetTab Cert.Proof.RetCos Cert.Proof.RetPay

/-- One entry of a band cut into heads. -/
theorem HEADS_at (x : FVec Ideal S8192x512 .f32) (b : Fin 4) (s : Fin 2048) (h : Fin 4) (e : Fin 128) :
    HEADS x (ix4 b s h e) = x (ix2 ⟨2048 * b.val + s.val, by omega⟩ ⟨128 * h.val + e.val, by omega⟩) := by
  pointwise [HEADS]
  have e1 : b.val * 2048 + s.val = 2048 * b.val + s.val := by omega
  have e2 : h.val * 128 + e.val = 128 * h.val + e.val := by omega
  simp only [e1, e2]

/-- One entry of the chunks. -/
theorem CHUNKS_at (x : FVec Ideal S4x2048x4x128 .f32) (n : Fin 16) (b h : Fin 4) (i e : Fin 128) :
    CHUNKS x (ix5 n b h i e) = x (ix4 b ⟨128 * n.val + i.val, by omega⟩ h e) := by
  pointwise [CHUNKS]
  exact congrArg (fun s => x (ix4 b s h e)) (Fin.ext (by show n.val * 128 + i.val = 128 * n.val + i.val; omega))

/-- One entry of the rotary embedding: the row turned by the kernel's tables. -/
theorem ROPE_at (x : FVec Ideal S4x2048x4x128 .f32) (b : Fin 4) (s : Fin 2048) (h : Fin 4) (e : Fin 128) :
    ROPE x (ix4 b s h e) = turn (fun e => x (ix4 b s h e)) (fun e => COS (ix2 s e)) (fun e => SIN (ix2 s e)) e := by
  show _ = x (ix4 b s h e) * COS (ix2 s e) + x (ix4 b s h ⟨(e.val + 64) % 128, _⟩) * SIN (ix2 s e)
  rw [COS_at, SIN_at]
  pointwise [ROPE, OVER]
  have he := e.isLt
  by_cases hh : e.val < 64
  · have e1 : e.val % 64 = e.val := Nat.mod_eq_of_lt hh
    have e2 : (e.val + 64) % 128 = 64 + e.val := by omega
    rw [dif_pos hh, if_pos hh, mul_neg, ← sub_eq_add_neg]
    simp only [e1, e2]
  · have e1 : e.val % 64 = e.val - 64 := by omega
    have e2 : (e.val + 64) % 128 = e.val - 64 := by omega
    have e3 : 64 + (e.val - 64) = e.val := by omega
    rw [dif_neg hh, if_neg hh]
    simp only [e1, e2, e3]

/-- One entry of the queries' chunks. -/
theorem QC_at (z : FVec Ideal S8192x7680 .f32) (n : Fin 16) (b h : Fin 4) (i e : Fin 128) :
    QC z (ix5 n b h i e)
      = turn (fun e => z (ix2 ⟨2048 * b.val + (128 * n.val + i.val), by omega⟩ ⟨128 * h.val + e.val, by omega⟩))
          (fun e => COS (ix2 ⟨128 * n.val + i.val, by omega⟩ e)) (fun e => SIN (ix2 ⟨128 * n.val + i.val, by omega⟩ e)) e := by
  unfold QC
  rw [CHUNKS_at, ROPE_at]
  congr 1
  funext e
  rw [HEADS_at]
  pointwise []

/-- One entry of the keys' chunks. -/
theorem KC_at (z : FVec Ideal S8192x7680 .f32) (n : Fin 16) (b h : Fin 4) (i e : Fin 128) :
    KC z (ix5 n b h i e)
      = turn (fun e => z (ix2 ⟨2048 * b.val + (128 * n.val + i.val), by omega⟩ ⟨512 + (128 * h.val + e.val), by omega⟩))
          (fun e => COS (ix2 ⟨128 * n.val + i.val, by omega⟩ e)) (fun e => SIN (ix2 ⟨128 * n.val + i.val, by omega⟩ e)) e
        * Ideal.ofBits .f32 0x3DB504F3#32 := by
  unfold KC
  rw [CHUNKS_at]
  pointwise []
  rw [ROPE_at]
  congr 2
  funext e
  rw [HEADS_at]
  pointwise []

/-- One entry of the values' chunks. -/
theorem VC_at (z : FVec Ideal S8192x7680 .f32) (n : Fin 16) (b h : Fin 4) (i e : Fin 128) :
    VC z (ix5 n b h i e)
      = z (ix2 ⟨2048 * b.val + (128 * n.val + i.val), by omega⟩ ⟨1024 + (128 * h.val + e.val), by omega⟩) := by
  unfold VC
  rw [CHUNKS_at, HEADS_at]
  pointwise []

end Cert.Proof.RetTurn

end
-- ==== Proof.RetHost.lean ====
/- The tables the retention kernel's call is given: the decay and the factors its host code prepares, in
   the terms of the reference. -/
module

public import proofs.«01_k».proof.Proof.Gen.RetIdeal.Frame
public import proofs.«01_k».proof.Proof.RetTab
public import Idealize.ShloMosaic.Lib.StableHlo.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo

namespace Cert.Proof.RetHost

open Cert.RetIdeal Cert.RetIdeal.Gen
open Cert.Proof.RetTab (ANG DEC XI ZETA GC)

variable (m : (ℓ : Loc nD τ sig) → Buf (Elt Ideal) ℓ) (c : Dev nD)

set_option maxHeartbeats 1000000 in
/-- The decay matrix is the reference's. -/
theorem V_dec : V m c main_v58 = DEC := by
  simp only [V, List.flatten_cons, List.flatten_nil, List.append_nil, afterL_cons, afterL_nil]
  after_reads_simp
  rfl

set_option maxHeartbeats 1000000 in
/-- The factors of the carried state are the reference's. -/
theorem V_xi : V m c main_v67 = XI := by
  simp only [V, List.flatten_cons, List.flatten_nil, List.append_nil, afterL_cons, afterL_nil]
  after_reads_simp
  rfl

set_option maxHeartbeats 1000000 in
/-- The factors of the rows are the reference's. -/
theorem V_zeta : V m c main_v76 = ZETA := by
  simp only [V, List.flatten_cons, List.flatten_nil, List.append_nil, afterL_cons, afterL_nil]
  after_reads_simp
  rfl

set_option maxHeartbeats 1000000 in
/-- The decay of the state over a chunk is the reference's. -/
theorem V_gc : V m c main_v80 = GC := by
  simp only [V, List.flatten_cons, List.flatten_nil, List.append_nil, afterL_cons, afterL_nil]
  after_reads_simp
  rfl

set_option maxHeartbeats 1000000 in
/-- The head norm's weights as one row. -/
theorem V_gn : V m c main_v33 = shapeCast S1x512 (m ((c : Thread nD τ).loc main_arg1)) shapeCasts_S512_S1x512 := by
  simp only [V, List.flatten_cons, List.flatten_nil, List.append_nil, afterL_cons, afterL_nil]
  after_reads_simp
  rfl

end Cert.Proof.RetHost

end
-- ==== Proof.RetBlk.lean ====
/- The retention's grid points: each runs one head of one batch through its sixteen chunks; the rows of a chunk and
   the state carried on are the reference's, and each block a point is given is that part of its array. -/
module

public import proofs.«01_k».proof.Proof.RetLoop
public import proofs.«01_k».proof.Proof.RetTurn
public import proofs.«01_k».proof.Proof.RetHost

@[expose] public section

set_option maxRecDepth 16384

noncomputable section

open Idealize.ShloMosaic Idealize.ShloMosaic.TcCoe Idealize.SL.Sem
open Idealize.ShloMosaic.Pipeline (Dat)

namespace Cert.Proof.RetBlk

open Cert.RetIdeal Cert.RetIdeal.Gen
open Cert.Proof.RetLoop Cert.Proof.RetPay Cert.Proof.RetTurn Cert.Proof.RetCos Cert.Proof.RetHost
open Cert.Proof.RetTab (DEC XI ZETA GC QC KC VC)
open Cert.Proof.RetScan (ST OUT at5 STATE ROWS)
open Cert.Proof.RetRef (GATE STACK STATES RES gated hnorm)

/-- One entry of a chunk of a block. -/
theorem sub_at (x : Vec Ideal S2048x128 .f32) (n : ℕ) (hn : n < 16) (i e : Fin 128) :
    sub x n (ix2 i e) = x (ix2 ⟨128 * n + i.val, by omega⟩ e) := by
  unfold sub
  exact congrArg (fun s => x (ix2 s e)) (Fin.ext (Nat.mod_eq_of_lt
    (by have := i.isLt; show 128 * n + i.val < 2048; omega)))

section

variable (z : FVec Ideal Cert.RetRefIdeal.S8192x7680 .f32) (b h : Fin 4)
variable (x2 x3 x4 x6 x7 : Vec Ideal S2048x128 .f32)
variable (v0 : Vec Ideal S1x128x128 .f32) (v2 v4 : Vec Ideal S1x128x1 .f32) (v6 : Vec Ideal S1x1x1 .f32)

/-- The keys of a chunk are the reference's. -/
theorem keys_eq (h3 : ∀ (s : Fin 2048) (e : Fin 128), x3 (ix2 s e) = z (ix2 ⟨2048 * b.val + s.val, by omega⟩ ⟨512 + (128 * h.val + e.val), by omega⟩))
    (h6 : ∀ (s : Fin 2048) (e : Fin 128), x6 (ix2 s e) = COS (ix2 s e))
    (h7 : ∀ (s : Fin 2048) (e : Fin 128), x7 (ix2 s e) = SIN (ix2 s e)) (n : ℕ) (hn : n < 16) (i e : Fin 128) :
    k0_pay10 (F := Ideal) (sub x6 n) (sub x7 n) (sub x3 n) (ix2 i e) = at5 (KC z) b h n i e := by
  have hm : (⟨n % 16, Nat.mod_lt _ (by omega)⟩ : Fin 16) = ⟨n, hn⟩ := Fin.ext (Nat.mod_eq_of_lt hn)
  rw [pay10_at]
  simp only [sub_at _ n hn, h3, h6, h7]
  unfold at5
  rw [hm, KC_at]

/-- The queries of a chunk are the reference's. -/
theorem queries_eq (h2 : ∀ (s : Fin 2048) (e : Fin 128), x2 (ix2 s e) = z (ix2 ⟨2048 * b.val + s.val, by omega⟩ ⟨128 * h.val + e.val, by omega⟩))
    (h6 : ∀ (s : Fin 2048) (e : Fin 128), x6 (ix2 s e) = COS (ix2 s e))
    (h7 : ∀ (s : Fin 2048) (e : Fin 128), x7 (ix2 s e) = SIN (ix2 s e)) (n : ℕ) (hn : n < 16) (i e : Fin 128) :
    turn (fun e => sub x2 n (ix2 i e)) (fun e => sub x6 n (ix2 i e)) (fun e => sub x7 n (ix2 i e)) e = at5 (QC z) b h n i e := by
  have hm : (⟨n % 16, Nat.mod_lt _ (by omega)⟩ : Fin 16) = ⟨n, hn⟩ := Fin.ext (Nat.mod_eq_of_lt hn)
  simp only [sub_at _ n hn, h2, h6, h7]
  unfold at5
  rw [hm, QC_at]

/-- The values of a chunk are the reference's. -/
theorem values_eq (h4 : ∀ (s : Fin 2048) (e : Fin 128), x4 (ix2 s e) = z (ix2 ⟨2048 * b.val + s.val, by omega⟩ ⟨1024 + (128 * h.val + e.val), by omega⟩))
    (n : ℕ) (hn : n < 16) (i e : Fin 128) : sub x4 n (ix2 i e) = at5 (VC z) b h n i e := by
  have hm : (⟨n % 16, Nat.mod_lt _ (by omega)⟩ : Fin 16) = ⟨n, hn⟩ := Fin.ext (Nat.mod_eq_of_lt hn)
  rw [sub_at _ n hn, h4]
  unfold at5
  rw [hm, VC_at]

/-- The state the loop carries is the reference's. -/
theorem carry_eq (h3 : ∀ (s : Fin 2048) (e : Fin 128), x3 (ix2 s e) = z (ix2 ⟨2048 * b.val + s.val, by omega⟩ ⟨512 + (128 * h.val + e.val), by omega⟩))
    (h4 : ∀ (s : Fin 2048) (e : Fin 128), x4 (ix2 s e) = z (ix2 ⟨2048 * b.val + s.val, by omega⟩ ⟨1024 + (128 * h.val + e.val), by omega⟩))
    (h6 : ∀ (s : Fin 2048) (e : Fin 128), x6 (ix2 s e) = COS (ix2 s e))
    (h7 : ∀ (s : Fin 2048) (e : Fin 128), x7 (ix2 s e) = SIN (ix2 s e))
    (hz : ∀ j : Fin 128, v4 (ix3 0 j 0) = ZETA (ix3 h j 0)) (hg : v6 (ix3 0 0 0) = GC (ix3 h 0 0))
    (n : ℕ) (hn : n ≤ 16) (d e : Fin 128) :
    CARRY v4 v6 x3 x4 x6 x7 n (ix2 d e) = STATE z b h n d e := by
  induction n generalizing d e with
  | zero => exact pay5_at d e
  | succ n ih =>
    refine (pay13_at _ _ _ _ _ _ _ d e).trans ?_
    rw [ih (by omega), pay4_at, hg]
    simp only [keys_eq z b h x3 x6 x7 h3 h6 h7 n (by omega), values_eq z b h x4 h4 n (by omega), pay3_at, hz]
    rfl

/-- The rows of a chunk are the reference's. -/
theorem rows_eq (h2 : ∀ (s : Fin 2048) (e : Fin 128), x2 (ix2 s e) = z (ix2 ⟨2048 * b.val + s.val, by omega⟩ ⟨128 * h.val + e.val, by omega⟩))
    (h3 : ∀ (s : Fin 2048) (e : Fin 128), x3 (ix2 s e) = z (ix2 ⟨2048 * b.val + s.val, by omega⟩ ⟨512 + (128 * h.val + e.val), by omega⟩))
    (h4 : ∀ (s : Fin 2048) (e : Fin 128), x4 (ix2 s e) = z (ix2 ⟨2048 * b.val + s.val, by omega⟩ ⟨1024 + (128 * h.val + e.val), by omega⟩))
    (h6 : ∀ (s : Fin 2048) (e : Fin 128), x6 (ix2 s e) = COS (ix2 s e))
    (h7 : ∀ (s : Fin 2048) (e : Fin 128), x7 (ix2 s e) = SIN (ix2 s e))
    (hd : ∀ i j : Fin 128, v0 (ix3 0 i j) = DEC (ix3 h i j)) (hx : ∀ i : Fin 128, v2 (ix3 0 i 0) = XI (ix3 h i 0))
    (hz : ∀ j : Fin 128, v4 (ix3 0 j 0) = ZETA (ix3 h j 0)) (hg : v6 (ix3 0 0 0) = GC (ix3 h 0 0))
    (n : ℕ) (hn : n < 16) (i e : Fin 128) :
    k0_pay12 (F := Ideal) (k0_pay1 v0) (k0_pay2 v2) (CARRY v4 v6 x3 x4 x6 x7 n) (sub x6 n) (sub x7 n) (sub x2 n) (sub x3 n)
        (sub x4 n) (ix2 i e)
      = ROWS z b h n i e := by
  refine (pay12_at _ _ _ _ _ _ _ _ i e).trans ?_
  simp only [keys_eq z b h x3 x6 x7 h3 h6 h7 n hn, values_eq z b h x4 h4 n hn, queries_eq z b h x2 x6 x7 h2 h6 h7 n hn,
    carry_eq z b h x3 x4 x6 x7 v4 v6 h3 h4 h6 h7 hz hg n (by omega), pay1_at, pay2_at, hd, hx]
  rfl

end

variable (m : (ℓ : Loc nD τ sig) → Buf (Elt Ideal) ℓ) (c : Dev nD)

/-- Which block each window reads or writes at each grid point. -/
theorem idx_val : ∀ t : Fin cfg0.N, win0_0.index t = ![t.val / 4, t.val % 4]
    ∧ win0_1.index t = ![t.val / 4, 4 + (t.val % 4)]
    ∧ win0_2.index t = ![t.val / 4, 8 + (t.val % 4)]
    ∧ win0_3.index t = ![t.val / 4, 12 + (t.val % 4)]
    ∧ win0_4.index t = ![0, 0]
    ∧ win0_5.index t = ![0, 0]
    ∧ win0_6.index t = ![t.val % 4, 0, 0]
    ∧ win0_7.index t = ![t.val % 4, 0, 0]
    ∧ win0_8.index t = ![t.val % 4, 0, 0]
    ∧ win0_9.index t = ![t.val % 4, 0, 0]
    ∧ win0_10.index t = ![0, t.val % 4]
    ∧ win0_11.index t = ![t.val / 4, t.val % 4]
    ∧ win0_12.index t = ![t.val / 4, t.val % 4, 0, 0] :=
  (by decide +kernel : ∀ t : Fin grid0.N, _)

/-- The batch of a grid point. -/
abbrev bt (t : Fin cfg0.N) : Fin 4 := ⟨t.val / 4, by have h : t.val < 16 := t.isLt; omega⟩
/-- The head of a grid point. -/
abbrev hd (t : Fin cfg0.N) : Fin 4 := ⟨t.val % 4, by omega⟩

/-- The projected rows. -/
abbrev Z : FVec Ideal S8192x7680 .f32 := m ((c : Thread nD τ).loc main_arg0)
/-- The head norm's weights. -/
abbrev GN : FVec Ideal S512 .f32 := m ((c : Thread nD τ).loc main_arg1)

/-- The block of queries. -/
theorem blk0 (t : Fin cfg0.N) (s : Fin 2048) (e : Fin 128) :
    iblk m c 0 t (ix2 s e) = Z m c (ix2 ⟨2048 * (bt t).val + s.val, by have := (bt t).isLt; omega⟩ ⟨128 * (hd t).val + e.val, by have := (hd t).isLt; omega⟩) := by
  blk_ext [iblk, V_main_arg0, idx_val t]
/-- The block of keys. -/
theorem blk1 (t : Fin cfg0.N) (s : Fin 2048) (e : Fin 128) :
    iblk m c 1 t (ix2 s e) = Z m c (ix2 ⟨2048 * (bt t).val + s.val, by have := (bt t).isLt; omega⟩ ⟨512 + (128 * (hd t).val + e.val), by have := (hd t).isLt; omega⟩) := by
  blk_ext [iblk, V_main_arg0, idx_val t]
/-- The block of values. -/
theorem blk2 (t : Fin cfg0.N) (s : Fin 2048) (e : Fin 128) :
    iblk m c 2 t (ix2 s e) = Z m c (ix2 ⟨2048 * (bt t).val + s.val, by have := (bt t).isLt; omega⟩ ⟨1024 + (128 * (hd t).val + e.val), by have := (hd t).isLt; omega⟩) := by
  blk_ext [iblk, V_main_arg0, idx_val t]
/-- The block of gates. -/
theorem blk3 (t : Fin cfg0.N) (s : Fin 2048) (e : Fin 128) :
    iblk m c 3 t (ix2 s e) = Z m c (ix2 ⟨2048 * (bt t).val + s.val, by have := (bt t).isLt; omega⟩ ⟨1536 + (128 * (hd t).val + e.val), by have := (hd t).isLt; omega⟩) := by
  blk_ext [iblk, V_main_arg0, idx_val t]
/-- The table of cosines. -/
theorem blk4 (t : Fin cfg0.N) (s : Fin 2048) (e : Fin 128) : iblk m c 4 t (ix2 s e) = COS (ix2 s e) := by
  rw [← V_cos m c]
  blk_ext [iblk, idx_val t]
/-- The table of sines. -/
theorem blk5 (t : Fin cfg0.N) (s : Fin 2048) (e : Fin 128) : iblk m c 5 t (ix2 s e) = SIN (ix2 s e) := by
  rw [← V_sin m c]
  blk_ext [iblk, idx_val t]
/-- The decay matrix of the head. -/
theorem blk6 (t : Fin cfg0.N) (i j : Fin 128) : iblk m c 6 t (ix3 0 i j) = DEC (ix3 (hd t) i j) := by
  rw [← V_dec m c]
  blk_ext [iblk, idx_val t]
/-- The factors of the carried state. -/
theorem blk7 (t : Fin cfg0.N) (i : Fin 128) : iblk m c 7 t (ix3 0 i 0) = XI (ix3 (hd t) i 0) := by
  rw [← V_xi m c]
  blk_ext [iblk, idx_val t]
/-- The factors of the rows. -/
theorem blk8 (t : Fin cfg0.N) (i : Fin 128) : iblk m c 8 t (ix3 0 i 0) = ZETA (ix3 (hd t) i 0) := by
  rw [← V_zeta m c]
  blk_ext [iblk, idx_val t]
/-- The decay of the state over a chunk. -/
theorem blk9 (t : Fin cfg0.N) : iblk m c 9 t (ix3 0 0 0) = GC (ix3 (hd t) 0 0) := by
  rw [← V_gc m c]
  blk_ext [iblk, idx_val t]
/-- The weights of the head norm. -/
theorem blk10 (t : Fin cfg0.N) (e : Fin 128) : iblk m c 10 t (ix2 0 e) = GN m c (ix1 ⟨(hd t).val * 128 + e.val, by have := (hd t).isLt; omega⟩) := by
  have hv : V m c main_v33 (ix2 0 ⟨(hd t).val * 128 + e.val, by have := (hd t).isLt; omega⟩) = GN m c (ix1 ⟨(hd t).val * 128 + e.val, by have := (hd t).isLt; omega⟩) := by
    rw [V_gn]
    pointwise []
  rw [← hv]
  blk_ext [iblk, idx_val t]

end Cert.Proof.RetBlk

end
-- ==== Proof.RetValue.lean ====
/- The value of the retention: every grid point runs one head of one batch through its sixteen chunks; the rows it
   stores and the state it ends with are the reference's. -/
module

public import proofs.«01_k».proof.Proof.RetBlk

@[expose] public section

set_option maxRecDepth 16384

noncomputable section

open Idealize.ShloMosaic Idealize.ShloMosaic.TcCoe Idealize.SL.Sem
open Idealize.ShloMosaic.Pipeline (Dat)

namespace Cert.Proof.RetValue

open Cert.RetIdeal Cert.RetIdeal.Gen
open Cert.Proof.RetLoop Cert.Proof.RetPay Cert.Proof.RetBlk
open Cert.Proof.RetScan (STATE ROWS)
open Cert.Proof.RetRef (GATE STACK STATES RES gated hnorm RES_at)

variable (m : (ℓ : Loc nD τ sig) → Buf (Elt Ideal) ℓ) (c : Dev nD)

/-- The trip count as the run spells it. -/
theorem trips_spelt : Scf.trips (0#32) (Scalar.addi 0#32 16#32) 1#32 = 16 := by decide +kernel

/-- The state a grid point stores. -/
theorem out12_at (t : Fin cfg0.N) (d e : Fin 128) :
    (outsAt0 m c t).2 (ix4 0 0 d e)
      = CARRY (iblk m c 8 t) (iblk m c 9 t) (iblk m c 1 t) (iblk m c 2 t) (iblk m c 4 t) (iblk m c 5 t) 16 (ix2 d e) := by
  unfold outsAt0
  frame_out
  rw [trips_spelt]
  pointwise [k0_pay7]
  exact congrFun (carried Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 6 t) (iblk m c 7 t) (iblk m c 8 t) (iblk m c 9 t) (iblk m c 10 t) (iblk m c 0 t) (iblk m c 1 t) (iblk m c 2 t) (iblk m c 3 t) (iblk m c 4 t) (iblk m c 5 t) 16 (le_refl _)) (ix2 d e)

/-- The rows a grid point stores. -/
theorem out11_at (t : Fin cfg0.N) (n : Fin 16) (i e : Fin 128) :
    (outsAt0 m c t).1 (ix2 ⟨(128 * n.val + i.val) % 2048, Nat.mod_lt _ (by omega)⟩ e)
      = STORED (iblk m c 6 t) (iblk m c 7 t) (iblk m c 8 t) (iblk m c 9 t) (iblk m c 10 t) (iblk m c 0 t) (iblk m c 1 t)
          (iblk m c 2 t) (iblk m c 3 t) (iblk m c 4 t) (iblk m c 5 t) n.val (ix2 i e) := by
  unfold outsAt0
  frame_out
  rw [trips_spelt]
  exact stored Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 6 t) (iblk m c 7 t) (iblk m c 8 t) (iblk m c 9 t) (iblk m c 10 t) (iblk m c 0 t) (iblk m c 1 t) (iblk m c 2 t) (iblk m c 3 t) (iblk m c 4 t) (iblk m c 5 t) 16 (le_refl _) n.val n.isLt i e

/-- The array of states the kernel leaves is the reference's. -/
theorem final_state : (dats m 0 c).arrAt 12 (cfgs 0).N = STATES (Z m c) := by
  refine (dats m 0 c).arrAt_eq_of_covers 12 _ (by decide +kernel) fun t hf y => ?_
  blk_simp; rw [after0_12]
  obtain ⟨a, a', d, e, rfl⟩ : ∃ (a a' : Fin 1) (d e : Fin 128), y = ix4 a a' d e := ⟨y 0, y 1, y 2, y 3, eq_ix4 y⟩
  obtain rfl : a = 0 := Subsingleton.elim _ _
  obtain rfl : a' = 0 := Subsingleton.elim _ _
  have hemb : (win0_12.blk t).view.emb (ix4 0 0 d e) = ix4 (bt t) (hd t) d e := by blk_ext [idx_val t]
  refine (out12_at m c t d e).trans ?_
  rw [carry_eq (Z m c) (bt t) (hd t) _ _ _ _ _ _ (blk1 m c t) (blk2 m c t) (blk4 m c t) (blk5 m c t) (blk8 m c t) (blk9 m c t) 16 (le_refl _)]
  exact (congrArg (STATES (Z m c)) hemb).symm

/-- One entry of the band of gates. -/
theorem GATE_at (z : FVec Ideal Cert.RetRefIdeal.S8192x7680 .f32) (b : Fin 4) (s : Fin 2048) (e : Fin 512) :
    GATE z (ix3 b s e) = z (ix2 ⟨2048 * b.val + s.val, by omega⟩ ⟨1536 + e.val, by omega⟩) := by
  pointwise [GATE]
  have e1 : b.val * 2048 + s.val = 2048 * b.val + s.val := by omega
  simp only [e1]

/-- The array of rows the kernel leaves is the reference's. -/
theorem final : (dats m 0 c).arrAt 11 (cfgs 0).N = RES (GATE (Z m c)) (STACK (Z m c)) (GN m c) := by
  refine (dats m 0 c).arrAt_eq_of_covers 11 _ (by decide +kernel) fun t hf y => ?_
  blk_simp; rw [after0_11]
  obtain ⟨s, e, rfl⟩ : ∃ (s : Fin 2048) (e : Fin 128), y = ix2 s e := ⟨y 0, y 1, eq_ix2 y⟩
  obtain ⟨n, i, hs⟩ : ∃ (n : Fin 16) (i : Fin 128), s = (⟨(128 * n.val + i.val) % 2048, Nat.mod_lt _ (by omega)⟩ : Fin 2048) :=
    ⟨⟨s.val / 128, by omega⟩, ⟨s.val % 128, by omega⟩, Fin.ext (by show s.val = (128 * (s.val / 128) + s.val % 128) % 2048; omega)⟩
  subst hs
  have hm : (128 * n.val + i.val) % 2048 = 128 * n.val + i.val := Nat.mod_eq_of_lt (by have := n.isLt; have := i.isLt; omega)
  have hemb : (win0_11.blk t).view.emb (ix2 ⟨(128 * n.val + i.val) % 2048, Nat.mod_lt _ (by omega)⟩ e)
      = ix2 ⟨2048 * (bt t).val + (128 * n.val + i.val), by have := (bt t).isLt; have := n.isLt; have := i.isLt; omega⟩
          ⟨(hd t).val * 128 + e.val, by have := (hd t).isLt; omega⟩ := by
    simp only [hm]
    blk_ext [idx_val t]
  refine (out11_at m c t n i e).trans (Eq.trans ?_ (congrArg (RES (GATE (Z m c)) (STACK (Z m c)) (GN m c)) hemb).symm)
  rw [RES_at]
  refine (pay6_at _ _ _ _ (fun i => pay14_at _ _ _ _ _ _ _ _ i) i e).trans ?_
  simp only [rows_eq (Z m c) (bt t) (hd t) _ _ _ _ _ _ _ _ _ (blk0 m c t) (blk1 m c t) (blk2 m c t) (blk4 m c t) (blk5 m c t)
    (blk6 m c t) (blk7 m c t) (blk8 m c t) (blk9 m c t) n.val n.isLt, blk10 m c t, sub_at _ n.val n.isLt, blk3 m c t, GATE_at]
  have e1 : 128 * (t.val % 4) + e.val = t.val % 4 * 128 + e.val := by omega
  simp only [e1]
  rfl

end Cert.Proof.RetValue

end
-- ==== Proof.UpValue.lean ====
/- The value of the up projection: the array the tiled kernel leaves is the matrix product of the
   reference. Every grid point stores one block of the product of a row block of `x` and a column
   block of the weights. -/
module

public import proofs.«01_k».proof.Proof.Gen.UpIdeal.Frame
public import proofs.«01_k».proof.Proof.Gen.UpRefIdeal
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.UpValue

open Cert.UpIdeal Cert.UpIdeal.Gen

variable (m : (ℓ : Loc nD τ sig) → Buf (Elt Ideal) ℓ)

/-- The reference's product of the rounded input with the weights, over its two arguments. -/
abbrev REF (x : FVec Ideal Cert.UpRefIdeal.S8192x2048 .bf16) (w : FVec Ideal Cert.UpRefIdeal.S2048x11264 .f32) :
    FVec Ideal Cert.UpRefIdeal.S8192x11264 .f32 :=
  Host.dotGeneral Cert.UpRefIdeal.dot_S8192x2048_S2048x11264_S8192x11264_1_0_0_1_n_n none
    (extf .f32 x Cert.UpRefIdeal.Gen.bitsLt_bf16_f32) w

/-- Which block each window reads or writes at each grid point. -/
theorem idx_val : ∀ t : Fin cfg0.N, win0_0.index t = ![t.val / 22, 0]
    ∧ win0_1.index t = ![0, t.val % 22]
    ∧ win0_2.index t = ![t.val / 22, t.val % 22] :=
  (by decide +kernel : ∀ t : Fin grid0.N, _)

/-- What the body stores at a block position is the reference's product at the array position. -/
theorem point (c : Dev nD) (t : Fin cfg0.N) (y) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx_val t]

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's last two rows of each sequence, read off the sequence with two zero rows in front. -/
abbrev LAST (x : FVec Ideal Cert.UpRefIdeal.S8192x2048 .bf16) (w : FVec Ideal Cert.UpRefIdeal.S2048x11264 .f32) :
    FVec Ideal Cert.UpRefIdeal.S4x2x11264 .f32 :=
  extractStridedSlice Cert.UpRefIdeal.S4x2x11264 ![0, 2048, 0]
    (concatenate Cert.UpRefIdeal.S4x2050x11264 1
      [⟨Cert.UpRefIdeal.S4x2x11264, (broadcastInDim Cert.UpRefIdeal.S4x2x11264 ![] Cert.UpRefIdeal.Gen.bcast_S_S4x2x11264 (constant Cert.UpRefIdeal.S_ .f32 0x00000000#32))⟩,
       ⟨Cert.UpRefIdeal.S4x2048x11264, (shapeCast _ (REF x w) Cert.UpRefIdeal.Gen.shapeCasts_S8192x11264_S4x2048x11264)⟩]
      Cert.UpRefIdeal.Gen.concatenates_S4x2x11264_S4x2048x11264_S4x2050x11264_d1)
    Cert.UpRefIdeal.Gen.slices_S4x2050x11264_S4x2x11264_0_2048_0

/-- The rows cut off the product are the reference's last rows. -/
theorem last_eq (x : FVec Ideal Cert.UpRefIdeal.S8192x2048 .bf16) (w : FVec Ideal Cert.UpRefIdeal.S2048x11264 .f32) :
    extractStridedSlice S4x2x11264 ![0, 2046, 0]
      (shapeCast S4x2048x11264 (REF x w) shapeCasts_S8192x11264_S4x2048x11264) slices_S4x2048x11264_S4x2x11264_0_2046_0
      = LAST x w := by
  funext y
  obtain ⟨b, s, j, rfl⟩ : ∃ (b : Fin 4) (s : Fin 2) (j : Fin 11264), y = ix3 b s j := ⟨y 0, y 1, y 2, eq_ix3 y⟩
  have hs := s.isLt
  generalize hp : REF x w = p
  unfold LAST
  rw [hp]
  pointwise []
  rw [dif_neg (by omega)]
  exact congrArg (fun i => p (ix2 i j)) (Fin.ext (by show b.val * 2048 + (2046 + s.val) = b.val * 2048 + (2048 + s.val - 2); omega))

/-- What the lines after the kernel leave as the last rows. -/
theorem final_last (c : Dev nD) : Pipeline.afterTail₀ cfgs (dats m) 0 (V0 m) [hostOps1] c main_v3
    = LAST (m ((c : Thread nD τ).loc main_arg0)) (m ((c : Thread nD τ).loc main_arg1)) := by
  rw [← last_eq, ← final m c]
  unfold Pipeline.afterTail₀
  simp only [hostOps1, List.flatten_cons, List.flatten_nil, List.append_nil]
  after_reads_simp
  rw [show Pipeline.withArrays spec0 c (V0 m c) (fun w => (dats m 0 c).arrAt w cfg0.N) (Proc.devRef .tc main_v1)
      = (dats m 0 c).arrAt 2 cfg0.N from Pipeline.withArrays_arr spec0 (by decide) c (V0 m c) _ 2]
  rfl

/-- The whole run: its results and its arguments when it ends. -/
theorem run (ρ : Dev nD → PrngReg) : θ_run defs (onTc (τ := τ) (main (F := Ideal))) ⟨m, fun _ => 0, ρ⟩ (fun r => ∀ c : Dev nD,
      r.2.mem ((c.tc : Thread nD τ).loc main_v1) = REF (m ((c : Thread nD τ).loc main_arg0)) (m ((c : Thread nD τ).loc main_arg1))
      ∧ r.2.mem ((c.tc : Thread nD τ).loc main_v3) = LAST (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final m c),
      ((h.1 c).2 main_v3 (Pipeline.mem_restRefs_of main_v3 (by decide) (by decide))).trans (final_last m c),
      h.2.1 c⟩)
    (θ_run_and (Cert.UpIdeal.Gen.run_main m ρ) (Cert.UpIdeal.Gen.frame m ρ))

end Cert.Proof.UpValue

end
-- ==== Proof.InRun.lean ====
/- The run of the input projection with ideal arithmetic. At every grid point the body stores one block of the
   main product; at the first point of a row of blocks it also stores the row's block of the small product,
   whose buffer then stays as it is until the row's last point writes it back. -/
module

public import proofs.«01_k».proof.Proof.Gen.InIdeal.Launch
public import proofs.«01_k».proof.Proof.Gen.InIdeal.Skeleton
public import proofs.«01_k».proof.Proof.Gen.InIdeal.Points
public import proofs.«01_k».proof.Proof.Gen.InIdeal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.InRun

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two stores leave -/

/-- The whole of a block of rows of `x`, -/
abbrev rx : Rect S1024x2048 := Rect.unit (s := S1024x2048) ![0, 0] S1024x2048.size inb_S1024x2048_S1024x2048_0_0
/-- of a block of columns of the main weights, -/
abbrev rw : Rect S2048x512 := Rect.unit (s := S2048x512) ![0, 0] S2048x512.size inb_S2048x512_S2048x512_0_0
/-- of the small weights, -/
abbrev rs : Rect S2048x128 := Rect.unit (s := S2048x128) ![0, 0] S2048x128.size inb_S2048x128_S2048x128_0_0
/-- of a block of the main product, -/
abbrev ro : Rect S1024x512 := Rect.unit (s := S1024x512) ![0, 0] S1024x512.size inb_S1024x512_S1024x512_0_0
/-- and of a block of the small one. -/
abbrev rq : Rect S1024x128 := Rect.unit (s := S1024x128) ![0, 0] S1024x128.size inb_S1024x128_S1024x128_0_0

/-- The block of the main product a point stores, from its blocks of `x` and of the main weights. -/
def mainBlk (x : Vec F S1024x2048 .bf16) (w : Vec F S2048x512 .bf16) : Vec F S1024x512 .f32 :=
  View.canon [⟨ro, k0_pay2 (View.ld x rx) (View.ld w rw)⟩]

/-- The block of the small product a row's first point stores. -/
def smallBlk (x : Vec F S1024x2048 .bf16) (w : Vec F S2048x128 .bf16) : Vec F S1024x128 .f32 :=
  View.canon [⟨rq, k0_pay3 (View.ld x rx) (View.ld w rs)⟩]

/-- The one store of the main block covers its buffer. -/
theorem main_covered (p : Vec F S1024x512 .f32) (y : S1024x512.Idx) :
    ∃ pc ∈ ([⟨ro, p⟩] : List (View.Piece (Elt F) S1024x512 .f32)), y ∈ pc.1.set :=
  View.cover_of_tiled [⟨ro, p⟩] S1024x512.size (by rfl) y

/-- So does the one store of the small block. -/
theorem small_covered (p : Vec F S1024x128 .f32) (y : S1024x128.Idx) :
    ∃ pc ∈ ([⟨rq, p⟩] : List (View.Piece (Elt F) S1024x128 .f32)), y ∈ pc.1.set :=
  View.cover_of_tiled [⟨rq, p⟩] S1024x128.size (by rfl) y

/-! ## When the small block is stored -/

/-- The body stores the small block at the first of each row's fifteen points. -/
theorem cond_iff : ∀ t : Fin cfg0.N, k0_cond1 (grid0.coords t) = 1#1 ↔ t.val % 15 = 0 :=
  (fun t => by
    have ht : t.val < 120 := Nat.lt_of_lt_of_eq t.isLt N_0
    have e1 : (grid0.coords t 1).val = t.val / 1 % 15 := Pipeline.Grid.coords_val t 1 (by decide) rfl
    simp only [k0_cond1, e1]
    word_cmp
   : ∀ t : Fin grid0.N, k0_cond1 (grid0.coords t) = 1#1 ↔ t.val % 15 = 0)

/-- At a row's first point the small window is written. -/
theorem live_first (t : Fin cfg0.N) (h : t.val % 15 = 0) : cfg0.idle 4 (grid0.coords t) = false := by
  show (!(k0_cond1 (grid0.coords t) == 1#1)) = false
  rw [(cond_iff t).mpr h]; rfl

/-- At the others it is idle. -/
theorem idle_rest (t : Fin cfg0.N) (h : t.val % 15 ≠ 0) : cfg0.idle 4 (grid0.coords t) = true := by
  show (!(k0_cond1 (grid0.coords t) == 1#1)) = true
  simp only [Bool.not_eq_true', beq_eq_false_iff_ne, ne_eq]
  exact fun e => h ((cond_iff t).mp e)

/-- Its buffer holds nothing of the row's only at the row's first point. -/
theorem fresh_iff : ∀ n, n ≤ cfg0.N → cfg0.fresh 4 n = decide (n % 15 = 0) :=
  cfg0.fresh_tab 4 (fun n => decide (n % 15 = 0)) rfl fun t => by
    by_cases h : t.val % 15 = 14
    · rw [(flush0_4 t).mpr h, Bool.true_or]
      exact decide_eq_true (by omega)
    · have hf : (cfg0.win 4).flush t = false := by
        rw [← Bool.not_eq_true]; exact fun e => h ((flush0_4 t).mp e)
      rw [hf, Bool.false_or]
      by_cases h0 : t.val % 15 = 0
      · rw [live_first t h0, Bool.false_and]; exact decide_eq_false (by omega)
      · rw [idle_rest t h0, Bool.true_and]
        rw [decide_eq_false h0]; exact decide_eq_false (by omega)

/-! ## The body -/

set_option maxHeartbeats 1000000 in
/-- At a row's first point the body stores both blocks. -/
theorem runs_first (c : Dev nD) (E : Set ℕ) (i : grid0.Coords) (hc : k0_cond1 i = 1#1)
    (a2 : Memref sig .tc .vmem S1024x2048 .bf16) (h2 : a2.IsWhole) (a3 : Memref sig .tc .vmem S2048x512 .bf16) (h3 : a3.IsWhole)
    (a4 : Memref sig .tc .vmem S2048x128 .bf16) (h4 : a4.IsWhole) (a5 : Memref sig .tc .vmem S1024x512 .f32) (h5 : a5.IsWhole)
    (a6 : Memref sig .tc .vmem S1024x128 .f32) (h6 : a6.IsWhole)
    (x : Vec F S1024x2048 .bf16) (w : Vec F S2048x512 .bf16) (s : Vec F S2048x128 .bf16) (K : PUnit → sProp 𝕄) :
    iprop(owns (c : Thread nD τ) a2 fullShare x ∗ owns (c : Thread nD τ) a3 fullShare w ∗ owns (c : Thread nD τ) a4 fullShare s
        ∗ (∃ d, owns (c : Thread nD τ) a5 fullShare d) ∗ (∃ d, owns (c : Thread nD τ) a6 fullShare d)
        ∗ (iprop(owns (c : Thread nD τ) a2 fullShare x ∗ owns (c : Thread nD τ) a3 fullShare w ∗ owns (c : Thread nD τ) a4 fullShare s
            ∗ owns (c : Thread nD τ) a5 fullShare (mainBlk x w) ∗ owns (c : Thread nD τ) a6 fullShare (smallBlk x s)) -∗ K ⟨⟩))
      ⊢ wp frame (wpE (defs₀ (F := F)) Variants.none c none) E (cc0_inproj i a2 h2 a3 h3 a4 h4 a5 h5 a6 h6) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (main_covered _)
  iexists _; isplitr
  swap; · iexact H4
  ipureintro
  exact View.read_writes_eq_canon _ _ _ (small_covered _)

set_option maxHeartbeats 1000000 in
/-- At the others it stores the main block and leaves the small one as it is. -/
theorem runs_rest (c : Dev nD) (E : Set ℕ) (i : grid0.Coords) (hc : ¬k0_cond1 i = 1#1)
    (a2 : Memref sig .tc .vmem S1024x2048 .bf16) (h2 : a2.IsWhole) (a3 : Memref sig .tc .vmem S2048x512 .bf16) (h3 : a3.IsWhole)
    (a4 : Memref sig .tc .vmem S2048x128 .bf16) (h4 : a4.IsWhole) (a5 : Memref sig .tc .vmem S1024x512 .f32) (h5 : a5.IsWhole)
    (a6 : Memref sig .tc .vmem S1024x128 .f32) (h6 : a6.IsWhole)
    (x : Vec F S1024x2048 .bf16) (w : Vec F S2048x512 .bf16) (s : Vec F S2048x128 .bf16) (q : Vec F S1024x128 .f32) (K : PUnit → sProp 𝕄) :
    iprop(owns (c : Thread nD τ) a2 fullShare x ∗ owns (c : Thread nD τ) a3 fullShare w ∗ owns (c : Thread nD τ) a4 fullShare s
        ∗ (∃ d, owns (c : Thread nD τ) a5 fullShare d) ∗ owns (c : Thread nD τ) a6 fullShare q
        ∗ (iprop(owns (c : Thread nD τ) a2 fullShare x ∗ owns (c : Thread nD τ) a3 fullShare w ∗ owns (c : Thread nD τ) a4 fullShare s
            ∗ owns (c : Thread nD τ) a5 fullShare (mainBlk x w) ∗ owns (c : Thread nD τ) a6 fullShare q) -∗ K ⟨⟩))
      ⊢ wp frame (wpE (defs₀ (F := F)) Variants.none c none) E (cc0_inproj i a2 h2 a3 h3 a4 h4 a5 h5 a6 h6) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (main_covered _)
  iexists f4; isplitr; · ipureintro; rfl
  iexact H4

/-! ## What the buffers hold at each point -/

/-- The arrays as the host left them; after each point the inputs' buffers at their blocks, the main window's at the
    block stored, the small window's at the block its row's first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => mainBlk (iblk m c 0 t) (iblk m c 1 t)
    | ⟨4, _⟩ => smallBlk (iblk m c 0 t) (iblk m c 2 t)
  Φ _ := Pipeline.ΦA spec0 c
  q _ := fullShare
  owed _ := 0

/-- The arrays are those the host left. -/
theorem A_eq (c : Dev nD) (w : Fin cfg0.W) : (dats m 0 c).A w = V m c (Pipeline.arrRef spec0 w) := by
  dsimp only [dats]

/-- After a point, the block of `x` is in place, -/
theorem after0_0 (c : Dev nD) (t : Fin cfg0.N) : (dats m 0 c).after 0 t = iblk m c 0 t := by dsimp only [dats]
/-- so is that of the main weights, -/
theorem after0_1 (c : Dev nD) (t : Fin cfg0.N) : (dats m 0 c).after 1 t = iblk m c 1 t := by dsimp only [dats]
/-- so are the small weights, -/
theorem after0_2 (c : Dev nD) (t : Fin cfg0.N) : (dats m 0 c).after 2 t = iblk m c 2 t := by dsimp only [dats]
/-- the main window's buffer holds the block of the main product, -/
theorem after0_3 (c : Dev nD) (t : Fin cfg0.N) : (dats m 0 c).after 3 t = mainBlk (iblk m c 0 t) (iblk m c 1 t) := by dsimp only [dats]
/-- and the small window's the row's block of the small product. -/
theorem after0_4 (c : Dev nD) (t : Fin cfg0.N) : (dats m 0 c).after 4 t = smallBlk (iblk m c 0 t) (iblk m c 2 t) := by dsimp only [dats]

/-- The body finds the block of `x`, -/
theorem before0_0 (c : Dev nD) (t : Fin cfg0.N) (d) : (dats m 0 c).before 0 t d = iblk m c 0 t :=
  before0_0_of m (dats m 0 c) (A_eq m c 0) (after0_0 m c) t d
/-- that of the main weights, -/
theorem before0_1 (c : Dev nD) (t : Fin cfg0.N) (d) : (dats m 0 c).before 1 t d = iblk m c 1 t :=
  before0_1_of m (dats m 0 c) (A_eq m c 1) (after0_1 m c) t d
/-- and the small weights. -/
theorem before0_2 (c : Dev nD) (t : Fin cfg0.N) (d) : (dats m 0 c).before 2 t d = iblk m c 2 t :=
  before0_2_of m (dats m 0 c) (A_eq m c 2) (after0_2 m c) t d

/-- Which blocks of `x` and of the small weights a point reads. -/
theorem idx_in : ∀ t : Fin cfg0.N, win0_0.index t = ![t.val / 15, 0] ∧ win0_2.index t = ![0, 0] :=
  (by decide +kernel : ∀ t : Fin grid0.N, _)

/-- Two points which read the same block of `x` find the same contents. -/
theorem x_congr (c : Dev nD) (t t' : Fin cfg0.N) (h : win0_0.index t = win0_0.index t') : iblk m c 0 t = iblk m c 0 t' := by
  have e : ∀ (u : Fin cfg0.N) d, (dats m 0 c).fetched 0 u d = iblk m c 0 u := fun u d => by
    unfold Dat.fetched Dat.blockOf iblk; rw [A_eq]; try rfl
  exact (e t (iblk m c 0 t)).symm.trans (((dats m 0 c).fetched_congr 0 h rfl (iblk m c 0 t)).trans (e t' _))

/-- The same for the small weights. -/
theorem s_congr (c : Dev nD) (t t' : Fin cfg0.N) (h : win0_2.index t = win0_2.index t') : iblk m c 2 t = iblk m c 2 t' := by
  have e : ∀ (u : Fin cfg0.N) d, (dats m 0 c).fetched 2 u d = iblk m c 2 u := fun u d => by
    unfold Dat.fetched Dat.blockOf iblk; rw [A_eq]; try rfl
  exact (e t (iblk m c 2 t)).symm.trans (((dats m 0 c).fetched_congr 2 h rfl (iblk m c 2 t)).trans (e t' _))

/-- Within a row the small block does not change. -/
theorem small_carried (c : Dev nD) (t : Fin cfg0.N) (h : t.val % 15 ≠ 0) :
    (dats m 0 c).after 4 t = (dats m 0 c).after 4 ⟨t.val - 1, by omega⟩ := by
  rw [after0_4, after0_4, x_congr m c t ⟨t.val - 1, by omega⟩ (by
      rw [(idx_in t).1, (idx_in ⟨t.val - 1, by omega⟩).1, show t.val / 15 = (t.val - 1) / 15 by omega]),
    s_congr m c t ⟨t.val - 1, by omega⟩ (by rw [(idx_in t).2, (idx_in ⟨t.val - 1, by omega⟩).2])]

/-- After a row's first point the body finds the row's small block. -/
theorem before0_4 (c : Dev nD) (t : Fin cfg0.N) (h : t.val % 15 ≠ 0) (d) :
    (dats m 0 c).before 4 t d = (dats m 0 c).after 4 t := by
  rw [(dats m 0 c).before_out_traj 4 rfl (fun _ _ => rfl) (fun u hu hi hfr => small_carried m c u fun e => by
      rw [fresh_iff u.val (Nat.le_of_lt u.isLt), decide_eq_true e] at hfr; exact Bool.noConfusion hfr) t.val t rfl d,
    fresh_iff t.val (Nat.le_of_lt t.isLt), decide_eq_false h, if_neg Bool.false_ne_true]
  exact (small_carried m c t h).symm

/-! ## The run -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- Holding the row's small block is what the small window asks for after a point: to be written back at the row's last
    point, and to be left as found at the points between. -/
theorem small_leaves (c : Dev nD) (t : Fin cfg0.N) :
    (owns (c : Thread nD τ) (st0_4 t) fullShare ((dats m 0 c).after 4 t) : sProp 𝕄) ⊢ (dats m 0 c).leavesExact 4 t := by
  unfold Dat.leavesExact
  by_cases h : t.val % 15 = 0
  · rw [live_first t h]
  · rw [idle_rest t h]
    cases hf : (cfg0.win 4).flush t
    · dsimp only
      iintro H; iexists ((dats m 0 c).after 4 t)
      rw [before0_4 m c t h]; iexact H
    · exact .rfl

set_option maxHeartbeats 1000000 in
/-- The body at any point. -/
theorem body_runs (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from rfl,
    after0_0, after0_1, after0_2, after0_3]
  by_cases h : t.val % 15 = 0
  · iintro ⟨HΦ, Ho, ⟨%d0, H0⟩, ⟨%d1, H1⟩, ⟨%d2, H2⟩, ⟨%d3, H3⟩, ⟨%d4, H4⟩⟩
    iapply (runs_first c Set.univ (grid0.coords t) ((cond_iff t).mpr h) _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (small_leaves m c t)
    rw [after0_4]; iexact H4
  · simp only [before0_4 m c t h, after0_4]
    iintro ⟨HΦ, Ho, ⟨%d0, H0⟩, ⟨%d1, H1⟩, ⟨%d2, H2⟩, ⟨%d3, H3⟩, ⟨%d4, H4⟩⟩
    iapply (runs_rest c Set.univ (grid0.coords t) (fun e => h ((cond_iff t).mp e)) _ _ _ _ _ _ _ _ _ _ (iblk m c 0 t) (iblk m c 1 t) (iblk m c 2 t)
      (smallBlk (iblk m c 0 t) (iblk m c 2 t)) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (small_leaves m c t)
    rw [after0_4]; iexact H4

/-- What the pipeline calls at a point is the body on its current buffers. -/
theorem called (t : Fin cfg0.N) :
    defs₀ (F := F) .tc cfg0.body (cfg0.bodyArgs t (cfg0.slots t)) = bodyAt0 t := by
  unfold defs₀; rw [Defs.onTc_tc]

/-- The body does, at every point, what the pipeline asks of it. -/
theorem body_obligation (c : Dev nD) : BodyObligation (dats (F := F) m 0 c) (defs₀ (F := F)) Variants.none () Set.univ := fun t => by
  rw [bigSep_W0, bigSep_W0, called]
  exact triple_restated (body_runs m c t) rfl .rfl fun _ => .rfl

set_option backward.isDefEq.respectTransparency.types false in
set_option maxHeartbeats 800000 in
/-- The program runs to its end, every array at what its blocks make of it and every counter at zero. -/
theorem run_counters : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run, without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_counters m ρ)

/-- The program runs, leaves its arguments as they were and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_counters m ρ))

end Cert.Proof.InRun

end
-- ==== Proof.InValue.lean ====
/- The value of the input projection: the two arrays the tiled kernel leaves are the columns of the
   reference's one product, the wide columns side by side and the narrow ones padded with zeros. -/
module

public import proofs.«01_k».proof.Proof.InRun
public import proofs.«01_k».proof.Proof.Gen.InRefIdeal
public import Idealize.ShloMosaic.Lib.StableHlo.Run
public import Idealize.ShloMosaic.Lib.StableHlo.RunRead
public import Idealize.ShloMosaic.Lib.KernelVsHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.InValue

open Cert.InIdeal Cert.InIdeal.Gen Cert.Proof.InRun

variable (m : (ℓ : Loc nD τ sig) → Buf (Elt Ideal) ℓ)

/-- The reference's one product, over its two arguments. -/
abbrev PROD (x : FVec Ideal Cert.InRefIdeal.S8192x2048 .f32) (w : FVec Ideal Cert.InRefIdeal.S2048x7760 .f32) :
    FVec Ideal Cert.InRefIdeal.S8192x7760 .f32 :=
  Host.dotGeneral Cert.InRefIdeal.dot_S8192x2048_S2048x7760_S8192x7760_1_0_0_1_n_n none x w

/-- The reference's wide columns: the queries, keys and values, then the convolution's inputs. -/
abbrev MAIN (x : FVec Ideal Cert.InRefIdeal.S8192x2048 .f32) (w : FVec Ideal Cert.InRefIdeal.S2048x7760 .f32) :
    FVec Ideal Cert.InRefIdeal.S8192x7680 .f32 :=
  concatenate Cert.InRefIdeal.S8192x7680 1
    [⟨Cert.InRefIdeal.S8192x6144, (extractStridedSlice Cert.InRefIdeal.S8192x6144 ![0, 0] (PROD x w) Cert.InRefIdeal.Gen.slices_S8192x7760_S8192x6144_0_0)⟩,
     ⟨Cert.InRefIdeal.S8192x1536, (extractStridedSlice Cert.InRefIdeal.S8192x1536 ![0, 6224] (PROD x w) Cert.InRefIdeal.Gen.slices_S8192x7760_S8192x1536_0_6224)⟩]
    Cert.InRefIdeal.Gen.concatenates_S8192x6144_S8192x1536_S8192x7680_d1

/-- The reference's narrow columns, padded with zeros: the indexer's key and head weights. -/
abbrev SMALL (x : FVec Ideal Cert.InRefIdeal.S8192x2048 .f32) (w : FVec Ideal Cert.InRefIdeal.S2048x7760 .f32) :
    FVec Ideal Cert.InRefIdeal.S8192x128 .f32 :=
  concatenate Cert.InRefIdeal.S8192x128 1
    [⟨Cert.InRefIdeal.S8192x80, (extractStridedSlice Cert.InRefIdeal.S8192x80 ![0, 6144] (PROD x w) Cert.InRefIdeal.Gen.slices_S8192x7760_S8192x80_0_6144)⟩,
     ⟨Cert.InRefIdeal.S8192x48, (broadcastInDim Cert.InRefIdeal.S8192x48 ![] Cert.InRefIdeal.Gen.bcast_S_S8192x48 (constant Cert.InRefIdeal.S_ .f32 0x00000000#32))⟩]
    Cert.InRefIdeal.Gen.concatenates_S8192x80_S8192x48_S8192x128_d1

/-- The kernel's wide weights. -/
abbrev WM (w : FVec Ideal S2048x7760 .f32) : FVec Ideal S2048x7680 .bf16 :=
  truncf .bf16 (concatenate S2048x7680 1 [⟨S2048x6144, extractStridedSlice S2048x6144 ![0, 0] w slices_S2048x7760_S2048x6144_0_0⟩,
    ⟨S2048x1536, extractStridedSlice S2048x1536 ![0, 6224] w slices_S2048x7760_S2048x1536_0_6224⟩]
    concatenates_S2048x6144_S2048x1536_S2048x7680_d1) bitsLt_bf16_f32

/-- The kernel's narrow weights. -/
abbrev WS (w : FVec Ideal S2048x7760 .f32) : FVec Ideal S2048x128 .bf16 :=
  truncf .bf16 (pad S2048x128 ![0, 0] ![0, 48] ![0, 0] (extractStridedSlice S2048x80 ![0, 6144] w slices_S2048x7760_S2048x80_0_6144)
    (sitofp .f32 (constantI S_ 32 0#32)) pads_S2048x80_S2048x128_000_0480 h_S_) bitsLt_bf16_f32

set_option maxHeartbeats 1000000 in
/-- What the host hands the kernel as wide weights. -/
theorem V_wm (c : Dev nD) : V m c main_v3 = WM (m ((c : Thread nD τ).loc main_arg1)) := by
  simp only [V, hostOps0, hostOps0_1, hostOps0_2, List.flatten_cons, List.flatten_nil, List.append_nil, List.cons_append, List.nil_append]
  after_reads_simp
  rfl

set_option maxHeartbeats 1000000 in
/-- What it hands it as narrow weights. -/
theorem V_ws (c : Dev nD) : V m c main_v6 = WS (m ((c : Thread nD τ).loc main_arg1)) := by
  simp only [V, hostOps0, hostOps0_1, hostOps0_2, List.flatten_cons, List.flatten_nil, List.append_nil, List.cons_append, List.nil_append]
  after_reads_simp
  rfl

set_option maxHeartbeats 1000000 in
/-- What it hands it as input. -/
theorem V_x (c : Dev nD) : V m c main_v7 = (truncf .bf16 (m ((c : Thread nD τ).loc main_arg0) : FVec Ideal S8192x2048 .f32) bitsLt_bf16_f32 : FVec Ideal S8192x2048 .bf16) := by
  simp only [V, hostOps0, hostOps0_1, hostOps0_2, List.flatten_cons, List.flatten_nil, List.append_nil, List.cons_append, List.nil_append]
  after_reads_simp

/-- The wide weights at an entry. -/
theorem WM_at (w : FVec Ideal S2048x7760 .f32) (k : Fin 2048) (j : Fin 7680) :
    WM w (ix2 k j) = if h : j.val < 6144 then w (ix2 k (⟨j.val, by omega⟩ : Fin 7760))
      else w (ix2 k (⟨6224 + (j.val - 6144), by have := j.isLt; omega⟩ : Fin 7760)) := by
  pointwise [WM]

/-- The narrow weights at an entry. -/
theorem WS_at (w : FVec Ideal S2048x7760 .f32) (k : Fin 2048) (j : Fin 128) :
    WS w (ix2 k j) = if h : j.val < 80 then w (ix2 k (⟨6144 + j.val, by omega⟩ : Fin 7760)) else 0 := by
  pointwise [WS]
  split
  · rfl
  · exact sitofp_zero

/-- The wide result at an entry: a column of the product is the product with the column. -/
theorem MAIN_at (x : FVec Ideal S8192x2048 .f32) (w : FVec Ideal S2048x7760 .f32) (i : Fin 8192) (j : Fin 7680) :
    MAIN x w (ix2 i j) = ∑ k : Fin 2048, x (ix2 i k) * WM w (ix2 k j) := by
  simp only [WM_at]
  pointwise [MAIN, PROD]
  split <;> rfl

/-- The narrow result at an entry: beyond the narrow columns, the product with zeros is zero. -/
theorem SMALL_at (x : FVec Ideal S8192x2048 .f32) (w : FVec Ideal S2048x7760 .f32) (i : Fin 8192) (j : Fin 128) :
    SMALL x w (ix2 i j) = ∑ k : Fin 2048, x (ix2 i k) * WS w (ix2 k j) := by
  simp only [WS_at]
  pointwise [SMALL, PROD]
  split
  · rfl
  · exact (Finset.sum_eq_zero fun k _ => mul_zero _).symm

/-- Which block each window reads or writes at each grid point. -/
theorem idx_val : ∀ t : Fin cfg0.N, win0_0.index t = ![t.val / 15, 0]
    ∧ win0_1.index t = ![0, t.val % 15]
    ∧ win0_2.index t = ![0, 0]
    ∧ win0_3.index t = ![t.val / 15, t.val % 15]
    ∧ win0_4.index t = ![t.val / 15, 0] :=
  (by decide +kernel : ∀ t : Fin grid0.N, _)

/-- The block of `x` at an entry. -/
theorem x_at (c : Dev nD) (t : Fin cfg0.N) (r : Fin 1024) (k : Fin 2048) :
    iblk m c 0 t (ix2 r k) = m ((c : Thread nD τ).loc main_arg0)
      (ix2 (⟨1024 * (t.val / 15) + r.val, by have := r.isLt; have : t.val < 120 := t.isLt; omega⟩ : Fin 8192) k) := by
  show V m c main_v7 (((cfg0.win 0).blk t).view.emb (ix2 r k)) = _
  rw [V_x]
  show m ((c : Thread nD τ).loc main_arg0) _ = _
  congr 1
  blk_ext [idx_val t]

/-- The block of wide weights at an entry. -/
theorem w_at (c : Dev nD) (t : Fin cfg0.N) (k : Fin 2048) (j : Fin 512) :
    iblk m c 1 t (ix2 k j) = WM (m ((c : Thread nD τ).loc main_arg1))
      (ix2 k (⟨512 * (t.val % 15) + j.val, by have := j.isLt; omega⟩ : Fin 7680)) := by
  show V m c main_v3 (((cfg0.win 1).blk t).view.emb (ix2 k j)) = _
  rw [V_wm]
  congr 1
  blk_ext [idx_val t]

/-- The narrow weights at an entry. -/
theorem s_at (c : Dev nD) (t : Fin cfg0.N) (k : Fin 2048) (j : Fin 128) :
    iblk m c 2 t (ix2 k j) = WS (m ((c : Thread nD τ).loc main_arg1)) (ix2 k j) := by
  show V m c main_v6 (((cfg0.win 2).blk t).view.emb (ix2 k j)) = _
  rw [V_ws]
  congr 1
  blk_ext [idx_val t]

/-- What the body stores in the main block is the product of its blocks. -/
theorem pay2_at (x : Vec Ideal S1024x2048 .bf16) (w : Vec Ideal S2048x512 .bf16) (r : Fin 1024) (j : Fin 512) :
    k0_pay2 x w (ix2 r j) = ∑ k : Fin 2048, x (ix2 r k) * w (ix2 k j) := by
  pointwise [k0_pay2, k0_pay1]

/-- What it stores in the small block is the product of its blocks. -/
theorem pay3_at (x : Vec Ideal S1024x2048 .bf16) (w : Vec Ideal S2048x128 .bf16) (r : Fin 1024) (j : Fin 128) :
    k0_pay3 x w (ix2 r j) = ∑ k : Fin 2048, x (ix2 r k) * w (ix2 k j) := by
  pointwise [k0_pay3, k0_pay1]

/-- The wide array after the run is the reference's wide columns. -/
theorem final (c : Dev nD) : (dats m 0 c).arrAt 3 (cfgs 0).N
    = MAIN (m ((c : Thread nD τ).loc main_arg0)) (m ((c : Thread nD τ).loc main_arg1)) := by
  refine (dats m 0 c).arrAt_eq_of_covers 3 _ (by decide +kernel) fun t hf y => ?_
  blk_simp; rw [after0_3]; unfold mainBlk; frame_out
  obtain ⟨r, j, rfl⟩ : ∃ (r : Fin 1024) (j : Fin 512), y = ix2 r j := ⟨y 0, y 1, eq_ix2 y⟩
  have hN : t.val < 120 := t.isLt
  have hemb : ((View.whole main_v8_0).slice (win0_3.rect t)).emb (ix2 r j)
      = ix2 (⟨1024 * (t.val / 15) + r.val, by have := r.isLt; omega⟩ : Fin 8192)
          (⟨512 * (t.val % 15) + j.val, by have := j.isLt; omega⟩ : Fin 7680) := by
    blk_ext [idx_val t]
  rw [hemb, MAIN_at]
  refine (pay2_at _ _ r j).trans (Finset.sum_congr rfl fun k _ => ?_)
  rw [x_at, w_at]

/-- The narrow array after the run is the reference's narrow columns. -/
theorem final_index (c : Dev nD) : (dats m 0 c).arrAt 4 (cfgs 0).N
    = SMALL (m ((c : Thread nD τ).loc main_arg0)) (m ((c : Thread nD τ).loc main_arg1)) := by
  refine (dats m 0 c).arrAt_eq_of_covers 4 _ (by decide +kernel) fun t hf y => ?_
  blk_simp; rw [after0_4]; unfold smallBlk; frame_out
  obtain ⟨r, j, rfl⟩ : ∃ (r : Fin 1024) (j : Fin 128), y = ix2 r j := ⟨y 0, y 1, eq_ix2 y⟩
  have hN : t.val < 120 := t.isLt
  have hemb : ((View.whole main_v8_1).slice (win0_4.rect t)).emb (ix2 r j)
      = ix2 (⟨1024 * (t.val / 15) + r.val, by have := r.isLt; omega⟩ : Fin 8192) j := by
    blk_ext [idx_val t]
  rw [hemb, SMALL_at]
  refine (pay3_at _ _ r j).trans (Finset.sum_congr rfl fun k _ => ?_)
  rw [x_at, s_at]

/-- The reference's values: a band of the product's columns, split into heads. -/
abbrev VALS (x : FVec Ideal Cert.InRefIdeal.S8192x2048 .f32) (w : FVec Ideal Cert.InRefIdeal.S2048x7760 .f32) :
    FVec Ideal Cert.InRefIdeal.S4x2048x8x128 .f32 :=
  shapeCast _ (extractStridedSlice Cert.InRefIdeal.S8192x1024 ![0, 4096] (PROD x w) Cert.InRefIdeal.Gen.slices_S8192x7760_S8192x1024_0_4096) Cert.InRefIdeal.Gen.shapeCasts_S8192x1024_S4x2048x8x128

/-- The band lies in the wide columns, where these are the product's. -/
theorem band_eq (x : FVec Ideal Cert.InRefIdeal.S8192x2048 .f32) (w : FVec Ideal Cert.InRefIdeal.S2048x7760 .f32) :
    extractStridedSlice S8192x1024 ![0, 4096] (MAIN x w) slices_S8192x7680_S8192x1024_0_4096
      = extractStridedSlice Cert.InRefIdeal.S8192x1024 ![0, 4096] (PROD x w) Cert.InRefIdeal.Gen.slices_S8192x7760_S8192x1024_0_4096 := by
  funext y
  obtain ⟨i, j, rfl⟩ : ∃ (i : Fin 8192) (j : Fin 1024), y = ix2 i j := ⟨y 0, y 1, eq_ix2 y⟩
  have hj := j.isLt
  pointwise [MAIN, PROD]
  rw [dif_pos (by omega)]

/-- What the lines after the kernel leave as the values. -/
theorem final_vals (c : Dev nD) : Pipeline.afterTail₀ cfgs (dats m) 0 (V0 m) [hostOps1] c main_v10
    = VALS (m ((c : Thread nD τ).loc main_arg0)) (m ((c : Thread nD τ).loc main_arg1)) := by
  unfold VALS
  rw [← band_eq, ← final m c]
  unfold Pipeline.afterTail₀
  simp only [hostOps1, List.flatten_cons, List.flatten_nil, List.append_nil]
  after_reads_simp
  rw [show Pipeline.withArrays spec0 c (V0 m c) (fun w => (dats m 0 c).arrAt w cfg0.N) (Proc.devRef .tc main_v8_0)
      = (dats m 0 c).arrAt 3 cfg0.N from Pipeline.withArrays_arr spec0 (by decide) c (V0 m c) _ 3]
  rfl

/-- The whole run: its results and its arguments when it ends. -/
theorem run (ρ : Dev nD → PrngReg) : θ_run defs (onTc (τ := τ) (main (F := Ideal))) ⟨m, fun _ => 0, ρ⟩ (fun r => ∀ c : Dev nD,
      r.2.mem ((c.tc : Thread nD τ).loc main_v8_0) = MAIN (m ((c : Thread nD τ).loc main_arg0)) (m ((c : Thread nD τ).loc main_arg1))
      ∧ r.2.mem ((c.tc : Thread nD τ).loc main_v8_1) = SMALL (m ((c : Thread nD τ).loc main_arg0)) (m ((c : Thread nD τ).loc main_arg1))
      ∧ r.2.mem ((c.tc : Thread nD τ).loc main_v10) = VALS (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 3).trans (final m c),
      ((h.1 c).1 4).trans (final_index m c),
      ((h.1 c).2 main_v10 (Pipeline.mem_restRefs_of main_v10 (by decide) (by decide))).trans (final_vals m c),
      h.2.1 c⟩)
    (θ_run_and (Cert.Proof.InRun.run_main m ρ) (Cert.Proof.InRun.frame m ρ))

end Cert.Proof.InValue

end
-- ==== Proof.NormRef.lean ====
/- The layer norm of the reference, read row by row. Two of the kernels (the output projection and the
   down projection) end in it; this module states it once. -/
module

public import proofs.«01_k».proof.Proof.Gen.OutRefIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.NormRef

open Cert.OutRefIdeal Cert.OutRefIdeal.Gen

/-- The mean of every row, as a column: the row sum over 2048 entries divided by 2048. -/
def MEAN (h : FVec Ideal S8192x2048 .f32) : FVec Ideal S8192x1 .f32 :=
  Host.divf (broadcastInDim S8192x1 ![0] bcast_S8192_S8192x1_0
      (Host.reduceAdd h (constant S_ .f32 0x00000000#32) reducesTo_S8192x2048_S8192_d1 h_S_))
    (broadcastInDim S8192x1 ![] bcast_S_S8192x1 (constant S_ .f32 0x45000000#32))

/-- Every entry less the mean of its row. -/
def CENTER (h : FVec Ideal S8192x2048 .f32) : FVec Ideal S8192x2048 .f32 :=
  subf h (broadcastInDim S8192x2048 ![0, 1] bcast_S8192x1_S8192x2048_0_1 (MEAN h))

/-- The reference's layer norm of `h` with gain `g` and bias `b`. -/
def NORM (h : FVec Ideal S8192x2048 .f32) (g b : FVec Ideal S2048 .f32) : FVec Ideal S8192x2048 .f32 :=
  addf (mulf (mulf (CENTER h)
      (broadcastInDim S8192x2048 ![0, 1] bcast_S8192x1_S8192x2048_0_1
        (Host.rsqrt (addf (MEAN (mulf (CENTER h) (CENTER h)))
          (broadcastInDim S8192x1 ![] bcast_S_S8192x1 (constant S_ .f32 0x3727C5AC#32))))))
      (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))

/-- One entry of a row less the row's mean. -/
def cen (h : Fin 2048 → EReal) (j : Fin 2048) : EReal :=
  h j - Ideal.div (∑ k : Fin 2048, h k) (Ideal.ofBits .f32 0x45000000#32)

/-- One entry of the layer norm of one row. -/
def lnorm (h : Fin 2048 → EReal) (g b : EReal) (j : Fin 2048) : EReal :=
  cen h j * Ideal.rsqrt (Ideal.div (∑ k : Fin 2048, cen h k * cen h k) (Ideal.ofBits .f32 0x45000000#32)
    + Ideal.ofBits .f32 0x3727C5AC#32) * g + b

/-- The reference's layer norm at one entry only reads that entry's row, gain and bias. -/
theorem NORM_at (h : FVec Ideal S8192x2048 .f32) (g b : FVec Ideal S2048 .f32) (r : Fin 8192) (j : Fin 2048) :
    NORM h g b (ix2 r j) = lnorm (fun k => h (ix2 r k)) (g (ix1 j)) (b (ix1 j)) j := by
  pointwise [NORM, MEAN, CENTER, lnorm, cen]

end Cert.Proof.NormRef

end
-- ==== Proof.OutValue.lean ====
/- The value of the output projection: three products with row bands of the weights, summed, plus the
   scaled residual, followed by the layer norm, is the reference's one product of the concatenated
   mixer outputs, its residual and its layer norm. -/
module

public import proofs.«01_k».proof.Proof.Gen.OutIdeal.Frame
public import proofs.«01_k».proof.Proof.Gen.OutRefIdeal
public import proofs.«01_k».proof.Proof.Gen.OutRefIdeal.Run
public import proofs.«01_k».proof.Proof.NormRef

@[expose] public section

set_option maxRecDepth 16384

noncomputable section

open Idealize.ShloMosaic Idealize.ShloMosaic.TcCoe Idealize.SL.Sem
open Idealize.ShloMosaic.Pipeline (Dat)

namespace Cert.Proof.OutValue

open Cert.OutIdeal Cert.OutIdeal.Gen Cert.Proof.NormRef

variable (m : (ℓ : Loc nD τ sig) → Buf (Elt Ideal) ℓ)

/-- The reference's residual stream before the layer norm: `ALPHA * x` plus the product of the
    concatenated mixer outputs with the output weights. -/
def HID (ro : FVec Ideal Cert.OutRefIdeal.S8192x512 .bf16) (ao : FVec Ideal Cert.OutRefIdeal.S8192x1024 .bf16)
    (co : FVec Ideal Cert.OutRefIdeal.S8192x512 .bf16) (w : FVec Ideal Cert.OutRefIdeal.S2048x2048 .f32)
    (x : FVec Ideal Cert.OutRefIdeal.S8192x2048 .f32) : FVec Ideal Cert.OutRefIdeal.S8192x2048 .f32 :=
  addf (mulf (broadcastInDim Cert.OutRefIdeal.S8192x2048 ![] Cert.OutRefIdeal.Gen.bcast_S_S8192x2048
      (constant Cert.OutRefIdeal.S_ .f32 0x3FD744FD#32)) x)
    (Host.dotGeneral Cert.OutRefIdeal.dot_S8192x2048_S2048x2048_S8192x2048_1_0_0_1_n_n none
      (concatenate Cert.OutRefIdeal.S8192x2048 1
        [⟨Cert.OutRefIdeal.S8192x512, extf .f32 ro Cert.OutRefIdeal.Gen.bitsLt_bf16_f32⟩,
         ⟨Cert.OutRefIdeal.S8192x1024, extf .f32 ao Cert.OutRefIdeal.Gen.bitsLt_bf16_f32⟩,
         ⟨Cert.OutRefIdeal.S8192x512, extf .f32 co Cert.OutRefIdeal.Gen.bitsLt_bf16_f32⟩]
        Cert.OutRefIdeal.Gen.concatenates_S8192x512_S8192x1024_S8192x512_S8192x2048_d1) w)

/-- The kernel's residual stream at one entry of a block: the three row bands of the weights apart. -/
def hid (x0 : FVec Ideal S256x512 .bf16) (x1 : FVec Ideal S256x1024 .bf16) (x2 : FVec Ideal S256x512 .bf16)
    (x3 : FVec Ideal S2048x2048 .bf16) (x4 : FVec Ideal S256x2048 .f32) (r : Fin 256) (j : Fin 2048) : EReal :=
  Ideal.ofBits .f32 0x3FD744FD#32 * x4 (ix2 r j)
    + ((∑ k : Fin 512, x0 (ix2 r k) * x3 (ix2 ⟨k.val, by omega⟩ j))
      + (∑ k : Fin 1024, x1 (ix2 r k) * x3 (ix2 ⟨512 + k.val, by omega⟩ j))
      + (∑ k : Fin 512, x2 (ix2 r k) * x3 (ix2 ⟨1536 + k.val, by omega⟩ j)))

/-- A sum over 2048 rows is the sum over its three bands. -/
theorem sum_bands (f : Fin 2048 → EReal) : ∑ x, f x
    = (∑ k : Fin 512, f ⟨k.val, by omega⟩) + (∑ k : Fin 1024, f ⟨512 + k.val, by omega⟩)
      + ∑ k : Fin 512, f ⟨1536 + k.val, by omega⟩ := by
  have h := Fin.sum_univ_add (a := 512 + 1024) (b := 512) f
  rw [Fin.sum_univ_add (a := 512) (b := 1024)] at h
  exact h

/-- The reference's product with the concatenated mixer outputs, at one entry, one mixer at a time. -/
theorem HID_at (ro : FVec Ideal Cert.OutRefIdeal.S8192x512 .bf16) (ao : FVec Ideal Cert.OutRefIdeal.S8192x1024 .bf16)
    (co : FVec Ideal Cert.OutRefIdeal.S8192x512 .bf16) (w : FVec Ideal Cert.OutRefIdeal.S2048x2048 .f32)
    (x : FVec Ideal Cert.OutRefIdeal.S8192x2048 .f32) (r : Fin 8192) (j : Fin 2048) :
    HID ro ao co w x (ix2 r j) = Ideal.ofBits .f32 0x3FD744FD#32 * x (ix2 r j)
      + ((∑ k : Fin 512, ro (ix2 r k) * w (ix2 ⟨k.val, by omega⟩ j))
        + (∑ k : Fin 1024, ao (ix2 r k) * w (ix2 ⟨512 + k.val, by omega⟩ j))
        + (∑ k : Fin 512, co (ix2 r k) * w (ix2 ⟨1536 + k.val, by omega⟩ j))) := by
  pointwise [HID]
  rw [sum_bands]
  refine congrArg₂ _ rfl (congrArg₂ _ (congrArg₂ _ ?_ ?_) ?_) <;> refine Finset.sum_congr rfl fun k _ => ?_
  · simp [k.isLt]
  · have h1 : ¬ 512 + k.val < 512 := by omega
    have h2 : 512 + k.val - 512 = k.val := by omega
    simp [h1, h2, k.isLt]
  · have h1 : ¬ 1536 + k.val < 512 := by omega
    have h2 : ¬ 1536 + k.val - 512 < 1024 := by omega
    have h3 : 1536 + k.val - 512 - 1024 = k.val := by omega
    simp only [h1, h2, h3, dif_neg, not_false_eq_true]

/-- What the body stores is the layer norm of its residual stream, row by row. -/
theorem pay_at (x0 : FVec Ideal S256x512 .bf16) (x1 : FVec Ideal S256x1024 .bf16) (x2 : FVec Ideal S256x512 .bf16)
    (x3 : FVec Ideal S2048x2048 .bf16) (x4 : FVec Ideal S256x2048 .f32) (x5 x6 : FVec Ideal S1x2048 .f32)
    (r : Fin 256) (j : Fin 2048) :
    k0_pay1 (F := Ideal) (k0_pay7 x0 x1 x2 x3 x4 x5 x6) (k0_pay8 x0 x1 x2 x3 x4 x5 x6)
        (k0_pay9 x0 x1 x2 x3 x4 x5 x6) (k0_pay10 x0 x1 x2 x3 x4 x5 x6) (ix2 r j)
      = lnorm (hid x0 x1 x2 x3 x4 r) (x5 (ix2 0 j)) (x6 (ix2 0 j)) j := by
  pointwise [k0_pay1, k0_pay3, k0_pay4, k0_pay5, k0_pay6, k0_pay7, k0_pay8, k0_pay9, k0_pay10, lnorm, cen, hid]

/-- Which block each window reads or writes at each grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0]
    ∧ win0_6.index t = ![0, 0]
    ∧ win0_7.index t = ![t.val, 0]
    ∧ win0_8.index t = ![t.val, 0] :=
  (by decide +kernel : ∀ t : Fin grid0.N, _)

/-- The layer norm of a block's residual stream is the reference's layer norm at the matching rows. -/
theorem point (c : Dev nD) (t : Fin cfg0.N) (r : Fin 256) (j : Fin 2048) (R : Fin 8192)
    (hR : R.val = 256 * t.val + r.val) :
    lnorm (hid (iblk m c 0 t) (iblk m c 1 t) (iblk m c 2 t) (iblk m c 3 t) (iblk m c 4 t) r)
        (iblk m c 5 t (ix2 0 j)) (iblk m c 6 t (ix2 0 j)) j
      = NORM (HID (m ((c : Thread nD τ).loc main_arg0)) (m ((c : Thread nD τ).loc main_arg1))
        (m ((c : Thread nD τ).loc main_arg2)) (m ((c : Thread nD τ).loc main_arg3))
        (m ((c : Thread nD τ).loc main_arg4))) (m ((c : Thread nD τ).loc main_arg5))
        (m ((c : Thread nD τ).loc main_arg6)) (ix2 R j) := by
  have hN : t.val < 32 := t.isLt
  obtain ⟨R, hlt⟩ := R
  obtain rfl : R = 256 * t.val + r.val := hR
  rw [NORM_at]
  have h5 : iblk m c 5 t (ix2 0 j) = m (c.tc.loc main_arg5) (ix1 j) := by
    pointwise []; blk_point [iblk, V, idx_val t]
  have h6 : iblk m c 6 t (ix2 0 j) = m (c.tc.loc main_arg6) (ix1 j) := by
    pointwise []; blk_point [iblk, V, idx_val t]
  rw [h5, h6]
  congr 1
  funext k
  rw [HID_at]
  pointwise [hid]; blk_point [iblk, V, idx_val t]

/-- The 32-bit result after the run is the reference's. -/
theorem final (c : Dev nD) : (dats m 0 c).arrAt 7 (cfgs 0).N
    = NORM (HID (m ((c : Thread nD τ).loc main_arg0)) (m ((c : Thread nD τ).loc main_arg1))
        (m ((c : Thread nD τ).loc main_arg2)) (m ((c : Thread nD τ).loc main_arg3))
        (m ((c : Thread nD τ).loc main_arg4))) (m ((c : Thread nD τ).loc main_arg5))
        (m ((c : Thread nD τ).loc main_arg6)) := by
  refine (dats m 0 c).arrAt_eq_of_covers 7 _ (by decide +kernel) fun t hf y => ?_
  blk_simp; rw [after0_7]; frame_out
  obtain ⟨r, j, rfl⟩ : ∃ (r : Fin 256) (j : Fin 2048), y = ix2 r j := ⟨y 0, y 1, eq_ix2 y⟩
  have hN : t.val < 32 := t.isLt
  have hemb : ((View.whole main_v3_0).slice (win0_7.rect t)).emb (ix2 r j)
      = ix2 (⟨256 * t.val + r.val, by have := r.isLt; omega⟩ : Fin 8192) j := by
    blk_ext [idx_val t]
  rw [pay_at, hemb]
  exact point m c t r j _ rfl

/-- The 16-bit copy of the result after the run is the reference's. -/
theorem final16 (c : Dev nD) : (dats m 0 c).arrAt 8 (cfgs 0).N
    = truncf .bf16 (NORM (HID (m ((c : Thread nD τ).loc main_arg0)) (m ((c : Thread nD τ).loc main_arg1))
        (m ((c : Thread nD τ).loc main_arg2)) (m ((c : Thread nD τ).loc main_arg3))
        (m ((c : Thread nD τ).loc main_arg4))) (m ((c : Thread nD τ).loc main_arg5))
        (m ((c : Thread nD τ).loc main_arg6))) Cert.OutRefIdeal.Gen.bitsLt_bf16_f32 := by
  refine (dats m 0 c).arrAt_eq_of_covers 8 _ (by decide +kernel) fun t hf y => ?_
  blk_simp; rw [after0_8]; frame_out
  obtain ⟨r, j, rfl⟩ : ∃ (r : Fin 256) (j : Fin 2048), y = ix2 r j := ⟨y 0, y 1, eq_ix2 y⟩
  have hN : t.val < 32 := t.isLt
  have hemb : ((View.whole main_v3_1).slice (win0_8.rect t)).emb (ix2 r j)
      = ix2 (⟨256 * t.val + r.val, by have := r.isLt; omega⟩ : Fin 8192) j := by
    blk_ext [idx_val t]
  rw [hemb]
  exact (pay_at (iblk m c 0 t) (iblk m c 1 t) (iblk m c 2 t) (iblk m c 3 t) (iblk m c 4 t) (iblk m c 5 t)
    (iblk m c 6 t) r j).trans (point m c t r j _ rfl)

/-- The reference's run leaves this term as its 32-bit result. -/
theorem ref_eq (m : (ℓ : Loc Cert.OutRefIdeal.nD Cert.OutRefIdeal.τ Cert.OutRefIdeal.sig) → Buf (Elt Ideal) ℓ)
    (c : Dev Cert.OutRefIdeal.nD) : Cert.OutRefIdeal.Value.res_main_v31 m c
    = NORM (HID (m (c.tc.loc Cert.OutRefIdeal.main_arg0)) (m (c.tc.loc Cert.OutRefIdeal.main_arg1))
        (m (c.tc.loc Cert.OutRefIdeal.main_arg2)) (m (c.tc.loc Cert.OutRefIdeal.main_arg3))
        (m (c.tc.loc Cert.OutRefIdeal.main_arg4))) (m (c.tc.loc Cert.OutRefIdeal.main_arg5))
        (m (c.tc.loc Cert.OutRefIdeal.main_arg6)) := rfl

/-- The reference's run leaves this term as its 16-bit result. -/
theorem ref16_eq (m : (ℓ : Loc Cert.OutRefIdeal.nD Cert.OutRefIdeal.τ Cert.OutRefIdeal.sig) → Buf (Elt Ideal) ℓ)
    (c : Dev Cert.OutRefIdeal.nD) : Cert.OutRefIdeal.Value.res_main_v32 m c
    = truncf .bf16 (NORM (HID (m (c.tc.loc Cert.OutRefIdeal.main_arg0)) (m (c.tc.loc Cert.OutRefIdeal.main_arg1))
        (m (c.tc.loc Cert.OutRefIdeal.main_arg2)) (m (c.tc.loc Cert.OutRefIdeal.main_arg3))
        (m (c.tc.loc Cert.OutRefIdeal.main_arg4))) (m (c.tc.loc Cert.OutRefIdeal.main_arg5))
        (m (c.tc.loc Cert.OutRefIdeal.main_arg6))) Cert.OutRefIdeal.Gen.bitsLt_bf16_f32 := rfl

end Cert.Proof.OutValue

end
-- ==== Proof.DownValue.lean ====
/- The value of the down projection: the product accumulated over eleven column bands of the
   activation, plus the scaled residual, followed by the layer norm, is the reference's one product,
   its residual and its layer norm. -/
module

public import proofs.«01_k».proof.Proof.Gen.DownIdeal.Frame
public import proofs.«01_k».proof.Proof.Gen.DownRefIdeal
public import proofs.«01_k».proof.Proof.Gen.DownRefIdeal.Run
public import proofs.«01_k».proof.Proof.NormRef

@[expose] public section

set_option maxRecDepth 16384

noncomputable section

open Idealize.ShloMosaic Idealize.ShloMosaic.TcCoe Idealize.SL.Sem
open Idealize.ShloMosaic.Pipeline (Dat)

namespace Cert.Proof.DownValue

open Cert.DownIdeal Cert.DownIdeal.Gen Cert.Proof.NormRef

variable (m : (ℓ : Loc nD τ sig) → Buf (Elt Ideal) ℓ)

/-- The reference's residual stream before the layer norm: `ALPHA * x` plus the product of the
    activation with the down weights. -/
def HID (h : FVec Ideal Cert.DownRefIdeal.S8192x5632 .bf16) (w : FVec Ideal Cert.DownRefIdeal.S5632x2048 .f32)
    (x : FVec Ideal Cert.DownRefIdeal.S8192x2048 .f32) : FVec Ideal Cert.DownRefIdeal.S8192x2048 .f32 :=
  addf (mulf (broadcastInDim Cert.DownRefIdeal.S8192x2048 ![] Cert.DownRefIdeal.Gen.bcast_S_S8192x2048
      (constant Cert.DownRefIdeal.S_ .f32 0x3FD744FD#32)) x)
    (Host.dotGeneral Cert.DownRefIdeal.dot_S8192x5632_S5632x2048_S8192x2048_1_0_0_1_n_n none
      (extf .f32 h Cert.DownRefIdeal.Gen.bitsLt_bf16_f32) w)

/-- The reference's residual stream at one entry. -/
theorem HID_at (h : FVec Ideal Cert.DownRefIdeal.S8192x5632 .bf16) (w : FVec Ideal Cert.DownRefIdeal.S5632x2048 .f32)
    (x : FVec Ideal Cert.DownRefIdeal.S8192x2048 .f32) (r : Fin 8192) (j : Fin 2048) :
    HID h w x (ix2 r j) = Ideal.ofBits .f32 0x3FD744FD#32 * x (ix2 r j) + ∑ k : Fin 5632, h (ix2 r k) * w (ix2 k j) := by
  pointwise [HID]

/-- The initial accumulator is zero. -/
theorem pay1_at (r : Fin 512) (j : Fin 2048) : k0_pay1 (F := Ideal) (ix2 r j) = 0 := by
  pointwise [k0_pay1]

/-- One step adds one band of the product to the accumulator. -/
theorem pay2_at (a : FVec Ideal S512x2048 .f32) (h : FVec Ideal S512x512 .bf16) (w : FVec Ideal S512x2048 .bf16)
    (r : Fin 512) (j : Fin 2048) :
    k0_pay2 (F := Ideal) a h w (ix2 r j) = a (ix2 r j) + ∑ k : Fin 512, h (ix2 r k) * w (ix2 k j) := by
  pointwise [k0_pay2]

/-- What the last step stores is the layer norm of the accumulated residual stream, row by row. -/
theorem pay3_at (x a : FVec Ideal S512x2048 .f32) (g b : FVec Ideal S1x2048 .f32) (r : Fin 512) (j : Fin 2048) :
    k0_pay3 (F := Ideal) x a g b (ix2 r j)
      = lnorm (fun k => Ideal.ofBits .f32 0x3FD744FD#32 * x (ix2 r k) + a (ix2 r k)) (g (ix2 0 j)) (b (ix2 0 j)) j := by
  pointwise [k0_pay3, lnorm, cen]

/-- Which block each window reads or writes at each grid point. -/
theorem idx_val : ∀ t : Fin cfg0.N, win0_0.index t = ![t.val / 11, t.val % 11]
    ∧ win0_1.index t = ![t.val % 11, 0]
    ∧ win0_2.index t = ![t.val / 11, 0]
    ∧ win0_3.index t = ![0, 0]
    ∧ win0_4.index t = ![0, 0]
    ∧ win0_5.index t = ![t.val / 11, 0]
    ∧ win0_6.index t = ![t.val / 11, 0] :=
  (by decide +kernel : ∀ t : Fin grid0.N, _)

/-- The part of the product that grid point `t` adds, at one entry. -/
def part (c : Dev nD) (t : Fin cfg0.N) (y : S512x2048.Idx) : EReal :=
  ∑ k : Fin 512, (show FVec Ideal S512x512 .bf16 from iblk m c 0 t) (ix2 (y 0) k)
    * (show FVec Ideal S512x2048 .bf16 from iblk m c 1 t) (ix2 k (y 1))

/-- The accumulator after the last point of a run holds all eleven parts. -/
theorem acc_last (c : Dev nD) (t : Fin cfg0.N) (ht : t.val % 11 = 10) (r : Fin 512) (j : Fin 2048) :
    (outsAt0 m c t.val t.isLt).2.2 (ix2 r j)
      = ∑ s : Fin 11, part m c ⟨11 * (t.val / 11) + s.val, Pipeline.run_point_lt_of_flush t ht s⟩ (ix2 r j) := by
  refine (Pipeline.eq_sum_fin_of_reset_step_apply_of_flush (fun n h => (outsAt0 m c n h).2.2) 11 (fun _ => (0 : EReal))
    (part m c) ?_ ?_ t ht (ix2 r j)).trans (zero_add _)
  · intro t h y
    obtain ⟨r, j, rfl⟩ : ∃ (r : Fin 512) (j : Fin 2048), y = ix2 r j := ⟨y 0, y 1, eq_ix2 y⟩
    rw [outsAt0_A m c t h (by omega)]
    frame_out
    rw [pay2_at, pay1_at]
    rfl
  · intro t h y
    obtain ⟨r, j, rfl⟩ : ∃ (r : Fin 512) (j : Fin 2048), y = ix2 r j := ⟨y 0, y 1, eq_ix2 y⟩
    by_cases h1 : t.val % 11 = 10
    · rw [outsAt0_C m c t h h1]
      frame_out
      rw [pay2_at]
      exact congrArg₂ (· + ·) (congrFun (Memref.IsWhole.read_unread _ _) _) rfl
    · rw [outsAt0_B m c t h h1]
      frame_out
      rw [pay2_at]
      exact congrArg₂ (· + ·) (congrFun (Memref.IsWhole.read_unread _ _) _) rfl

/-- All eleven parts together are the whole product. -/
theorem acc_eq (c : Dev nD) (t : Fin cfg0.N) (ht : t.val % 11 = 10) (r : Fin 512) (j : Fin 2048) (R : Fin 8192)
    (hR : R.val = 512 * (t.val / 11) + r.val) :
    (outsAt0 m c t.val t.isLt).2.2 (ix2 r j)
      = ∑ k : Fin 5632, (show FVec Ideal S8192x5632 .bf16 from m (c.tc.loc main_arg0)) (ix2 R k)
          * (show FVec Ideal S5632x2048 .f32 from m (c.tc.loc main_arg1)) (ix2 k j) := by
  rw [acc_last m c t ht]
  obtain ⟨R, hlt⟩ := R
  obtain rfl : R = 512 * (t.val / 11) + r.val := hR
  have hN : t.val < 176 := t.isLt
  refine Fin.sum_mul_add_congr fun s k hl => ?_
  have hs := idx_val ⟨11 * (t.val / 11) + s.val, Pipeline.run_point_lt_of_flush t ht s⟩
  have e1 : (11 * (t.val / 11) + s.val) / 11 = t.val / 11 := by have := s.isLt; omega
  have e2 : (11 * (t.val / 11) + s.val) % 11 = s.val := by have := s.isLt; omega
  rw [e1, e2] at hs
  refine congrArg₂ (· * ·) ?_ ?_
  · blk_ext [iblk, V, hs]
  · blk_point [iblk, V, hs]

/-- What the last point of a run stores is the reference's layer norm at the matching rows. -/
theorem point (c : Dev nD) (t : Fin cfg0.N) (ht : t.val % 11 = 10) (r : Fin 512) (j : Fin 2048) (R : Fin 8192)
    (hR : R.val = 512 * (t.val / 11) + r.val) :
    k0_pay3 (F := Ideal) (iblk m c 2 t) (outsAt0 m c t.val t.isLt).2.2 (iblk m c 3 t) (iblk m c 4 t) (ix2 r j)
      = NORM (HID (m ((c : Thread nD τ).loc main_arg0)) (m ((c : Thread nD τ).loc main_arg1))
        (m ((c : Thread nD τ).loc main_arg2))) (m ((c : Thread nD τ).loc main_arg3))
        (m ((c : Thread nD τ).loc main_arg4)) (ix2 R j) := by
  rw [pay3_at, NORM_at]
  have h3 : iblk m c 3 t (ix2 0 j) = m (c.tc.loc main_arg3) (ix1 j) := by
    pointwise []; blk_point [iblk, V, idx_val t]
  have h4 : iblk m c 4 t (ix2 0 j) = m (c.tc.loc main_arg4) (ix1 j) := by
    pointwise []; blk_point [iblk, V, idx_val t]
  rw [h3, h4]
  congr 1
  funext k
  rw [HID_at, acc_eq m c t ht r k R hR]
  congr 2
  obtain ⟨R, hlt⟩ := R
  obtain rfl : R = 512 * (t.val / 11) + r.val := hR
  blk_ext [iblk, V, idx_val t]

/-- The 32-bit result after the run is the reference's. -/
theorem final (c : Dev nD) : (dats m 0 c).arrAt 5 (cfgs 0).N
    = NORM (HID (m ((c : Thread nD τ).loc main_arg0)) (m ((c : Thread nD τ).loc main_arg1))
        (m ((c : Thread nD τ).loc main_arg2))) (m ((c : Thread nD τ).loc main_arg3))
        (m ((c : Thread nD τ).loc main_arg4)) := by
  refine (dats m 0 c).arrAt_eq_of_covers 5 _ (by decide +kernel) fun t hf y => ?_
  have ht : t.val % 11 = 10 := (flush0_5 t).mp hf
  blk_simp; rw [after0_5]
  obtain ⟨r, j, rfl⟩ : ∃ (r : Fin 512) (j : Fin 2048), y = ix2 r j := ⟨y 0, y 1, eq_ix2 y⟩
  have hN : t.val < 176 := t.isLt
  have hemb : ((View.whole main_v3_0).slice (win0_5.rect t)).emb (ix2 r j)
      = ix2 (⟨512 * (t.val / 11) + r.val, by have := r.isLt; omega⟩ : Fin 8192) j := by
    blk_ext [idx_val t]
  rw [hemb]
  refine Eq.trans ?_ (point m c t ht r j _ rfl)
  rw [outsAt0_C m c t (by omega) ht]
  frame_out

/-- The 16-bit copy of the result after the run is the reference's. -/
theorem final16 (c : Dev nD) : (dats m 0 c).arrAt 6 (cfgs 0).N
    = truncf .bf16 (NORM (HID (m ((c : Thread nD τ).loc main_arg0)) (m ((c : Thread nD τ).loc main_arg1))
        (m ((c : Thread nD τ).loc main_arg2))) (m ((c : Thread nD τ).loc main_arg3))
        (m ((c : Thread nD τ).loc main_arg4))) Cert.DownRefIdeal.Gen.bitsLt_bf16_f32 := by
  refine (dats m 0 c).arrAt_eq_of_covers 6 _ (by decide +kernel) fun t hf y => ?_
  have ht : t.val % 11 = 10 := (flush0_6 t).mp hf
  blk_simp; rw [after0_6]
  obtain ⟨r, j, rfl⟩ : ∃ (r : Fin 512) (j : Fin 2048), y = ix2 r j := ⟨y 0, y 1, eq_ix2 y⟩
  have hN : t.val < 176 := t.isLt
  have hemb : ((View.whole main_v3_1).slice (win0_6.rect t)).emb (ix2 r j)
      = ix2 (⟨512 * (t.val / 11) + r.val, by have := r.isLt; omega⟩ : Fin 8192) j := by
    blk_ext [idx_val t]
  rw [hemb]
  refine Eq.trans ?_ (point m c t ht r j _ rfl)
  rw [outsAt0_C m c t (by omega) ht]
  frame_out
  rfl

end Cert.Proof.DownValue

end
-- ==== Proof.GateValue.lean ====
/- The value of the gated feed-forward activation: the kernel's shifted, masked rows and its two
   channel halves are the reference's causal convolution over the padded sequence, its SiLU and its gate. -/
module

public import proofs.«01_k».proof.Proof.Gen.GateIdeal.Frame
public import proofs.«01_k».proof.Proof.Gen.GateRefIdeal
public import proofs.«01_k».proof.Proof.Gen.GateRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.GateValue

open Cert.GateIdeal Cert.GateIdeal.Gen

variable (m : (ℓ : Loc nD τ sig) → Buf (Elt Ideal) ℓ)

/-- The reference's sequence with two zero rows in front. -/
def PAD (x : FVec Ideal Cert.GateRefIdeal.S8192x11264 .f32) : FVec Ideal Cert.GateRefIdeal.S4x2050x11264 .f32 :=
  concatenate Cert.GateRefIdeal.S4x2050x11264 1 [⟨Cert.GateRefIdeal.S4x2x11264, (broadcastInDim Cert.GateRefIdeal.S4x2x11264 ![] Cert.GateRefIdeal.Gen.bcast_S_S4x2x11264 (constant Cert.GateRefIdeal.S_ .f32 0x00000000#32))⟩, ⟨Cert.GateRefIdeal.S4x2048x11264, (shapeCast _ x Cert.GateRefIdeal.Gen.shapeCasts_S8192x11264_S4x2048x11264)⟩] Cert.GateRefIdeal.Gen.concatenates_S4x2x11264_S4x2048x11264_S4x2050x11264_d1

/-- The reference's causal convolution over three neighbouring positions. -/
def CONV (x : FVec Ideal Cert.GateRefIdeal.S8192x11264 .f32) (w : FVec Ideal Cert.GateRefIdeal.S3x11264 .f32) :
    FVec Ideal Cert.GateRefIdeal.S4x2048x11264 .f32 :=
  addf (addf (mulf (broadcastInDim Cert.GateRefIdeal.S4x2048x11264 ![0, 1, 2] Cert.GateRefIdeal.Gen.bcast_S1x1x11264_S4x2048x11264_0_1_2 (broadcastInDim Cert.GateRefIdeal.S1x1x11264 ![2] Cert.GateRefIdeal.Gen.bcast_S11264_S1x1x11264_2 (shapeCast _ (extractStridedSlice Cert.GateRefIdeal.S1x11264 ![0, 0] w Cert.GateRefIdeal.Gen.slices_S3x11264_S1x11264_0_0) Cert.GateRefIdeal.Gen.shapeCasts_S1x11264_S11264))) (extractStridedSlice Cert.GateRefIdeal.S4x2048x11264 ![0, 0, 0] (PAD x) Cert.GateRefIdeal.Gen.slices_S4x2050x11264_S4x2048x11264_0_0_0)) (mulf (broadcastInDim Cert.GateRefIdeal.S4x2048x11264 ![0, 1, 2] Cert.GateRefIdeal.Gen.bcast_S1x1x11264_S4x2048x11264_0_1_2 (broadcastInDim Cert.GateRefIdeal.S1x1x11264 ![2] Cert.GateRefIdeal.Gen.bcast_S11264_S1x1x11264_2 (shapeCast _ (extractStridedSlice Cert.GateRefIdeal.S1x11264 ![1, 0] w Cert.GateRefIdeal.Gen.slices_S3x11264_S1x11264_1_0) Cert.GateRefIdeal.Gen.shapeCasts_S1x11264_S11264))) (extractStridedSlice Cert.GateRefIdeal.S4x2048x11264 ![0, 1, 0] (PAD x) Cert.GateRefIdeal.Gen.slices_S4x2050x11264_S4x2048x11264_0_1_0))) (mulf (broadcastInDim Cert.GateRefIdeal.S4x2048x11264 ![0, 1, 2] Cert.GateRefIdeal.Gen.bcast_S1x1x11264_S4x2048x11264_0_1_2 (broadcastInDim Cert.GateRefIdeal.S1x1x11264 ![2] Cert.GateRefIdeal.Gen.bcast_S11264_S1x1x11264_2 (shapeCast _ (extractStridedSlice Cert.GateRefIdeal.S1x11264 ![2, 0] w Cert.GateRefIdeal.Gen.slices_S3x11264_S1x11264_2_0) Cert.GateRefIdeal.Gen.shapeCasts_S1x11264_S11264))) (extractStridedSlice Cert.GateRefIdeal.S4x2048x11264 ![0, 2, 0] (PAD x) Cert.GateRefIdeal.Gen.slices_S4x2050x11264_S4x2048x11264_0_2_0))

/-- The reference's gated activation. -/
def REF (x : FVec Ideal Cert.GateRefIdeal.S8192x11264 .f32) (w : FVec Ideal Cert.GateRefIdeal.S3x11264 .f32) :
    FVec Ideal Cert.GateRefIdeal.S8192x5632 .bf16 :=
  truncf .bf16 (shapeCast _ (mulf (mulf (extractStridedSlice Cert.GateRefIdeal.S4x2048x5632 ![0, 0, 0] (CONV x w) Cert.GateRefIdeal.Gen.slices_S4x2048x11264_S4x2048x5632_0_0_0) (Host.divf (broadcastInDim Cert.GateRefIdeal.S4x2048x5632 ![] Cert.GateRefIdeal.Gen.bcast_S_S4x2048x5632 (constant Cert.GateRefIdeal.S_ .f32 0x3F800000#32)) (addf (broadcastInDim Cert.GateRefIdeal.S4x2048x5632 ![] Cert.GateRefIdeal.Gen.bcast_S_S4x2048x5632 (constant Cert.GateRefIdeal.S_ .f32 0x3F800000#32)) (Host.exp (Host.negf (extractStridedSlice Cert.GateRefIdeal.S4x2048x5632 ![0, 0, 0] (CONV x w) Cert.GateRefIdeal.Gen.slices_S4x2048x11264_S4x2048x5632_0_0_0)))))) (extractStridedSlice Cert.GateRefIdeal.S4x2048x5632 ![0, 0, 5632] (CONV x w) Cert.GateRefIdeal.Gen.slices_S4x2048x11264_S4x2048x5632_0_0_5632)) Cert.GateRefIdeal.Gen.shapeCasts_S4x2048x5632_S8192x5632) Cert.GateRefIdeal.Gen.bitsLt_bf16_f32

/-- The reference's run leaves this term as its result. -/
theorem ref_eq (m : (ℓ : Loc Cert.GateRefIdeal.nD Cert.GateRefIdeal.τ Cert.GateRefIdeal.sig) → Buf (Elt Ideal) ℓ)
    (c : Dev Cert.GateRefIdeal.nD) : Cert.GateRefIdeal.Value.res_main_v29 m c
    = REF (m (c.tc.loc Cert.GateRefIdeal.main_arg0)) (m (c.tc.loc Cert.GateRefIdeal.main_arg1)) := rfl

/-- Row `s` of a sequence with two zero rows in front. -/
def padded (x : Fin 2048 → EReal) (s : ℕ) : EReal :=
  if h : 2 ≤ s ∧ s < 2050 then x ⟨s - 2, by omega⟩ else 0

/-- One entry of the padded sequence. -/
theorem PAD_at (x : FVec Ideal Cert.GateRefIdeal.S8192x11264 .f32) (b : Fin 4) (s : Fin 2050) (j : Fin 11264) :
    PAD x (ix3 b s j) = padded (fun s => x (ix2 ⟨2048 * b.val + s.val, by omega⟩ j)) s.val := by
  pointwise [PAD]
  unfold padded
  have hs := s.isLt
  by_cases h : s.val < 2
  · rw [dif_pos h, dif_neg (by omega)]
  · rw [dif_neg h, dif_pos (by omega)]
    congr 3
    show b.val * 2048 + (s.val - 2) = 2048 * b.val + (s.val - 2)
    omega

/-- One entry of the causal convolution. -/
def cv (x : Fin 2048 → EReal) (w : Fin 3 → EReal) (s : Fin 2048) : EReal :=
  w 0 * padded x s.val + w 1 * padded x (1 + s.val) + w 2 * x s

/-- The padded sequence two rows on is the sequence. -/
theorem padded_two (x : Fin 2048 → EReal) (s : Fin 2048) : padded x (2 + s.val) = x s := by
  unfold padded
  rw [dif_pos (by omega)]
  congr 1
  exact Fin.ext (by simp)

/-- One entry of the reference's convolution. -/
theorem CONV_at (x : FVec Ideal Cert.GateRefIdeal.S8192x11264 .f32) (w : FVec Ideal Cert.GateRefIdeal.S3x11264 .f32)
    (b : Fin 4) (s : Fin 2048) (j : Fin 11264) :
    CONV x w (ix3 b s j) = cv (fun s => x (ix2 ⟨2048 * b.val + s.val, by omega⟩ j)) (fun k => w (ix2 k j)) s := by
  pointwise [CONV]
  rw [PAD_at, PAD_at, PAD_at]
  simp only [padded_two]
  rfl

/-- The gate: the first factor through SiLU, times the second. -/
def gated (u v : EReal) : EReal := u * Ideal.div 1 (1 + Ideal.exp (-u)) * v

/-- One entry of the reference's result. -/
theorem REF_at (x : FVec Ideal Cert.GateRefIdeal.S8192x11264 .f32) (w : FVec Ideal Cert.GateRefIdeal.S3x11264 .f32)
    (b : Fin 4) (s : Fin 2048) (j : Fin 5632) :
    REF x w (ix2 ⟨2048 * b.val + s.val, by omega⟩ j)
      = gated (cv (fun s => x (ix2 ⟨2048 * b.val + s.val, by omega⟩ ⟨j.val, by omega⟩)) (fun k => w (ix2 k ⟨j.val, by omega⟩)) s)
          (cv (fun s => x (ix2 ⟨2048 * b.val + s.val, by omega⟩ ⟨5632 + j.val, by omega⟩))
            (fun k => w (ix2 k ⟨5632 + j.val, by omega⟩)) s) := by
  pointwise [REF]
  rw [CONV_at, CONV_at]
  rfl

/-- The row number compared with 2 as machine words. -/
theorem sge_two : ∀ s : Fin 2048, IntOp.cmpi .sge (BitVec.ofNat 32 s.val) 2#32 = if 2 ≤ s.val then 1#1 else 0#1 := by
  decide +kernel

/-- The row number compared with 1 as machine words. -/
theorem sge_one : ∀ s : Fin 2048, IntOp.cmpi .sge (BitVec.ofNat 32 s.val) 1#32 = if 1 ≤ s.val then 1#1 else 0#1 := by
  decide +kernel

/-- Rows rotated by two with the first two masked are the padded sequence. -/
theorem shift_two (x : Fin 2048 → EReal) (w : EReal) (s : Fin 2048) (h : (s.val + 2048 - 2) % 2048 < 2048) :
    Scalar.select (IntOp.cmpi .sge (BitVec.ofNat 32 s.val) 2#32) (w * x ⟨(s.val + 2048 - 2) % 2048, h⟩) (0 : EReal)
      = w * padded x s.val := by
  have hs := s.isLt
  rw [sge_two]
  unfold padded
  by_cases h2 : 2 ≤ s.val
  · rw [if_pos h2, dif_pos (by omega)]
    refine (show _ = w * x ⟨(s.val + 2048 - 2) % 2048, h⟩ from rfl).trans ?_
    congr 3
    omega
  · rw [if_neg h2, dif_neg (by omega), mul_zero]
    rfl

/-- Rows rotated by one with the first one masked are the padded sequence one row on. -/
theorem shift_one (x : Fin 2048 → EReal) (w : EReal) (s : Fin 2048) (h : (s.val + 2048 - 1) % 2048 < 2048) :
    Scalar.select (IntOp.cmpi .sge (BitVec.ofNat 32 s.val) 1#32) (w * x ⟨(s.val + 2048 - 1) % 2048, h⟩) (0 : EReal)
      = w * padded x (1 + s.val) := by
  have hs := s.isLt
  rw [sge_one]
  unfold padded
  by_cases h2 : 1 ≤ s.val
  · rw [if_pos h2, dif_pos (by omega)]
    refine (show _ = w * x ⟨(s.val + 2048 - 1) % 2048, h⟩ from rfl).trans ?_
    congr 3
    omega
  · rw [if_neg h2, dif_neg (by omega), mul_zero]
    rfl

/-- The kernel's convolution of the first half of the channels, at one entry of a block. -/
theorem pay2_at (x : FVec Ideal S2048x256 .f32) (w : FVec Ideal S3x256 .f32) (s : Fin 2048) (j : Fin 256) :
    k0_pay2 (F := Ideal) x w (ix2 s j) = cv (fun s => x (ix2 s j)) (fun k => w (ix2 k j)) s := by
  pointwise [k0_pay2]
  rw [shift_two (fun s => x (ix2 s j)) _ s, shift_one (fun s => x (ix2 s j)) _ s]
  rfl

/-- What the body stores, at one entry of a block. -/
theorem pay1_at (y x : FVec Ideal S2048x256 .f32) (w : FVec Ideal S3x256 .f32) (s : Fin 2048) (j : Fin 256) :
    k0_pay1 (F := Ideal) y x w (k0_pay3 x) (k0_pay4 x) (k0_pay5 w) (ix2 s j)
      = gated (y (ix2 s j)) (cv (fun s => x (ix2 s j)) (fun k => w (ix2 k j)) s) := by
  pointwise [k0_pay1, k0_pay3, k0_pay4, k0_pay5]
  rw [shift_two (fun s => x (ix2 s j)) _ s, shift_one (fun s => x (ix2 s j)) _ s, zero_sub]
  rfl

/-- Which block each window reads or writes at each grid point. -/
theorem idx_val : ∀ t : Fin cfg0.N, win0_0.index t = ![t.val / 22, t.val % 22]
    ∧ win0_1.index t = ![t.val / 22, 22 + (t.val % 22)]
    ∧ win0_2.index t = ![0, t.val % 22]
    ∧ win0_3.index t = ![0, 22 + (t.val % 22)]
    ∧ win0_4.index t = ![t.val / 22, t.val % 22] :=
  (by decide +kernel : ∀ t : Fin grid0.N, _)

/-- The result array after the run is the reference's. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t hf y => ?_
  blk_simp; rw [after0_4]; frame_out
  obtain ⟨s, j, rfl⟩ : ∃ (s : Fin 2048) (j : Fin 256), y = ix2 s j := ⟨y 0, y 1, eq_ix2 y⟩
  have hN : t.val < 88 := t.isLt
  have hq : t.val / 22 < 4 := by omega
  have hr : t.val % 22 < 22 := Nat.mod_lt _ (by decide)
  have hemb : ((View.whole main_v0).slice (win0_4.rect t)).emb (ix2 s j)
      = ix2 (⟨2048 * (t.val / 22) + s.val, by have := s.isLt; omega⟩ : Fin 8192)
          (⟨256 * (t.val % 22) + j.val, by have := j.isLt; omega⟩ : Fin 5632) := by
    blk_ext [idx_val t]
  rw [hemb]
  refine Eq.trans ?_ (REF_at _ _ ⟨t.val / 22, hq⟩ s _).symm
  rw [pay1_at, pay2_at]
  refine congrArg₂ gated ?_ ?_
  · refine congrArg₂ (cv · · s) (funext fun s => ?_) (funext fun k => ?_)
    · blk_ext [iblk, V, idx_val t]
    · blk_ext [iblk, V, idx_val t]
  · refine congrArg₂ (cv · · s) (funext fun s => ?_) (funext fun k => ?_)
    · blk_ext [iblk, V, idx_val t]
    · blk_ext [iblk, V, idx_val t]

end Cert.Proof.GateValue

end
-- ==== Proof.ConvValue.lean ====
/- The value of the short gated convolution: the kernel's rotated, masked rows are the reference's
   convolution over the padded sequence, and the last two rows of the product are its last two. -/
module

public import proofs.«01_k».proof.Proof.Gen.ConvIdeal.Frame
public import proofs.«01_k».proof.Proof.Gen.ConvRefIdeal
public import proofs.«01_k».proof.Proof.Gen.ConvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.ConvValue

section reference

open Cert.ConvRefIdeal Cert.ConvRefIdeal.Gen

/-- The reference's three channel blocks of the projected rows. -/
def ZC (x0 : FVec Ideal S8192x7680 .f32) : FVec Ideal S4x2048x1536 .f32 :=
  (shapeCast _ (extractStridedSlice S8192x1536 ![0, 6144] x0 slices_S8192x7680_S8192x1536_0_6144) shapeCasts_S8192x1536_S4x2048x1536)

/-- The reference's product of the second and the third block. -/
def UC (x0 : FVec Ideal S8192x7680 .f32) : FVec Ideal S4x2048x512 .f32 :=
  (mulf (extractStridedSlice S4x2048x512 ![0, 0, 512] (ZC x0) slices_S4x2048x1536_S4x2048x512_0_0_512) (extractStridedSlice S4x2048x512 ![0, 0, 1024] (ZC x0) slices_S4x2048x1536_S4x2048x512_0_0_1024))

/-- The same with two zero rows in front. -/
def PAD (x0 : FVec Ideal S8192x7680 .f32) : FVec Ideal S4x2050x512 .f32 :=
  (concatenate S4x2050x512 1 [⟨S4x2x512, (broadcastInDim S4x2x512 ![] bcast_S_S4x2x512 (constant S_ .f32 0x00000000#32))⟩, ⟨S4x2048x512, (UC x0)⟩] concatenates_S4x2x512_S4x2048x512_S4x2050x512_d1)

/-- The reference's gated convolution. -/
def REF (x0 : FVec Ideal S8192x7680 .f32) (x1 : FVec Ideal S3x512 .f32) : FVec Ideal S8192x512 .bf16 :=
  truncf .bf16 (shapeCast _ (mulf (extractStridedSlice S4x2048x512 ![0, 0, 0] (ZC x0) slices_S4x2048x1536_S4x2048x512_0_0_0) (addf (addf (mulf (broadcastInDim S4x2048x512 ![0, 1, 2] bcast_S1x1x512_S4x2048x512_0_1_2 (broadcastInDim S1x1x512 ![2] bcast_S512_S1x1x512_2 (shapeCast _ (extractStridedSlice S1x512 ![0, 0] x1 slices_S3x512_S1x512_0_0) shapeCasts_S1x512_S512))) (extractStridedSlice S4x2048x512 ![0, 0, 0] (PAD x0) slices_S4x2050x512_S4x2048x512_0_0_0)) (mulf (broadcastInDim S4x2048x512 ![0, 1, 2] bcast_S1x1x512_S4x2048x512_0_1_2 (broadcastInDim S1x1x512 ![2] bcast_S512_S1x1x512_2 (shapeCast _ (extractStridedSlice S1x512 ![1, 0] x1 slices_S3x512_S1x512_1_0) shapeCasts_S1x512_S512))) (extractStridedSlice S4x2048x512 ![0, 1, 0] (PAD x0) slices_S4x2050x512_S4x2048x512_0_1_0))) (mulf (broadcastInDim S4x2048x512 ![0, 1, 2] bcast_S1x1x512_S4x2048x512_0_1_2 (broadcastInDim S1x1x512 ![2] bcast_S512_S1x1x512_2 (shapeCast _ (extractStridedSlice S1x512 ![2, 0] x1 slices_S3x512_S1x512_2_0) shapeCasts_S1x512_S512))) (extractStridedSlice S4x2048x512 ![0, 2, 0] (PAD x0) slices_S4x2050x512_S4x2048x512_0_2_0)))) shapeCasts_S4x2048x512_S8192x512) bitsLt_bf16_f32

/-- The reference's last two rows. -/
def LAST (x0 : FVec Ideal S8192x7680 .f32) : FVec Ideal S4x2x512 .f32 :=
  extractStridedSlice S4x2x512 ![0, 2048, 0] (PAD x0) slices_S4x2050x512_S4x2x512_0_2048_0

/-- Row `s` of a sequence with two zero rows in front. -/
def padded (x : Fin 2048 → EReal) (s : ℕ) : EReal :=
  if h : 2 ≤ s ∧ s < 2050 then x ⟨s - 2, by omega⟩ else 0

/-- One entry of the causal convolution. -/
def cv (x : Fin 2048 → EReal) (w : Fin 3 → EReal) (s : Fin 2048) : EReal :=
  w 0 * padded x s.val + w 1 * padded x (1 + s.val) + w 2 * x s

/-- The padded sequence two rows on is the sequence. -/
theorem padded_two (x : Fin 2048 → EReal) (s : Fin 2048) : padded x (2 + s.val) = x s := by
  unfold padded
  rw [dif_pos (by omega)]
  congr 1
  exact Fin.ext (by simp)

/-- The row number compared with 2 as machine words. -/
theorem sge_two : ∀ s : Fin 2048, IntOp.cmpi .sge (BitVec.ofNat 32 s.val) 2#32 = if 2 ≤ s.val then 1#1 else 0#1 := by
  decide +kernel

/-- The row number compared with 1 as machine words. -/
theorem sge_one : ∀ s : Fin 2048, IntOp.cmpi .sge (BitVec.ofNat 32 s.val) 1#32 = if 1 ≤ s.val then 1#1 else 0#1 := by
  decide +kernel

/-- Rows rotated by two with the first two masked are the padded sequence. -/
theorem shift_two (x : Fin 2048 → EReal) (w : EReal) (s : Fin 2048) (h : (s.val + 2048 - 2) % 2048 < 2048) :
    Scalar.select (IntOp.cmpi .sge (BitVec.ofNat 32 s.val) 2#32) (w * x ⟨(s.val + 2048 - 2) % 2048, h⟩) (0 : EReal)
      = w * padded x s.val := by
  have hs := s.isLt
  rw [sge_two]
  unfold padded
  by_cases h2 : 2 ≤ s.val
  · rw [if_pos h2, dif_pos (by omega)]
    refine (show _ = w * x ⟨(s.val + 2048 - 2) % 2048, h⟩ from rfl).trans ?_
    congr 3
    omega
  · rw [if_neg h2, dif_neg (by omega), mul_zero]
    rfl

/-- Rows rotated by one with the first one masked are the padded sequence one row on. -/
theorem shift_one (x : Fin 2048 → EReal) (w : EReal) (s : Fin 2048) (h : (s.val + 2048 - 1) % 2048 < 2048) :
    Scalar.select (IntOp.cmpi .sge (BitVec.ofNat 32 s.val) 1#32) (w * x ⟨(s.val + 2048 - 1) % 2048, h⟩) (0 : EReal)
      = w * padded x (1 + s.val) := by
  have hs := s.isLt
  rw [sge_one]
  unfold padded
  by_cases h2 : 1 ≤ s.val
  · rw [if_pos h2, dif_pos (by omega)]
    refine (show _ = w * x ⟨(s.val + 2048 - 1) % 2048, h⟩ from rfl).trans ?_
    congr 3
    omega
  · rw [if_neg h2, dif_neg (by omega), mul_zero]
    rfl

/-- One entry of the reference's product. -/
def prodOf (x : FVec Ideal S8192x7680 .f32) (b : Fin 4) (j : Fin 512) (s : Fin 2048) : EReal :=
  x (ix2 ⟨2048 * b.val + s.val, by omega⟩ ⟨6656 + j.val, by omega⟩) * x (ix2 ⟨2048 * b.val + s.val, by omega⟩ ⟨7168 + j.val, by omega⟩)

/-- One entry of the channel blocks. -/
theorem ZC_at (x : FVec Ideal S8192x7680 .f32) (b : Fin 4) (s : Fin 2048) (j : Fin 1536) :
    ZC x (ix3 b s j) = x (ix2 ⟨2048 * b.val + s.val, by omega⟩ ⟨6144 + j.val, by omega⟩) := by
  pointwise [ZC]
  congr 2
  exact Fin.ext (by simp; omega)

/-- One entry of the reference's product, read off its definition. -/
theorem UC_at (x : FVec Ideal S8192x7680 .f32) (b : Fin 4) (s : Fin 2048) (j : Fin 512) :
    UC x (ix3 b s j) = prodOf x b j s := by
  pointwise [UC]
  rw [ZC_at, ZC_at]
  refine congrArg₂ (· * ·) ?_ ?_ <;> · congr 2; exact Fin.ext (by simp; omega)

/-- One entry of the padded product. -/
theorem PAD_at (x : FVec Ideal S8192x7680 .f32) (b : Fin 4) (s : Fin 2050) (j : Fin 512) :
    PAD x (ix3 b s j) = padded (prodOf x b j) s.val := by
  pointwise [PAD]
  unfold padded
  have hs := s.isLt
  by_cases h : s.val < 2
  · rw [dif_pos h, dif_neg (by omega)]
  · rw [dif_neg h, dif_pos (by omega)]
    exact UC_at x b ⟨s.val - 2, by omega⟩ j

/-- One entry of the reference's result. -/
theorem REF_at (x : FVec Ideal S8192x7680 .f32) (w : FVec Ideal S3x512 .f32) (b : Fin 4) (s : Fin 2048) (j : Fin 512) :
    REF x w (ix2 ⟨2048 * b.val + s.val, by omega⟩ j)
      = x (ix2 ⟨2048 * b.val + s.val, by omega⟩ ⟨6144 + j.val, by omega⟩) * cv (prodOf x b j) (fun k => w (ix2 k j)) s := by
  pointwise [REF]
  rw [PAD_at, PAD_at, PAD_at, ZC_at]
  simp only [padded_two]
  rfl

/-- One entry of the reference's last two rows. -/
theorem LAST_at (x : FVec Ideal S8192x7680 .f32) (b : Fin 4) (s : Fin 2) (j : Fin 512) :
    LAST x (ix3 b s j) = prodOf x b j ⟨2046 + s.val, by omega⟩ := by
  pointwise [LAST]
  rw [PAD_at]
  have hs := s.isLt
  unfold padded
  rw [dif_pos (by show 2 ≤ 2048 + s.val ∧ 2048 + s.val < 2050; omega)]
  exact congrArg _ (Fin.ext (show 2048 + s.val - 2 = 2046 + s.val by omega))

end reference

open Cert.ConvIdeal Cert.ConvIdeal.Gen

variable (m : (ℓ : Loc nD τ sig) → Buf (Elt Ideal) ℓ)

/-- What the body stores of the gated convolution, at one entry of a block. -/
theorem pay2_at (x y z : FVec Ideal S2048x512 .f32) (w : FVec Ideal S3x512 .f32) (s : Fin 2048) (j : Fin 512) :
    k0_pay2 (F := Ideal) x y z w (ix2 s j)
      = z (ix2 s j) * cv (fun s => x (ix2 s j) * y (ix2 s j)) (fun k => w (ix2 k j)) s := by
  pointwise [k0_pay2, k0_pay1]
  rw [shift_two (fun s => x (ix2 s j) * y (ix2 s j)) _ s, shift_one (fun s => x (ix2 s j) * y (ix2 s j)) _ s]
  rfl

/-- What the body stores of the last rows, at one entry. -/
theorem pay3_at (x y : FVec Ideal S2048x512 .f32) (a : Fin 1) (s : Fin 2) (j : Fin 512) :
    k0_pay3 (F := Ideal) x y (ix3 a s j)
      = x (ix2 ⟨2046 + s.val, by omega⟩ j) * y (ix2 ⟨2046 + s.val, by omega⟩ j) := by
  pointwise [k0_pay3, k0_pay1]

/-- Which block each window reads or writes at each grid point. -/
theorem idx_val : ∀ t : Fin cfg0.N, win0_0.index t = ![t.val, 12]
    ∧ win0_1.index t = ![t.val, 13]
    ∧ win0_2.index t = ![t.val, 14]
    ∧ win0_3.index t = ![0, 0]
    ∧ win0_4.index t = ![t.val, 0]
    ∧ win0_5.index t = ![t.val, 0, 0] :=
  (by decide +kernel : ∀ t : Fin grid0.N, _)

/-- The gated convolution after the run is the reference's. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t hf y => ?_
  blk_simp; rw [after0_4]; frame_out
  obtain ⟨s, j, rfl⟩ : ∃ (s : Fin 2048) (j : Fin 512), y = ix2 s j := ⟨y 0, y 1, eq_ix2 y⟩
  have hN : t.val < 4 := t.isLt
  have hemb : ((View.whole main_v0_0).slice (win0_4.rect t)).emb (ix2 s j)
      = ix2 (⟨2048 * t.val + s.val, by have := s.isLt; omega⟩ : Fin 8192) j := by
    blk_ext [idx_val t]
  rw [hemb]
  refine Eq.trans ?_ (REF_at _ _ ⟨t.val, hN⟩ s j).symm
  rw [pay2_at]
  refine congrArg₂ (· * ·) ?_ (congrArg₂ (cv · · s) (funext fun s => congrArg₂ (· * ·) ?_ ?_) (funext fun k => ?_))
  · blk_ext [iblk, V, idx_val t]
  · blk_ext [iblk, V, idx_val t]
  · blk_ext [iblk, V, idx_val t]
  · blk_ext [iblk, V, idx_val t]

/-- The last two rows after the run are the reference's. -/
theorem final_last (c : Dev nD) : (dats m 0 c).arrAt 5 (cfgs 0).N = LAST (m ((c : Thread nD τ).loc main_arg0)) := by
  refine (dats m 0 c).arrAt_eq_of_covers 5 _ (by decide +kernel) fun t hf y => ?_
  blk_simp; rw [after0_5]; frame_out
  obtain ⟨a, s, j, rfl⟩ : ∃ (a : Fin 1) (s : Fin 2) (j : Fin 512), y = ix3 a s j := ⟨y 0, y 1, y 2, eq_ix3 y⟩
  have hN : t.val < 4 := t.isLt
  have hemb : ((View.whole main_v0_1).slice (win0_5.rect t)).emb (ix3 a s j)
      = ix3 (⟨t.val, hN⟩ : Fin 4) s j := by
    blk_ext [idx_val t]
  rw [hemb, LAST_at, pay3_at]
  refine congrArg₂ (· * ·) ?_ ?_
  · blk_ext [iblk, V, idx_val t]
  · blk_ext [iblk, V, idx_val t]

end Cert.Proof.ConvValue

end
-- ==== Proof.PrepTab.lean ====
/- The rotary embedding of the keys, over the whole prompt: the reference, and the tables the kernel turns them by. -/
module

public import proofs.«01_k».proof.Proof.Gen.PrepIdeal.Frame
public import proofs.«01_k».proof.Proof.Gen.PrepRefIdeal.Run
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.PrepTab

section reference

open Cert.PrepRefIdeal Cert.PrepRefIdeal.Gen

/-- The rotary angles. -/
def ANG : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The keys, cut into heads. -/
def AK (x0 : FVec Ideal S8192x7680 .f32) : FVec Ideal S4x2048x8x128 .f32 :=
  shapeCast _ (extractStridedSlice S8192x1024 ![0, 3072] x0 slices_S8192x7680_S8192x1024_0_3072) shapeCasts_S8192x1024_S4x2048x8x128

/-- The rotary embedding of the first columns of every head. -/
def ROPE (k : FVec Ideal S4x2048x8x128 .f32) : FVec Ideal S4x2048x8x128 .f32 :=
  concatenate S4x2048x8x128 3 [⟨S4x2048x8x32, (concatenate S4x2048x8x32 3 [⟨S4x2048x8x16, (subf (mulf (extractStridedSlice S4x2048x8x16 ![0, 0, 0, 0] (extractStridedSlice S4x2048x8x32 ![0, 0, 0, 0] k slices_S4x2048x8x128_S4x2048x8x32_0_0_0_0) slices_S4x2048x8x32_S4x2048x8x16_0_0_0_0) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 (Host.cos ANG))))) (mulf (extractStridedSlice S4x2048x8x16 ![0, 0, 0, 16] (extractStridedSlice S4x2048x8x32 ![0, 0, 0, 0] k slices_S4x2048x8x128_S4x2048x8x32_0_0_0_0) slices_S4x2048x8x32_S4x2048x8x16_0_0_0_16) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 (Host.sin ANG))))))⟩, ⟨S4x2048x8x16, (addf (mulf (extractStridedSlice S4x2048x8x16 ![0, 0, 0, 16] (extractStridedSlice S4x2048x8x32 ![0, 0, 0, 0] k slices_S4x2048x8x128_S4x2048x8x32_0_0_0_0) slices_S4x2048x8x32_S4x2048x8x16_0_0_0_16) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 (Host.cos ANG))))) (mulf (extractStridedSlice S4x2048x8x16 ![0, 0, 0, 0] (extractStridedSlice S4x2048x8x32 ![0, 0, 0, 0] k slices_S4x2048x8x128_S4x2048x8x32_0_0_0_0) slices_S4x2048x8x32_S4x2048x8x16_0_0_0_0) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 (Host.sin ANG))))))⟩] concatenates_S4x2048x8x16_S4x2048x8x16_S4x2048x8x32_d3)⟩, ⟨S4x2048x8x96, (extractStridedSlice S4x2048x8x96 ![0, 0, 0, 32] k slices_S4x2048x8x128_S4x2048x8x96_0_0_0_32)⟩] concatenates_S4x2048x8x32_S4x2048x8x96_S4x2048x8x128_d3

/-- The reference's turned keys. -/
def KF (x0 : FVec Ideal S8192x7680 .f32) : FVec Ideal S8192x1024 .f32 :=
  shapeCast _ (ROPE (AK x0)) shapeCasts_S4x2048x8x128_S8192x1024

end reference

open Cert.PrepIdeal Cert.PrepIdeal.Gen

variable (m : (ℓ : Loc nD τ sig) → Buf (Elt Ideal) ℓ) (c : Dev nD)

/-- The kernel's table of cosines. -/
def AC : FVec Ideal S2048x128 .f32 :=
  shapeCast S2048x128 (broadcastInDim S1x2048x1x128 ![0, 1, 2, 3] bcast_S1x2048x1x128_S1x2048x1x128_0_1_2_3 (shapeCast S1x2048x1x128 (concatenate S2048x128 1 [⟨S2048x16, Host.cos ANG⟩, ⟨S2048x16, Host.cos ANG⟩, ⟨S2048x96, broadcastInDim S2048x96 ![] bcast_S_S2048x96 (constant (F := Ideal) S_ .f32 0x3F800000#32)⟩] concatenates_S2048x16_S2048x16_S2048x96_S2048x128_d1) shapeCasts_S2048x128_S1x2048x1x128)) shapeCasts_S1x2048x1x128_S2048x128

/-- The kernel's table of negated sines. -/
def AU : FVec Ideal S2048x128 .f32 :=
  shapeCast S2048x128 (broadcastInDim S1x2048x1x128 ![0, 1, 2, 3] bcast_S1x2048x1x128_S1x2048x1x128_0_1_2_3 (shapeCast S1x2048x1x128 (concatenate S2048x128 1 [⟨S2048x16, Host.negf (Host.sin ANG)⟩, ⟨S2048x112, broadcastInDim S2048x112 ![] bcast_S_S2048x112 (constant (F := Ideal) S_ .f32 0x00000000#32)⟩] concatenates_S2048x16_S2048x112_S2048x128_d1) shapeCasts_S2048x128_S1x2048x1x128)) shapeCasts_S1x2048x1x128_S2048x128

/-- The kernel's table of sines. -/
def AD : FVec Ideal S2048x128 .f32 :=
  shapeCast S2048x128 (broadcastInDim S1x2048x1x128 ![0, 1, 2, 3] bcast_S1x2048x1x128_S1x2048x1x128_0_1_2_3 (shapeCast S1x2048x1x128 (concatenate S2048x128 1 [⟨S2048x16, broadcastInDim S2048x16 ![] bcast_S_S2048x16 (constant (F := Ideal) S_ .f32 0x00000000#32)⟩, ⟨S2048x16, Host.sin ANG⟩, ⟨S2048x96, broadcastInDim S2048x96 ![] bcast_S_S2048x96 (constant (F := Ideal) S_ .f32 0x00000000#32)⟩] concatenates_S2048x16_S2048x16_S2048x96_S2048x128_d1) shapeCasts_S2048x128_S1x2048x1x128)) shapeCasts_S1x2048x1x128_S2048x128

set_option maxHeartbeats 1000000 in
/-- A part of the table of cosines where the table is put together. -/
theorem up_AC_13 : (upto (hostOps0 ++ (hostOps0_1 ++ (hostOps0_2 ++ (hostOps0_3 ++ hostOps0_4)))) (fun b => m (c, b)) 19 (Proc.devRef .tc main_v13) : FVec Ideal S2048x16 .f32) = Host.cos ANG := by
  after_reads_simp
  rfl

set_option maxHeartbeats 1000000 in
/-- A part of the table of cosines where the table is put together. -/
theorem up_AC_15 : (upto (hostOps0 ++ (hostOps0_1 ++ (hostOps0_2 ++ (hostOps0_3 ++ hostOps0_4)))) (fun b => m (c, b)) 19 (Proc.devRef .tc main_v15) : FVec Ideal S2048x96 .f32) = broadcastInDim S2048x96 ![] bcast_S_S2048x96 (constant (F := Ideal) S_ .f32 0x3F800000#32) := by
  after_reads_simp

set_option maxHeartbeats 1000000 in
/-- The table of cosines where the kernel reads it. -/
theorem V_AC : V m c main_v25 = AC := by
  simp only [V, List.flatten_cons, List.flatten_nil, List.append_nil, afterL_cons, afterL_nil]
  after_reads_simp
  show shapeCast S2048x128 (broadcastInDim S1x2048x1x128 ![0, 1, 2, 3] bcast_S1x2048x1x128_S1x2048x1x128_0_1_2_3 (shapeCast S1x2048x1x128 (concatenate S2048x128 1 [⟨S2048x16, (upto (hostOps0 ++ (hostOps0_1 ++ (hostOps0_2 ++ (hostOps0_3 ++ hostOps0_4)))) (fun b => m (c, b)) 19 (Proc.devRef .tc main_v13) : FVec Ideal S2048x16 .f32)⟩, ⟨S2048x16, (upto (hostOps0 ++ (hostOps0_1 ++ (hostOps0_2 ++ (hostOps0_3 ++ hostOps0_4)))) (fun b => m (c, b)) 19 (Proc.devRef .tc main_v13) : FVec Ideal S2048x16 .f32)⟩, ⟨S2048x96, (upto (hostOps0 ++ (hostOps0_1 ++ (hostOps0_2 ++ (hostOps0_3 ++ hostOps0_4)))) (fun b => m (c, b)) 19 (Proc.devRef .tc main_v15) : FVec Ideal S2048x96 .f32)⟩] concatenates_S2048x16_S2048x16_S2048x96_S2048x128_d1) shapeCasts_S2048x128_S1x2048x1x128)) shapeCasts_S1x2048x1x128_S2048x128 = AC
  rw [up_AC_13, up_AC_15]
  rfl

set_option maxHeartbeats 1000000 in
/-- A part of the table of negated sines where the table is put together. -/
theorem up_AU_17 : (upto (hostOps0 ++ (hostOps0_1 ++ (hostOps0_2 ++ (hostOps0_3 ++ hostOps0_4)))) (fun b => m (c, b)) 23 (Proc.devRef .tc main_v17) : FVec Ideal S2048x16 .f32) = Host.negf (Host.sin ANG) := by
  after_reads_simp
  rfl

set_option maxHeartbeats 1000000 in
/-- A part of the table of negated sines where the table is put together. -/
theorem up_AU_18 : (upto (hostOps0 ++ (hostOps0_1 ++ (hostOps0_2 ++ (hostOps0_3 ++ hostOps0_4)))) (fun b => m (c, b)) 23 (Proc.devRef .tc main_v18) : FVec Ideal S2048x112 .f32) = broadcastInDim S2048x112 ![] bcast_S_S2048x112 (constant (F := Ideal) S_ .f32 0x00000000#32) := by
  after_reads_simp

set_option maxHeartbeats 1000000 in
/-- The table of negated sines where the kernel reads it. -/
theorem V_AU : V m c main_v28 = AU := by
  simp only [V, List.flatten_cons, List.flatten_nil, List.append_nil, afterL_cons, afterL_nil]
  after_reads_simp
  show shapeCast S2048x128 (broadcastInDim S1x2048x1x128 ![0, 1, 2, 3] bcast_S1x2048x1x128_S1x2048x1x128_0_1_2_3 (shapeCast S1x2048x1x128 (concatenate S2048x128 1 [⟨S2048x16, (upto (hostOps0 ++ (hostOps0_1 ++ (hostOps0_2 ++ (hostOps0_3 ++ hostOps0_4)))) (fun b => m (c, b)) 23 (Proc.devRef .tc main_v17) : FVec Ideal S2048x16 .f32)⟩, ⟨S2048x112, (upto (hostOps0 ++ (hostOps0_1 ++ (hostOps0_2 ++ (hostOps0_3 ++ hostOps0_4)))) (fun b => m (c, b)) 23 (Proc.devRef .tc main_v18) : FVec Ideal S2048x112 .f32)⟩] concatenates_S2048x16_S2048x112_S2048x128_d1) shapeCasts_S2048x128_S1x2048x1x128)) shapeCasts_S1x2048x1x128_S2048x128 = AU
  rw [up_AU_17, up_AU_18]
  rfl

set_option maxHeartbeats 1000000 in
/-- A part of the table of sines where the table is put together. -/
theorem up_AD_20 : (upto (hostOps0 ++ (hostOps0_1 ++ (hostOps0_2 ++ (hostOps0_3 ++ hostOps0_4)))) (fun b => m (c, b)) 28 (Proc.devRef .tc main_v20) : FVec Ideal S2048x16 .f32) = broadcastInDim S2048x16 ![] bcast_S_S2048x16 (constant (F := Ideal) S_ .f32 0x00000000#32) := by
  after_reads_simp

set_option maxHeartbeats 1000000 in
/-- A part of the table of sines where the table is put together. -/
theorem up_AD_14 : (upto (hostOps0 ++ (hostOps0_1 ++ (hostOps0_2 ++ (hostOps0_3 ++ hostOps0_4)))) (fun b => m (c, b)) 28 (Proc.devRef .tc main_v14) : FVec Ideal S2048x16 .f32) = Host.sin ANG := by
  after_reads_simp
  rfl

set_option maxHeartbeats 1000000 in
/-- A part of the table of sines where the table is put together. -/
theorem up_AD_21 : (upto (hostOps0 ++ (hostOps0_1 ++ (hostOps0_2 ++ (hostOps0_3 ++ hostOps0_4)))) (fun b => m (c, b)) 28 (Proc.devRef .tc main_v21) : FVec Ideal S2048x96 .f32) = broadcastInDim S2048x96 ![] bcast_S_S2048x96 (constant (F := Ideal) S_ .f32 0x00000000#32) := by
  after_reads_simp

set_option maxHeartbeats 1000000 in
/-- The table of sines where the kernel reads it. -/
theorem V_AD : V m c main_v31 = AD := by
  simp only [V, List.flatten_cons, List.flatten_nil, List.append_nil, afterL_cons, afterL_nil]
  after_reads_simp
  show shapeCast S2048x128 (broadcastInDim S1x2048x1x128 ![0, 1, 2, 3] bcast_S1x2048x1x128_S1x2048x1x128_0_1_2_3 (shapeCast S1x2048x1x128 (concatenate S2048x128 1 [⟨S2048x16, (upto (hostOps0 ++ (hostOps0_1 ++ (hostOps0_2 ++ (hostOps0_3 ++ hostOps0_4)))) (fun b => m (c, b)) 28 (Proc.devRef .tc main_v20) : FVec Ideal S2048x16 .f32)⟩, ⟨S2048x16, (upto (hostOps0 ++ (hostOps0_1 ++ (hostOps0_2 ++ (hostOps0_3 ++ hostOps0_4)))) (fun b => m (c, b)) 28 (Proc.devRef .tc main_v14) : FVec Ideal S2048x16 .f32)⟩, ⟨S2048x96, (upto (hostOps0 ++ (hostOps0_1 ++ (hostOps0_2 ++ (hostOps0_3 ++ hostOps0_4)))) (fun b => m (c, b)) 28 (Proc.devRef .tc main_v21) : FVec Ideal S2048x96 .f32)⟩] concatenates_S2048x16_S2048x16_S2048x96_S2048x128_d1) shapeCasts_S2048x128_S1x2048x1x128)) shapeCasts_S1x2048x1x128_S2048x128 = AD
  rw [up_AD_20, up_AD_14, up_AD_21]
  rfl

/-- One entry of the table of cosines: the cosines twice, then ones. -/
theorem AC_at (p : Fin 2048) (e : Fin 128) : AC (ix2 p e)
    = if h : e.val < 16 then Host.cos ANG (ix2 p ⟨e.val, h⟩)
      else if h' : e.val < 32 then Host.cos ANG (ix2 p ⟨e.val - 16, by omega⟩) else 1 := by
  pointwise [AC]
  have he := e.isLt
  by_cases h : e.val < 16
  · rw [dif_pos h, dif_pos h]
  · rw [dif_neg h, dif_neg h]
    by_cases h' : e.val < 32
    · rw [dif_pos h', dif_pos (by omega)]
    · rw [dif_neg h', dif_neg (by omega)]

/-- One entry of the table of negated sines: the negated sines, then zeros. -/
theorem AU_at (p : Fin 2048) (e : Fin 128) : AU (ix2 p e)
    = if h : e.val < 16 then -(Host.sin ANG (ix2 p ⟨e.val, h⟩) : EReal) else 0 := by
  pointwise [AU]

/-- One entry of the table of sines: zeros, the sines, then zeros. -/
theorem AD_at (p : Fin 2048) (e : Fin 128) : AD (ix2 p e)
    = if h : e.val < 16 then 0
      else if h' : e.val < 32 then Host.sin ANG (ix2 p ⟨e.val - 16, by omega⟩) else 0 := by
  pointwise [AD]
  have he := e.isLt
  by_cases h : e.val < 16
  · rw [dif_pos h, dif_pos h]
  · rw [dif_neg h, dif_neg h]
    by_cases h' : e.val < 32
    · rw [dif_pos h', dif_pos (by omega)]
    · rw [dif_neg h', dif_neg (by omega)]

/-- One entry of the keys. -/
theorem AK_at (x : FVec Ideal S8192x7680 .f32) (b : Fin 4) (s : Fin 2048) (h : Fin 8) (e : Fin 128) (r : Fin 8192) (hr : r.val = 2048 * b.val + s.val) :
    AK x (ix4 b s h e) = x (ix2 r ⟨3072 + (128 * h.val + e.val), by omega⟩) := by
  pointwise [AK]
  exact congrArg₂ (fun j k => x (ix2 j k)) (Fin.ext (by first | omega | (simp; omega))) (Fin.ext (by first | omega | (simp; omega)))

/-- One entry of the rotary embedding: the row turned by the kernel's tables. -/
theorem ROPE_at (k : FVec Ideal Cert.PrepRefIdeal.S4x2048x8x128 .f32) (b : Fin 4) (s : Fin 2048) (h : Fin 8) (e : Fin 128) :
    ROPE k (ix4 b s h e) = k (ix4 b s h e) * AC (ix2 s e) + k (ix4 b s h ⟨(e.val + 16) % 128, Nat.mod_lt _ (by omega)⟩) * AU (ix2 s e)
      + k (ix4 b s h ⟨(e.val + 112) % 128, Nat.mod_lt _ (by omega)⟩) * AD (ix2 s e) := by
  rw [AC_at, AU_at, AD_at]
  pointwise [ROPE]
  have he := e.isLt
  by_cases h1 : e.val < 16
  · have e2 : (e.val + 16) % 128 = 16 + e.val := by omega
    simp only [dif_pos h1, dif_pos (show e.val < 32 by omega), mul_zero, add_zero, mul_neg, ← sub_eq_add_neg, e2]
  · by_cases h2 : e.val < 32
    · have e2 : (e.val + 112) % 128 = e.val - 16 := by omega
      have e3 : 16 + (e.val - 16) = e.val := by omega
      simp only [dif_neg h1, dif_pos h2, mul_zero, add_zero, e2, e3]
    · have e3 : 32 + (e.val - 32) = e.val := by omega
      simp only [dif_neg h1, dif_neg h2, mul_zero, add_zero, mul_one, e3]

/-- One entry of the reference's turned keys. -/
theorem KF_at (x : FVec Ideal S8192x7680 .f32) (r : Fin 8192) (h : Fin 8) (e : Fin 128) (q : Fin 2048) (hq : q.val = r.val % 2048) :
    KF x (ix2 r ⟨128 * h.val + e.val, by omega⟩)
      = x (ix2 r ⟨3072 + (128 * h.val + e.val), by omega⟩) * AC (ix2 q e)
        + x (ix2 r ⟨3072 + (128 * h.val + (e.val + 16) % 128), by omega⟩) * AU (ix2 q e)
        + x (ix2 r ⟨3072 + (128 * h.val + (e.val + 112) % 128), by omega⟩) * AD (ix2 q e) := by
  have hr := r.isLt
  have hh := h.isLt
  have he := e.isLt
  have hb : r.val / 2048 < 4 := by omega
  have key : KF x (ix2 r ⟨128 * h.val + e.val, by omega⟩) = ROPE (AK x) (ix4 ⟨r.val / 2048, hb⟩ q h e) := by
    pointwise [KF]
    refine congrArg (ROPE (AK x)) ?_
    refine congr (congr (congr (congrArg ix4 (Fin.ext ?_)) (Fin.ext ?_)) (Fin.ext ?_)) (Fin.ext ?_) <;> simp <;> omega
  rw [key, ROPE_at, AK_at x _ q h _ r (by simp; omega), AK_at x _ q h _ r (by simp; omega), AK_at x _ q h _ r (by simp; omega)]

end Cert.Proof.PrepTab

end
-- ==== Proof.PrepValue.lean ====
/- The call that turns the keys, over the whole prompt: what it leaves when it ends. -/
module

public import proofs.«01_k».proof.Proof.PrepTab
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.PrepValue

open Cert.PrepIdeal Cert.PrepIdeal.Gen
open Cert.Proof.PrepTab

variable (m : (ℓ : Loc nD τ sig) → Buf (Elt Ideal) ℓ)

/-- The rows of one head as the body stores them, from the head's columns and the three tables. -/
def NEW (c0 c1 c2 v : FVec Ideal S256x128 .f32) : FVec Ideal S256x128 .f32 :=
  addf (addf (mulf v (shapeCast S256x128 c0 shapeCasts_S256x128_S256x128)) (mulf (dynamicRotate 1 112#32 none v rotates_S256x128_d1) (shapeCast S256x128 c1 shapeCasts_S256x128_S256x128)))
    (mulf (dynamicRotate 1 16#32 none v rotates_S256x128_d1) (shapeCast S256x128 c2 shapeCasts_S256x128_S256x128))

/-- One entry of the stored rows. -/
theorem NEW_at (c0 c1 c2 v : FVec Ideal S256x128 .f32) (i : Fin 256) (e : Fin 128) :
    NEW c0 c1 c2 v (ix2 i e) = v (ix2 i e) * c0 (ix2 i e)
      + v (ix2 i ⟨(e.val + 16) % 128, Nat.mod_lt _ (by omega)⟩) * c1 (ix2 i e)
      + v (ix2 i ⟨(e.val + 112) % 128, Nat.mod_lt _ (by omega)⟩) * c2 (ix2 i e) := by
  pointwise [NEW]
  have e1 : e.val + 128 - 112 = e.val + 16 := by omega
  have e2 : e.val + 128 - 16 = e.val + 112 := by omega
  simp only [e1, e2]

/-- A load of a head's band of columns, entry by entry. -/
theorem ld_band (x : FVec Ideal S256x1024 .f32) (o : ℕ) (inb : ∀ a, (![0, o] : Fin 2 → ℕ) a + S256x128.size a ≤ S256x1024.size a)
    (ho : o ≤ 896) (i : Fin 256) (e : Fin 128) :
    View.ld (Val := Elt Ideal) (e' := .f32) x (Rect.unit (s := S256x1024) ![0, o] S256x128.size inb) (ix2 i e : S256x128.Idx) = x (ix2 i ⟨o + e.val, by omega⟩) := by
  rw [View.ld_unit_apply_of _ _ _ _ _ (ix2 i ⟨o + e.val, by omega⟩ : S256x1024.Idx)]
  intro a
  fin_cases a <;> simp

/-- The blocks the windows show at every point. -/
theorem idx : ∀ t : Fin cfg0.N, win0_1.index t = ![t.val, 3] ∧ win0_5.index t = ![t.val % 8, 0]
    ∧ win0_6.index t = ![t.val % 8, 0] ∧ win0_7.index t = ![t.val % 8, 0] ∧ win0_16.index t = ![t.val, 0] :=
  (by decide +kernel : ∀ t : Fin grid0.N, _)

/-- The keys' columns as the kernel is given them. -/
theorem blk1 (c : Dev nD) (t : Fin cfg0.N) (i : Fin 256) (e : Fin 1024) (r : Fin 8192) (hr : r.val = 256 * t.val + i.val) :
    X0_1 m c t (ix2 i e) = (m ((c : Thread nD τ).loc main_arg0) : FVec Ideal S8192x7680 .f32) (ix2 r ⟨3072 + e.val, by omega⟩) := by
  unfold X0_1 Pipeline.Window.fill
  rw [dif_pos (moved0_1 t _)]
  blk_ext [iblk, V_main_arg0, idx t]

/-- The table of cosines as the kernel is given it. -/
theorem blk5 (c : Dev nD) (t : Fin cfg0.N) (i : Fin 256) (e : Fin 128) (q : Fin 2048) (hq : q.val = 256 * (t.val % 8) + i.val) :
    iblk m c 5 t (ix2 i e) = AC (ix2 q e) := by
  rw [← V_AC m c]
  blk_ext [iblk, idx t]

/-- The table of negated sines as the kernel is given it. -/
theorem blk6 (c : Dev nD) (t : Fin cfg0.N) (i : Fin 256) (e : Fin 128) (q : Fin 2048) (hq : q.val = 256 * (t.val % 8) + i.val) :
    iblk m c 6 t (ix2 i e) = AU (ix2 q e) := by
  rw [← V_AU m c]
  blk_ext [iblk, idx t]

/-- The table of sines as the kernel is given it. -/
theorem blk7 (c : Dev nD) (t : Fin cfg0.N) (i : Fin 256) (e : Fin 128) (q : Fin 2048) (hq : q.val = 256 * (t.val % 8) + i.val) :
    iblk m c 7 t (ix2 i e) = AD (ix2 q e) := by
  rw [← V_AD m c]
  blk_ext [iblk, idx t]

/-- The rows the body stores for head 0. -/
theorem pay_0 (c0 c1 c2 v : FVec Ideal S256x128 .f32) : k0_pay9 c0 c1 c2 v = NEW c0 c1 c2 v := rfl

/-- The rows the body stores for head 1. -/
theorem pay_1 (c0 c1 c2 v : FVec Ideal S256x128 .f32) : k0_pay12 (k0_pay2 c0) (k0_pay3 c1) (k0_pay4 c2) v = NEW c0 c1 c2 v := rfl

/-- The rows the body stores for head 2. -/
theorem pay_2 (c0 c1 c2 v : FVec Ideal S256x128 .f32) : k0_pay15 (k0_pay2 c0) (k0_pay3 c1) (k0_pay4 c2) v = NEW c0 c1 c2 v := rfl

/-- The rows the body stores for head 3. -/
theorem pay_3 (c0 c1 c2 v : FVec Ideal S256x128 .f32) : k0_pay18 (k0_pay2 c0) (k0_pay3 c1) (k0_pay4 c2) v = NEW c0 c1 c2 v := rfl

/-- The rows the body stores for head 4. -/
theorem pay_4 (c0 c1 c2 v : FVec Ideal S256x128 .f32) : k0_pay21 (k0_pay2 c0) (k0_pay3 c1) (k0_pay4 c2) v = NEW c0 c1 c2 v := rfl

/-- The rows the body stores for head 5. -/
theorem pay_5 (c0 c1 c2 v : FVec Ideal S256x128 .f32) : k0_pay25 (k0_pay4 c2) v (k0_pay24 (k0_pay2 c0) (k0_pay3 c1) v) = NEW c0 c1 c2 v := rfl

/-- The rows the body stores for head 6. -/
theorem pay_6 (c0 c1 c2 v : FVec Ideal S256x128 .f32) : k0_pay28 (k0_pay2 c0) (k0_pay3 c1) (k0_pay4 c2) v = NEW c0 c1 c2 v := rfl

/-- The rows the body stores for head 7. -/
theorem pay_7 (c0 c1 c2 v : FVec Ideal S256x128 .f32) : k0_pay32 (k0_pay2 c0) (k0_pay3 c1) (k0_pay4 c2) v = NEW c0 c1 c2 v := rfl

/-- What the body stores for one head, over the kernel's input blocks, is the reference's rows there. -/
theorem piece (c : Dev nD) (t : Fin cfg0.N) (o : ℕ) (h : Fin 8) (ho : o = 128 * h.val) (ik : ∀ a, (![0, o] : Fin 2 → ℕ) a + (![256, 128] : Fin 2 → ℕ) a ≤ S256x1024.size a)
    (i : Fin 256) (k : Fin 1024) (x : S256x128.Idx) (r : Fin 8192) (hr : r.val = 256 * t.val + i.val) (h0 : i.val = (x 0).val) (h1 : k.val = o + (x 1).val) :
    NEW (iblk m c 5 t : FVec Ideal S256x128 .f32) (iblk m c 6 t : FVec Ideal S256x128 .f32) (iblk m c 7 t : FVec Ideal S256x128 .f32)
      (View.ld (Val := Elt Ideal) (e' := .f32) (X0_1 m c t : FVec Ideal S256x1024 .f32) (Rect.unit (s := S256x1024) ![0, o] ![256, 128] ik)) x
      = KF (m ((c : Thread nD τ).loc main_arg0)) (ix2 r k) := by
  obtain ⟨i', e, rfl⟩ : ∃ (i : Fin 256) (e : Fin 128), x = ix2 i e := ⟨x 0, x 1, eq_ix2 x⟩
  obtain rfl : i = i' := Fin.ext h0
  have hh := h.isLt
  have he := e.isLt
  have ht : t.val < 32 := lt_of_lt_of_eq t.isLt N_0
  have hi := i.isLt
  subst ho
  have hlt : 128 * h.val + e.val < 1024 := by omega
  obtain rfl : k = ⟨128 * h.val + e.val, hlt⟩ := Fin.ext h1
  have hq : (r.val % 2048) < 2048 := by omega
  rw [KF_at _ r h e ⟨r.val % 2048, hq⟩ rfl]
  refine (NEW_at _ _ _ _ i e).trans ?_
  refine congrArg₂ (· + ·) (congrArg₂ (· + ·) (congrArg₂ (· * ·) ?_ ?_) (congrArg₂ (· * ·) ?_ ?_)) (congrArg₂ (· * ·) ?_ ?_)
  · exact (ld_band _ _ _ (by omega) i _).trans (blk1 m c t i _ r hr)
  · exact blk5 m c t i e _ (by first | omega | (simp; omega))
  · exact (ld_band _ _ _ (by omega) i _).trans (blk1 m c t i _ r hr)
  · exact blk6 m c t i e _ (by first | omega | (simp; omega))
  · exact (ld_band _ _ _ (by omega) i _).trans (blk1 m c t i _ r hr)
  · exact blk7 m c t i e _ (by simp; omega)

set_option maxHeartbeats 4000000 in
/-- The turned keys after the run are the reference's. -/
theorem final (c : Dev nD) : (dats m 0 c).arrAt 16 (cfgs 0).N = KF (m ((c : Thread nD τ).loc main_arg0)) := by
  refine (dats m 0 c).arrAt_eq_of_covers 16 _ (by decide +kernel) fun t hf y => ?_
  have ht : t.val < 32 := lt_of_lt_of_eq t.isLt N_0
  blk_simp; rw [after0_16]
  obtain ⟨i, k, rfl⟩ : ∃ (i : Fin 256) (k : Fin 1024), y = ix2 i k := ⟨y 0, y 1, eq_ix2 y⟩
  have hi := i.isLt
  have hemb : ((View.whole main_v67_3).slice (win0_16.rect t)).emb (ix2 i k) = ix2 ⟨256 * t.val + i.val, by omega⟩ k := by
    blk_ext [idx t]
  rw [hemb]
  unfold Gen.outsAt0
  frame_out
  canon_tiles x h
  · refine (congrFun (pay_7 _ _ _ _) x).trans ?_
    exact piece m c t 896 7 rfl _ i k x ⟨256 * t.val + i.val, by omega⟩ rfl h0 h1
  · refine (congrFun (pay_6 _ _ _ _) x).trans ?_
    exact piece m c t 768 6 rfl _ i k x ⟨256 * t.val + i.val, by omega⟩ rfl h0 h1
  · refine (congrFun (pay_5 _ _ _ _) x).trans ?_
    exact piece m c t 640 5 rfl _ i k x ⟨256 * t.val + i.val, by omega⟩ rfl h0 h1
  · refine (congrFun (pay_4 _ _ _ _) x).trans ?_
    exact piece m c t 512 4 rfl _ i k x ⟨256 * t.val + i.val, by omega⟩ rfl h0 h1
  · refine (congrFun (pay_3 _ _ _ _) x).trans ?_
    exact piece m c t 384 3 rfl _ i k x ⟨256 * t.val + i.val, by omega⟩ rfl h0 h1
  · refine (congrFun (pay_2 _ _ _ _) x).trans ?_
    exact piece m c t 256 2 rfl _ i k x ⟨256 * t.val + i.val, by omega⟩ rfl h0 h1
  · refine (congrFun (pay_1 _ _ _ _) x).trans ?_
    exact piece m c t 128 1 rfl _ i k x ⟨256 * t.val + i.val, by omega⟩ rfl h0 h1
  · refine (congrFun (pay_0 _ _ _ _) x).trans ?_
    exact piece m c t 0 0 rfl _ i k x ⟨256 * t.val + i.val, by omega⟩ rfl h0 (h1.trans (Nat.zero_add _).symm)

/-- The whole run: its result and its arguments when it ends. -/
theorem run (ρ : Dev nD → PrngReg) : θ_run defs (onTc (τ := τ) (main (F := Ideal))) ⟨m, fun _ => 0, ρ⟩ (fun r => ∀ c : Dev nD,
      r.2.mem ((c.tc : Thread nD τ).loc main_v67_3) = KF (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 16).trans (final m c), h.2 c⟩)
    (θ_run_and (Cert.PrepIdeal.Gen.run_main m ρ) (Cert.PrepIdeal.Gen.unchanged m ρ))

end Cert.Proof.PrepValue

end
-- ==== Proof.SInRun.lean ====
/- The run of the input projection of the sampled positions with ideal arithmetic. At every grid point the body stores one block of the
   main product; at the first point of a row of blocks it also stores the row's block of the small product,
   whose buffer then stays as it is until the row's last point writes it back. -/
module

public import proofs.«01_k».proof.Proof.Gen.SInIdeal.Launch
public import proofs.«01_k».proof.Proof.Gen.SInIdeal.Skeleton
public import proofs.«01_k».proof.Proof.Gen.SInIdeal.Points
public import proofs.«01_k».proof.Proof.Gen.SInIdeal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.SInRun

open Cert.SInIdeal Cert.SInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two stores leave -/

/-- The whole of a block of rows of `x`, -/
abbrev rx : Rect S8x2048 := Rect.unit (s := S8x2048) ![0, 0] S8x2048.size inb_S8x2048_S8x2048_0_0
/-- of a block of columns of the main weights, -/
abbrev rw : Rect S2048x512 := Rect.unit (s := S2048x512) ![0, 0] S2048x512.size inb_S2048x512_S2048x512_0_0
/-- of the small weights, -/
abbrev rs : Rect S2048x128 := Rect.unit (s := S2048x128) ![0, 0] S2048x128.size inb_S2048x128_S2048x128_0_0
/-- of a block of the main product, -/
abbrev ro : Rect S8x512 := Rect.unit (s := S8x512) ![0, 0] S8x512.size inb_S8x512_S8x512_0_0
/-- and of a block of the small one. -/
abbrev rq : Rect S8x128 := Rect.unit (s := S8x128) ![0, 0] S8x128.size inb_S8x128_S8x128_0_0

/-- The block of the main product a point stores, from its blocks of `x` and of the main weights. -/
def mainBlk (x : Vec F S8x2048 .f32) (w : Vec F S2048x512 .bf16) : Vec F S8x512 .f32 :=
  View.canon [⟨ro, k0_pay2 (View.ld x rx) (View.ld w rw)⟩]

/-- The block of the small product a row's first point stores. -/
def smallBlk (x : Vec F S8x2048 .f32) (w : Vec F S2048x128 .bf16) : Vec F S8x128 .f32 :=
  View.canon [⟨rq, k0_pay3 (View.ld x rx) (View.ld w rs)⟩]

/-- The one store of the main block covers its buffer. -/
theorem main_covered (p : Vec F S8x512 .f32) (y : S8x512.Idx) :
    ∃ pc ∈ ([⟨ro, p⟩] : List (View.Piece (Elt F) S8x512 .f32)), y ∈ pc.1.set :=
  View.cover_of_tiled [⟨ro, p⟩] S8x512.size (by rfl) y

/-- So does the one store of the small block. -/
theorem small_covered (p : Vec F S8x128 .f32) (y : S8x128.Idx) :
    ∃ pc ∈ ([⟨rq, p⟩] : List (View.Piece (Elt F) S8x128 .f32)), y ∈ pc.1.set :=
  View.cover_of_tiled [⟨rq, p⟩] S8x128.size (by rfl) y

/-! ## When the small block is stored -/

/-- The body stores the small block at the first of each row's fifteen points. -/
theorem cond_iff : ∀ t : Fin cfg0.N, k0_cond1 (grid0.coords t) = 1#1 ↔ t.val % 15 = 0 :=
  (fun t => by
    have ht : t.val < 15 := Nat.lt_of_lt_of_eq t.isLt N_0
    have e1 : (grid0.coords t 1).val = t.val / 1 % 15 := Pipeline.Grid.coords_val t 1 (by decide) rfl
    simp only [k0_cond1, e1]
    word_cmp
   : ∀ t : Fin grid0.N, k0_cond1 (grid0.coords t) = 1#1 ↔ t.val % 15 = 0)

/-- At a row's first point the small window is written. -/
theorem live_first (t : Fin cfg0.N) (h : t.val % 15 = 0) : cfg0.idle 4 (grid0.coords t) = false := by
  show (!(k0_cond1 (grid0.coords t) == 1#1)) = false
  rw [(cond_iff t).mpr h]; rfl

/-- At the others it is idle. -/
theorem idle_rest (t : Fin cfg0.N) (h : t.val % 15 ≠ 0) : cfg0.idle 4 (grid0.coords t) = true := by
  show (!(k0_cond1 (grid0.coords t) == 1#1)) = true
  simp only [Bool.not_eq_true', beq_eq_false_iff_ne, ne_eq]
  exact fun e => h ((cond_iff t).mp e)

/-- Its buffer holds nothing of the row's only at the row's first point. -/
theorem fresh_iff : ∀ n, n ≤ cfg0.N → cfg0.fresh 4 n = decide (n % 15 = 0) :=
  cfg0.fresh_tab 4 (fun n => decide (n % 15 = 0)) rfl fun t => by
    by_cases h : t.val % 15 = 14
    · rw [(flush0_4 t).mpr h, Bool.true_or]
      exact decide_eq_true (by omega)
    · have hf : (cfg0.win 4).flush t = false := by
        rw [← Bool.not_eq_true]; exact fun e => h ((flush0_4 t).mp e)
      rw [hf, Bool.false_or]
      by_cases h0 : t.val % 15 = 0
      · rw [live_first t h0, Bool.false_and]; exact decide_eq_false (by omega)
      · rw [idle_rest t h0, Bool.true_and]
        rw [decide_eq_false h0]; exact decide_eq_false (by omega)

/-! ## The body -/

set_option maxHeartbeats 1000000 in
/-- At a row's first point the body stores both blocks. -/
theorem runs_first (c : Dev nD) (E : Set ℕ) (i : grid0.Coords) (hc : k0_cond1 i = 1#1)
    (a2 : Memref sig .tc .vmem S8x2048 .f32) (h2 : a2.IsWhole) (a3 : Memref sig .tc .vmem S2048x512 .bf16) (h3 : a3.IsWhole)
    (a4 : Memref sig .tc .vmem S2048x128 .bf16) (h4 : a4.IsWhole) (a5 : Memref sig .tc .vmem S8x512 .f32) (h5 : a5.IsWhole)
    (a6 : Memref sig .tc .vmem S8x128 .f32) (h6 : a6.IsWhole)
    (x : Vec F S8x2048 .f32) (w : Vec F S2048x512 .bf16) (s : Vec F S2048x128 .bf16) (K : PUnit → sProp 𝕄) :
    iprop(owns (c : Thread nD τ) a2 fullShare x ∗ owns (c : Thread nD τ) a3 fullShare w ∗ owns (c : Thread nD τ) a4 fullShare s
        ∗ (∃ d, owns (c : Thread nD τ) a5 fullShare d) ∗ (∃ d, owns (c : Thread nD τ) a6 fullShare d)
        ∗ (iprop(owns (c : Thread nD τ) a2 fullShare x ∗ owns (c : Thread nD τ) a3 fullShare w ∗ owns (c : Thread nD τ) a4 fullShare s
            ∗ owns (c : Thread nD τ) a5 fullShare (mainBlk x w) ∗ owns (c : Thread nD τ) a6 fullShare (smallBlk x s)) -∗ K ⟨⟩))
      ⊢ wp frame (wpE (defs₀ (F := F)) Variants.none c none) E (cc0_inproj i a2 h2 a3 h3 a4 h4 a5 h5 a6 h6) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (main_covered _)
  iexists _; isplitr
  swap; · iexact H4
  ipureintro
  exact View.read_writes_eq_canon _ _ _ (small_covered _)

set_option maxHeartbeats 1000000 in
/-- At the others it stores the main block and leaves the small one as it is. -/
theorem runs_rest (c : Dev nD) (E : Set ℕ) (i : grid0.Coords) (hc : ¬k0_cond1 i = 1#1)
    (a2 : Memref sig .tc .vmem S8x2048 .f32) (h2 : a2.IsWhole) (a3 : Memref sig .tc .vmem S2048x512 .bf16) (h3 : a3.IsWhole)
    (a4 : Memref sig .tc .vmem S2048x128 .bf16) (h4 : a4.IsWhole) (a5 : Memref sig .tc .vmem S8x512 .f32) (h5 : a5.IsWhole)
    (a6 : Memref sig .tc .vmem S8x128 .f32) (h6 : a6.IsWhole)
    (x : Vec F S8x2048 .f32) (w : Vec F S2048x512 .bf16) (s : Vec F S2048x128 .bf16) (q : Vec F S8x128 .f32) (K : PUnit → sProp 𝕄) :
    iprop(owns (c : Thread nD τ) a2 fullShare x ∗ owns (c : Thread nD τ) a3 fullShare w ∗ owns (c : Thread nD τ) a4 fullShare s
        ∗ (∃ d, owns (c : Thread nD τ) a5 fullShare d) ∗ owns (c : Thread nD τ) a6 fullShare q
        ∗ (iprop(owns (c : Thread nD τ) a2 fullShare x ∗ owns (c : Thread nD τ) a3 fullShare w ∗ owns (c : Thread nD τ) a4 fullShare s
            ∗ owns (c : Thread nD τ) a5 fullShare (mainBlk x w) ∗ owns (c : Thread nD τ) a6 fullShare q) -∗ K ⟨⟩))
      ⊢ wp frame (wpE (defs₀ (F := F)) Variants.none c none) E (cc0_inproj i a2 h2 a3 h3 a4 h4 a5 h5 a6 h6) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (main_covered _)
  iexists f4; isplitr; · ipureintro; rfl
  iexact H4

/-! ## What the buffers hold at each point -/

/-- The arrays as the host left them; after each point the inputs' buffers at their blocks, the main window's at the
    block stored, the small window's at the block its row's first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => mainBlk (iblk m c 0 t) (iblk m c 1 t)
    | ⟨4, _⟩ => smallBlk (iblk m c 0 t) (iblk m c 2 t)
  Φ _ := Pipeline.ΦA spec0 c
  q _ := fullShare
  owed _ := 0

/-- The arrays are those the host left. -/
theorem A_eq (c : Dev nD) (w : Fin cfg0.W) : (dats m 0 c).A w = V m c (Pipeline.arrRef spec0 w) := by
  dsimp only [dats]

/-- After a point, the block of `x` is in place, -/
theorem after0_0 (c : Dev nD) (t : Fin cfg0.N) : (dats m 0 c).after 0 t = iblk m c 0 t := by dsimp only [dats]
/-- so is that of the main weights, -/
theorem after0_1 (c : Dev nD) (t : Fin cfg0.N) : (dats m 0 c).after 1 t = iblk m c 1 t := by dsimp only [dats]
/-- so are the small weights, -/
theorem after0_2 (c : Dev nD) (t : Fin cfg0.N) : (dats m 0 c).after 2 t = iblk m c 2 t := by dsimp only [dats]
/-- the main window's buffer holds the block of the main product, -/
theorem after0_3 (c : Dev nD) (t : Fin cfg0.N) : (dats m 0 c).after 3 t = mainBlk (iblk m c 0 t) (iblk m c 1 t) := by dsimp only [dats]
/-- and the small window's the row's block of the small product. -/
theorem after0_4 (c : Dev nD) (t : Fin cfg0.N) : (dats m 0 c).after 4 t = smallBlk (iblk m c 0 t) (iblk m c 2 t) := by dsimp only [dats]

/-- The body finds the block of `x`, -/
theorem before0_0 (c : Dev nD) (t : Fin cfg0.N) (d) : (dats m 0 c).before 0 t d = iblk m c 0 t :=
  before0_0_of m (dats m 0 c) (A_eq m c 0) (after0_0 m c) t d
/-- that of the main weights, -/
theorem before0_1 (c : Dev nD) (t : Fin cfg0.N) (d) : (dats m 0 c).before 1 t d = iblk m c 1 t :=
  before0_1_of m (dats m 0 c) (A_eq m c 1) (after0_1 m c) t d
/-- and the small weights. -/
theorem before0_2 (c : Dev nD) (t : Fin cfg0.N) (d) : (dats m 0 c).before 2 t d = iblk m c 2 t :=
  before0_2_of m (dats m 0 c) (A_eq m c 2) (after0_2 m c) t d

/-- Which blocks of `x` and of the small weights a point reads. -/
theorem idx_in : ∀ t : Fin cfg0.N, win0_0.index t = ![t.val / 15, 0] ∧ win0_2.index t = ![0, 0] :=
  (by decide +kernel : ∀ t : Fin grid0.N, _)

/-- Two points which read the same block of `x` find the same contents. -/
theorem x_congr (c : Dev nD) (t t' : Fin cfg0.N) (h : win0_0.index t = win0_0.index t') : iblk m c 0 t = iblk m c 0 t' := by
  have e : ∀ (u : Fin cfg0.N) d, (dats m 0 c).fetched 0 u d = iblk m c 0 u := fun u d => by
    unfold Dat.fetched Dat.blockOf iblk; rw [A_eq]; try rfl
  exact (e t (iblk m c 0 t)).symm.trans (((dats m 0 c).fetched_congr 0 h rfl (iblk m c 0 t)).trans (e t' _))

/-- The same for the small weights. -/
theorem s_congr (c : Dev nD) (t t' : Fin cfg0.N) (h : win0_2.index t = win0_2.index t') : iblk m c 2 t = iblk m c 2 t' := by
  have e : ∀ (u : Fin cfg0.N) d, (dats m 0 c).fetched 2 u d = iblk m c 2 u := fun u d => by
    unfold Dat.fetched Dat.blockOf iblk; rw [A_eq]; try rfl
  exact (e t (iblk m c 2 t)).symm.trans (((dats m 0 c).fetched_congr 2 h rfl (iblk m c 2 t)).trans (e t' _))

/-- Within a row the small block does not change. -/
theorem small_carried (c : Dev nD) (t : Fin cfg0.N) (h : t.val % 15 ≠ 0) :
    (dats m 0 c).after 4 t = (dats m 0 c).after 4 ⟨t.val - 1, by omega⟩ := by
  rw [after0_4, after0_4, x_congr m c t ⟨t.val - 1, by omega⟩ (by
      rw [(idx_in t).1, (idx_in ⟨t.val - 1, by omega⟩).1, show t.val / 15 = (t.val - 1) / 15 by omega]),
    s_congr m c t ⟨t.val - 1, by omega⟩ (by rw [(idx_in t).2, (idx_in ⟨t.val - 1, by omega⟩).2])]

/-- After a row's first point the body finds the row's small block. -/
theorem before0_4 (c : Dev nD) (t : Fin cfg0.N) (h : t.val % 15 ≠ 0) (d) :
    (dats m 0 c).before 4 t d = (dats m 0 c).after 4 t := by
  rw [(dats m 0 c).before_out_traj 4 rfl (fun _ _ => rfl) (fun u hu hi hfr => small_carried m c u fun e => by
      rw [fresh_iff u.val (Nat.le_of_lt u.isLt), decide_eq_true e] at hfr; exact Bool.noConfusion hfr) t.val t rfl d,
    fresh_iff t.val (Nat.le_of_lt t.isLt), decide_eq_false h, if_neg Bool.false_ne_true]
  exact (small_carried m c t h).symm

/-! ## The run -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- Holding the row's small block is what the small window asks for after a point: to be written back at the row's last
    point, and to be left as found at the points between. -/
theorem small_leaves (c : Dev nD) (t : Fin cfg0.N) :
    (owns (c : Thread nD τ) (st0_4 t) fullShare ((dats m 0 c).after 4 t) : sProp 𝕄) ⊢ (dats m 0 c).leavesExact 4 t := by
  unfold Dat.leavesExact
  by_cases h : t.val % 15 = 0
  · rw [live_first t h]
  · rw [idle_rest t h]
    cases hf : (cfg0.win 4).flush t
    · dsimp only
      iintro H; iexists ((dats m 0 c).after 4 t)
      rw [before0_4 m c t h]; iexact H
    · exact .rfl

set_option maxHeartbeats 1000000 in
/-- The body at any point. -/
theorem body_runs (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from rfl,
    after0_0, after0_1, after0_2, after0_3]
  by_cases h : t.val % 15 = 0
  · iintro ⟨HΦ, Ho, ⟨%d0, H0⟩, ⟨%d1, H1⟩, ⟨%d2, H2⟩, ⟨%d3, H3⟩, ⟨%d4, H4⟩⟩
    iapply (runs_first c Set.univ (grid0.coords t) ((cond_iff t).mpr h) _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (small_leaves m c t)
    rw [after0_4]; iexact H4
  · simp only [before0_4 m c t h, after0_4]
    iintro ⟨HΦ, Ho, ⟨%d0, H0⟩, ⟨%d1, H1⟩, ⟨%d2, H2⟩, ⟨%d3, H3⟩, ⟨%d4, H4⟩⟩
    iapply (runs_rest c Set.univ (grid0.coords t) (fun e => h ((cond_iff t).mp e)) _ _ _ _ _ _ _ _ _ _ (iblk m c 0 t) (iblk m c 1 t) (iblk m c 2 t)
      (smallBlk (iblk m c 0 t) (iblk m c 2 t)) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (small_leaves m c t)
    rw [after0_4]; iexact H4

/-- What the pipeline calls at a point is the body on its current buffers. -/
theorem called (t : Fin cfg0.N) :
    defs₀ (F := F) .tc cfg0.body (cfg0.bodyArgs t (cfg0.slots t)) = bodyAt0 t := by
  unfold defs₀; rw [Defs.onTc_tc]

/-- The body does, at every point, what the pipeline asks of it. -/
theorem body_obligation (c : Dev nD) : BodyObligation (dats (F := F) m 0 c) (defs₀ (F := F)) Variants.none () Set.univ := fun t => by
  rw [bigSep_W0, bigSep_W0, called]
  exact triple_restated (body_runs m c t) rfl .rfl fun _ => .rfl

set_option backward.isDefEq.respectTransparency.types false in
set_option maxHeartbeats 800000 in
/-- The program runs to its end, every array at what its blocks make of it and every counter at zero. -/
theorem run_counters : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run, without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_counters m ρ)

/-- The program runs, leaves its arguments as they were and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_counters m ρ))

end Cert.Proof.SInRun

end
-- ==== Proof.SInValue.lean ====
/- The value of the input projection of the sampled positions: the two arrays the tiled kernel leaves are the columns of the
   reference's one product, the wide columns side by side and the narrow ones padded with zeros. -/
module

public import proofs.«01_k».proof.Proof.SInRun
public import proofs.«01_k».proof.Proof.Gen.SInRefIdeal
public import Idealize.ShloMosaic.Lib.StableHlo.Run
public import Idealize.ShloMosaic.Lib.StableHlo.RunRead
public import Idealize.ShloMosaic.Lib.KernelVsHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.SInValue

open Cert.SInIdeal Cert.SInIdeal.Gen Cert.Proof.SInRun

variable (m : (ℓ : Loc nD τ sig) → Buf (Elt Ideal) ℓ)

/-- The reference's one product, over its two arguments. -/
abbrev PROD (x : FVec Ideal Cert.SInRefIdeal.S8x2048 .f32) (w : FVec Ideal Cert.SInRefIdeal.S2048x7760 .f32) :
    FVec Ideal Cert.SInRefIdeal.S8x7760 .f32 :=
  Host.dotGeneral Cert.SInRefIdeal.dot_S8x2048_S2048x7760_S8x7760_1_0_0_1_n_n none x w

/-- The reference's wide columns: the queries, keys and values, then the convolution's inputs. -/
abbrev MAIN (x : FVec Ideal Cert.SInRefIdeal.S8x2048 .f32) (w : FVec Ideal Cert.SInRefIdeal.S2048x7760 .f32) :
    FVec Ideal Cert.SInRefIdeal.S8x7680 .f32 :=
  concatenate Cert.SInRefIdeal.S8x7680 1
    [⟨Cert.SInRefIdeal.S8x6144, (extractStridedSlice Cert.SInRefIdeal.S8x6144 ![0, 0] (PROD x w) Cert.SInRefIdeal.Gen.slices_S8x7760_S8x6144_0_0)⟩,
     ⟨Cert.SInRefIdeal.S8x1536, (extractStridedSlice Cert.SInRefIdeal.S8x1536 ![0, 6224] (PROD x w) Cert.SInRefIdeal.Gen.slices_S8x7760_S8x1536_0_6224)⟩]
    Cert.SInRefIdeal.Gen.concatenates_S8x6144_S8x1536_S8x7680_d1

/-- The reference's narrow columns, padded with zeros: the indexer's key and head weights. -/
abbrev SMALL (x : FVec Ideal Cert.SInRefIdeal.S8x2048 .f32) (w : FVec Ideal Cert.SInRefIdeal.S2048x7760 .f32) :
    FVec Ideal Cert.SInRefIdeal.S8x128 .f32 :=
  concatenate Cert.SInRefIdeal.S8x128 1
    [⟨Cert.SInRefIdeal.S8x80, (extractStridedSlice Cert.SInRefIdeal.S8x80 ![0, 6144] (PROD x w) Cert.SInRefIdeal.Gen.slices_S8x7760_S8x80_0_6144)⟩,
     ⟨Cert.SInRefIdeal.S8x48, (broadcastInDim Cert.SInRefIdeal.S8x48 ![] Cert.SInRefIdeal.Gen.bcast_S_S8x48 (constant Cert.SInRefIdeal.S_ .f32 0x00000000#32))⟩]
    Cert.SInRefIdeal.Gen.concatenates_S8x80_S8x48_S8x128_d1

/-- The kernel's wide weights. -/
abbrev WM (w : FVec Ideal S2048x7760 .f32) : FVec Ideal S2048x7680 .bf16 :=
  truncf .bf16 (concatenate S2048x7680 1 [⟨S2048x6144, extractStridedSlice S2048x6144 ![0, 0] w slices_S2048x7760_S2048x6144_0_0⟩,
    ⟨S2048x1536, extractStridedSlice S2048x1536 ![0, 6224] w slices_S2048x7760_S2048x1536_0_6224⟩]
    concatenates_S2048x6144_S2048x1536_S2048x7680_d1) bitsLt_bf16_f32

/-- The kernel's narrow weights. -/
abbrev WS (w : FVec Ideal S2048x7760 .f32) : FVec Ideal S2048x128 .bf16 :=
  truncf .bf16 (pad S2048x128 ![0, 0] ![0, 48] ![0, 0] (extractStridedSlice S2048x80 ![0, 6144] w slices_S2048x7760_S2048x80_0_6144)
    (sitofp .f32 (constantI S_ 32 0#32)) pads_S2048x80_S2048x128_000_0480 h_S_) bitsLt_bf16_f32

set_option maxHeartbeats 1000000 in
/-- What the host hands the kernel as wide weights. -/
theorem V_wm (c : Dev nD) : V m c main_v3 = WM (m ((c : Thread nD τ).loc main_arg1)) := by
  simp only [V, hostOps0, hostOps0_1, hostOps0_2, List.flatten_cons, List.flatten_nil, List.append_nil, List.cons_append, List.nil_append]
  after_reads_simp
  rfl

set_option maxHeartbeats 1000000 in
/-- What it hands it as narrow weights. -/
theorem V_ws (c : Dev nD) : V m c main_v6 = WS (m ((c : Thread nD τ).loc main_arg1)) := by
  simp only [V, hostOps0, hostOps0_1, hostOps0_2, List.flatten_cons, List.flatten_nil, List.append_nil, List.cons_append, List.nil_append]
  after_reads_simp
  rfl

/-- The wide weights at an entry. -/
theorem WM_at (w : FVec Ideal S2048x7760 .f32) (k : Fin 2048) (j : Fin 7680) :
    WM w (ix2 k j) = if h : j.val < 6144 then w (ix2 k (⟨j.val, by omega⟩ : Fin 7760))
      else w (ix2 k (⟨6224 + (j.val - 6144), by have := j.isLt; omega⟩ : Fin 7760)) := by
  pointwise [WM]

/-- The narrow weights at an entry. -/
theorem WS_at (w : FVec Ideal S2048x7760 .f32) (k : Fin 2048) (j : Fin 128) :
    WS w (ix2 k j) = if h : j.val < 80 then w (ix2 k (⟨6144 + j.val, by omega⟩ : Fin 7760)) else 0 := by
  pointwise [WS]
  split
  · rfl
  · exact sitofp_zero

/-- The wide result at an entry: a column of the product is the product with the column. -/
theorem MAIN_at (x : FVec Ideal S8x2048 .f32) (w : FVec Ideal S2048x7760 .f32) (i : Fin 8) (j : Fin 7680) :
    MAIN x w (ix2 i j) = ∑ k : Fin 2048, x (ix2 i k) * WM w (ix2 k j) := by
  simp only [WM_at]
  pointwise [MAIN, PROD]
  split <;> rfl

/-- The narrow result at an entry: beyond the narrow columns, the product with zeros is zero. -/
theorem SMALL_at (x : FVec Ideal S8x2048 .f32) (w : FVec Ideal S2048x7760 .f32) (i : Fin 8) (j : Fin 128) :
    SMALL x w (ix2 i j) = ∑ k : Fin 2048, x (ix2 i k) * WS w (ix2 k j) := by
  simp only [WS_at]
  pointwise [SMALL, PROD]
  split
  · rfl
  · exact (Finset.sum_eq_zero fun k _ => mul_zero _).symm

/-- Which block each window reads or writes at each grid point. -/
theorem idx_val : ∀ t : Fin cfg0.N, win0_0.index t = ![t.val / 15, 0]
    ∧ win0_1.index t = ![0, t.val % 15]
    ∧ win0_2.index t = ![0, 0]
    ∧ win0_3.index t = ![t.val / 15, t.val % 15]
    ∧ win0_4.index t = ![t.val / 15, 0] :=
  (by decide +kernel : ∀ t : Fin grid0.N, _)

/-- The block of `x` at an entry. -/
theorem x_at (c : Dev nD) (t : Fin cfg0.N) (r : Fin 8) (k : Fin 2048) :
    iblk m c 0 t (ix2 r k) = m ((c : Thread nD τ).loc main_arg0)
      (ix2 (⟨8 * (t.val / 15) + r.val, by have := r.isLt; have : t.val < 15 := t.isLt; omega⟩ : Fin 8) k) := by
  show V m c main_arg0 (((cfg0.win 0).blk t).view.emb (ix2 r k)) = _
  rw [V_main_arg0]
  show m ((c : Thread nD τ).loc main_arg0) _ = _
  congr 1
  blk_ext [idx_val t]

/-- The block of wide weights at an entry. -/
theorem w_at (c : Dev nD) (t : Fin cfg0.N) (k : Fin 2048) (j : Fin 512) :
    iblk m c 1 t (ix2 k j) = WM (m ((c : Thread nD τ).loc main_arg1))
      (ix2 k (⟨512 * (t.val % 15) + j.val, by have := j.isLt; omega⟩ : Fin 7680)) := by
  show V m c main_v3 (((cfg0.win 1).blk t).view.emb (ix2 k j)) = _
  rw [V_wm]
  congr 1
  blk_ext [idx_val t]

/-- The narrow weights at an entry. -/
theorem s_at (c : Dev nD) (t : Fin cfg0.N) (k : Fin 2048) (j : Fin 128) :
    iblk m c 2 t (ix2 k j) = WS (m ((c : Thread nD τ).loc main_arg1)) (ix2 k j) := by
  show V m c main_v6 (((cfg0.win 2).blk t).view.emb (ix2 k j)) = _
  rw [V_ws]
  congr 1
  blk_ext [idx_val t]

/-- What the body stores in the main block is the product of its blocks. -/
theorem pay2_at (x : Vec Ideal S8x2048 .f32) (w : Vec Ideal S2048x512 .bf16) (r : Fin 8) (j : Fin 512) :
    k0_pay2 x w (ix2 r j) = ∑ k : Fin 2048, x (ix2 r k) * w (ix2 k j) := by
  pointwise [k0_pay2, k0_pay1]

/-- What it stores in the small block is the product of its blocks. -/
theorem pay3_at (x : Vec Ideal S8x2048 .f32) (w : Vec Ideal S2048x128 .bf16) (r : Fin 8) (j : Fin 128) :
    k0_pay3 x w (ix2 r j) = ∑ k : Fin 2048, x (ix2 r k) * w (ix2 k j) := by
  pointwise [k0_pay3, k0_pay1]

/-- The wide array after the run is the reference's wide columns. -/
theorem final (c : Dev nD) : (dats m 0 c).arrAt 3 (cfgs 0).N
    = MAIN (m ((c : Thread nD τ).loc main_arg0)) (m ((c : Thread nD τ).loc main_arg1)) := by
  refine (dats m 0 c).arrAt_eq_of_covers 3 _ (by decide +kernel) fun t hf y => ?_
  blk_simp; rw [after0_3]; unfold mainBlk; frame_out
  obtain ⟨r, j, rfl⟩ : ∃ (r : Fin 8) (j : Fin 512), y = ix2 r j := ⟨y 0, y 1, eq_ix2 y⟩
  have hN : t.val < 15 := t.isLt
  have hemb : ((View.whole main_v7_0).slice (win0_3.rect t)).emb (ix2 r j)
      = ix2 (⟨8 * (t.val / 15) + r.val, by have := r.isLt; omega⟩ : Fin 8)
          (⟨512 * (t.val % 15) + j.val, by have := j.isLt; omega⟩ : Fin 7680) := by
    blk_ext [idx_val t]
  rw [hemb, MAIN_at]
  refine (pay2_at _ _ r j).trans (Finset.sum_congr rfl fun k _ => ?_)
  rw [x_at, w_at]

/-- The narrow array after the run is the reference's narrow columns. -/
theorem final_index (c : Dev nD) : (dats m 0 c).arrAt 4 (cfgs 0).N
    = SMALL (m ((c : Thread nD τ).loc main_arg0)) (m ((c : Thread nD τ).loc main_arg1)) := by
  refine (dats m 0 c).arrAt_eq_of_covers 4 _ (by decide +kernel) fun t hf y => ?_
  blk_simp; rw [after0_4]; unfold smallBlk; frame_out
  obtain ⟨r, j, rfl⟩ : ∃ (r : Fin 8) (j : Fin 128), y = ix2 r j := ⟨y 0, y 1, eq_ix2 y⟩
  have hN : t.val < 15 := t.isLt
  have hemb : ((View.whole main_v7_1).slice (win0_4.rect t)).emb (ix2 r j)
      = ix2 (⟨8 * (t.val / 15) + r.val, by have := r.isLt; omega⟩ : Fin 8) j := by
    blk_ext [idx_val t]
  rw [hemb, SMALL_at]
  refine (pay3_at _ _ r j).trans (Finset.sum_congr rfl fun k _ => ?_)
  rw [x_at, s_at]

/-- The reference's values: a band of the product's columns, split into heads. -/
abbrev VALS (x : FVec Ideal Cert.SInRefIdeal.S8x2048 .f32) (w : FVec Ideal Cert.SInRefIdeal.S2048x7760 .f32) :
    FVec Ideal Cert.SInRefIdeal.S8x1x8x128 .f32 :=
  shapeCast _ (extractStridedSlice Cert.SInRefIdeal.S8x1024 ![0, 4096] (PROD x w) Cert.SInRefIdeal.Gen.slices_S8x7760_S8x1024_0_4096) Cert.SInRefIdeal.Gen.shapeCasts_S8x1024_S8x1x8x128

/-- The band lies in the wide columns, where these are the product's. -/
theorem band_eq (x : FVec Ideal Cert.SInRefIdeal.S8x2048 .f32) (w : FVec Ideal Cert.SInRefIdeal.S2048x7760 .f32) :
    extractStridedSlice S8x1024 ![0, 4096] (MAIN x w) slices_S8x7680_S8x1024_0_4096
      = extractStridedSlice Cert.SInRefIdeal.S8x1024 ![0, 4096] (PROD x w) Cert.SInRefIdeal.Gen.slices_S8x7760_S8x1024_0_4096 := by
  funext y
  obtain ⟨i, j, rfl⟩ : ∃ (i : Fin 8) (j : Fin 1024), y = ix2 i j := ⟨y 0, y 1, eq_ix2 y⟩
  have hj := j.isLt
  pointwise [MAIN, PROD]
  rw [dif_pos (by omega)]

/-- What the lines after the kernel leave as the values. -/
theorem final_vals (c : Dev nD) : Pipeline.afterTail₀ cfgs (dats m) 0 (V0 m) [hostOps1] c main_v9
    = VALS (m ((c : Thread nD τ).loc main_arg0)) (m ((c : Thread nD τ).loc main_arg1)) := by
  unfold VALS
  rw [← band_eq, ← final m c]
  unfold Pipeline.afterTail₀
  simp only [hostOps1, List.flatten_cons, List.flatten_nil, List.append_nil]
  after_reads_simp
  rw [show Pipeline.withArrays spec0 c (V0 m c) (fun w => (dats m 0 c).arrAt w cfg0.N) (Proc.devRef .tc main_v7_0)
      = (dats m 0 c).arrAt 3 cfg0.N from Pipeline.withArrays_arr spec0 (by decide) c (V0 m c) _ 3]
  rfl

/-- The whole run: its results and its arguments when it ends. -/
theorem run (ρ : Dev nD → PrngReg) : θ_run defs (onTc (τ := τ) (main (F := Ideal))) ⟨m, fun _ => 0, ρ⟩ (fun r => ∀ c : Dev nD,
      r.2.mem ((c.tc : Thread nD τ).loc main_v7_0) = MAIN (m ((c : Thread nD τ).loc main_arg0)) (m ((c : Thread nD τ).loc main_arg1))
      ∧ r.2.mem ((c.tc : Thread nD τ).loc main_v7_1) = SMALL (m ((c : Thread nD τ).loc main_arg0)) (m ((c : Thread nD τ).loc main_arg1))
      ∧ r.2.mem ((c.tc : Thread nD τ).loc main_v9) = VALS (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 3).trans (final m c),
      ((h.1 c).1 4).trans (final_index m c),
      ((h.1 c).2 main_v9 (Pipeline.mem_restRefs_of main_v9 (by decide) (by decide))).trans (final_vals m c),
      h.2.1 c⟩)
    (θ_run_and (Cert.Proof.SInRun.run_main m ρ) (Cert.Proof.SInRun.frame m ρ))

end Cert.Proof.SInValue

end
-- ==== Proof.SUpValue.lean ====
/- The value of the up projection of the sampled positions: the array the tiled kernel leaves is the matrix product of the
   reference. Every grid point stores one block of the product of a row block of `x` and a column
   block of the weights. -/
module

public import proofs.«01_k».proof.Proof.Gen.SUpIdeal.Frame
public import proofs.«01_k».proof.Proof.Gen.SUpRefIdeal
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.SUpValue

open Cert.SUpIdeal Cert.SUpIdeal.Gen

variable (m : (ℓ : Loc nD τ sig) → Buf (Elt Ideal) ℓ)

/-- The reference's product of the input with the weights, over its two arguments. -/
abbrev REF (x : FVec Ideal Cert.SUpRefIdeal.S8x2048 .f32) (w : FVec Ideal Cert.SUpRefIdeal.S2048x11264 .f32) :
    FVec Ideal Cert.SUpRefIdeal.S8x11264 .f32 :=
  Host.dotGeneral Cert.SUpRefIdeal.dot_S8x2048_S2048x11264_S8x11264_1_0_0_1_n_n none
    x w

/-- Which block each window reads or writes at each grid point. -/
theorem idx_val : ∀ t : Fin cfg0.N, win0_0.index t = ![t.val / 22, 0]
    ∧ win0_1.index t = ![0, t.val % 22]
    ∧ win0_2.index t = ![t.val / 22, t.val % 22] :=
  (by decide +kernel : ∀ t : Fin grid0.N, _)

/-- What the body stores at a block position is the reference's product at the array position. -/
theorem point (c : Dev nD) (t : Fin cfg0.N) (y) :
    k0_pay1 (iblk m c 0 t) (iblk m c 1 t) y
      = REF (m ((c : Thread nD τ).loc main_arg0)) (m ((c : Thread nD τ).loc main_arg2))
          (((cfg0.win 2).blk t).view.emb y) := by
  pointwise [k0_pay1, REF]
  blk_point [iblk, V, idx_val t]

/-- The result array after the run is the reference's product. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

/-- The reference's two latest rows: the earlier ones and the new one, the first dropped. -/
abbrev LAST (x : FVec Ideal Cert.SUpRefIdeal.S8x2048 .f32) (s : FVec Ideal Cert.SUpRefIdeal.S8x2x11264 .f32)
    (w : FVec Ideal Cert.SUpRefIdeal.S2048x11264 .f32) : FVec Ideal Cert.SUpRefIdeal.S8x2x11264 .f32 :=
  extractStridedSlice Cert.SUpRefIdeal.S8x2x11264 ![0, 1, 0]
    (concatenate Cert.SUpRefIdeal.S8x3x11264 1 [⟨Cert.SUpRefIdeal.S8x2x11264, s⟩,
      ⟨Cert.SUpRefIdeal.S8x1x11264, (broadcastInDim Cert.SUpRefIdeal.S8x1x11264 ![0, 2] Cert.SUpRefIdeal.Gen.bcast_S8x11264_S8x1x11264_0_2 (REF x w))⟩]
      Cert.SUpRefIdeal.Gen.concatenates_S8x2x11264_S8x1x11264_S8x3x11264_d1)
    Cert.SUpRefIdeal.Gen.slices_S8x3x11264_S8x2x11264_0_1_0

/-- The latest earlier row stacked on the new one is the reference's two latest rows. -/
theorem last_eq (x : FVec Ideal Cert.SUpRefIdeal.S8x2048 .f32) (s : FVec Ideal Cert.SUpRefIdeal.S8x2x11264 .f32)
    (w : FVec Ideal Cert.SUpRefIdeal.S2048x11264 .f32) :
    concatenate S8x2x11264 1
      [⟨S8x1x11264, (broadcastInDim S8x1x11264 ![0, 2] bcast_S8x11264_S8x1x11264_0_2
          (shapeCast S8x11264 (extractStridedSlice S8x1x11264 ![0, 1, 0] s slices_S8x2x11264_S8x1x11264_0_1_0) shapeCasts_S8x1x11264_S8x11264) : FVec Ideal S8x1x11264 .f32)⟩,
       ⟨S8x1x11264, (broadcastInDim S8x1x11264 ![0, 2] bcast_S8x11264_S8x1x11264_0_2 (REF x w) : FVec Ideal S8x1x11264 .f32)⟩]
      concatenates_S8x1x11264_S8x1x11264_S8x2x11264_d1
      = LAST x s w := by
  funext y
  obtain ⟨b, k, j, rfl⟩ : ∃ (b : Fin 8) (k : Fin 2) (j : Fin 11264), y = ix3 b k j := ⟨y 0, y 1, y 2, eq_ix3 y⟩
  have hk := k.isLt
  generalize hp : REF x w = p
  unfold LAST
  rw [hp]
  pointwise []
  by_cases h : k.val < 1
  · rw [dif_pos h, dif_pos (by omega)]
    exact congrArg (fun i => s (ix3 b i j)) (Fin.ext (by show 1 = 1 + k.val; omega))
  · rw [dif_neg h, dif_neg (by omega)]

/-- What the lines after the kernel leave as the two latest rows. -/
theorem final_last (c : Dev nD) : Pipeline.afterTail₀ cfgs (dats m) 0 (V0 m) [hostOps1] c main_v6
    = LAST (m ((c : Thread nD τ).loc main_arg0)) (m ((c : Thread nD τ).loc main_arg1)) (m ((c : Thread nD τ).loc main_arg2)) := by
  rw [← last_eq, ← final m c]
  unfold Pipeline.afterTail₀
  simp only [hostOps1, List.flatten_cons, List.flatten_nil, List.append_nil]
  after_reads_simp
  refine congrArg₂ (fun a b : FVec Ideal S8x1x11264 .f32 => concatenate S8x2x11264 1 [⟨S8x1x11264, a⟩, ⟨S8x1x11264, b⟩]
    concatenates_S8x1x11264_S8x1x11264_S8x2x11264_d1) ?_ ?_
  · after_reads_simp
    rw [show Pipeline.withArrays spec0 c (V0 m c) (fun w => (dats m 0 c).arrAt w cfg0.N) (Proc.devRef .tc main_arg1)
        = V m c main_arg1 from Pipeline.withArrays_of_ne spec0 c (V0 m c) _ main_arg1 (by decide), V_main_arg1]
    rfl
  · after_reads_simp
    rw [show Pipeline.withArrays spec0 c (V0 m c) (fun w => (dats m 0 c).arrAt w cfg0.N) (Proc.devRef .tc main_v1)
        = (dats m 0 c).arrAt 2 cfg0.N from Pipeline.withArrays_arr spec0 (by decide) c (V0 m c) _ 2]

/-- The whole run: its results and its arguments when it ends. -/
theorem run (ρ : Dev nD → PrngReg) : θ_run defs (onTc (τ := τ) (main (F := Ideal))) ⟨m, fun _ => 0, ρ⟩ (fun r => ∀ c : Dev nD,
      r.2.mem ((c.tc : Thread nD τ).loc main_v1) = REF (m ((c : Thread nD τ).loc main_arg0)) (m ((c : Thread nD τ).loc main_arg2))
      ∧ r.2.mem ((c.tc : Thread nD τ).loc main_v6) = LAST (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final m c),
      ((h.1 c).2 main_v6 (Pipeline.mem_restRefs_of main_v6 (by decide) (by decide))).trans (final_last m c),
      h.2.1 c⟩)
    (θ_run_and (Cert.SUpIdeal.Gen.run_main m ρ) (Cert.SUpIdeal.Gen.frame m ρ))

end Cert.Proof.SUpValue

end
-- ==== Proof.SDownValue.lean ====
/- The value of the down projection of the sampled positions: the product accumulated over eleven column bands of the
   activation, plus the scaled residual, followed by the layer norm, is the reference's one product,
   its residual and its layer norm. -/
module

public import proofs.«01_k».proof.Proof.Gen.SDownIdeal.Frame
public import proofs.«01_k».proof.Proof.Gen.SDownRefIdeal
public import proofs.«01_k».proof.Proof.Gen.SDownRefIdeal.Run
public import proofs.«01_k».proof.Proof.NormRef

@[expose] public section

set_option maxRecDepth 16384

noncomputable section

open Idealize.ShloMosaic Idealize.ShloMosaic.TcCoe Idealize.SL.Sem
open Idealize.ShloMosaic.Pipeline (Dat)

namespace Cert.Proof.SDownValue

section reference

open Cert.SDownRefIdeal Cert.SDownRefIdeal.Gen
open Cert.Proof.NormRef (lnorm cen)

/-- The mean of every row, as a column: the row sum over 2048 entries divided by 2048. -/
def MEAN (h : FVec Ideal S8x2048 .f32) : FVec Ideal S8x1 .f32 :=
  Host.divf (broadcastInDim S8x1 ![0] bcast_S8_S8x1_0
      (Host.reduceAdd h (constant S_ .f32 0x00000000#32) reducesTo_S8x2048_S8_d1 h_S_))
    (broadcastInDim S8x1 ![] bcast_S_S8x1 (constant S_ .f32 0x45000000#32))

/-- Every entry less the mean of its row. -/
def CENTER (h : FVec Ideal S8x2048 .f32) : FVec Ideal S8x2048 .f32 :=
  subf h (broadcastInDim S8x2048 ![0, 1] bcast_S8x1_S8x2048_0_1 (MEAN h))

/-- The reference's layer norm of `h` with gain `g` and bias `b`. -/
def NORM (h : FVec Ideal S8x2048 .f32) (g b : FVec Ideal S2048 .f32) : FVec Ideal S8x2048 .f32 :=
  addf (mulf (mulf (CENTER h)
      (broadcastInDim S8x2048 ![0, 1] bcast_S8x1_S8x2048_0_1
        (Host.rsqrt (addf (MEAN (mulf (CENTER h) (CENTER h)))
          (broadcastInDim S8x1 ![] bcast_S_S8x1 (constant S_ .f32 0x3727C5AC#32))))))
      (broadcastInDim S8x2048 ![0, 1] bcast_S1x2048_S8x2048_0_1 (broadcastInDim S1x2048 ![1] bcast_S2048_S1x2048_1 g)))
    (broadcastInDim S8x2048 ![0, 1] bcast_S1x2048_S8x2048_0_1 (broadcastInDim S1x2048 ![1] bcast_S2048_S1x2048_1 b))

/-- The reference's layer norm at one entry only reads that entry's row, gain and bias. -/
theorem NORM_at (h : FVec Ideal S8x2048 .f32) (g b : FVec Ideal S2048 .f32) (r : Fin 8) (j : Fin 2048) :
    NORM h g b (ix2 r j) = lnorm (fun k => h (ix2 r k)) (g (ix1 j)) (b (ix1 j)) j := by
  pointwise [NORM, MEAN, CENTER, lnorm, cen]

end reference

open Cert.SDownIdeal Cert.SDownIdeal.Gen
open Cert.Proof.NormRef (lnorm cen)

variable (m : (ℓ : Loc nD τ sig) → Buf (Elt Ideal) ℓ)

/-- The reference's residual stream before the layer norm: `ALPHA * x` plus the product of the
    activation with the down weights. -/
def HID (h : FVec Ideal Cert.SDownRefIdeal.S8x5632 .f32) (w : FVec Ideal Cert.SDownRefIdeal.S5632x2048 .f32)
    (x : FVec Ideal Cert.SDownRefIdeal.S8x2048 .f32) : FVec Ideal Cert.SDownRefIdeal.S8x2048 .f32 :=
  addf (mulf (broadcastInDim Cert.SDownRefIdeal.S8x2048 ![] Cert.SDownRefIdeal.Gen.bcast_S_S8x2048
      (constant Cert.SDownRefIdeal.S_ .f32 0x3FD744FD#32)) x)
    (Host.dotGeneral Cert.SDownRefIdeal.dot_S8x5632_S5632x2048_S8x2048_1_0_0_1_n_n none
      h w)

/-- The reference's residual stream at one entry. -/
theorem HID_at (h : FVec Ideal Cert.SDownRefIdeal.S8x5632 .f32) (w : FVec Ideal Cert.SDownRefIdeal.S5632x2048 .f32)
    (x : FVec Ideal Cert.SDownRefIdeal.S8x2048 .f32) (r : Fin 8) (j : Fin 2048) :
    HID h w x (ix2 r j) = Ideal.ofBits .f32 0x3FD744FD#32 * x (ix2 r j) + ∑ k : Fin 5632, h (ix2 r k) * w (ix2 k j) := by
  pointwise [HID]

/-- The initial accumulator is zero. -/
theorem pay1_at (r : Fin 8) (j : Fin 2048) : k0_pay1 (F := Ideal) (ix2 r j) = 0 := by
  pointwise [k0_pay1]

/-- One step adds one band of the product to the accumulator. -/
theorem pay2_at (a : FVec Ideal S8x2048 .f32) (h : FVec Ideal S8x512 .f32) (w : FVec Ideal S512x2048 .bf16)
    (r : Fin 8) (j : Fin 2048) :
    k0_pay2 (F := Ideal) a h w (ix2 r j) = a (ix2 r j) + ∑ k : Fin 512, h (ix2 r k) * w (ix2 k j) := by
  pointwise [k0_pay2]

/-- What the last step stores is the layer norm of the accumulated residual stream, row by row. -/
theorem pay3_at (x a : FVec Ideal S8x2048 .f32) (g b : FVec Ideal S1x2048 .f32) (r : Fin 8) (j : Fin 2048) :
    k0_pay3 (F := Ideal) x a g b (ix2 r j)
      = lnorm (fun k => Ideal.ofBits .f32 0x3FD744FD#32 * x (ix2 r k) + a (ix2 r k)) (g (ix2 0 j)) (b (ix2 0 j)) j := by
  pointwise [k0_pay3, lnorm, cen]

/-- Which block each window reads or writes at each grid point. -/
theorem idx_val : ∀ t : Fin cfg0.N, win0_0.index t = ![t.val / 11, t.val % 11]
    ∧ win0_1.index t = ![t.val % 11, 0]
    ∧ win0_2.index t = ![t.val / 11, 0]
    ∧ win0_3.index t = ![0, 0]
    ∧ win0_4.index t = ![0, 0]
    ∧ win0_5.index t = ![t.val / 11, 0]
    ∧ win0_6.index t = ![t.val / 11, 0] :=
  (by decide +kernel : ∀ t : Fin grid0.N, _)

/-- The part of the product that grid point `t` adds, at one entry. -/
def part (c : Dev nD) (t : Fin cfg0.N) (y : S8x2048.Idx) : EReal :=
  ∑ k : Fin 512, (show FVec Ideal S8x512 .f32 from iblk m c 0 t) (ix2 (y 0) k)
    * (show FVec Ideal S512x2048 .bf16 from iblk m c 1 t) (ix2 k (y 1))

/-- The accumulator after the last point of a run holds all eleven parts. -/
theorem acc_last (c : Dev nD) (t : Fin cfg0.N) (ht : t.val % 11 = 10) (r : Fin 8) (j : Fin 2048) :
    (outsAt0 m c t.val t.isLt).2.2 (ix2 r j)
      = ∑ s : Fin 11, part m c ⟨11 * (t.val / 11) + s.val, Pipeline.run_point_lt_of_flush t ht s⟩ (ix2 r j) := by
  refine (Pipeline.eq_sum_fin_of_reset_step_apply_of_flush (fun n h => (outsAt0 m c n h).2.2) 11 (fun _ => (0 : EReal))
    (part m c) ?_ ?_ t ht (ix2 r j)).trans (zero_add _)
  · intro t h y
    obtain ⟨r, j, rfl⟩ : ∃ (r : Fin 8) (j : Fin 2048), y = ix2 r j := ⟨y 0, y 1, eq_ix2 y⟩
    rw [outsAt0_A m c t h (by omega)]
    frame_out
    rw [pay2_at, pay1_at]
    rfl
  · intro t h y
    obtain ⟨r, j, rfl⟩ : ∃ (r : Fin 8) (j : Fin 2048), y = ix2 r j := ⟨y 0, y 1, eq_ix2 y⟩
    by_cases h1 : t.val % 11 = 10
    · rw [outsAt0_C m c t h h1]
      frame_out
      rw [pay2_at]
      exact congrArg₂ (· + ·) (congrFun (Memref.IsWhole.read_unread _ _) _) rfl
    · rw [outsAt0_B m c t h h1]
      frame_out
      rw [pay2_at]
      exact congrArg₂ (· + ·) (congrFun (Memref.IsWhole.read_unread _ _) _) rfl

/-- All eleven parts together are the whole product. -/
theorem acc_eq (c : Dev nD) (t : Fin cfg0.N) (ht : t.val % 11 = 10) (r : Fin 8) (j : Fin 2048) (R : Fin 8)
    (hR : R.val = 8 * (t.val / 11) + r.val) :
    (outsAt0 m c t.val t.isLt).2.2 (ix2 r j)
      = ∑ k : Fin 5632, (show FVec Ideal S8x5632 .f32 from m (c.tc.loc main_arg0)) (ix2 R k)
          * (show FVec Ideal S5632x2048 .f32 from m (c.tc.loc main_arg1)) (ix2 k j) := by
  rw [acc_last m c t ht]
  obtain ⟨R, hlt⟩ := R
  obtain rfl : R = 8 * (t.val / 11) + r.val := hR
  have hN : t.val < 11 := t.isLt
  refine Fin.sum_mul_add_congr fun s k hl => ?_
  have hs := idx_val ⟨11 * (t.val / 11) + s.val, Pipeline.run_point_lt_of_flush t ht s⟩
  have e1 : (11 * (t.val / 11) + s.val) / 11 = t.val / 11 := by have := s.isLt; omega
  have e2 : (11 * (t.val / 11) + s.val) % 11 = s.val := by have := s.isLt; omega
  rw [e1, e2] at hs
  refine congrArg₂ (· * ·) ?_ ?_
  · blk_ext [iblk, V, hs]
  · blk_point [iblk, V, hs]

/-- What the last point of a run stores is the reference's layer norm at the matching rows. -/
theorem point (c : Dev nD) (t : Fin cfg0.N) (ht : t.val % 11 = 10) (r : Fin 8) (j : Fin 2048) (R : Fin 8)
    (hR : R.val = 8 * (t.val / 11) + r.val) :
    k0_pay3 (F := Ideal) (iblk m c 2 t) (outsAt0 m c t.val t.isLt).2.2 (iblk m c 3 t) (iblk m c 4 t) (ix2 r j)
      = NORM (HID (m ((c : Thread nD τ).loc main_arg0)) (m ((c : Thread nD τ).loc main_arg1))
        (m ((c : Thread nD τ).loc main_arg2))) (m ((c : Thread nD τ).loc main_arg3))
        (m ((c : Thread nD τ).loc main_arg4)) (ix2 R j) := by
  rw [pay3_at, NORM_at]
  have h3 : iblk m c 3 t (ix2 0 j) = m (c.tc.loc main_arg3) (ix1 j) := by
    pointwise []; blk_point [iblk, V, idx_val t]
  have h4 : iblk m c 4 t (ix2 0 j) = m (c.tc.loc main_arg4) (ix1 j) := by
    pointwise []; blk_point [iblk, V, idx_val t]
  rw [h3, h4]
  congr 1
  funext k
  rw [HID_at, acc_eq m c t ht r k R hR]
  congr 2
  obtain ⟨R, hlt⟩ := R
  obtain rfl : R = 8 * (t.val / 11) + r.val := hR
  blk_ext [iblk, V, idx_val t]

/-- The 32-bit result after the run is the reference's. -/
theorem final (c : Dev nD) : (dats m 0 c).arrAt 5 (cfgs 0).N
    = NORM (HID (m ((c : Thread nD τ).loc main_arg0)) (m ((c : Thread nD τ).loc main_arg1))
        (m ((c : Thread nD τ).loc main_arg2))) (m ((c : Thread nD τ).loc main_arg3))
        (m ((c : Thread nD τ).loc main_arg4)) := by
  refine (dats m 0 c).arrAt_eq_of_covers 5 _ (by decide +kernel) fun t hf y => ?_
  have ht : t.val % 11 = 10 := (flush0_5 t).mp hf
  blk_simp; rw [after0_5]
  obtain ⟨r, j, rfl⟩ : ∃ (r : Fin 8) (j : Fin 2048), y = ix2 r j := ⟨y 0, y 1, eq_ix2 y⟩
  have hN : t.val < 11 := t.isLt
  have hemb : ((View.whole main_v3_0).slice (win0_5.rect t)).emb (ix2 r j)
      = ix2 (⟨8 * (t.val / 11) + r.val, by have := r.isLt; omega⟩ : Fin 8) j := by
    blk_ext [idx_val t]
  rw [hemb]
  refine Eq.trans ?_ (point m c t ht r j _ rfl)
  rw [outsAt0_C m c t (by omega) ht]
  frame_out

end Cert.Proof.SDownValue

end
-- ==== Proof.SPrepTab.lean ====
/- The rotary embedding of the keys, at the sampling step: the reference, and the tables the kernel turns them by. -/
module

public import proofs.«01_k».proof.Proof.Gen.SPrepIdeal.Frame
public import proofs.«01_k».proof.Proof.Gen.SPrepRefIdeal.Run
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.SPrepTab

section reference

open Cert.SPrepRefIdeal Cert.SPrepRefIdeal.Gen

/-- The rotary angles. -/
def ANG : FVec Ideal S1x16 .f32 :=
  mulf (broadcastInDim S1x16 ![0, 1] bcast_S1x1_S1x16_0_1 (broadcastInDim S1x1 ![0] bcast_S1_S1x1_0 (sitofp .f32 (addi (broadcastInDim S1 ![] bcast_S_S1 (constantI S_ 32 16384#32)) (iotaInDim S1 32 0))))) (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32)))))

/-- The keys, cut into heads. -/
def AK (x0 : FVec Ideal S8x7680 .f32) : FVec Ideal S8x1x8x128 .f32 :=
  shapeCast _ (extractStridedSlice S8x1024 ![0, 3072] x0 slices_S8x7680_S8x1024_0_3072) shapeCasts_S8x1024_S8x1x8x128

/-- The rotary embedding of the first columns of every head. -/
def ROPE (k : FVec Ideal S8x1x8x128 .f32) : FVec Ideal S8x1x8x128 .f32 :=
  concatenate S8x1x8x128 3 [⟨S8x1x8x32, (concatenate S8x1x8x32 3 [⟨S8x1x8x16, (subf (mulf (extractStridedSlice S8x1x8x16 ![0, 0, 0, 0] (extractStridedSlice S8x1x8x32 ![0, 0, 0, 0] k slices_S8x1x8x128_S8x1x8x32_0_0_0_0) slices_S8x1x8x32_S8x1x8x16_0_0_0_0) (broadcastInDim S8x1x8x16 ![0, 1, 2, 3] bcast_S1x1x1x16_S8x1x8x16_0_1_2_3 (broadcastInDim S1x1x1x16 ![1, 2, 3] bcast_S1x1x16_S1x1x1x16_1_2_3 (broadcastInDim S1x1x16 ![0, 2] bcast_S1x16_S1x1x16_0_2 (Host.cos ANG))))) (mulf (extractStridedSlice S8x1x8x16 ![0, 0, 0, 16] (extractStridedSlice S8x1x8x32 ![0, 0, 0, 0] k slices_S8x1x8x128_S8x1x8x32_0_0_0_0) slices_S8x1x8x32_S8x1x8x16_0_0_0_16) (broadcastInDim S8x1x8x16 ![0, 1, 2, 3] bcast_S1x1x1x16_S8x1x8x16_0_1_2_3 (broadcastInDim S1x1x1x16 ![1, 2, 3] bcast_S1x1x16_S1x1x1x16_1_2_3 (broadcastInDim S1x1x16 ![0, 2] bcast_S1x16_S1x1x16_0_2 (Host.sin ANG))))))⟩, ⟨S8x1x8x16, (addf (mulf (extractStridedSlice S8x1x8x16 ![0, 0, 0, 16] (extractStridedSlice S8x1x8x32 ![0, 0, 0, 0] k slices_S8x1x8x128_S8x1x8x32_0_0_0_0) slices_S8x1x8x32_S8x1x8x16_0_0_0_16) (broadcastInDim S8x1x8x16 ![0, 1, 2, 3] bcast_S1x1x1x16_S8x1x8x16_0_1_2_3 (broadcastInDim S1x1x1x16 ![1, 2, 3] bcast_S1x1x16_S1x1x1x16_1_2_3 (broadcastInDim S1x1x16 ![0, 2] bcast_S1x16_S1x1x16_0_2 (Host.cos ANG))))) (mulf (extractStridedSlice S8x1x8x16 ![0, 0, 0, 0] (extractStridedSlice S8x1x8x32 ![0, 0, 0, 0] k slices_S8x1x8x128_S8x1x8x32_0_0_0_0) slices_S8x1x8x32_S8x1x8x16_0_0_0_0) (broadcastInDim S8x1x8x16 ![0, 1, 2, 3] bcast_S1x1x1x16_S8x1x8x16_0_1_2_3 (broadcastInDim S1x1x1x16 ![1, 2, 3] bcast_S1x1x16_S1x1x1x16_1_2_3 (broadcastInDim S1x1x16 ![0, 2] bcast_S1x16_S1x1x16_0_2 (Host.sin ANG))))))⟩] concatenates_S8x1x8x16_S8x1x8x16_S8x1x8x32_d3)⟩, ⟨S8x1x8x96, (extractStridedSlice S8x1x8x96 ![0, 0, 0, 32] k slices_S8x1x8x128_S8x1x8x96_0_0_0_32)⟩] concatenates_S8x1x8x32_S8x1x8x96_S8x1x8x128_d3

/-- The reference's turned keys. -/
def KF (x0 : FVec Ideal S8x7680 .f32) : FVec Ideal S8x1024 .f32 :=
  shapeCast _ (ROPE (AK x0)) shapeCasts_S8x1x8x128_S8x1024

end reference

open Cert.SPrepIdeal Cert.SPrepIdeal.Gen

variable (m : (ℓ : Loc nD τ sig) → Buf (Elt Ideal) ℓ) (c : Dev nD)

/-- The kernel's table of cosines. -/
def AC : FVec Ideal S8x128 .f32 :=
  broadcastInDim S8x128 ![0, 1] bcast_S1x128_S8x128_0_1 (shapeCast S1x128 (broadcastInDim S1x1x1x128 ![0, 1, 2, 3] bcast_S1x1x1x128_S1x1x1x128_0_1_2_3 (shapeCast S1x1x1x128 (concatenate S1x128 1 [⟨S1x16, Host.cos ANG⟩, ⟨S1x16, Host.cos ANG⟩, ⟨S1x96, broadcastInDim S1x96 ![] bcast_S_S1x96 (constant (F := Ideal) S_ .f32 0x3F800000#32)⟩] concatenates_S1x16_S1x16_S1x96_S1x128_d1) shapeCasts_S1x128_S1x1x1x128)) shapeCasts_S1x1x1x128_S1x128)

/-- The kernel's table of negated sines. -/
def AU : FVec Ideal S8x128 .f32 :=
  broadcastInDim S8x128 ![0, 1] bcast_S1x128_S8x128_0_1 (shapeCast S1x128 (broadcastInDim S1x1x1x128 ![0, 1, 2, 3] bcast_S1x1x1x128_S1x1x1x128_0_1_2_3 (shapeCast S1x1x1x128 (concatenate S1x128 1 [⟨S1x16, Host.negf (Host.sin ANG)⟩, ⟨S1x112, broadcastInDim S1x112 ![] bcast_S_S1x112 (constant (F := Ideal) S_ .f32 0x00000000#32)⟩] concatenates_S1x16_S1x112_S1x128_d1) shapeCasts_S1x128_S1x1x1x128)) shapeCasts_S1x1x1x128_S1x128)

/-- The kernel's table of sines. -/
def AD : FVec Ideal S8x128 .f32 :=
  broadcastInDim S8x128 ![0, 1] bcast_S1x128_S8x128_0_1 (shapeCast S1x128 (broadcastInDim S1x1x1x128 ![0, 1, 2, 3] bcast_S1x1x1x128_S1x1x1x128_0_1_2_3 (shapeCast S1x1x1x128 (concatenate S1x128 1 [⟨S1x16, broadcastInDim S1x16 ![] bcast_S_S1x16 (constant (F := Ideal) S_ .f32 0x00000000#32)⟩, ⟨S1x16, Host.sin ANG⟩, ⟨S1x96, broadcastInDim S1x96 ![] bcast_S_S1x96 (constant (F := Ideal) S_ .f32 0x00000000#32)⟩] concatenates_S1x16_S1x16_S1x96_S1x128_d1) shapeCasts_S1x128_S1x1x1x128)) shapeCasts_S1x1x1x128_S1x128)

set_option maxHeartbeats 1000000 in
/-- A part of the table of cosines where the table is put together. -/
theorem up_AC_13 : (upto (hostOps0 ++ (hostOps0_1 ++ (hostOps0_2 ++ (hostOps0_3 ++ hostOps0_4)))) (fun b => m (c, b)) 21 (Proc.devRef .tc main_v14) : FVec Ideal S1x16 .f32) = Host.cos ANG := by
  after_reads_simp
  rfl

set_option maxHeartbeats 1000000 in
/-- A part of the table of cosines where the table is put together. -/
theorem up_AC_15 : (upto (hostOps0 ++ (hostOps0_1 ++ (hostOps0_2 ++ (hostOps0_3 ++ hostOps0_4)))) (fun b => m (c, b)) 21 (Proc.devRef .tc main_v16) : FVec Ideal S1x96 .f32) = broadcastInDim S1x96 ![] bcast_S_S1x96 (constant (F := Ideal) S_ .f32 0x3F800000#32) := by
  after_reads_simp

set_option maxHeartbeats 1000000 in
/-- The table of cosines where the kernel reads it. -/
theorem V_AC : V m c main_v33 = AC := by
  simp only [V, List.flatten_cons, List.flatten_nil, List.append_nil, afterL_cons, afterL_nil]
  after_reads_simp
  show broadcastInDim S8x128 ![0, 1] bcast_S1x128_S8x128_0_1 (shapeCast S1x128 (broadcastInDim S1x1x1x128 ![0, 1, 2, 3] bcast_S1x1x1x128_S1x1x1x128_0_1_2_3 (shapeCast S1x1x1x128 (concatenate S1x128 1 [⟨S1x16, (upto (hostOps0 ++ (hostOps0_1 ++ (hostOps0_2 ++ (hostOps0_3 ++ hostOps0_4)))) (fun b => m (c, b)) 21 (Proc.devRef .tc main_v14) : FVec Ideal S1x16 .f32)⟩, ⟨S1x16, (upto (hostOps0 ++ (hostOps0_1 ++ (hostOps0_2 ++ (hostOps0_3 ++ hostOps0_4)))) (fun b => m (c, b)) 21 (Proc.devRef .tc main_v14) : FVec Ideal S1x16 .f32)⟩, ⟨S1x96, (upto (hostOps0 ++ (hostOps0_1 ++ (hostOps0_2 ++ (hostOps0_3 ++ hostOps0_4)))) (fun b => m (c, b)) 21 (Proc.devRef .tc main_v16) : FVec Ideal S1x96 .f32)⟩] concatenates_S1x16_S1x16_S1x96_S1x128_d1) shapeCasts_S1x128_S1x1x1x128)) shapeCasts_S1x1x1x128_S1x128) = AC
  rw [up_AC_13, up_AC_15]
  rfl

set_option maxHeartbeats 1000000 in
/-- A part of the table of negated sines where the table is put together. -/
theorem up_AU_17 : (upto (hostOps0 ++ (hostOps0_1 ++ (hostOps0_2 ++ (hostOps0_3 ++ hostOps0_4)))) (fun b => m (c, b)) 25 (Proc.devRef .tc main_v18) : FVec Ideal S1x16 .f32) = Host.negf (Host.sin ANG) := by
  after_reads_simp
  rfl

set_option maxHeartbeats 1000000 in
/-- A part of the table of negated sines where the table is put together. -/
theorem up_AU_18 : (upto (hostOps0 ++ (hostOps0_1 ++ (hostOps0_2 ++ (hostOps0_3 ++ hostOps0_4)))) (fun b => m (c, b)) 25 (Proc.devRef .tc main_v19) : FVec Ideal S1x112 .f32) = broadcastInDim S1x112 ![] bcast_S_S1x112 (constant (F := Ideal) S_ .f32 0x00000000#32) := by
  after_reads_simp

set_option maxHeartbeats 1000000 in
/-- The table of negated sines where the kernel reads it. -/
theorem V_AU : V m c main_v34 = AU := by
  simp only [V, List.flatten_cons, List.flatten_nil, List.append_nil, afterL_cons, afterL_nil]
  after_reads_simp
  show broadcastInDim S8x128 ![0, 1] bcast_S1x128_S8x128_0_1 (shapeCast S1x128 (broadcastInDim S1x1x1x128 ![0, 1, 2, 3] bcast_S1x1x1x128_S1x1x1x128_0_1_2_3 (shapeCast S1x1x1x128 (concatenate S1x128 1 [⟨S1x16, (upto (hostOps0 ++ (hostOps0_1 ++ (hostOps0_2 ++ (hostOps0_3 ++ hostOps0_4)))) (fun b => m (c, b)) 25 (Proc.devRef .tc main_v18) : FVec Ideal S1x16 .f32)⟩, ⟨S1x112, (upto (hostOps0 ++ (hostOps0_1 ++ (hostOps0_2 ++ (hostOps0_3 ++ hostOps0_4)))) (fun b => m (c, b)) 25 (Proc.devRef .tc main_v19) : FVec Ideal S1x112 .f32)⟩] concatenates_S1x16_S1x112_S1x128_d1) shapeCasts_S1x128_S1x1x1x128)) shapeCasts_S1x1x1x128_S1x128) = AU
  rw [up_AU_17, up_AU_18]
  rfl

set_option maxHeartbeats 1000000 in
/-- A part of the table of sines where the table is put together. -/
theorem up_AD_20 : (upto (hostOps0 ++ (hostOps0_1 ++ (hostOps0_2 ++ (hostOps0_3 ++ hostOps0_4)))) (fun b => m (c, b)) 30 (Proc.devRef .tc main_v21) : FVec Ideal S1x16 .f32) = broadcastInDim S1x16 ![] bcast_S_S1x16 (constant (F := Ideal) S_ .f32 0x00000000#32) := by
  after_reads_simp

set_option maxHeartbeats 1000000 in
/-- A part of the table of sines where the table is put together. -/
theorem up_AD_14 : (upto (hostOps0 ++ (hostOps0_1 ++ (hostOps0_2 ++ (hostOps0_3 ++ hostOps0_4)))) (fun b => m (c, b)) 30 (Proc.devRef .tc main_v15) : FVec Ideal S1x16 .f32) = Host.sin ANG := by
  after_reads_simp
  rfl

set_option maxHeartbeats 1000000 in
/-- A part of the table of sines where the table is put together. -/
theorem up_AD_21 : (upto (hostOps0 ++ (hostOps0_1 ++ (hostOps0_2 ++ (hostOps0_3 ++ hostOps0_4)))) (fun b => m (c, b)) 30 (Proc.devRef .tc main_v22) : FVec Ideal S1x96 .f32) = broadcastInDim S1x96 ![] bcast_S_S1x96 (constant (F := Ideal) S_ .f32 0x00000000#32) := by
  after_reads_simp

set_option maxHeartbeats 1000000 in
/-- The table of sines where the kernel reads it. -/
theorem V_AD : V m c main_v35 = AD := by
  simp only [V, List.flatten_cons, List.flatten_nil, List.append_nil, afterL_cons, afterL_nil]
  after_reads_simp
  show broadcastInDim S8x128 ![0, 1] bcast_S1x128_S8x128_0_1 (shapeCast S1x128 (broadcastInDim S1x1x1x128 ![0, 1, 2, 3] bcast_S1x1x1x128_S1x1x1x128_0_1_2_3 (shapeCast S1x1x1x128 (concatenate S1x128 1 [⟨S1x16, (upto (hostOps0 ++ (hostOps0_1 ++ (hostOps0_2 ++ (hostOps0_3 ++ hostOps0_4)))) (fun b => m (c, b)) 30 (Proc.devRef .tc main_v21) : FVec Ideal S1x16 .f32)⟩, ⟨S1x16, (upto (hostOps0 ++ (hostOps0_1 ++ (hostOps0_2 ++ (hostOps0_3 ++ hostOps0_4)))) (fun b => m (c, b)) 30 (Proc.devRef .tc main_v15) : FVec Ideal S1x16 .f32)⟩, ⟨S1x96, (upto (hostOps0 ++ (hostOps0_1 ++ (hostOps0_2 ++ (hostOps0_3 ++ hostOps0_4)))) (fun b => m (c, b)) 30 (Proc.devRef .tc main_v22) : FVec Ideal S1x96 .f32)⟩] concatenates_S1x16_S1x16_S1x96_S1x128_d1) shapeCasts_S1x128_S1x1x1x128)) shapeCasts_S1x1x1x128_S1x128) = AD
  rw [up_AD_20, up_AD_14, up_AD_21]
  rfl

/-- One entry of the table of cosines: the cosines twice, then ones. -/
theorem AC_at (b : Fin 8) (e : Fin 128) : AC (ix2 b e)
    = if h : e.val < 16 then Host.cos ANG (ix2 0 ⟨e.val, h⟩)
      else if h' : e.val < 32 then Host.cos ANG (ix2 0 ⟨e.val - 16, by omega⟩) else 1 := by
  pointwise [AC]
  have he := e.isLt
  by_cases h : e.val < 16
  · rw [dif_pos h, dif_pos h]
  · rw [dif_neg h, dif_neg h]
    by_cases h' : e.val < 32
    · rw [dif_pos h', dif_pos (by omega)]
    · rw [dif_neg h', dif_neg (by omega)]

/-- One entry of the table of negated sines: the negated sines, then zeros. -/
theorem AU_at (b : Fin 8) (e : Fin 128) : AU (ix2 b e)
    = if h : e.val < 16 then -(Host.sin ANG (ix2 0 ⟨e.val, h⟩) : EReal) else 0 := by
  pointwise [AU]

/-- One entry of the table of sines: zeros, the sines, then zeros. -/
theorem AD_at (b : Fin 8) (e : Fin 128) : AD (ix2 b e)
    = if h : e.val < 16 then 0
      else if h' : e.val < 32 then Host.sin ANG (ix2 0 ⟨e.val - 16, by omega⟩) else 0 := by
  pointwise [AD]
  have he := e.isLt
  by_cases h : e.val < 16
  · rw [dif_pos h, dif_pos h]
  · rw [dif_neg h, dif_neg h]
    by_cases h' : e.val < 32
    · rw [dif_pos h', dif_pos (by omega)]
    · rw [dif_neg h', dif_neg (by omega)]

/-- One entry of the keys. -/
theorem AK_at (x : FVec Ideal S8x7680 .f32) (b : Fin 8) (s : Fin 1) (h : Fin 8) (e : Fin 128) (r : Fin 8) (hr : r.val = b.val) :
    AK x (ix4 b s h e) = x (ix2 r ⟨3072 + (128 * h.val + e.val), by omega⟩) := by
  pointwise [AK]
  exact congrArg₂ (fun j k => x (ix2 j k)) (Fin.ext (by first | omega | (simp; omega))) (Fin.ext (by first | omega | (simp; omega)))

/-- One entry of the rotary embedding: the row turned by the kernel's tables. -/
theorem ROPE_at (k : FVec Ideal Cert.SPrepRefIdeal.S8x1x8x128 .f32) (b : Fin 8) (s : Fin 1) (h : Fin 8) (e : Fin 128) :
    ROPE k (ix4 b s h e) = k (ix4 b s h e) * AC (ix2 b e) + k (ix4 b s h ⟨(e.val + 16) % 128, Nat.mod_lt _ (by omega)⟩) * AU (ix2 b e)
      + k (ix4 b s h ⟨(e.val + 112) % 128, Nat.mod_lt _ (by omega)⟩) * AD (ix2 b e) := by
  obtain rfl : s = 0 := Subsingleton.elim _ _
  rw [AC_at, AU_at, AD_at]
  pointwise [ROPE]
  have he := e.isLt
  by_cases h1 : e.val < 16
  · have e2 : (e.val + 16) % 128 = 16 + e.val := by omega
    simp only [dif_pos h1, dif_pos (show e.val < 32 by omega), mul_zero, add_zero, mul_neg, ← sub_eq_add_neg, e2]
  · by_cases h2 : e.val < 32
    · have e2 : (e.val + 112) % 128 = e.val - 16 := by omega
      have e3 : 16 + (e.val - 16) = e.val := by omega
      simp only [dif_neg h1, dif_pos h2, mul_zero, add_zero, e2, e3]
    · have e3 : 32 + (e.val - 32) = e.val := by omega
      simp only [dif_neg h1, dif_neg h2, mul_zero, add_zero, mul_one, e3]

/-- One entry of the reference's turned keys. -/
theorem KF_at (x : FVec Ideal S8x7680 .f32) (r : Fin 8) (h : Fin 8) (e : Fin 128) (q : Fin 8) (hq : q.val = r.val) :
    KF x (ix2 r ⟨128 * h.val + e.val, by omega⟩)
      = x (ix2 r ⟨3072 + (128 * h.val + e.val), by omega⟩) * AC (ix2 q e)
        + x (ix2 r ⟨3072 + (128 * h.val + (e.val + 16) % 128), by omega⟩) * AU (ix2 q e)
        + x (ix2 r ⟨3072 + (128 * h.val + (e.val + 112) % 128), by omega⟩) * AD (ix2 q e) := by
  have hr := r.isLt
  have hh := h.isLt
  have he := e.isLt
  obtain rfl : q = r := Fin.ext hq
  have key : KF x (ix2 q ⟨128 * h.val + e.val, by omega⟩) = ROPE (AK x) (ix4 q 0 h e) := by
    pointwise [KF]
    all_goals refine congrArg (ROPE (AK x)) ?_
    all_goals refine congr (congr (congr (congrArg ix4 (Fin.ext ?_)) (Fin.ext ?_)) (Fin.ext ?_)) (Fin.ext ?_) <;> simp <;> omega
  rw [key, ROPE_at, AK_at x _ _ h _ q rfl, AK_at x _ _ h _ q rfl, AK_at x _ _ h _ q rfl]

end Cert.Proof.SPrepTab

end
-- ==== Proof.SPrepValue.lean ====
/- The call that turns the keys, at the sampling step: what it leaves when it ends. -/
module

public import proofs.«01_k».proof.Proof.SPrepTab
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.SPrepValue

open Cert.SPrepIdeal Cert.SPrepIdeal.Gen
open Cert.Proof.SPrepTab

variable (m : (ℓ : Loc nD τ sig) → Buf (Elt Ideal) ℓ)

/-- The rows of one head as the body stores them, from the head's columns and the three tables. -/
def NEW (c0 c1 c2 v : FVec Ideal S8x128 .f32) : FVec Ideal S8x128 .f32 :=
  addf (addf (mulf v (shapeCast S8x128 c0 shapeCasts_S8x128_S8x128)) (mulf (dynamicRotate 1 112#32 none v rotates_S8x128_d1) (shapeCast S8x128 c1 shapeCasts_S8x128_S8x128)))
    (mulf (dynamicRotate 1 16#32 none v rotates_S8x128_d1) (shapeCast S8x128 c2 shapeCasts_S8x128_S8x128))

/-- One entry of the stored rows. -/
theorem NEW_at (c0 c1 c2 v : FVec Ideal S8x128 .f32) (i : Fin 8) (e : Fin 128) :
    NEW c0 c1 c2 v (ix2 i e) = v (ix2 i e) * c0 (ix2 i e)
      + v (ix2 i ⟨(e.val + 16) % 128, Nat.mod_lt _ (by omega)⟩) * c1 (ix2 i e)
      + v (ix2 i ⟨(e.val + 112) % 128, Nat.mod_lt _ (by omega)⟩) * c2 (ix2 i e) := by
  pointwise [NEW]
  have e1 : e.val + 128 - 112 = e.val + 16 := by omega
  have e2 : e.val + 128 - 16 = e.val + 112 := by omega
  simp only [e1, e2]

/-- A load of a head's band of columns, entry by entry. -/
theorem ld_band (x : FVec Ideal S8x1024 .f32) (o : ℕ) (inb : ∀ a, (![0, o] : Fin 2 → ℕ) a + S8x128.size a ≤ S8x1024.size a)
    (ho : o ≤ 896) (i : Fin 8) (e : Fin 128) :
    View.ld (Val := Elt Ideal) (e' := .f32) x (Rect.unit (s := S8x1024) ![0, o] S8x128.size inb) (ix2 i e : S8x128.Idx) = x (ix2 i ⟨o + e.val, by omega⟩) := by
  rw [View.ld_unit_apply_of _ _ _ _ _ (ix2 i ⟨o + e.val, by omega⟩ : S8x1024.Idx)]
  intro a
  fin_cases a <;> simp

/-- The blocks the windows show at every point. -/
theorem idx : ∀ t : Fin cfg0.N, win0_1.index t = ![t.val, 3] ∧ win0_5.index t = ![0, 0]
    ∧ win0_6.index t = ![0, 0] ∧ win0_7.index t = ![0, 0] ∧ win0_16.index t = ![t.val, 0] :=
  (by decide +kernel : ∀ t : Fin grid0.N, _)

/-- The keys' columns as the kernel is given them. -/
theorem blk1 (c : Dev nD) (t : Fin cfg0.N) (i : Fin 8) (e : Fin 1024) (r : Fin 8) (hr : r.val = 8 * t.val + i.val) :
    X0_1 m c t (ix2 i e) = (m ((c : Thread nD τ).loc main_arg0) : FVec Ideal S8x7680 .f32) (ix2 r ⟨3072 + e.val, by omega⟩) := by
  unfold X0_1 Pipeline.Window.fill
  rw [dif_pos (moved0_1 t _)]
  blk_ext [iblk, V_main_arg0, idx t]

/-- The table of cosines as the kernel is given it. -/
theorem blk5 (c : Dev nD) (t : Fin cfg0.N) (i : Fin 8) (e : Fin 128) (q : Fin 8) (hq : q.val = i.val) :
    iblk m c 5 t (ix2 i e) = AC (ix2 q e) := by
  rw [← V_AC m c]
  blk_ext [iblk, idx t]

/-- The table of negated sines as the kernel is given it. -/
theorem blk6 (c : Dev nD) (t : Fin cfg0.N) (i : Fin 8) (e : Fin 128) (q : Fin 8) (hq : q.val = i.val) :
    iblk m c 6 t (ix2 i e) = AU (ix2 q e) := by
  rw [← V_AU m c]
  blk_ext [iblk, idx t]

/-- The table of sines as the kernel is given it. -/
theorem blk7 (c : Dev nD) (t : Fin cfg0.N) (i : Fin 8) (e : Fin 128) (q : Fin 8) (hq : q.val = i.val) :
    iblk m c 7 t (ix2 i e) = AD (ix2 q e) := by
  rw [← V_AD m c]
  blk_ext [iblk, idx t]

/-- The rows the body stores for head 0. -/
theorem pay_0 (c0 c1 c2 v : FVec Ideal S8x128 .f32) : k0_pay9 c0 c1 c2 v = NEW c0 c1 c2 v := rfl

/-- The rows the body stores for head 1. -/
theorem pay_1 (c0 c1 c2 v : FVec Ideal S8x128 .f32) : k0_pay11 (k0_pay2 c0) (k0_pay3 c1) (k0_pay4 c2) v = NEW c0 c1 c2 v := rfl

/-- The rows the body stores for head 2. -/
theorem pay_2 (c0 c1 c2 v : FVec Ideal S8x128 .f32) : k0_pay15 (k0_pay4 c2) v (k0_pay13 (k0_pay2 c0) v) (k0_pay14 (k0_pay3 c1) v) = NEW c0 c1 c2 v := rfl

/-- The rows the body stores for head 3. -/
theorem pay_3 (c0 c1 c2 v : FVec Ideal S8x128 .f32) : k0_pay17 (k0_pay2 c0) (k0_pay3 c1) (k0_pay4 c2) v = NEW c0 c1 c2 v := rfl

/-- The rows the body stores for head 4. -/
theorem pay_4 (c0 c1 c2 v : FVec Ideal S8x128 .f32) : k0_pay21 (k0_pay2 c0) (k0_pay3 c1) (k0_pay4 c2) v = NEW c0 c1 c2 v := rfl

/-- The rows the body stores for head 5. -/
theorem pay_5 (c0 c1 c2 v : FVec Ideal S8x128 .f32) : k0_pay23 (k0_pay2 c0) (k0_pay3 c1) (k0_pay4 c2) v = NEW c0 c1 c2 v := rfl

/-- The rows the body stores for head 6. -/
theorem pay_6 (c0 c1 c2 v : FVec Ideal S8x128 .f32) : k0_pay25 (k0_pay2 c0) (k0_pay3 c1) (k0_pay4 c2) v = NEW c0 c1 c2 v := rfl

/-- The rows the body stores for head 7. -/
theorem pay_7 (c0 c1 c2 v : FVec Ideal S8x128 .f32) : k0_pay29 (k0_pay4 c2) v (k0_pay27 (k0_pay2 c0) v) (k0_pay28 (k0_pay3 c1) v) = NEW c0 c1 c2 v := rfl

/-- What the body stores for one head, over the kernel's input blocks, is the reference's rows there. -/
theorem piece (c : Dev nD) (t : Fin cfg0.N) (o : ℕ) (h : Fin 8) (ho : o = 128 * h.val) (ik : ∀ a, (![0, o] : Fin 2 → ℕ) a + (![8, 128] : Fin 2 → ℕ) a ≤ S8x1024.size a)
    (i : Fin 8) (k : Fin 1024) (x : S8x128.Idx) (r : Fin 8) (hr : r.val = 8 * t.val + i.val) (h0 : i.val = (x 0).val) (h1 : k.val = o + (x 1).val) :
    NEW (iblk m c 5 t : FVec Ideal S8x128 .f32) (iblk m c 6 t : FVec Ideal S8x128 .f32) (iblk m c 7 t : FVec Ideal S8x128 .f32)
      (View.ld (Val := Elt Ideal) (e' := .f32) (X0_1 m c t : FVec Ideal S8x1024 .f32) (Rect.unit (s := S8x1024) ![0, o] ![8, 128] ik)) x
      = KF (m ((c : Thread nD τ).loc main_arg0)) (ix2 r k) := by
  obtain ⟨i', e, rfl⟩ : ∃ (i : Fin 8) (e : Fin 128), x = ix2 i e := ⟨x 0, x 1, eq_ix2 x⟩
  obtain rfl : i = i' := Fin.ext h0
  have hh := h.isLt
  have he := e.isLt
  have ht : t.val < 1 := lt_of_lt_of_eq t.isLt N_0
  have hi := i.isLt
  subst ho
  have hlt : 128 * h.val + e.val < 1024 := by omega
  obtain rfl : k = ⟨128 * h.val + e.val, hlt⟩ := Fin.ext h1
  have hq : (r.val) < 8 := by omega
  rw [KF_at _ r h e ⟨r.val, hq⟩ rfl]
  refine (NEW_at _ _ _ _ i e).trans ?_
  refine congrArg₂ (· + ·) (congrArg₂ (· + ·) (congrArg₂ (· * ·) ?_ ?_) (congrArg₂ (· * ·) ?_ ?_)) (congrArg₂ (· * ·) ?_ ?_)
  · exact (ld_band _ _ _ (by omega) i _).trans (blk1 m c t i _ r hr)
  · exact blk5 m c t i e _ (by first | omega | (simp; omega))
  · exact (ld_band _ _ _ (by omega) i _).trans (blk1 m c t i _ r hr)
  · exact blk6 m c t i e _ (by first | omega | (simp; omega))
  · exact (ld_band _ _ _ (by omega) i _).trans (blk1 m c t i _ r hr)
  · exact blk7 m c t i e _ (by simp; omega)

set_option maxHeartbeats 4000000 in
/-- The turned keys after the run are the reference's. -/
theorem final (c : Dev nD) : (dats m 0 c).arrAt 16 (cfgs 0).N = KF (m ((c : Thread nD τ).loc main_arg0)) := by
  refine (dats m 0 c).arrAt_eq_of_covers 16 _ (by decide +kernel) fun t hf y => ?_
  have ht : t.val < 1 := lt_of_lt_of_eq t.isLt N_0
  blk_simp; rw [after0_16]
  obtain ⟨i, k, rfl⟩ : ∃ (i : Fin 8) (k : Fin 1024), y = ix2 i k := ⟨y 0, y 1, eq_ix2 y⟩
  have hi := i.isLt
  have hemb : ((View.whole main_v73_3).slice (win0_16.rect t)).emb (ix2 i k) = ix2 ⟨8 * t.val + i.val, by omega⟩ k := by
    blk_ext [idx t]
  rw [hemb]
  unfold Gen.outsAt0
  frame_out
  canon_tiles x h
  · refine (congrFun (pay_7 _ _ _ _) x).trans ?_
    exact piece m c t 896 7 rfl _ i k x ⟨8 * t.val + i.val, by omega⟩ rfl h0 h1
  · refine (congrFun (pay_6 _ _ _ _) x).trans ?_
    exact piece m c t 768 6 rfl _ i k x ⟨8 * t.val + i.val, by omega⟩ rfl h0 h1
  · refine (congrFun (pay_5 _ _ _ _) x).trans ?_
    exact piece m c t 640 5 rfl _ i k x ⟨8 * t.val + i.val, by omega⟩ rfl h0 h1
  · refine (congrFun (pay_4 _ _ _ _) x).trans ?_
    exact piece m c t 512 4 rfl _ i k x ⟨8 * t.val + i.val, by omega⟩ rfl h0 h1
  · refine (congrFun (pay_3 _ _ _ _) x).trans ?_
    exact piece m c t 384 3 rfl _ i k x ⟨8 * t.val + i.val, by omega⟩ rfl h0 h1
  · refine (congrFun (pay_2 _ _ _ _) x).trans ?_
    exact piece m c t 256 2 rfl _ i k x ⟨8 * t.val + i.val, by omega⟩ rfl h0 h1
  · refine (congrFun (pay_1 _ _ _ _) x).trans ?_
    exact piece m c t 128 1 rfl _ i k x ⟨8 * t.val + i.val, by omega⟩ rfl h0 h1
  · refine (congrFun (pay_0 _ _ _ _) x).trans ?_
    exact piece m c t 0 0 rfl _ i k x ⟨8 * t.val + i.val, by omega⟩ rfl h0 (h1.trans (Nat.zero_add _).symm)

/-- The whole run: its result and its arguments when it ends. -/
theorem run (ρ : Dev nD → PrngReg) : θ_run defs (onTc (τ := τ) (main (F := Ideal))) ⟨m, fun _ => 0, ρ⟩ (fun r => ∀ c : Dev nD,
      r.2.mem ((c.tc : Thread nD τ).loc main_v73_3) = KF (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 16).trans (final m c), h.2 c⟩)
    (θ_run_and (Cert.SPrepIdeal.Gen.run_main m ρ) (Cert.SPrepIdeal.Gen.unchanged m ρ))

end Cert.Proof.SPrepValue

end
-- ==== Proof.SMixPay.lean ====
/- What the sampling step's kernel stores of one row and head of the retention state: the old state decayed, plus the
   product of the key and the value. -/
module

public import proofs.«01_k».proof.Proof.Gen.SMixIdeal.Frame
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.SMixPay

open Cert.SMixIdeal Cert.SMixIdeal.Gen

/-- The state the body stores for row `b`, from the row's key, value, decay and old state. -/
def NEW (o : Fin 2 → ℕ) (ho : S8x128.Slices o S1x128) (kf vf : FVec Ideal S8x128 .f32) (gam : FVec Ideal S1x128 .f32)
    (R : FVec Ideal S1x1x128x128 .f32) : FVec Ideal S1x1x128x128 .f32 :=
  shapeCast S1x1x128x128
    (addf (mulf (shapeCast S128x128 R shapeCasts_S1x1x128x128_S128x128) (broadcastTo S128x128 gam broadcasts_S1x128_S128x128))
      (matmul dot_S128x128_S128x128_S128x128_1_0_0_1_n_n none
        (truncf .bf16 (select (cmpi .eq (iota .tc S128x128 32 [0] iota_S128x128_d0_w32) (iota .tc S128x128 32 [1] iota_S128x128_d1_w32))
          (broadcastTo S128x128 (shapeCast S1x128 (extractStridedSlice S1x128 o kf ho) shapeCasts_S1x128_S1x128) broadcasts_S1x128_S128x128)
          (broadcast S128x128 (Scalar.ofBits (F := Ideal) .f32 0x00000000#32))) bitsLt_bf16_f32)
        (truncf .bf16 (broadcastTo S128x128 (shapeCast S1x128 (extractStridedSlice S1x128 o vf ho) shapeCasts_S1x128_S1x128) broadcasts_S1x128_S128x128) bitsLt_bf16_f32)
        (constant S128x128 .f32 0x00000000#32)))
    shapeCasts_S128x128_S1x1x128x128

/-- Two row numbers compared as machine words. -/
theorem eq_word : ∀ d j : Fin 128, IntOp.cmpi .eq (BitVec.ofNat 32 d.val) (BitVec.ofNat 32 j.val) = if d = j then 1#1 else 0#1 := by
  decide +kernel

/-- A sum against the diagonal is its one term. -/
theorem diag_sum (d : Fin 128) (k : Fin 128 → EReal) :
    (∑ j : Fin 128, Scalar.select (IntOp.cmpi .eq (BitVec.ofNat 32 d.val) (BitVec.ofNat 32 j.val)) (k j) (0 : EReal)) = k d := by
  rw [Finset.sum_eq_single d]
  · rw [eq_word, if_pos rfl]; rfl
  · intro j _ hj
    rw [eq_word, if_neg (Ne.symm hj)]
    rfl
  · intro h; exact absurd (Finset.mem_univ d) h

/-- One entry of the stored state. -/
theorem NEW_at (b : Fin 8) (ho : S8x128.Slices ![b.val, 0] S1x128) (kf vf : FVec Ideal S8x128 .f32) (gam : FVec Ideal S1x128 .f32)
    (R : FVec Ideal S1x1x128x128 .f32) (i j : Fin 1) (d e : Fin 128) :
    NEW ![b.val, 0] ho kf vf gam R (ix4 i j d e)
      = R (ix4 0 0 d e) * gam (ix2 0 e) + kf (ix2 b d) * vf (ix2 b e) := by
  pointwise [NEW]
  rw [diag_sum d (fun x => kf (ix2 b x) * vf (ix2 b e))]

/-- One entry of the rotated key. -/
theorem pay6_at (co s k : FVec Ideal S8x128 .f32) (b : Fin 8) (e : Fin 128) :
    k0_pay6 (F := Ideal) co s k (ix2 b e)
      = (k (ix2 b e) * co (ix2 b e) + k (ix2 b ⟨(e.val + 64) % 128, by omega⟩) * s (ix2 b e)) * Ideal.ofBits .f32 0x3DB504F3#32 := by
  pointwise [k0_pay6, k0_pay2, k0_pay3]
  have h : (e.val + 128 - 64) % 128 = (e.val + 64) % 128 := by omega
  simp only [h]

/-- One entry of the value. -/
theorem pay7_at (v : FVec Ideal S8x128 .f32) (b : Fin 8) (e : Fin 128) :
    k0_pay7 (F := Ideal) v (ix2 b e) = v (ix2 b e) := by
  pointwise [k0_pay7]

end Cert.Proof.SMixPay

end
-- ==== Proof.SMixTab.lean ====
/- The tables the sampling step's kernel is given, and the reference's next retention state entry by entry. -/
module

public import proofs.«01_k».proof.Proof.Gen.SMixIdeal.Frame
public import proofs.«01_k».proof.Proof.Gen.SMixRefIdeal
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.SMixTab

section reference

open Cert.SMixRefIdeal Cert.SMixRefIdeal.Gen

/-- The rotary angles of the one position. -/
def ANG : FVec Ideal S1x64 .f32 :=
  mulf (broadcastInDim S1x64 ![0, 1] bcast_S1x1_S1x64_0_1 (broadcastInDim S1x1 ![0] bcast_S1_S1x1_0 (sitofp .f32 (addi (broadcastInDim S1 ![] bcast_S_S1 (constantI S_ 32 16384#32)) (iotaInDim S1 32 0))))) (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))

/-- The keys, cut into heads. -/
def KH (x0 : FVec Ideal S8x7680 .f32) : FVec Ideal S8x1x4x128 .f32 :=
  shapeCast _ (extractStridedSlice S8x512 ![0, 512] x0 slices_S8x7680_S8x512_0_512) shapeCasts_S8x512_S8x1x4x128

/-- The values, cut into heads. -/
def VH (x0 : FVec Ideal S8x7680 .f32) : FVec Ideal S8x1x4x128 .f32 :=
  shapeCast _ (extractStridedSlice S8x512 ![0, 1024] x0 slices_S8x7680_S8x512_0_1024) shapeCasts_S8x512_S8x1x4x128

/-- The logarithms of the decay rates. -/
def LG : FVec Ideal S4 .f32 :=
  Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))

/-- The rotary embedding. -/
def ROPE (k : FVec Ideal S8x1x4x128 .f32) : FVec Ideal S8x1x4x128 .f32 :=
  concatenate S8x1x4x128 3 [⟨S8x1x4x64, (subf (mulf (extractStridedSlice S8x1x4x64 ![0, 0, 0, 0] k slices_S8x1x4x128_S8x1x4x64_0_0_0_0) (broadcastInDim S8x1x4x64 ![0, 1, 2, 3] bcast_S1x1x1x64_S8x1x4x64_0_1_2_3 (broadcastInDim S1x1x1x64 ![1, 2, 3] bcast_S1x1x64_S1x1x1x64_1_2_3 (broadcastInDim S1x1x64 ![0, 2] bcast_S1x64_S1x1x64_0_2 (Host.cos ANG))))) (mulf (extractStridedSlice S8x1x4x64 ![0, 0, 0, 64] k slices_S8x1x4x128_S8x1x4x64_0_0_0_64) (broadcastInDim S8x1x4x64 ![0, 1, 2, 3] bcast_S1x1x1x64_S8x1x4x64_0_1_2_3 (broadcastInDim S1x1x1x64 ![1, 2, 3] bcast_S1x1x64_S1x1x1x64_1_2_3 (broadcastInDim S1x1x64 ![0, 2] bcast_S1x64_S1x1x64_0_2 (Host.sin ANG))))))⟩, ⟨S8x1x4x64, (addf (mulf (extractStridedSlice S8x1x4x64 ![0, 0, 0, 64] k slices_S8x1x4x128_S8x1x4x64_0_0_0_64) (broadcastInDim S8x1x4x64 ![0, 1, 2, 3] bcast_S1x1x1x64_S8x1x4x64_0_1_2_3 (broadcastInDim S1x1x1x64 ![1, 2, 3] bcast_S1x1x64_S1x1x1x64_1_2_3 (broadcastInDim S1x1x64 ![0, 2] bcast_S1x64_S1x1x64_0_2 (Host.cos ANG))))) (mulf (extractStridedSlice S8x1x4x64 ![0, 0, 0, 0] k slices_S8x1x4x128_S8x1x4x64_0_0_0_0) (broadcastInDim S8x1x4x64 ![0, 1, 2, 3] bcast_S1x1x1x64_S8x1x4x64_0_1_2_3 (broadcastInDim S1x1x1x64 ![1, 2, 3] bcast_S1x1x64_S1x1x1x64_1_2_3 (broadcastInDim S1x1x64 ![0, 2] bcast_S1x64_S1x1x64_0_2 (Host.sin ANG))))))⟩] concatenates_S8x1x4x64_S8x1x4x64_S8x1x4x128_d3

/-- The reference's next retention state. -/
def RS (x0 : FVec Ideal S8x7680 .f32) (x1 : FVec Ideal S8x4x128x128 .f32) : FVec Ideal S8x4x128x128 .f32 :=
  addf (mulf x1 (broadcastInDim S8x4x128x128 ![0, 1, 2, 3] bcast_S1x4x1x1_S8x4x128x128_0_1_2_3 (broadcastInDim S1x4x1x1 ![1, 2, 3] bcast_S4x1x1_S1x4x1x1_1_2_3 (broadcastInDim S4x1x1 ![0] bcast_S4_S4x1x1_0 (Host.exp (mulf LG (broadcastInDim S4 ![] bcast_S_S4 (constant S_ .f32 0x3F800000#32)))))))) (Host.dotGeneral dot_S8x4x1x128_S8x4x1x128_S8x4x128x128_2_2_3_3_01_01 none (mulf (transpose S8x4x1x128 [0, 2, 1, 3] (mulf (ROPE (KH x0)) (broadcastInDim S8x1x4x128 ![] bcast_S_S8x1x4x128 (constant S_ .f32 0x3DB504F3#32))) transposes_S8x1x4x128_S8x4x1x128_0_2_1_3) (broadcastInDim S8x4x1x128 ![0, 1, 2, 3] bcast_S1x4x1x1_S8x4x1x128_0_1_2_3 (broadcastInDim S1x4x1x1 ![1, 2, 3] bcast_S4x1x1_S1x4x1x1_1_2_3 (broadcastInDim S4x1x1 ![0, 1] bcast_S4x1_S4x1x1_0_1 (Host.exp (mulf (broadcastInDim S4x1 ![0] bcast_S4_S4x1_0 LG) (broadcastInDim S4x1 ![0, 1] bcast_S1x1_S4x1_0_1 (broadcastInDim S1x1 ![1] bcast_S1_S1x1_1 (subf (broadcastInDim S1 ![] bcast_S_S1 (constant S_ .f32 0x00000000#32)) (sitofp .f32 (iotaInDim S1 32 0))))))))))) (transpose S8x4x1x128 [0, 2, 1, 3] (VH x0) transposes_S8x1x4x128_S8x4x1x128_0_2_1_3))

end reference

open Cert.SMixIdeal Cert.SMixIdeal.Gen

variable (m : (ℓ : Loc nD τ sig) → Buf (Elt Ideal) ℓ) (c : Dev nD)

/-- The kernel's cosine row. -/
def COS1 : FVec Ideal S1x128 .f32 :=
  shapeCast S1x128 (broadcastInDim S1x1x1x128 ![0, 1, 2, 3] bcast_S1x1x1x128_S1x1x1x128_0_1_2_3
    (shapeCast S1x1x1x128 (concatenate S1x128 1
      [⟨S1x64, Host.cos ANG⟩, ⟨S1x64, Host.cos ANG⟩,
       ⟨S1x0, broadcastInDim S1x0 ![] bcast_S_S1x0 (constant S_ .f32 0x3F800000#32)⟩]
      concatenates_S1x64_S1x64_S1x0_S1x128_d1) shapeCasts_S1x128_S1x1x1x128))
    shapeCasts_S1x1x1x128_S1x128

/-- The kernel's sine row: the negated sines over the first half of a head, the sines over the second. -/
def SIN1 : FVec Ideal S1x128 .f32 :=
  addf
  (shapeCast S1x128 (broadcastInDim S1x1x1x128 ![0, 1, 2, 3] bcast_S1x1x1x128_S1x1x1x128_0_1_2_3
    (shapeCast S1x1x1x128 (concatenate S1x128 1
      [⟨S1x64, Host.negf (Host.sin ANG)⟩,
       ⟨S1x64, broadcastInDim S1x64 ![] bcast_S_S1x64 (constant S_ .f32 0x00000000#32)⟩]
      concatenates_S1x64_S1x64_S1x128_d1) shapeCasts_S1x128_S1x1x1x128))
    shapeCasts_S1x1x1x128_S1x128)
  (shapeCast S1x128 (broadcastInDim S1x1x1x128 ![0, 1, 2, 3] bcast_S1x1x1x128_S1x1x1x128_0_1_2_3
    (shapeCast S1x1x1x128 (concatenate S1x128 1
      [⟨S1x64, broadcastInDim S1x64 ![] bcast_S_S1x64 (constant S_ .f32 0x00000000#32)⟩,
       ⟨S1x64, Host.sin ANG⟩,
       ⟨S1x0, broadcastInDim S1x0 ![] bcast_S_S1x0 (constant S_ .f32 0x00000000#32)⟩]
      concatenates_S1x64_S1x64_S1x0_S1x128_d1) shapeCasts_S1x128_S1x1x1x128))
    shapeCasts_S1x1x1x128_S1x128)

/-- The cosines on every row. -/
def COS : FVec Ideal S8x128 .f32 := broadcastInDim S8x128 ![0, 1] bcast_S1x128_S8x128_0_1 COS1

/-- The sines on every row. -/
def SIN : FVec Ideal S8x128 .f32 := broadcastInDim S8x128 ![0, 1] bcast_S1x128_S8x128_0_1 SIN1

/-- The decay rates, one per column. -/
def GAM : FVec Ideal S1x512 .f32 :=
  broadcastInDim S1x512 ![1] bcast_S512_S1x512_1 (shapeCast S512 (broadcastInDim S4x128 ![0] bcast_S4_S4x128_0 (Host.exp LG)) shapeCasts_S4x128_S512)

set_option maxHeartbeats 1000000 in
/-- The cosines where the cosine row is put together. -/
theorem up_14 : (upto hostOps0 (fun b => m (c, b)) 21 (Proc.devRef .tc main_v14) : FVec Ideal S1x64 .f32) = Host.cos ANG := by
  after_reads_simp
  rfl

set_option maxHeartbeats 1000000 in
/-- The empty third part of the cosine row. -/
theorem up_16 : (upto hostOps0 (fun b => m (c, b)) 21 (Proc.devRef .tc main_v16) : FVec Ideal S1x0 .f32) = broadcastInDim S1x0 ![] bcast_S_S1x0 (constant (F := Ideal) S_ .f32 0x3F800000#32) := by
  after_reads_simp

set_option maxHeartbeats 1000000 in
/-- The negated sines where the first sine row is put together. -/
theorem up_18 : (upto hostOps0 (fun b => m (c, b)) 25 (Proc.devRef .tc main_v18) : FVec Ideal S1x64 .f32) = Host.negf (Host.sin ANG) := by
  after_reads_simp
  rfl

set_option maxHeartbeats 1000000 in
/-- The zeros of the first sine row. -/
theorem up_19 : (upto hostOps0 (fun b => m (c, b)) 25 (Proc.devRef .tc main_v19) : FVec Ideal S1x64 .f32) = broadcastInDim S1x64 ![] bcast_S_S1x64 (constant (F := Ideal) S_ .f32 0x00000000#32) := by
  after_reads_simp

set_option maxHeartbeats 1000000 in
/-- The zeros of the second sine row. -/
theorem up_21 : (upto hostOps0 (fun b => m (c, b)) 30 (Proc.devRef .tc main_v21) : FVec Ideal S1x64 .f32) = broadcastInDim S1x64 ![] bcast_S_S1x64 (constant (F := Ideal) S_ .f32 0x00000000#32) := by
  after_reads_simp

set_option maxHeartbeats 1000000 in
/-- The sines where the second sine row is put together. -/
theorem up_15 : (upto hostOps0 (fun b => m (c, b)) 30 (Proc.devRef .tc main_v15) : FVec Ideal S1x64 .f32) = Host.sin ANG := by
  after_reads_simp
  rfl

set_option maxHeartbeats 1000000 in
/-- The empty third part of the second sine row. -/
theorem up_22 : (upto hostOps0 (fun b => m (c, b)) 30 (Proc.devRef .tc main_v22) : FVec Ideal S1x0 .f32) = broadcastInDim S1x0 ![] bcast_S_S1x0 (constant (F := Ideal) S_ .f32 0x00000000#32) := by
  after_reads_simp

set_option maxHeartbeats 1000000 in
/-- The cosine table. -/
theorem V_cos : V m c main_v33 = COS := by
  simp only [V, List.flatten_cons, List.flatten_nil, List.append_nil]
  after_reads_simp
  show broadcastInDim S8x128 ![0, 1] bcast_S1x128_S8x128_0_1 (shapeCast S1x128 (broadcastInDim S1x1x1x128 ![0, 1, 2, 3] bcast_S1x1x1x128_S1x1x1x128_0_1_2_3
    (shapeCast S1x1x1x128 (concatenate S1x128 1
      [⟨S1x64, (upto hostOps0 (fun b => m (c, b)) 21 (Proc.devRef .tc main_v14) : FVec Ideal S1x64 .f32)⟩, ⟨S1x64, (upto hostOps0 (fun b => m (c, b)) 21 (Proc.devRef .tc main_v14) : FVec Ideal S1x64 .f32)⟩, ⟨S1x0, (upto hostOps0 (fun b => m (c, b)) 21 (Proc.devRef .tc main_v16) : FVec Ideal S1x0 .f32)⟩]
      concatenates_S1x64_S1x64_S1x0_S1x128_d1) shapeCasts_S1x128_S1x1x1x128))
    shapeCasts_S1x1x1x128_S1x128) = COS
  rw [up_14, up_16]
  rfl

set_option maxHeartbeats 1000000 in
/-- The sine table. -/
theorem V_sin : V m c main_v35 = SIN := by
  simp only [V, List.flatten_cons, List.flatten_nil, List.append_nil]
  after_reads_simp
  show broadcastInDim S8x128 ![0, 1] bcast_S1x128_S8x128_0_1 (addf (shapeCast S1x128 (broadcastInDim S1x1x1x128 ![0, 1, 2, 3] bcast_S1x1x1x128_S1x1x1x128_0_1_2_3
    (shapeCast S1x1x1x128 (concatenate S1x128 1
      [⟨S1x64, (upto hostOps0 (fun b => m (c, b)) 25 (Proc.devRef .tc main_v18) : FVec Ideal S1x64 .f32)⟩, ⟨S1x64, (upto hostOps0 (fun b => m (c, b)) 25 (Proc.devRef .tc main_v19) : FVec Ideal S1x64 .f32)⟩]
      concatenates_S1x64_S1x64_S1x128_d1) shapeCasts_S1x128_S1x1x1x128))
    shapeCasts_S1x1x1x128_S1x128)
    (shapeCast S1x128 (broadcastInDim S1x1x1x128 ![0, 1, 2, 3] bcast_S1x1x1x128_S1x1x1x128_0_1_2_3
    (shapeCast S1x1x1x128 (concatenate S1x128 1
      [⟨S1x64, (upto hostOps0 (fun b => m (c, b)) 30 (Proc.devRef .tc main_v21) : FVec Ideal S1x64 .f32)⟩, ⟨S1x64, (upto hostOps0 (fun b => m (c, b)) 30 (Proc.devRef .tc main_v15) : FVec Ideal S1x64 .f32)⟩, ⟨S1x0, (upto hostOps0 (fun b => m (c, b)) 30 (Proc.devRef .tc main_v22) : FVec Ideal S1x0 .f32)⟩]
      concatenates_S1x64_S1x64_S1x0_S1x128_d1) shapeCasts_S1x128_S1x1x1x128))
    shapeCasts_S1x1x1x128_S1x128)) = SIN
  rw [up_18, up_19, up_21, up_15, up_22]
  rfl

set_option maxHeartbeats 1000000 in
/-- The decay rates. -/
theorem V_gam : V m c main_v47 = GAM := by
  simp only [V, List.flatten_cons, List.flatten_nil, List.append_nil]
  after_reads_simp
  rfl

/-- One entry of the cosine table. -/
theorem COS_at (b : Fin 8) (e : Fin 128) : COS (ix2 b e) = Host.cos ANG (ix2 0 ⟨e.val % 64, by omega⟩) := by
  pointwise [COS, COS1]
  have he := e.isLt
  by_cases h : e.val < 64
  · rw [dif_pos h]
    exact congrArg (fun k => Ideal.cos (ANG (ix2 0 k))) (Fin.ext (Nat.mod_eq_of_lt h).symm)
  · rw [dif_neg h, dif_pos (by omega)]
    exact congrArg (fun k => Ideal.cos (ANG (ix2 0 k))) (Fin.ext (by show e.val - 64 = e.val % 64; omega))

/-- One entry of the sine table. -/
theorem SIN_at (b : Fin 8) (e : Fin 128) :
    SIN (ix2 b e) = if e.val < 64 then -(Host.sin ANG (ix2 0 ⟨e.val % 64, by omega⟩)) else Host.sin ANG (ix2 0 ⟨e.val % 64, by omega⟩) := by
  pointwise [SIN, SIN1]
  have he := e.isLt
  by_cases h : e.val < 64
  · rw [dif_pos h, dif_pos h, if_pos h, add_zero]
    exact congrArg (fun k => -Ideal.sin (ANG (ix2 0 k))) (Fin.ext (Nat.mod_eq_of_lt h).symm)
  · rw [dif_neg h, dif_neg h, if_neg h, dif_pos (by omega), zero_add]
    exact congrArg (fun k => Ideal.sin (ANG (ix2 0 k))) (Fin.ext (by show e.val - 64 = e.val % 64; omega))

/-- One entry of the decay rates. -/
theorem GAM_at (h : Fin 4) (e : Fin 128) : GAM (ix2 0 ⟨128 * h.val + e.val, by omega⟩) = Host.exp LG (ix1 h) := by
  pointwise [GAM]

/-- One entry of the keys. -/
theorem KH_at (x : FVec Ideal S8x7680 .f32) (b : Fin 8) (s : Fin 1) (h : Fin 4) (e : Fin 128) :
    KH x (ix4 b s h e) = x (ix2 b ⟨512 + (128 * h.val + e.val), by omega⟩) := by
  pointwise [KH]
  exact congrArg (fun k => x (ix2 b k)) (Fin.ext (by simp; omega))

/-- One entry of the values. -/
theorem VH_at (x : FVec Ideal S8x7680 .f32) (b : Fin 8) (s : Fin 1) (h : Fin 4) (e : Fin 128) :
    VH x (ix4 b s h e) = x (ix2 b ⟨1024 + (128 * h.val + e.val), by omega⟩) := by
  pointwise [VH]
  exact congrArg (fun k => x (ix2 b k)) (Fin.ext (by simp; omega))

/-- One entry of the rotary embedding: the row turned by the kernel's tables. -/
theorem ROPE_at (x : FVec Ideal Cert.SMixRefIdeal.S8x1x4x128 .f32) (b : Fin 8) (s : Fin 1) (h : Fin 4) (e : Fin 128) :
    ROPE x (ix4 b s h e) = x (ix4 b s h e) * COS (ix2 b e) + x (ix4 b s h ⟨(e.val + 64) % 128, by omega⟩) * SIN (ix2 b e) := by
  rw [COS_at, SIN_at]
  obtain rfl : s = 0 := Subsingleton.elim _ _
  pointwise [ROPE]
  have he := e.isLt
  by_cases hh : e.val < 64
  · have e1 : e.val % 64 = e.val := Nat.mod_eq_of_lt hh
    have e2 : (e.val + 64) % 128 = 64 + e.val := by omega
    rw [dif_pos hh, if_pos hh, mul_neg, ← sub_eq_add_neg]
    simp only [e1, e2]
  · have e1 : e.val % 64 = e.val - 64 := by omega
    have e2 : (e.val + 64) % 128 = e.val - 64 := by omega
    have e3 : 64 + (e.val - 64) = e.val := by omega
    rw [dif_neg hh, if_neg hh]
    simp only [e1, e2, e3]

/-- One entry of the reference's next state. -/
theorem RS_at (x0 : FVec Ideal S8x7680 .f32) (x1 : FVec Ideal S8x4x128x128 .f32) (b : Fin 8) (h : Fin 4) (d e : Fin 128) :
    RS x0 x1 (ix4 b h d e) = x1 (ix4 b h d e) * Host.exp LG (ix1 h)
      + (x0 (ix2 b ⟨512 + (128 * h.val + d.val), by omega⟩) * COS (ix2 b d)
          + x0 (ix2 b ⟨512 + (128 * h.val + (d.val + 64) % 128), by omega⟩) * SIN (ix2 b d)) * Ideal.ofBits .f32 0x3DB504F3#32
        * x0 (ix2 b ⟨1024 + (128 * h.val + e.val), by omega⟩) := by
  pointwise [RS]
  have hz : (FloatOps.sitofp (F := Ideal) .f32 (0#32 : BitVec 32) : EReal) = 0 := by
    show (((0#32 : BitVec 32).toInt : ℝ) : EReal) = 0
    simp
  have he : Ideal.exp (0 : EReal) = 1 := by
    show ((Real.exp 0 : ℝ) : EReal) = 1
    simp
  rw [Fin.sum_univ_one, hz, sub_zero, mul_zero, he, mul_one, ROPE_at, KH_at, KH_at, VH_at]

end Cert.Proof.SMixTab

end
-- ==== Proof.SMixConv.lean ====
/- The value of the sampling step's convolution: the kernel's weighted sum over the two earlier rows and the new one is
   the reference's over the three stacked rows, and the stack of the two latest rows is the reference's. -/
module

public import proofs.«01_k».proof.Proof.Gen.SMixIdeal.Frame
public import proofs.«01_k».proof.Proof.Gen.SMixRefIdeal
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.SMixConv

section reference

open Cert.SMixRefIdeal Cert.SMixRefIdeal.Gen

/-- The reference's three channel blocks of the projected rows. -/
def ZC (x0 : FVec Ideal S8x7680 .f32) : FVec Ideal S8x1x1536 .f32 :=
  shapeCast _ (extractStridedSlice S8x1536 ![0, 6144] x0 slices_S8x7680_S8x1536_0_6144) shapeCasts_S8x1536_S8x1x1536

/-- The reference's product of the second and the third block. -/
def UC (x0 : FVec Ideal S8x7680 .f32) : FVec Ideal S8x1x512 .f32 :=
  mulf (extractStridedSlice S8x1x512 ![0, 0, 512] (ZC x0) slices_S8x1x1536_S8x1x512_0_0_512) (extractStridedSlice S8x1x512 ![0, 0, 1024] (ZC x0) slices_S8x1x1536_S8x1x512_0_0_1024)

/-- The two earlier rows and the new one. -/
def CAT (x0 : FVec Ideal S8x7680 .f32) (x2 : FVec Ideal S8x2x512 .f32) : FVec Ideal S8x3x512 .f32 :=
  concatenate S8x3x512 1 [⟨S8x2x512, x2⟩, ⟨S8x1x512, (UC x0)⟩] concatenates_S8x2x512_S8x1x512_S8x3x512_d1

/-- The reference's gated convolution. -/
def CO (x0 : FVec Ideal S8x7680 .f32) (x2 : FVec Ideal S8x2x512 .f32) (x4 : FVec Ideal S3x512 .f32) : FVec Ideal S8x512 .f32 :=
  shapeCast _ (mulf (extractStridedSlice S8x1x512 ![0, 0, 0] (ZC x0) slices_S8x1x1536_S8x1x512_0_0_0) (addf (addf (mulf (broadcastInDim S8x1x512 ![0, 1, 2] bcast_S1x1x512_S8x1x512_0_1_2 (broadcastInDim S1x1x512 ![2] bcast_S512_S1x1x512_2 (shapeCast _ (extractStridedSlice S1x512 ![0, 0] x4 slices_S3x512_S1x512_0_0) shapeCasts_S1x512_S512))) (extractStridedSlice S8x1x512 ![0, 0, 0] (CAT x0 x2) slices_S8x3x512_S8x1x512_0_0_0)) (mulf (broadcastInDim S8x1x512 ![0, 1, 2] bcast_S1x1x512_S8x1x512_0_1_2 (broadcastInDim S1x1x512 ![2] bcast_S512_S1x1x512_2 (shapeCast _ (extractStridedSlice S1x512 ![1, 0] x4 slices_S3x512_S1x512_1_0) shapeCasts_S1x512_S512))) (extractStridedSlice S8x1x512 ![0, 1, 0] (CAT x0 x2) slices_S8x3x512_S8x1x512_0_1_0))) (mulf (broadcastInDim S8x1x512 ![0, 1, 2] bcast_S1x1x512_S8x1x512_0_1_2 (broadcastInDim S1x1x512 ![2] bcast_S512_S1x1x512_2 (shapeCast _ (extractStridedSlice S1x512 ![2, 0] x4 slices_S3x512_S1x512_2_0) shapeCasts_S1x512_S512))) (extractStridedSlice S8x1x512 ![0, 2, 0] (CAT x0 x2) slices_S8x3x512_S8x1x512_0_2_0)))) shapeCasts_S8x1x512_S8x512

/-- The reference's two latest rows. -/
def ST (x0 : FVec Ideal S8x7680 .f32) (x2 : FVec Ideal S8x2x512 .f32) : FVec Ideal S8x2x512 .f32 :=
  extractStridedSlice S8x2x512 ![0, 1, 0] (CAT x0 x2) slices_S8x3x512_S8x2x512_0_1_0

/-- One entry of the channel blocks. -/
theorem ZC_at (x : FVec Ideal S8x7680 .f32) (b : Fin 8) (s : Fin 1) (j : Fin 1536) :
    ZC x (ix3 b s j) = x (ix2 b ⟨6144 + j.val, by omega⟩) := by
  pointwise [ZC]

/-- One entry of the product. -/
theorem UC_at (x : FVec Ideal S8x7680 .f32) (b : Fin 8) (s : Fin 1) (j : Fin 512) :
    UC x (ix3 b s j) = x (ix2 b ⟨6656 + j.val, by omega⟩) * x (ix2 b ⟨7168 + j.val, by omega⟩) := by
  pointwise [UC]
  rw [ZC_at, ZC_at]
  refine congrArg₂ (· * ·) ?_ ?_ <;> · congr 2; exact Fin.ext (by simp; omega)

/-- The earlier rows. -/
theorem CAT_old (x : FVec Ideal S8x7680 .f32) (p : FVec Ideal S8x2x512 .f32) (b : Fin 8) (s : Fin 3) (j : Fin 512) (h : s.val < 2) :
    CAT x p (ix3 b s j) = p (ix3 b ⟨s.val, h⟩ j) := by
  pointwise [CAT]
  rw [dif_pos h]

/-- The new row. -/
theorem CAT_new (x : FVec Ideal S8x7680 .f32) (p : FVec Ideal S8x2x512 .f32) (b : Fin 8) (s : Fin 3) (j : Fin 512) (h : ¬ s.val < 2) :
    CAT x p (ix3 b s j) = x (ix2 b ⟨6656 + j.val, by omega⟩) * x (ix2 b ⟨7168 + j.val, by omega⟩) := by
  pointwise [CAT]
  rw [dif_neg h]
  exact UC_at x b _ j

/-- One entry of the reference's gated convolution. -/
theorem CO_at (x : FVec Ideal S8x7680 .f32) (p : FVec Ideal S8x2x512 .f32) (w : FVec Ideal S3x512 .f32) (b : Fin 8) (j : Fin 512) :
    CO x p w (ix2 b j) = x (ix2 b ⟨6144 + j.val, by omega⟩)
      * (w (ix2 0 j) * p (ix3 b 0 j) + w (ix2 1 j) * p (ix3 b 1 j)
        + w (ix2 2 j) * (x (ix2 b ⟨6656 + j.val, by omega⟩) * x (ix2 b ⟨7168 + j.val, by omega⟩))) := by
  pointwise [CO]
  rw [ZC_at, CAT_old _ _ _ _ _ (by decide), CAT_old _ _ _ _ _ (by decide), CAT_new _ _ _ _ _ (by decide)]
  rfl

end reference

open Cert.SMixIdeal Cert.SMixIdeal.Gen

variable (m : (ℓ : Loc nD τ sig) → Buf (Elt Ideal) ℓ)

/-- Every window is its whole array. -/
theorem idx_val : ∀ t : Fin cfg0.N, win0_0.index t = ![0, 0]
    ∧ win0_1.index t = ![0, 0, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0, 0, 0]
    ∧ win0_11.index t = ![0, 0]
    ∧ win0_12.index t = ![0, 0] :=
  (by decide +kernel : ∀ t : Fin grid0.N, _)

/-- The product the body stores, at one entry. -/
theorem pay_u (x y : FVec Ideal S8x512 .f32) (b : Fin 8) (j : Fin 512) :
    k0_pay154 (F := Ideal) x y (ix2 b j) = x (ix2 b j) * y (ix2 b j) := by
  pointwise [k0_pay154]

/-- The gated convolution the body stores, at one entry. -/
theorem pay_co (a u p q : FVec Ideal S8x512 .f32) (w : FVec Ideal S3x512 .f32) (b : Fin 8) (j : Fin 512) :
    k0_pay1 (F := Ideal) a u w (k0_pay155 w p) (k0_pay156 w) q (ix2 b j)
      = a (ix2 b j) * (w (ix2 0 j) * p (ix2 b j) + w (ix2 1 j) * q (ix2 b j) + w (ix2 2 j) * u (ix2 b j)) := by
  pointwise [k0_pay1, k0_pay155, k0_pay156]

/-- The first earlier row as the kernel is given it. -/
theorem V_p0 (c : Dev nD) : V m c main_v50 = shapeCast S8x512 (extractStridedSlice S8x1x512 ![0, 0, 0]
    (m ((c : Thread nD τ).loc main_arg2) : FVec Ideal S8x2x512 .f32) slices_S8x2x512_S8x1x512_0_0_0) shapeCasts_S8x1x512_S8x512 := by
  simp only [V, List.flatten_cons, List.flatten_nil, List.append_nil]
  after_reads_simp
  rfl

/-- The second earlier row as the kernel is given it. -/
theorem V_p1 (c : Dev nD) : V m c main_v52 = shapeCast S8x512 (extractStridedSlice S8x1x512 ![0, 1, 0]
    (m ((c : Thread nD τ).loc main_arg2) : FVec Ideal S8x2x512 .f32) slices_S8x2x512_S8x1x512_0_1_0) shapeCasts_S8x1x512_S8x512 := by
  simp only [V, List.flatten_cons, List.flatten_nil, List.append_nil]
  after_reads_simp
  rfl

/-- The projected rows as the kernel is given them. -/
theorem blk0 (c : Dev nD) (t : Fin cfg0.N) (b : Fin 8) (j : Fin 7680) :
    iblk m c 0 t (ix2 b j) = (m ((c : Thread nD τ).loc main_arg0) : FVec Ideal S8x7680 .f32) (ix2 b j) := by
  blk_ext [iblk, V_main_arg0, idx_val t]

/-- The first earlier row, entry by entry. -/
theorem blk6 (c : Dev nD) (t : Fin cfg0.N) (b : Fin 8) (j : Fin 512) :
    iblk m c 6 t (ix2 b j) = (m ((c : Thread nD τ).loc main_arg2) : FVec Ideal S8x2x512 .f32) (ix3 b 0 j) := by
  refine Eq.trans (b := (V m c main_v50 : FVec Ideal S8x512 .f32) (ix2 b j)) (by blk_ext [iblk, idx_val t]) ?_
  rw [V_p0]
  pointwise []

/-- The second earlier row, entry by entry. -/
theorem blk7 (c : Dev nD) (t : Fin cfg0.N) (b : Fin 8) (j : Fin 512) :
    iblk m c 7 t (ix2 b j) = (m ((c : Thread nD τ).loc main_arg2) : FVec Ideal S8x2x512 .f32) (ix3 b 1 j) := by
  refine Eq.trans (b := (V m c main_v52 : FVec Ideal S8x512 .f32) (ix2 b j)) (by blk_ext [iblk, idx_val t]) ?_
  rw [V_p1]
  pointwise []

/-- The convolution's weights as the kernel is given them. -/
theorem blk8 (c : Dev nD) (t : Fin cfg0.N) (b : Fin 3) (j : Fin 512) :
    iblk m c 8 t (ix2 b j) = (m ((c : Thread nD τ).loc main_arg4) : FVec Ideal S3x512 .f32) (ix2 b j) := by
  blk_ext [iblk, V_main_arg4, idx_val t]

/-- Loads of a band of columns, entry by entry. -/
theorem ld_cb (x : FVec Ideal S8x7680 .f32) (b : Fin 8) (j : Fin 512) :
    View.ld (Val := Elt Ideal) (e' := .f32) x r0_57 (ix2 b j : S8x512.Idx) = x (ix2 b ⟨6144 + j.val, by omega⟩) := by
  rw [View.ld_unit_apply_of _ _ _ _ _ (ix2 b ⟨6144 + j.val, by omega⟩ : S8x7680.Idx)]
  intro a
  fin_cases a <;> simp

/-- The second block's columns. -/
theorem ld_cc (x : FVec Ideal S8x7680 .f32) (b : Fin 8) (j : Fin 512) :
    View.ld (Val := Elt Ideal) (e' := .f32) x r0_58 (ix2 b j : S8x512.Idx) = x (ix2 b ⟨6656 + j.val, by omega⟩) := by
  rw [View.ld_unit_apply_of _ _ _ _ _ (ix2 b ⟨6656 + j.val, by omega⟩ : S8x7680.Idx)]
  intro a
  fin_cases a <;> simp

/-- The third block's columns. -/
theorem ld_ch (x : FVec Ideal S8x7680 .f32) (b : Fin 8) (j : Fin 512) :
    View.ld (Val := Elt Ideal) (e' := .f32) x r0_59 (ix2 b j : S8x512.Idx) = x (ix2 b ⟨7168 + j.val, by omega⟩) := by
  rw [View.ld_unit_apply_of _ _ _ _ _ (ix2 b ⟨7168 + j.val, by omega⟩ : S8x7680.Idx)]
  intro a
  fin_cases a <;> simp

/-- The gated convolution after the run is the reference's. -/
theorem final_co (c : Dev nD) : (dats m 0 c).arrAt 11 (cfgs 0).N
    = CO (m ((c : Thread nD τ).loc main_arg0)) (m ((c : Thread nD τ).loc main_arg2)) (m ((c : Thread nD τ).loc main_arg4)) := by
  refine (dats m 0 c).arrAt_eq_of_covers 11 _ (by decide +kernel) fun t hf y => ?_
  blk_simp; rw [after0_11]
  unfold_out out0_11
  frame_out
  obtain ⟨b, j, rfl⟩ : ∃ (b : Fin 8) (j : Fin 512), y = ix2 b j := ⟨y 0, y 1, eq_ix2 y⟩
  have hemb : ((View.whole main_v53_2).slice (win0_11.rect t)).emb (ix2 b j) = ix2 b j := by
    blk_ext [idx_val t]
  rw [hemb]
  refine Eq.trans ?_ (CO_at _ _ _ b j).symm
  refine (pay_co _ _ _ _ _ b j).trans ?_
  refine congrArg₂ (· * ·) ?_ (congrArg₂ (· + ·) (congrArg₂ (· + ·) (congrArg₂ (· * ·) ?_ ?_) (congrArg₂ (· * ·) ?_ ?_)) (congrArg₂ (· * ·) ?_ ((pay_u _ _ b j).trans (congrArg₂ (· * ·) ?_ ?_))))
  · exact (ld_cb _ b j).trans (blk0 m c t b ⟨6144 + j.val, by omega⟩)
  · exact blk8 m c t 0 j
  · exact blk6 m c t b j
  · exact blk8 m c t 1 j
  · exact blk7 m c t b j
  · exact blk8 m c t 2 j
  · exact (ld_cc _ b j).trans (blk0 m c t b ⟨6656 + j.val, by omega⟩)
  · exact (ld_ch _ b j).trans (blk0 m c t b ⟨7168 + j.val, by omega⟩)

/-- The new row, as rows of the kernel's own product. -/
def UROW (x : FVec Ideal S8x7680 .f32) : FVec Ideal S8x512 .f32 :=
  fun y => x (ix2 (y 0) ⟨6656 + (y 1).val, by have h : (y 1).val < 512 := (y 1).isLt; omega⟩) * x (ix2 (y 0) ⟨7168 + (y 1).val, by have h : (y 1).val < 512 := (y 1).isLt; omega⟩)

/-- The new row after the run. -/
theorem final_u (c : Dev nD) : (dats m 0 c).arrAt 12 (cfgs 0).N = UROW (m ((c : Thread nD τ).loc main_arg0)) := by
  refine (dats m 0 c).arrAt_eq_of_covers 12 _ (by decide +kernel) fun t hf y => ?_
  blk_simp; rw [after0_12]
  unfold_out out0_12
  frame_out
  obtain ⟨b, j, rfl⟩ : ∃ (b : Fin 8) (j : Fin 512), y = ix2 b j := ⟨y 0, y 1, eq_ix2 y⟩
  have hemb : ((View.whole main_v53_3).slice (win0_12.rect t)).emb (ix2 b j) = ix2 b j := by
    blk_ext [idx_val t]
  rw [hemb]
  refine (pay_u _ _ b j).trans ?_
  refine congrArg₂ (· * ·) ?_ ?_
  · exact (ld_cc _ b j).trans (blk0 m c t b ⟨6656 + j.val, by omega⟩)
  · exact (ld_ch _ b j).trans (blk0 m c t b ⟨7168 + j.val, by omega⟩)

/-- The later of the two earlier rows stacked on the new one is the reference's two latest rows. -/
theorem stack_eq (x : FVec Ideal S8x7680 .f32) (p : FVec Ideal S8x2x512 .f32) :
    concatenate S8x2x512 1
      [⟨S8x1x512, (broadcastInDim S8x1x512 ![0, 2] bcast_S8x512_S8x1x512_0_2
          (shapeCast S8x512 (extractStridedSlice S8x1x512 ![0, 1, 0] p slices_S8x2x512_S8x1x512_0_1_0) shapeCasts_S8x1x512_S8x512) : FVec Ideal S8x1x512 .f32)⟩,
       ⟨S8x1x512, (broadcastInDim S8x1x512 ![0, 2] bcast_S8x512_S8x1x512_0_2 (UROW x) : FVec Ideal S8x1x512 .f32)⟩]
      concatenates_S8x1x512_S8x1x512_S8x2x512_d1
      = ST x p := by
  funext y
  obtain ⟨b, k, j, rfl⟩ : ∃ (b : Fin 8) (k : Fin 2) (j : Fin 512), y = ix3 b k j := ⟨y 0, y 1, y 2, eq_ix3 y⟩
  have hk := k.isLt
  have hr : ST x p (ix3 b k j) = CAT x p (ix3 b ⟨1 + k.val, by omega⟩ j) := by pointwise [ST]
  rw [hr]
  by_cases h : k.val < 1
  · rw [CAT_old _ _ _ _ _ (by show 1 + k.val < 2; omega)]
    pointwise []
    rw [dif_pos h]
    exact congrArg (fun i => p (ix3 b i j)) (Fin.ext (by show 1 = 1 + k.val; omega))
  · rw [CAT_new _ _ _ _ _ (by show ¬ 1 + k.val < 2; omega)]
    pointwise []
    rw [dif_neg h]
    rfl

/-- What the lines after the kernel leave as the two latest rows. -/
theorem final_stack (c : Dev nD) : Pipeline.afterTail₀ cfgs (dats m) 0 (V0 m) [hostOps1] c main_v58
    = ST (m ((c : Thread nD τ).loc main_arg0)) (m ((c : Thread nD τ).loc main_arg2)) := by
  rw [← stack_eq, ← final_u m c]
  unfold Pipeline.afterTail₀
  simp only [hostOps1, List.flatten_cons, List.flatten_nil, List.append_nil]
  after_reads_simp
  refine congrArg₂ (fun a b : FVec Ideal S8x1x512 .f32 => concatenate S8x2x512 1 [⟨S8x1x512, a⟩, ⟨S8x1x512, b⟩]
    concatenates_S8x1x512_S8x1x512_S8x2x512_d1) ?_ ?_
  · after_reads_simp
    rw [show Pipeline.withArrays spec0 c (V0 m c) (fun w => (dats m 0 c).arrAt w cfg0.N) (Proc.devRef .tc main_arg2)
        = V m c main_arg2 from Pipeline.withArrays_of_ne spec0 c (V0 m c) _ main_arg2 (by decide), V_main_arg2]
    rfl
  · after_reads_simp
    rw [show Pipeline.withArrays spec0 c (V0 m c) (fun w => (dats m 0 c).arrAt w cfg0.N) (Proc.devRef .tc main_v53_3)
        = (dats m 0 c).arrAt 12 cfg0.N from Pipeline.withArrays_arr spec0 (by decide) c (V0 m c) _ 12]

end Cert.Proof.SMixConv

end
-- ==== Proof.SMixState.lean ====
/- The sampling step's retention state after the run is the reference's. -/
module

public import proofs.«01_k».proof.Proof.Gen.SMixIdeal.Frame
public import proofs.«01_k».proof.Proof.SMixPay
public import proofs.«01_k».proof.Proof.SMixTab
public import proofs.«01_k».proof.Proof.SMixConv
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.SMixState

open Cert.SMixIdeal Cert.SMixIdeal.Gen
open Cert.Proof.SMixPay Cert.Proof.SMixTab
open Cert.Proof.SMixConv (idx_val blk0)

variable (m : (ℓ : Loc nD τ sig) → Buf (Elt Ideal) ℓ)

/-- A load of a head's band of columns, entry by entry. -/
theorem ld_band (x : FVec Ideal S8x7680 .f32) (o : ℕ) (inb : ∀ a, (![0, o] : Fin 2 → ℕ) a + S8x128.size a ≤ S8x7680.size a)
    (ho : o ≤ 7552) (b : Fin 8) (e : Fin 128) :
    View.ld (Val := Elt Ideal) (e' := .f32) x (Rect.unit (s := S8x7680) ![0, o] S8x128.size inb) (ix2 b e : S8x128.Idx) = x (ix2 b ⟨o + e.val, by omega⟩) := by
  rw [View.ld_unit_apply_of _ _ _ _ _ (ix2 b ⟨o + e.val, by omega⟩ : S8x7680.Idx)]
  intro a
  fin_cases a <;> simp

/-- A load of a head's decay rates, entry by entry. -/
theorem ld_gam (x : FVec Ideal S1x512 .f32) (o : ℕ) (inb : ∀ a, (![0, o] : Fin 2 → ℕ) a + S1x128.size a ≤ S1x512.size a)
    (ho : o ≤ 384) (e : Fin 128) :
    View.ld (Val := Elt Ideal) (e' := .f32) x (Rect.unit (s := S1x512) ![0, o] S1x128.size inb) (ix2 0 e : S1x128.Idx) = x (ix2 0 ⟨o + e.val, by omega⟩) := by
  rw [View.ld_unit_apply_of _ _ _ _ _ (ix2 0 ⟨o + e.val, by omega⟩ : S1x512.Idx)]
  intro a
  fin_cases a <;> simp

/-- A load of a table, entry by entry. -/
theorem ld_tab (x : FVec Ideal S8x128 .f32) (b : Fin 8) (e : Fin 128) :
    View.ld (Val := Elt Ideal) (e' := .f32) x r0_0 (ix2 b e : S8x128.Idx) = x (ix2 b e) := by
  rw [View.ld_unit_apply_of _ _ _ _ _ (ix2 b e : S8x128.Idx)]
  intro a
  fin_cases a <;> simp

/-- A load of one row's and head's state, entry by entry. -/
theorem ld_state (x : FVec Ideal S8x4x128x128 .f32) (p q : ℕ)
    (inb : ∀ a, (![p, q, 0, 0] : Fin 4 → ℕ) a + S1x1x128x128.size a ≤ S8x4x128x128.size a)
    (hp : p < 8) (hq : q < 4) (d e : Fin 128) :
    View.ld (Val := Elt Ideal) (e' := .f32) x (Rect.unit (s := S8x4x128x128) ![p, q, 0, 0] S1x1x128x128.size inb) (ix4 0 0 d e : S1x1x128x128.Idx)
      = x (ix4 ⟨p, hp⟩ ⟨q, hq⟩ d e) := by
  rw [View.ld_unit_apply_of _ _ _ _ _ (ix4 ⟨p, hp⟩ ⟨q, hq⟩ d e : S8x4x128x128.Idx)]
  intro a
  fin_cases a <;> simp

/-- One entry of the decay rates as loaded. -/
theorem pay4_at (g : FVec Ideal S1x128 .f32) (e : Fin 128) : k0_pay4 (F := Ideal) g (ix2 0 e) = g (ix2 0 e) := by
  pointwise [k0_pay4]

/-- The states as the kernel is given them. -/
theorem blk1 (c : Dev nD) (t : Fin cfg0.N) (b : Fin 8) (h : Fin 4) (d e : Fin 128) :
    iblk m c 1 t (ix4 b h d e) = (m ((c : Thread nD τ).loc main_arg1) : FVec Ideal S8x4x128x128 .f32) (ix4 b h d e) := by
  blk_ext [iblk, V_main_arg1, idx_val t]

/-- The cosines as the kernel is given them. -/
theorem blk2 (c : Dev nD) (t : Fin cfg0.N) (b : Fin 8) (e : Fin 128) : iblk m c 2 t (ix2 b e) = COS (ix2 b e) := by
  rw [← V_cos m c]
  blk_ext [iblk, idx_val t]

/-- The sines as the kernel is given them. -/
theorem blk3 (c : Dev nD) (t : Fin cfg0.N) (b : Fin 8) (e : Fin 128) : iblk m c 3 t (ix2 b e) = SIN (ix2 b e) := by
  rw [← V_sin m c]
  blk_ext [iblk, idx_val t]

/-- The decay rates as the kernel is given them. -/
theorem blk4 (c : Dev nD) (t : Fin cfg0.N) (e : Fin 512) : iblk m c 4 t (ix2 0 e) = GAM (ix2 0 e) := by
  rw [← V_gam m c]
  blk_ext [iblk, idx_val t]

/-- What the body stores for one row and head, over the kernel's input blocks, is the reference's state there. -/
theorem piece (c : Dev nD) (t : Fin cfg0.N) (p q ok ov og : ℕ) (hp : p < 8) (hq : q < 4)
    (hk : ok = 512 + 128 * q) (hv : ov = 1024 + 128 * q) (hg : og = 128 * q)
    (ho : S8x128.Slices ![p, 0] S1x128) (ik) (iv) (ig) (ir)
    (b : Fin 8) (h : Fin 4) (d e : Fin 128) (x : S1x1x128x128.Idx) (h0 : b.val = p) (h1 : h.val = q) (h2 : d.val = (x 2).val) (h3 : e.val = (x 3).val) :
    NEW ![p, 0] ho
      (k0_pay6 (F := Ideal) (View.ld (Val := Elt Ideal) (e' := .f32) (iblk m c 2 t : FVec Ideal S8x128 .f32) r0_0) (View.ld (Val := Elt Ideal) (e' := .f32) (iblk m c 3 t : FVec Ideal S8x128 .f32) r0_0)
        (View.ld (Val := Elt Ideal) (e' := .f32) (iblk m c 0 t : FVec Ideal S8x7680 .f32) (Rect.unit (s := S8x7680) ![0, ok] S8x128.size ik)))
      (k0_pay7 (F := Ideal) (View.ld (Val := Elt Ideal) (e' := .f32) (iblk m c 0 t : FVec Ideal S8x7680 .f32) (Rect.unit (s := S8x7680) ![0, ov] S8x128.size iv)))
      (k0_pay4 (F := Ideal) (View.ld (Val := Elt Ideal) (e' := .f32) (iblk m c 4 t : FVec Ideal S1x512 .f32) (Rect.unit (s := S1x512) ![0, og] S1x128.size ig)))
      (View.ld (Val := Elt Ideal) (e' := .f32) (iblk m c 1 t : FVec Ideal S8x4x128x128 .f32) (Rect.unit (s := S8x4x128x128) ![p, q, 0, 0] S1x1x128x128.size ir)) x
      = RS (m ((c : Thread nD τ).loc main_arg0)) (m ((c : Thread nD τ).loc main_arg1)) (ix4 b h d e) := by
  obtain ⟨i, j, d', e', rfl⟩ : ∃ (i j : Fin 1) (d e : Fin 128), x = ix4 i j d e := ⟨x 0, x 1, x 2, x 3, eq_ix4 x⟩
  obtain rfl : d = d' := Fin.ext h2
  obtain rfl : e = e' := Fin.ext h3
  subst h0 h1 hk hv hg
  have hh := h.isLt
  rw [RS_at]
  refine (NEW_at b ho _ _ _ _ i j d e).trans ?_
  refine congrArg₂ (· + ·) (congrArg₂ (· * ·) ?_ ?_) (congrArg₂ (· * ·) ?_ ?_)
  · exact (ld_state _ _ _ _ hp hq d e).trans (blk1 m c t b h d e)
  · refine (pay4_at _ e).trans ((ld_gam _ _ _ (by omega) e).trans ((blk4 m c t _).trans (GAM_at h e)))
  · refine (pay6_at _ _ _ b d).trans ?_
    refine congrArg₂ (· * ·) (congrArg₂ (· + ·) (congrArg₂ (· * ·) ?_ ?_) (congrArg₂ (· * ·) ?_ ?_)) rfl
    · refine (ld_band _ _ _ (by omega) b d).trans ((blk0 m c t b _).trans ?_)
      exact congrArg (fun k => (m ((c : Thread nD τ).loc main_arg0) : FVec Ideal S8x7680 .f32) (ix2 b k)) (Fin.ext (by simp; omega))
    · exact (ld_tab _ b d).trans (blk2 m c t b d)
    · refine (ld_band _ _ _ (by omega) b _).trans ((blk0 m c t b _).trans ?_)
      exact congrArg (fun k => (m ((c : Thread nD τ).loc main_arg0) : FVec Ideal S8x7680 .f32) (ix2 b k)) (Fin.ext (by simp; omega))
    · exact (ld_tab _ b d).trans (blk3 m c t b d)
  · refine (pay7_at _ b e).trans ((ld_band _ _ _ (by omega) b e).trans ((blk0 m c t b _).trans ?_))
    exact congrArg (fun k => (m ((c : Thread nD τ).loc main_arg0) : FVec Ideal S8x7680 .f32) (ix2 b k)) (Fin.ext (by simp; omega))

set_option maxHeartbeats 4000000 in
/-- The retention state after the run is the reference's. -/
theorem final_state (c : Dev nD) : (dats m 0 c).arrAt 10 (cfgs 0).N
    = RS (m ((c : Thread nD τ).loc main_arg0)) (m ((c : Thread nD τ).loc main_arg1)) := by
  refine (dats m 0 c).arrAt_eq_of_covers 10 _ (by decide +kernel) fun t hf y => ?_
  blk_simp; rw [after0_10]
  obtain ⟨b, h, d, e, rfl⟩ : ∃ (b : Fin 8) (h : Fin 4) (d e : Fin 128), y = ix4 b h d e := ⟨y 0, y 1, y 2, y 3, eq_ix4 y⟩
  have hemb : ((View.whole main_v53_1).slice (win0_10.rect t)).emb (ix4 b h d e) = ix4 b h d e := by
    blk_ext [idx_val t]
  rw [hemb]
  canon_tiles x h
  · have hx0 := (x 0).isLt; have hx1 := (x 1).isLt
    exact piece m c t 7 3 896 1408 384 (by decide) (by decide) rfl rfl rfl _ _ _ _ _ b h d e x (by simp at *; omega) (by simp at *; omega) (by simp at *; omega) (by simp at *; omega)
  · have hx0 := (x 0).isLt; have hx1 := (x 1).isLt
    exact piece m c t 6 3 896 1408 384 (by decide) (by decide) rfl rfl rfl _ _ _ _ _ b h d e x (by simp at *; omega) (by simp at *; omega) (by simp at *; omega) (by simp at *; omega)
  · have hx0 := (x 0).isLt; have hx1 := (x 1).isLt
    exact piece m c t 5 3 896 1408 384 (by decide) (by decide) rfl rfl rfl _ _ _ _ _ b h d e x (by simp at *; omega) (by simp at *; omega) (by simp at *; omega) (by simp at *; omega)
  · have hx0 := (x 0).isLt; have hx1 := (x 1).isLt
    exact piece m c t 4 3 896 1408 384 (by decide) (by decide) rfl rfl rfl _ _ _ _ _ b h d e x (by simp at *; omega) (by simp at *; omega) (by simp at *; omega) (by simp at *; omega)
  · have hx0 := (x 0).isLt; have hx1 := (x 1).isLt
    exact piece m c t 3 3 896 1408 384 (by decide) (by decide) rfl rfl rfl _ _ _ _ _ b h d e x (by simp at *; omega) (by simp at *; omega) (by simp at *; omega) (by simp at *; omega)
  · have hx0 := (x 0).isLt; have hx1 := (x 1).isLt
    exact piece m c t 2 3 896 1408 384 (by decide) (by decide) rfl rfl rfl _ _ _ _ _ b h d e x (by simp at *; omega) (by simp at *; omega) (by simp at *; omega) (by simp at *; omega)
  · have hx0 := (x 0).isLt; have hx1 := (x 1).isLt
    exact piece m c t 1 3 896 1408 384 (by decide) (by decide) rfl rfl rfl _ _ _ _ _ b h d e x (by simp at *; omega) (by simp at *; omega) (by simp at *; omega) (by simp at *; omega)
  · have hx0 := (x 0).isLt; have hx1 := (x 1).isLt
    exact piece m c t 0 3 896 1408 384 (by decide) (by decide) rfl rfl rfl _ _ _ _ _ b h d e x (by simp at *; omega) (by simp at *; omega) (by simp at *; omega) (by simp at *; omega)
  · have hx0 := (x 0).isLt; have hx1 := (x 1).isLt
    exact piece m c t 7 2 768 1280 256 (by decide) (by decide) rfl rfl rfl _ _ _ _ _ b h d e x (by simp at *; omega) (by simp at *; omega) (by simp at *; omega) (by simp at *; omega)
  · have hx0 := (x 0).isLt; have hx1 := (x 1).isLt
    exact piece m c t 6 2 768 1280 256 (by decide) (by decide) rfl rfl rfl _ _ _ _ _ b h d e x (by simp at *; omega) (by simp at *; omega) (by simp at *; omega) (by simp at *; omega)
  · have hx0 := (x 0).isLt; have hx1 := (x 1).isLt
    exact piece m c t 5 2 768 1280 256 (by decide) (by decide) rfl rfl rfl _ _ _ _ _ b h d e x (by simp at *; omega) (by simp at *; omega) (by simp at *; omega) (by simp at *; omega)
  · have hx0 := (x 0).isLt; have hx1 := (x 1).isLt
    exact piece m c t 4 2 768 1280 256 (by decide) (by decide) rfl rfl rfl _ _ _ _ _ b h d e x (by simp at *; omega) (by simp at *; omega) (by simp at *; omega) (by simp at *; omega)
  · have hx0 := (x 0).isLt; have hx1 := (x 1).isLt
    exact piece m c t 3 2 768 1280 256 (by decide) (by decide) rfl rfl rfl _ _ _ _ _ b h d e x (by simp at *; omega) (by simp at *; omega) (by simp at *; omega) (by simp at *; omega)
  · have hx0 := (x 0).isLt; have hx1 := (x 1).isLt
    exact piece m c t 2 2 768 1280 256 (by decide) (by decide) rfl rfl rfl _ _ _ _ _ b h d e x (by simp at *; omega) (by simp at *; omega) (by simp at *; omega) (by simp at *; omega)
  · have hx0 := (x 0).isLt; have hx1 := (x 1).isLt
    exact piece m c t 1 2 768 1280 256 (by decide) (by decide) rfl rfl rfl _ _ _ _ _ b h d e x (by simp at *; omega) (by simp at *; omega) (by simp at *; omega) (by simp at *; omega)
  · have hx0 := (x 0).isLt; have hx1 := (x 1).isLt
    exact piece m c t 0 2 768 1280 256 (by decide) (by decide) rfl rfl rfl _ _ _ _ _ b h d e x (by simp at *; omega) (by simp at *; omega) (by simp at *; omega) (by simp at *; omega)
  · have hx0 := (x 0).isLt; have hx1 := (x 1).isLt
    exact piece m c t 7 1 640 1152 128 (by decide) (by decide) rfl rfl rfl _ _ _ _ _ b h d e x (by simp at *; omega) (by simp at *; omega) (by simp at *; omega) (by simp at *; omega)
  · have hx0 := (x 0).isLt; have hx1 := (x 1).isLt
    exact piece m c t 6 1 640 1152 128 (by decide) (by decide) rfl rfl rfl _ _ _ _ _ b h d e x (by simp at *; omega) (by simp at *; omega) (by simp at *; omega) (by simp at *; omega)
  · have hx0 := (x 0).isLt; have hx1 := (x 1).isLt
    exact piece m c t 5 1 640 1152 128 (by decide) (by decide) rfl rfl rfl _ _ _ _ _ b h d e x (by simp at *; omega) (by simp at *; omega) (by simp at *; omega) (by simp at *; omega)
  · have hx0 := (x 0).isLt; have hx1 := (x 1).isLt
    exact piece m c t 4 1 640 1152 128 (by decide) (by decide) rfl rfl rfl _ _ _ _ _ b h d e x (by simp at *; omega) (by simp at *; omega) (by simp at *; omega) (by simp at *; omega)
  · have hx0 := (x 0).isLt; have hx1 := (x 1).isLt
    exact piece m c t 3 1 640 1152 128 (by decide) (by decide) rfl rfl rfl _ _ _ _ _ b h d e x (by simp at *; omega) (by simp at *; omega) (by simp at *; omega) (by simp at *; omega)
  · have hx0 := (x 0).isLt; have hx1 := (x 1).isLt
    exact piece m c t 2 1 640 1152 128 (by decide) (by decide) rfl rfl rfl _ _ _ _ _ b h d e x (by simp at *; omega) (by simp at *; omega) (by simp at *; omega) (by simp at *; omega)
  · have hx0 := (x 0).isLt; have hx1 := (x 1).isLt
    exact piece m c t 1 1 640 1152 128 (by decide) (by decide) rfl rfl rfl _ _ _ _ _ b h d e x (by simp at *; omega) (by simp at *; omega) (by simp at *; omega) (by simp at *; omega)
  · have hx0 := (x 0).isLt; have hx1 := (x 1).isLt
    exact piece m c t 0 1 640 1152 128 (by decide) (by decide) rfl rfl rfl _ _ _ _ _ b h d e x (by simp at *; omega) (by simp at *; omega) (by simp at *; omega) (by simp at *; omega)
  · have hx0 := (x 0).isLt; have hx1 := (x 1).isLt
    exact piece m c t 7 0 512 1024 0 (by decide) (by decide) rfl rfl rfl _ _ _ _ _ b h d e x (by simp at *; omega) (by simp at *; omega) (by simp at *; omega) (by simp at *; omega)
  · have hx0 := (x 0).isLt; have hx1 := (x 1).isLt
    exact piece m c t 6 0 512 1024 0 (by decide) (by decide) rfl rfl rfl _ _ _ _ _ b h d e x (by simp at *; omega) (by simp at *; omega) (by simp at *; omega) (by simp at *; omega)
  · have hx0 := (x 0).isLt; have hx1 := (x 1).isLt
    exact piece m c t 5 0 512 1024 0 (by decide) (by decide) rfl rfl rfl _ _ _ _ _ b h d e x (by simp at *; omega) (by simp at *; omega) (by simp at *; omega) (by simp at *; omega)
  · have hx0 := (x 0).isLt; have hx1 := (x 1).isLt
    exact piece m c t 4 0 512 1024 0 (by decide) (by decide) rfl rfl rfl _ _ _ _ _ b h d e x (by simp at *; omega) (by simp at *; omega) (by simp at *; omega) (by simp at *; omega)
  · have hx0 := (x 0).isLt; have hx1 := (x 1).isLt
    exact piece m c t 3 0 512 1024 0 (by decide) (by decide) rfl rfl rfl _ _ _ _ _ b h d e x (by simp at *; omega) (by simp at *; omega) (by simp at *; omega) (by simp at *; omega)
  · have hx0 := (x 0).isLt; have hx1 := (x 1).isLt
    exact piece m c t 2 0 512 1024 0 (by decide) (by decide) rfl rfl rfl _ _ _ _ _ b h d e x (by simp at *; omega) (by simp at *; omega) (by simp at *; omega) (by simp at *; omega)
  · have hx0 := (x 0).isLt; have hx1 := (x 1).isLt
    exact piece m c t 1 0 512 1024 0 (by decide) (by decide) rfl rfl rfl _ _ _ _ _ b h d e x (by simp at *; omega) (by simp at *; omega) (by simp at *; omega) (by simp at *; omega)
  · have hx0 := (x 0).isLt; have hx1 := (x 1).isLt
    exact piece m c t 0 0 512 1024 0 (by decide) (by decide) rfl rfl rfl _ _ _ _ _ b h d e x (by simp at *; omega) (by simp at *; omega) (by simp at *; omega) (by simp at *; omega)

end Cert.Proof.SMixState

end
-- ==== Proof.SMixValue.lean ====
/- The sampling step's call that turns the retention state and convolves: its results when it ends. -/
module

public import proofs.«01_k».proof.Proof.Gen.SMixIdeal.Frame
public import proofs.«01_k».proof.Proof.SMixState
public import Idealize.ShloMosaic.Lib.StableHlo.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.SMixValue

open Cert.SMixIdeal Cert.SMixIdeal.Gen
open Cert.Proof.SMixConv Cert.Proof.SMixState
open Cert.Proof.SMixTab (RS)

variable (m : (ℓ : Loc nD τ sig) → Buf (Elt Ideal) ℓ)

/-- The whole run: its results and its arguments when it ends. -/
theorem run (ρ : Dev nD → PrngReg) : θ_run defs (onTc (τ := τ) (main (F := Ideal))) ⟨m, fun _ => 0, ρ⟩ (fun r => ∀ c : Dev nD,
      r.2.mem ((c.tc : Thread nD τ).loc main_v53_1) = RS (m ((c : Thread nD τ).loc main_arg0)) (m ((c : Thread nD τ).loc main_arg1))
      ∧ r.2.mem ((c.tc : Thread nD τ).loc main_v53_2) = CO (m ((c : Thread nD τ).loc main_arg0)) (m ((c : Thread nD τ).loc main_arg2)) (m ((c : Thread nD τ).loc main_arg4))
      ∧ r.2.mem ((c.tc : Thread nD τ).loc main_v58) = ST (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 10).trans (final_state m c), ((h.1 c).1 11).trans (final_co m c),
      ((h.1 c).2 main_v58 (Pipeline.mem_restRefs_of main_v58 (by decide) (by decide))).trans (final_stack m c),
      h.2.1 c⟩)
    (θ_run_and (Cert.SMixIdeal.Gen.run_main m ρ) (Cert.SMixIdeal.Gen.frame m ρ))

end Cert.Proof.SMixValue

end
-- ==== Proof.lean ====
/- The claims, put together: each program runs and leaves its arguments as they were, and each kernel,
   read with ideal arithmetic, gives what its reference gives. The values are proved in the modules
   imported here, one for each kernel. -/
module

public import proofs.«01_k».proof.Defs
public import proofs.«01_k».proof.Proof.Gen.Ret.Frame
public import proofs.«01_k».proof.Proof.Gen.RetIdeal.Value
public import proofs.«01_k».proof.Proof.Gen.RetRefIdeal.Run
public import proofs.«01_k».proof.Proof.RetValue
public import proofs.«01_k».proof.Proof.Gen.Up.Frame
public import proofs.«01_k».proof.Proof.Gen.UpIdeal.Frame
public import proofs.«01_k».proof.Proof.Gen.UpRefIdeal.Run
public import proofs.«01_k».proof.Proof.UpValue
public import proofs.«01_k».proof.Proof.Gen.In.Frame
public import proofs.«01_k».proof.Proof.InRunBits
public import proofs.«01_k».proof.Proof.Gen.InIdeal.Frame
public import proofs.«01_k».proof.Proof.Gen.InRefIdeal.Run
public import proofs.«01_k».proof.Proof.InValue
public import proofs.«01_k».proof.Proof.Gen.Out.Frame
public import proofs.«01_k».proof.Proof.Gen.OutIdeal.Value
public import proofs.«01_k».proof.Proof.Gen.OutRefIdeal.Run
public import proofs.«01_k».proof.Proof.OutValue
public import proofs.«01_k».proof.Proof.Gen.Down.Frame
public import proofs.«01_k».proof.Proof.Gen.DownIdeal.Value
public import proofs.«01_k».proof.Proof.Gen.DownRefIdeal.Run
public import proofs.«01_k».proof.Proof.DownValue
public import proofs.«01_k».proof.Proof.Gen.Gate.Frame
public import proofs.«01_k».proof.Proof.Gen.GateIdeal.Value
public import proofs.«01_k».proof.Proof.Gen.GateRefIdeal.Run
public import proofs.«01_k».proof.Proof.GateValue
public import proofs.«01_k».proof.Proof.Gen.Conv.Frame
public import proofs.«01_k».proof.Proof.Gen.ConvIdeal.Frame
public import proofs.«01_k».proof.Proof.Gen.ConvRefIdeal.Run
public import proofs.«01_k».proof.Proof.ConvValue
public import proofs.«01_k».proof.Proof.Gen.Prep.Frame
public import proofs.«01_k».proof.Proof.Gen.PrepIdeal.Frame
public import proofs.«01_k».proof.Proof.Gen.PrepRefIdeal.Run
public import proofs.«01_k».proof.Proof.PrepValue
public import proofs.«01_k».proof.Proof.Gen.SIn.Frame
public import proofs.«01_k».proof.Proof.SInRunBits
public import proofs.«01_k».proof.Proof.Gen.SInIdeal.Frame
public import proofs.«01_k».proof.Proof.Gen.SInRefIdeal.Run
public import proofs.«01_k».proof.Proof.SInValue
public import proofs.«01_k».proof.Proof.Gen.SUp.Frame
public import proofs.«01_k».proof.Proof.Gen.SUpIdeal.Frame
public import proofs.«01_k».proof.Proof.Gen.SUpRefIdeal.Run
public import proofs.«01_k».proof.Proof.SUpValue
public import proofs.«01_k».proof.Proof.Gen.SDown.Frame
public import proofs.«01_k».proof.Proof.Gen.SDownIdeal.Frame
public import proofs.«01_k».proof.Proof.Gen.SDownRefIdeal.Run
public import proofs.«01_k».proof.Proof.SDownValue
public import proofs.«01_k».proof.Proof.Gen.SPrep.Frame
public import proofs.«01_k».proof.Proof.Gen.SPrepIdeal.Frame
public import proofs.«01_k».proof.Proof.Gen.SPrepRefIdeal.Run
public import proofs.«01_k».proof.Proof.SPrepValue
public import proofs.«01_k».proof.Proof.Gen.SMix.Frame
public import proofs.«01_k».proof.Proof.Gen.SMixIdeal.Frame
public import proofs.«01_k».proof.Proof.Gen.SMixRefIdeal.Run
public import proofs.«01_k».proof.Proof.SMixValue
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The program of the retention runs, leaves its arguments as they were and ends with every counter at zero. -/
theorem quiescent_Ret : Cert.quiescent_Ret :=
  fun m ρ _ => Cert.Ret.Gen.frame m ρ

/-- So does the retention with ideal arithmetic. -/
theorem quiescent_RetIdeal : Cert.quiescent_RetIdeal :=
  fun m ρ _ => Cert.RetIdeal.Gen.frame m ρ

/-- So does the reference of the retention. -/
theorem quiescent_RetRefIdeal : Cert.quiescent_RetRefIdeal := fun m ρ _ =>
  (θ_run _ _ _).mono (fun r h => ⟨fun c => ⟨(h c).2.2.1, (h c).2.2.2⟩, sem_eq_zero_of_no_sems rfl r.2⟩)
    (RetRef.run m ρ)

/-- The program of the up projection of the feed-forward part runs, leaves its arguments as they were and ends with every counter at zero. -/
theorem quiescent_Up : Cert.quiescent_Up :=
  fun m ρ _ => Cert.Up.Gen.frame m ρ

/-- So does the up projection of the feed-forward part with ideal arithmetic. -/
theorem quiescent_UpIdeal : Cert.quiescent_UpIdeal :=
  fun m ρ _ => Cert.UpIdeal.Gen.frame m ρ

/-- So does the reference of the up projection of the feed-forward part. -/
theorem quiescent_UpRefIdeal : Cert.quiescent_UpRefIdeal := fun m ρ _ =>
  (θ_run _ _ _).mono (fun r h => ⟨fun c => (h c).2.2, sem_eq_zero_of_no_sems rfl r.2⟩)
    (Cert.UpRefIdeal.Value.run m ρ)

/-- The program of the input projection runs, leaves its arguments as they were and ends with every counter at zero. -/
theorem quiescent_In : Cert.quiescent_In :=
  fun m ρ _ => InRunBits.frame m ρ

/-- So does the input projection with ideal arithmetic. -/
theorem quiescent_InIdeal : Cert.quiescent_InIdeal :=
  fun m ρ _ => InRun.frame m ρ

/-- So does the reference of the input projection. -/
theorem quiescent_InRefIdeal : Cert.quiescent_InRefIdeal := fun m ρ _ =>
  (θ_run _ _ _).mono (fun r h => ⟨fun c => (h c).2.2.2, sem_eq_zero_of_no_sems rfl r.2⟩)
    (Cert.InRefIdeal.Value.run m ρ)

/-- The program of the output projection with its layer norm runs, leaves its arguments as they were and ends with every counter at zero. -/
theorem quiescent_Out : Cert.quiescent_Out :=
  fun m ρ _ => Cert.Out.Gen.frame m ρ

/-- So does the output projection with its layer norm with ideal arithmetic. -/
theorem quiescent_OutIdeal : Cert.quiescent_OutIdeal :=
  fun m ρ _ => Cert.OutIdeal.Gen.frame m ρ

/-- So does the reference of the output projection with its layer norm. -/
theorem quiescent_OutRefIdeal : Cert.quiescent_OutRefIdeal := fun m ρ _ =>
  (θ_run _ _ _).mono (fun r h => ⟨fun c => (h c).2.2, sem_eq_zero_of_no_sems rfl r.2⟩)
    (Cert.OutRefIdeal.Value.run m ρ)

/-- The program of the down projection with its layer norm runs, leaves its arguments as they were and ends with every counter at zero. -/
theorem quiescent_Down : Cert.quiescent_Down :=
  fun m ρ _ => Cert.Down.Gen.frame m ρ

/-- So does the down projection with its layer norm with ideal arithmetic. -/
theorem quiescent_DownIdeal : Cert.quiescent_DownIdeal :=
  fun m ρ _ => Cert.DownIdeal.Gen.frame m ρ

/-- So does the reference of the down projection with its layer norm. -/
theorem quiescent_DownRefIdeal : Cert.quiescent_DownRefIdeal := fun m ρ _ =>
  (θ_run _ _ _).mono (fun r h => ⟨fun c => (h c).2.2, sem_eq_zero_of_no_sems rfl r.2⟩)
    (Cert.DownRefIdeal.Value.run m ρ)

/-- The program of the gated convolution of the feed-forward part runs, leaves its arguments as they were and ends with every counter at zero. -/
theorem quiescent_Gate : Cert.quiescent_Gate :=
  fun m ρ _ => Cert.Gate.Gen.frame m ρ

/-- So does the gated convolution of the feed-forward part with ideal arithmetic. -/
theorem quiescent_GateIdeal : Cert.quiescent_GateIdeal :=
  fun m ρ _ => Cert.GateIdeal.Gen.frame m ρ

/-- So does the reference of the gated convolution of the feed-forward part. -/
theorem quiescent_GateRefIdeal : Cert.quiescent_GateRefIdeal := fun m ρ _ =>
  (θ_run _ _ _).mono (fun r h => ⟨fun c => (h c).2, sem_eq_zero_of_no_sems rfl r.2⟩)
    (Cert.GateRefIdeal.Value.run m ρ)

/-- The program of the short gated convolution runs, leaves its arguments as they were and ends with every counter at zero. -/
theorem quiescent_Conv : Cert.quiescent_Conv :=
  fun m ρ _ => Cert.Conv.Gen.frame m ρ

/-- So does the short gated convolution with ideal arithmetic. -/
theorem quiescent_ConvIdeal : Cert.quiescent_ConvIdeal :=
  fun m ρ _ => Cert.ConvIdeal.Gen.frame m ρ

/-- So does the reference of the short gated convolution. -/
theorem quiescent_ConvRefIdeal : Cert.quiescent_ConvRefIdeal := fun m ρ _ =>
  (θ_run _ _ _).mono (fun r h => ⟨fun c => (h c).2.2, sem_eq_zero_of_no_sems rfl r.2⟩)
    (Cert.ConvRefIdeal.Value.run m ρ)

/-- The program of the preparation of queries and keys runs, leaves its arguments as they were and ends with every counter at zero. -/
theorem quiescent_Prep : Cert.quiescent_Prep :=
  fun m ρ _ => Cert.Prep.Gen.frame m ρ

/-- So does the preparation of queries and keys with ideal arithmetic. -/
theorem quiescent_PrepIdeal : Cert.quiescent_PrepIdeal :=
  fun m ρ _ => Cert.PrepIdeal.Gen.frame m ρ

/-- So does the reference of the preparation of queries and keys. -/
theorem quiescent_PrepRefIdeal : Cert.quiescent_PrepRefIdeal := fun m ρ _ =>
  (θ_run _ _ _).mono (fun r h => ⟨fun c => (h c).2, sem_eq_zero_of_no_sems rfl r.2⟩)
    (Cert.PrepRefIdeal.Value.run m ρ)

/-- The program of the sampling step's input projection runs, leaves its arguments as they were and ends with every counter at zero. -/
theorem quiescent_SIn : Cert.quiescent_SIn :=
  fun m ρ _ => SInRunBits.frame m ρ

/-- So does the sampling step's input projection with ideal arithmetic. -/
theorem quiescent_SInIdeal : Cert.quiescent_SInIdeal :=
  fun m ρ _ => SInRun.frame m ρ

/-- So does the reference of the sampling step's input projection. -/
theorem quiescent_SInRefIdeal : Cert.quiescent_SInRefIdeal := fun m ρ _ =>
  (θ_run _ _ _).mono (fun r h => ⟨fun c => (h c).2.2.2, sem_eq_zero_of_no_sems rfl r.2⟩)
    (Cert.SInRefIdeal.Value.run m ρ)

/-- The program of the sampling step's up projection runs, leaves its arguments as they were and ends with every counter at zero. -/
theorem quiescent_SUp : Cert.quiescent_SUp :=
  fun m ρ _ => Cert.SUp.Gen.frame m ρ

/-- So does the sampling step's up projection with ideal arithmetic. -/
theorem quiescent_SUpIdeal : Cert.quiescent_SUpIdeal :=
  fun m ρ _ => Cert.SUpIdeal.Gen.frame m ρ

/-- So does the reference of the sampling step's up projection. -/
theorem quiescent_SUpRefIdeal : Cert.quiescent_SUpRefIdeal := fun m ρ _ =>
  (θ_run _ _ _).mono (fun r h => ⟨fun c => (h c).2.2, sem_eq_zero_of_no_sems rfl r.2⟩)
    (Cert.SUpRefIdeal.Value.run m ρ)

/-- The program of the sampling step's down projection with its layer norm runs, leaves its arguments as they were and ends with every counter at zero. -/
theorem quiescent_SDown : Cert.quiescent_SDown :=
  fun m ρ _ => Cert.SDown.Gen.frame m ρ

/-- So does the sampling step's down projection with its layer norm with ideal arithmetic. -/
theorem quiescent_SDownIdeal : Cert.quiescent_SDownIdeal :=
  fun m ρ _ => Cert.SDownIdeal.Gen.frame m ρ

/-- So does the reference of the sampling step's down projection with its layer norm. -/
theorem quiescent_SDownRefIdeal : Cert.quiescent_SDownRefIdeal := fun m ρ _ =>
  (θ_run _ _ _).mono (fun r h => ⟨fun c => (h c).2, sem_eq_zero_of_no_sems rfl r.2⟩)
    (Cert.SDownRefIdeal.Value.run m ρ)

/-- The program of the sampling step's preparation of queries and keys runs, leaves its arguments as they were and ends with every counter at zero. -/
theorem quiescent_SPrep : Cert.quiescent_SPrep :=
  fun m ρ _ => Cert.SPrep.Gen.frame m ρ

/-- So does the sampling step's preparation of queries and keys with ideal arithmetic. -/
theorem quiescent_SPrepIdeal : Cert.quiescent_SPrepIdeal :=
  fun m ρ _ => Cert.SPrepIdeal.Gen.frame m ρ

/-- So does the reference of the sampling step's preparation of queries and keys. -/
theorem quiescent_SPrepRefIdeal : Cert.quiescent_SPrepRefIdeal := fun m ρ _ =>
  (θ_run _ _ _).mono (fun r h => ⟨fun c => (h c).2, sem_eq_zero_of_no_sems rfl r.2⟩)
    (Cert.SPrepRefIdeal.Value.run m ρ)

/-- The program of the sampling step's retention and convolution runs, leaves its arguments as they were and ends with every counter at zero. -/
theorem quiescent_SMix : Cert.quiescent_SMix :=
  fun m ρ _ => Cert.SMix.Gen.frame m ρ

/-- So does the sampling step's retention and convolution with ideal arithmetic. -/
theorem quiescent_SMixIdeal : Cert.quiescent_SMixIdeal :=
  fun m ρ _ => Cert.SMixIdeal.Gen.frame m ρ

/-- So does the reference of the sampling step's retention and convolution. -/
theorem quiescent_SMixRefIdeal : Cert.quiescent_SMixRefIdeal := fun m ρ _ =>
  (θ_run _ _ _).mono (fun r h => ⟨fun c => (h c).2.2.2, sem_eq_zero_of_no_sems rfl r.2⟩)
    (Cert.SMixRefIdeal.Value.run m ρ)

/-- Nothing in the retention had to be replaced for the ideal reading. -/
theorem preserves_Ret_RetIdeal : Cert.preserves_Ret_RetIdeal := trivial

set_option maxHeartbeats 4000000 in
/-- With ideal arithmetic, the retention gives what its reference gives. -/
theorem algebraic_RetIdeal_RetRefIdeal : Cert.algebraic_RetIdeal_RetRefIdeal := by
  pair_intro
  · run_from Cert.RetIdeal.Gen.run_main m g
    exact Cert.RetIdeal.Gen.V_main_arg1 m c
  · run_from RetRef.run m' g'
    · exact (RetValue.final m c).symm
    · exact (RetValue.final_state m c).symm

/-- Nothing in the up projection of the feed-forward part had to be replaced for the ideal reading. -/
theorem preserves_Up_UpIdeal : Cert.preserves_Up_UpIdeal := trivial

/-- With ideal arithmetic, the up projection of the feed-forward part gives what its reference gives. -/
theorem algebraic_UpIdeal_UpRefIdeal : Cert.algebraic_UpIdeal_UpRefIdeal := by
  pair_intro
  · run_from UpValue.run m g
  · run_from Cert.UpRefIdeal.Value.run m' g'
    all_goals rfl

/-- Nothing in the input projection had to be replaced for the ideal reading. -/
theorem preserves_In_InIdeal : Cert.preserves_In_InIdeal := trivial

/-- With ideal arithmetic, the input projection gives what its reference gives. -/
theorem algebraic_InIdeal_InRefIdeal : Cert.algebraic_InIdeal_InRefIdeal := by
  pair_intro
  · run_from InValue.run m g
  · run_from Cert.InRefIdeal.Value.run m' g'
    all_goals rfl

/-- Nothing in the output projection with its layer norm had to be replaced for the ideal reading. -/
theorem preserves_Out_OutIdeal : Cert.preserves_Out_OutIdeal := trivial

/-- With ideal arithmetic, the output projection with its layer norm gives what its reference gives. -/
theorem algebraic_OutIdeal_OutRefIdeal : Cert.algebraic_OutIdeal_OutRefIdeal := by
  pair_intro
  · run_from Cert.OutIdeal.Gen.run_main m g
  · run_from Cert.OutRefIdeal.Value.run m' g'
    · rw [OutValue.ref_eq m' c, (hagree c).1, (hagree c).2.1, (hagree c).2.2.1, (hagree c).2.2.2.1, (hagree c).2.2.2.2.1, (hagree c).2.2.2.2.2.1, (hagree c).2.2.2.2.2.2]
      exact (OutValue.final m c).symm
    · rw [OutValue.ref16_eq m' c, (hagree c).1, (hagree c).2.1, (hagree c).2.2.1, (hagree c).2.2.2.1, (hagree c).2.2.2.2.1, (hagree c).2.2.2.2.2.1, (hagree c).2.2.2.2.2.2]
      exact (OutValue.final16 m c).symm

/-- Nothing in the down projection with its layer norm had to be replaced for the ideal reading. -/
theorem preserves_Down_DownIdeal : Cert.preserves_Down_DownIdeal := trivial

/-- With ideal arithmetic, the down projection with its layer norm gives what its reference gives. -/
theorem algebraic_DownIdeal_DownRefIdeal : Cert.algebraic_DownIdeal_DownRefIdeal := by
  pair_intro
  · run_from Cert.DownIdeal.Gen.run_main m g
  · run_from Cert.DownRefIdeal.Value.run m' g'
    · exact (DownValue.final m c).symm
    · exact (DownValue.final16 m c).symm

/-- Nothing in the gated convolution of the feed-forward part had to be replaced for the ideal reading. -/
theorem preserves_Gate_GateIdeal : Cert.preserves_Gate_GateIdeal := trivial

/-- With ideal arithmetic, the gated convolution of the feed-forward part gives what its reference gives. -/
theorem algebraic_GateIdeal_GateRefIdeal : Cert.algebraic_GateIdeal_GateRefIdeal := by
  pair_intro
  · run_from Cert.GateIdeal.Gen.run_main m g
  · run_from Cert.GateRefIdeal.Value.run m' g'
    rw [GateValue.ref_eq m' c, (hagree c).1, (hagree c).2]
    exact (GateValue.final m c).symm

/-- Nothing in the short gated convolution had to be replaced for the ideal reading. -/
theorem preserves_Conv_ConvIdeal : Cert.preserves_Conv_ConvIdeal := trivial

/-- With ideal arithmetic, the short gated convolution gives what its reference gives. -/
theorem algebraic_ConvIdeal_ConvRefIdeal : Cert.algebraic_ConvIdeal_ConvRefIdeal := by
  pair_intro
  · run_from Cert.ConvIdeal.Gen.run_main m g
  · run_from Cert.ConvRefIdeal.Value.run m' g'
    · exact (ConvValue.final m c).symm
    · exact (ConvValue.final_last m c).symm

/-- Nothing in the preparation of queries and keys had to be replaced for the ideal reading. -/
theorem preserves_Prep_PrepIdeal : Cert.preserves_Prep_PrepIdeal := trivial

set_option maxHeartbeats 4000000 in
/-- With ideal arithmetic, the preparation of queries and keys gives what its reference gives. -/
theorem algebraic_PrepIdeal_PrepRefIdeal : Cert.algebraic_PrepIdeal_PrepRefIdeal := by
  pair_intro
  · run_from PrepValue.run m g
  · run_from Cert.PrepRefIdeal.Value.run m' g'
    all_goals first
      | exact congrArg PrepTab.KF (hagree c).1
      | exact (congrArg PrepTab.KF (hagree c).1).symm
      | rfl

/-- Nothing in the sampling step's input projection had to be replaced for the ideal reading. -/
theorem preserves_SIn_SInIdeal : Cert.preserves_SIn_SInIdeal := trivial

/-- With ideal arithmetic, the sampling step's input projection gives what its reference gives. -/
theorem algebraic_SInIdeal_SInRefIdeal : Cert.algebraic_SInIdeal_SInRefIdeal := by
  pair_intro
  · run_from SInValue.run m g
  · run_from Cert.SInRefIdeal.Value.run m' g'
    all_goals rfl

/-- Nothing in the sampling step's up projection had to be replaced for the ideal reading. -/
theorem preserves_SUp_SUpIdeal : Cert.preserves_SUp_SUpIdeal := trivial

/-- With ideal arithmetic, the sampling step's up projection gives what its reference gives. -/
theorem algebraic_SUpIdeal_SUpRefIdeal : Cert.algebraic_SUpIdeal_SUpRefIdeal := by
  pair_intro
  · run_from SUpValue.run m g
  · run_from Cert.SUpRefIdeal.Value.run m' g'
    exact congrArg (SUpValue.LAST _ _) (hagree c).2.2

/-- Nothing in the sampling step's down projection with its layer norm had to be replaced for the ideal reading. -/
theorem preserves_SDown_SDownIdeal : Cert.preserves_SDown_SDownIdeal := trivial

/-- With ideal arithmetic, the sampling step's down projection with its layer norm gives what its reference gives. -/
theorem algebraic_SDownIdeal_SDownRefIdeal : Cert.algebraic_SDownIdeal_SDownRefIdeal := by
  pair_intro
  · run_from Cert.SDownIdeal.Gen.run_main m g
  · run_from Cert.SDownRefIdeal.Value.run m' g'
    · exact (SDownValue.final m c).symm

/-- Nothing in the sampling step's preparation of queries and keys had to be replaced for the ideal reading. -/
theorem preserves_SPrep_SPrepIdeal : Cert.preserves_SPrep_SPrepIdeal := trivial

set_option maxHeartbeats 4000000 in
/-- With ideal arithmetic, the sampling step's preparation of queries and keys gives what its reference gives. -/
theorem algebraic_SPrepIdeal_SPrepRefIdeal : Cert.algebraic_SPrepIdeal_SPrepRefIdeal := by
  pair_intro
  · run_from SPrepValue.run m g
  · run_from Cert.SPrepRefIdeal.Value.run m' g'
    all_goals first
      | exact congrArg SPrepTab.KF (hagree c).1
      | exact (congrArg SPrepTab.KF (hagree c).1).symm
      | rfl

/-- Nothing in the sampling step's retention and convolution had to be replaced for the ideal reading. -/
theorem preserves_SMix_SMixIdeal : Cert.preserves_SMix_SMixIdeal := trivial

set_option maxHeartbeats 4000000 in
/-- With ideal arithmetic, the sampling step's retention and convolution gives what its reference gives. -/
theorem algebraic_SMixIdeal_SMixRefIdeal : Cert.algebraic_SMixIdeal_SMixRefIdeal := by
  pair_intro
  · run_from SMixValue.run m g
  · run_from Cert.SMixRefIdeal.Value.run m' g'
    all_goals first
      | rfl
      | exact congrArg₂ SMixTab.RS (hagree c).1 (hagree c).2.1
      | exact congrArg (SMixConv.ST _) (hagree c).2.2.1
      | exact congrArg (fun a => SMixConv.CO _ a _) (hagree c).2.2.1

/-- All claims. -/
theorem claim : Cert.Claim :=
  ⟨Cert.Ret.Gen.facts, Cert.RetIdeal.Gen.facts, Cert.RetRefIdeal.Gen.facts,
   Cert.Up.Gen.facts, Cert.UpIdeal.Gen.facts, Cert.UpRefIdeal.Gen.facts,
   Cert.In.Gen.facts, Cert.InIdeal.Gen.facts, Cert.InRefIdeal.Gen.facts,
   Cert.Out.Gen.facts, Cert.OutIdeal.Gen.facts, Cert.OutRefIdeal.Gen.facts,
   Cert.Down.Gen.facts, Cert.DownIdeal.Gen.facts, Cert.DownRefIdeal.Gen.facts,
   Cert.Gate.Gen.facts, Cert.GateIdeal.Gen.facts, Cert.GateRefIdeal.Gen.facts,
   Cert.Conv.Gen.facts, Cert.ConvIdeal.Gen.facts, Cert.ConvRefIdeal.Gen.facts,
   Cert.Prep.Gen.facts, Cert.PrepIdeal.Gen.facts, Cert.PrepRefIdeal.Gen.facts,
   Cert.SIn.Gen.facts, Cert.SInIdeal.Gen.facts, Cert.SInRefIdeal.Gen.facts,
   Cert.SUp.Gen.facts, Cert.SUpIdeal.Gen.facts, Cert.SUpRefIdeal.Gen.facts,
   Cert.SDown.Gen.facts, Cert.SDownIdeal.Gen.facts, Cert.SDownRefIdeal.Gen.facts,
   Cert.SPrep.Gen.facts, Cert.SPrepIdeal.Gen.facts, Cert.SPrepRefIdeal.Gen.facts,
   Cert.SMix.Gen.facts, Cert.SMixIdeal.Gen.facts, Cert.SMixRefIdeal.Gen.facts,
   quiescent_Ret,
   quiescent_RetIdeal,
   quiescent_RetRefIdeal,
   quiescent_Up,
   quiescent_UpIdeal,
   quiescent_UpRefIdeal,
   quiescent_In,
   quiescent_InIdeal,
   quiescent_InRefIdeal,
   quiescent_Out,
   quiescent_OutIdeal,
   quiescent_OutRefIdeal,
   quiescent_Down,
   quiescent_DownIdeal,
   quiescent_DownRefIdeal,
   quiescent_Gate,
   quiescent_GateIdeal,
   quiescent_GateRefIdeal,
   quiescent_Conv,
   quiescent_ConvIdeal,
   quiescent_ConvRefIdeal,
   quiescent_Prep,
   quiescent_PrepIdeal,
   quiescent_PrepRefIdeal,
   quiescent_SIn,
   quiescent_SInIdeal,
   quiescent_SInRefIdeal,
   quiescent_SUp,
   quiescent_SUpIdeal,
   quiescent_SUpRefIdeal,
   quiescent_SDown,
   quiescent_SDownIdeal,
   quiescent_SDownRefIdeal,
   quiescent_SPrep,
   quiescent_SPrepIdeal,
   quiescent_SPrepRefIdeal,
   quiescent_SMix,
   quiescent_SMixIdeal,
   quiescent_SMixRefIdeal,
   preserves_Ret_RetIdeal,
   algebraic_RetIdeal_RetRefIdeal,
   preserves_Up_UpIdeal,
   algebraic_UpIdeal_UpRefIdeal,
   preserves_In_InIdeal,
   algebraic_InIdeal_InRefIdeal,
   preserves_Out_OutIdeal,
   algebraic_OutIdeal_OutRefIdeal,
   preserves_Down_DownIdeal,
   algebraic_DownIdeal_DownRefIdeal,
   preserves_Gate_GateIdeal,
   algebraic_GateIdeal_GateRefIdeal,
   preserves_Conv_ConvIdeal,
   algebraic_ConvIdeal_ConvRefIdeal,
   preserves_Prep_PrepIdeal,
   algebraic_PrepIdeal_PrepRefIdeal,
   preserves_SIn_SInIdeal,
   algebraic_SInIdeal_SInRefIdeal,
   preserves_SUp_SUpIdeal,
   algebraic_SUpIdeal_SUpRefIdeal,
   preserves_SDown_SDownIdeal,
   algebraic_SDownIdeal_SDownRefIdeal,
   preserves_SPrep_SPrepIdeal,
   algebraic_SPrepIdeal_SPrepRefIdeal,
   preserves_SMix_SMixIdeal,
   algebraic_SMixIdeal_SMixRefIdeal⟩

end Cert.Proof

end
